-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)) →
    ∃ (v0 : (c : Dev Cert.Kernel4Ideal.nD) → Buf (Elt Ideal) ((c.tc : Thread Cert.Kernel4Ideal.nD Cert.Kernel4Ideal.τ).loc Cert.Kernel4Ideal.main_v75_2)) (v1 : (c : Dev Cert.Kernel4Ideal.nD) → Buf (Elt Ideal) ((c.tc : Thread Cert.Kernel4Ideal.nD Cert.Kernel4Ideal.τ).loc Cert.Kernel4Ideal.main_v75_3)) (v2 : (c : Dev Cert.Kernel4Ideal.nD) → Buf (Elt Ideal) ((c.tc : Thread Cert.Kernel4Ideal.nD Cert.Kernel4Ideal.τ).loc Cert.Kernel4Ideal.main_v75_4)) (v3 : (c : Dev Cert.Kernel4Ideal.nD) → Buf (Elt Ideal) ((c.tc : Thread Cert.Kernel4Ideal.nD Cert.Kernel4Ideal.τ).loc Cert.Kernel4Ideal.main_v75_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v75_2) = v0 c
          ∧ r.2.mem ((c.tc : Thread Cert.Kernel4Ideal.nD Cert.Kernel4Ideal.τ).loc Cert.Kernel4Ideal.main_v75_3) = v1 c
          ∧ r.2.mem ((c.tc : Thread Cert.Kernel4Ideal.nD Cert.Kernel4Ideal.τ).loc Cert.Kernel4Ideal.main_v75_4) = v2 c
          ∧ r.2.mem ((c.tc : Thread Cert.Kernel4Ideal.nD Cert.Kernel4Ideal.τ).loc Cert.Kernel4Ideal.main_v75_5) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v355) = v0 c
          ∧ r.2.mem ((c.tc : Thread Cert.Reference4Ideal.nD Cert.Reference4Ideal.τ).loc Cert.Reference4Ideal.main_v357) = v1 c
          ∧ r.2.mem ((c.tc : Thread Cert.Reference4Ideal.nD Cert.Reference4Ideal.τ).loc Cert.Reference4Ideal.main_v359) = v2 c
          ∧ r.2.mem ((c.tc : Thread Cert.Reference4Ideal.nD Cert.Reference4Ideal.τ).loc Cert.Reference4Ideal.main_v361) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S32x2048x8x96 : Shape := ⟨4, ![32, 2048, 8, 96]⟩
abbrev S32x2048x8x64 : Shape := ⟨4, ![32, 2048, 8, 64]⟩
abbrev S_ : Shape := ⟨0, ![]⟩

class Facts : Prop where
  bcast_S_S32x2048x8x96 : S_.BroadcastsInDim S32x2048x8x96 (![] : Fin 0 → Fin S32x2048x8x96.rank)
  reducesTo_S32x2048x8x96_S_d0_1_2_3 : S32x2048x8x96.ReducesTo [0, 1, 2, 3] S_
  h_S_ : 0 < S_.numel

variable [Facts]

def fn {F : FTy → Type} [FloatOps F] (main_arg0 : FVec F S32x2048x8x96 .f32) (main_arg1 : FVec F S32x2048x8x96 .f32) (main_arg2 : FVec F S32x2048x8x64 .f32) : IVec S_ 1 :=
  let main_v0 : FVec F S32x2048x8x96 .f32 := Host.absf main_arg0
  let main_cst : FVec F S_ .f32 := constant S_ .f32 0x7F800000#32
  let main_v1 : FVec F S32x2048x8x96 .f32 := broadcastInDim S32x2048x8x96 ![] bcast_S_S32x2048x8x96 main_cst
  let main_v2 : IVec S32x2048x8x96 1 := cmpf .olt main_v0 main_v1
  let main_c : IVec S_ 1 := constantI S_ 1 1#1
  let main_v3 : IVec S_ 1 := (fun x v => Host.reduce IntOp.andi x v reducesTo_S32x2048x8x96_S_d0_1_2_3 h_S_) main_v2 main_c
  let main_v4 : FVec F S32x2048x8x96 .f32 := Host.absf main_arg1
  let main_cst_0 : FVec F S_ .f32 := constant S_ .f32 0x7F800000#32
  let main_v5 : FVec F S32x2048x8x96 .f32 := broadcastInDim S32x2048x8x96 ![] bcast_S_S32x2048x8x96 main_cst_0
  let main_v6 : IVec S32x2048x8x96 1 := cmpf .olt main_v4 main_v5
  let main_c_1 : IVec S_ 1 := constantI S_ 1 1#1
  let main_v7 : IVec S_ 1 := (fun x v => Host.reduce IntOp.andi x v reducesTo_S32x2048x8x96_S_d0_1_2_3 h_S_) main_v6 main_c_1
  let main_v8 : IVec S_ 1 := andi main_v3 main_v7
  main_v8
-- ==== Kernel.lean ====
abbrev S32x2048x8x96 : Shape := ⟨4, ![32, 2048, 8, 96]⟩
abbrev S32x2048x8x64 : Shape := ⟨4, ![32, 2048, 8, 64]⟩
abbrev S128 : Shape := ⟨1, ![128]⟩
abbrev S_ : Shape := ⟨0, ![]⟩
abbrev S32x2048x4x128 : Shape := ⟨4, ![32, 2048, 4, 128]⟩
abbrev S4x32x128x2048 : Shape := ⟨4, ![4, 32, 128, 2048]⟩
abbrev S128x1 : Shape := ⟨2, ![128, 1]⟩
abbrev S1 : Shape := ⟨1, ![1]⟩
abbrev S1x1 : Shape := ⟨2, ![1, 1]⟩
abbrev S32x2048x8x128 : Shape := ⟨4, ![32, 2048, 8, 128]⟩
abbrev S65536x8x128 : Shape := ⟨3, ![65536, 8, 128]⟩
abbrev S8x65536x128 : Shape := ⟨3, ![8, 65536, 128]⟩
abbrev S4x65536x128 : Shape := ⟨3, ![4, 65536, 128]⟩
abbrev S8x2048x128 : Shape := ⟨3, ![8, 2048, 128]⟩
abbrev S4x1x128x2048 : Shape := ⟨4, ![4, 1, 128, 2048]⟩
abbrev S4x2048x128 : Shape := ⟨3, ![4, 2048, 128]⟩
abbrev S2048x512 : Shape := ⟨2, ![2048, 512]⟩
abbrev S4x4x128x512 : Shape := ⟨4, ![4, 4, 128, 512]⟩
abbrev S1x512x128 : Shape := ⟨3, ![1, 512, 128]⟩
abbrev S512x128 : Shape := ⟨2, ![512, 128]⟩
abbrev S1x2048x128 : Shape := ⟨3, ![1, 2048, 128]⟩
abbrev S2048x128 : Shape := ⟨2, ![2048, 128]⟩
abbrev S512 : Shape := ⟨1, ![512]⟩
abbrev S1x512 : Shape := ⟨2, ![1, 512]⟩
abbrev S512x512 : Shape := ⟨2, ![512, 512]⟩
abbrev S1x1x128x512 : Shape := ⟨4, ![1, 1, 128, 512]⟩
abbrev S128x512 : Shape := ⟨2, ![128, 512]⟩
abbrev S64x512 : Shape := ⟨2, ![64, 512]⟩
abbrev S1x1x64x512 : Shape := ⟨4, ![1, 1, 64, 512]⟩

abbrev nBuf : Space → Nat
  | .hbm => 80
  | .vmem => 11
  | .smem => 0
  | _ => 0

abbrev bufTy : (tb : Table) → Fin (tcTables nBuf tb) → BufTy
  | .hbm, ⟨0, _⟩ => ⟨S32x2048x8x96, .f32⟩
  | .hbm, ⟨1, _⟩ => ⟨S32x2048x8x96, .f32⟩
  | .hbm, ⟨2, _⟩ => ⟨S32x2048x8x64, .f32⟩
  | .hbm, ⟨3, _⟩ => ⟨S128, .i32⟩
  | .hbm, ⟨4, _⟩ => ⟨S128, .i1⟩
  | .hbm, ⟨5, _⟩ => ⟨S128, .i32⟩
  | .hbm, ⟨6, _⟩ => ⟨S128, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x2048x4x128, .f32⟩
  | .hbm, ⟨13, _⟩ => ⟨S4x32x128x2048, .f32⟩
  | .hbm, ⟨14, _⟩ => ⟨S4x32x128x2048, .bf16⟩
  | .hbm, ⟨15, _⟩ => ⟨S32x2048x8x96, .f32⟩
  | .hbm, ⟨16, _⟩ => ⟨S32x2048x8x96, .f32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S1, .i32⟩
  | .hbm, ⟨26, _⟩ => ⟨S_, .i32⟩
  | .hbm, ⟨27, _⟩ => ⟨S128x1, .i32⟩
  | .hbm, ⟨28, _⟩ => ⟨S128x1, .i1⟩
  | .hbm, ⟨29, _⟩ => ⟨S1x1, .i32⟩
  | .hbm, ⟨30, _⟩ => ⟨S128x1, .i32⟩
  | .hbm, ⟨31, _⟩ => ⟨S128x1, .i1⟩
  | .hbm, ⟨32, _⟩ => ⟨S128x1, .i1⟩
  | .hbm, ⟨33, _⟩ => ⟨S_, .i1⟩
  | .hbm, ⟨34, _⟩ => ⟨S128, .i1⟩
  | .hbm, ⟨35, _⟩ => ⟨S32x2048x8x128, .f32⟩
  | .hbm, ⟨36, _⟩ => ⟨S32x2048x8x128, .i1⟩
  | .hbm, ⟨37, _⟩ => ⟨S_, .f32⟩
  | .hbm, ⟨38, _⟩ => ⟨S32x2048x8x128, .f32⟩
  | .hbm, ⟨39, _⟩ => ⟨S32x2048x8x128, .f32⟩
  | .hbm, ⟨40, _⟩ => ⟨S_, .f32⟩
  | .hbm, ⟨41, _⟩ => ⟨S_, .f32⟩
  | .hbm, ⟨42, _⟩ => ⟨S32x2048x8x128, .i1⟩
  | .hbm, ⟨43, _⟩ => ⟨S32x2048x8x128, .f32⟩
  | .hbm, ⟨44, _⟩ => ⟨S32x2048x8x128, .f32⟩
  | .hbm, ⟨45, _⟩ => ⟨S65536x8x128, .f32⟩
  | .hbm, ⟨46, _⟩ => ⟨S8x65536x128, .f32⟩
  | .hbm, ⟨47, _⟩ => ⟨S8x65536x128, .bf16⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S128, .i32⟩
  | .hbm, ⟨55, _⟩ => ⟨S128x1, .i32⟩
  | .hbm, ⟨56, _⟩ => ⟨S1, .i32⟩
  | .hbm, ⟨57, _⟩ => ⟨S_, .i32⟩
  | .hbm, ⟨58, _⟩ => ⟨S128x1, .i32⟩
  | .hbm, ⟨59, _⟩ => ⟨S128x1, .i1⟩
  | .hbm, ⟨60, _⟩ => ⟨S1x1, .i32⟩
  | .hbm, ⟨61, _⟩ => ⟨S128x1, .i32⟩
  | .hbm, ⟨62, _⟩ => ⟨S128x1, .i1⟩
  | .hbm, ⟨63, _⟩ => ⟨S128x1, .i1⟩
  | .hbm, ⟨64, _⟩ => ⟨S_, .i1⟩
  | .hbm, ⟨65, _⟩ => ⟨S128, .i1⟩
  | .hbm, ⟨66, _⟩ => ⟨S32x2048x8x128, .f32⟩
  | .hbm, ⟨67, _⟩ => ⟨S32x2048x8x128, .i1⟩
  | .hbm, ⟨68, _⟩ => ⟨S_, .f32⟩
  | .hbm, ⟨69, _⟩ => ⟨S32x2048x8x128, .f32⟩
  | .hbm, ⟨70, _⟩ => ⟨S32x2048x8x128, .f32⟩
  | .hbm, ⟨71, _⟩ => ⟨S_, .f32⟩
  | .hbm, ⟨72, _⟩ => ⟨S_, .f32⟩
  | .hbm, ⟨73, _⟩ => ⟨S32x2048x8x128, .i1⟩
  | .hbm, ⟨74, _⟩ => ⟨S32x2048x8x128, .f32⟩
  | .hbm, ⟨75, _⟩ => ⟨S32x2048x8x128, .f32⟩
  | .hbm, ⟨76, _⟩ => ⟨S65536x8x128, .f32⟩
  | .hbm, ⟨77, _⟩ => ⟨S8x65536x128, .f32⟩
  | .hbm, ⟨78, _⟩ => ⟨S8x65536x128, .bf16⟩
  | .hbm, ⟨79, _⟩ => ⟨S4x65536x128, .bf16⟩
  | .local _ .vmem, ⟨0, _⟩ => ⟨S8x2048x128, .bf16⟩
  | .local _ .vmem, ⟨1, _⟩ => ⟨S8x2048x128, .bf16⟩
  | .local _ .vmem, ⟨2, _⟩ => ⟨S8x2048x128, .bf16⟩
  | .local _ .vmem, ⟨3, _⟩ => ⟨S8x2048x128, .bf16⟩
  | .local _ .vmem, ⟨4, _⟩ => ⟨S4x1x128x2048, .bf16⟩
  | .local _ .vmem, ⟨5, _⟩ => ⟨S4x1x128x2048, .bf16⟩
  | .local _ .vmem, ⟨6, _⟩ => ⟨S4x2048x128, .bf16⟩
  | .local _ .vmem, ⟨7, _⟩ => ⟨S4x2048x128, .bf16⟩
  | .local _ .vmem, ⟨8, _⟩ => ⟨S2048x512, .f32⟩
  | .local _ .vmem, ⟨9, _⟩ => ⟨S2048x512, .f32⟩
  | .local _ .vmem, ⟨10, _⟩ => ⟨S4x4x128x512, .f32⟩
  | _, _ => ⟨S32x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_cst : Ref sig .tc := ⟨.hbm, 7, rfl⟩
abbrev main_v0 : Ref sig .tc := ⟨.hbm, 8, rfl⟩
abbrev main_cst_3 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v8 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v13 : Ref sig .tc := ⟨.hbm, 70, rfl⟩
abbrev main_cst_5 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32 : BitVec 32 := 0#32
  let c15_i32 : BitVec 32 := 15#32
  let v10 : BitVec 32 := Scalar.addi c0_i32 c15_i32
  let c1_i32 : BitVec 32 := 1#32
  ⟨c0_i32, v10, c1_i32⟩
def k0_mult1 (k0_t1 : Fin k0_t1_loop.trips) : BitVec 32 :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c0_i32_199 : BitVec 32 := 0#32
  let v249 : BitVec 1 := Scalar.cmpi .sgt v247 c0_i32_199
  let v250 : BitVec 32 := Scalar.extui v249
  let c0_i32_200 : BitVec 32 := 0#32
  let v251 : BitVec 1 := Scalar.cmpi .slt v247 c0_i32_200
  let v252 : BitVec 32 := Scalar.extui v251
  let v253 : BitVec 32 := Scalar.subi v250 v252
  let c1_i32_198 : BitVec 32 := 1#32
  let c0_i32_201 : BitVec 32 := 0#32
  let v254 : BitVec 1 := Scalar.cmpi .sgt c1_i32_198 c0_i32_201
  let v255 : BitVec 32 := Scalar.extui v254
  let c0_i32_202 : BitVec 32 := 0#32
  let v256 : BitVec 1 := Scalar.cmpi .slt c1_i32_198 c0_i32_202
  let v257 : BitVec 32 := Scalar.extui v256
  let v258 : BitVec 32 := Scalar.subi v255 v257
  let v259 : BitVec 1 := Scalar.cmpi .ne v253 v258
  let v260 : BitVec 32 := Scalar.remsi v247 c1_i32_198
  let c0_i32_203 : BitVec 32 := 0#32
  let v261 : BitVec 1 := Scalar.cmpi .ne v260 c0_i32_203
  let v262 : BitVec 1 := Scalar.andi v259 v261
  let v248 : BitVec 32 := Scalar.divsi v247 c1_i32_198
  let c1_i32_204 : BitVec 32 := 1#32
  let v263 : BitVec 32 := Scalar.subi v248 c1_i32_204
  let v264 : BitVec 32 := Scalar.select v262 v263 v248
  let c0_i32_205 : BitVec 32 := 0#32
  let v266 : BitVec 1 := Scalar.cmpi .sgt v264 c0_i32_205
  let v267 : BitVec 32 := Scalar.extui v266
  let c0_i32_206 : BitVec 32 := 0#32
  let v268 : BitVec 1 := Scalar.cmpi .slt v264 c0_i32_206
  let v269 : BitVec 32 := Scalar.extui v268
  let v270 : BitVec 32 := Scalar.subi v267 v269
  let c8_i32 : BitVec 32 := 8#32
  let c0_i32_207 : BitVec 32 := 0#32
  let v271 : BitVec 1 := Scalar.cmpi .sgt c8_i32 c0_i32_207
  let v272 : BitVec 32 := Scalar.extui v271
  let c0_i32_208 : BitVec 32 := 0#32
  let v273 : BitVec 1 := Scalar.cmpi .slt c8_i32 c0_i32_208
  let v274 : BitVec 32 := Scalar.extui v273
  let v275 : BitVec 32 := Scalar.subi v272 v274
  let v276 : BitVec 1 := Scalar.cmpi .ne v270 v275
  let v277 : BitVec 32 := Scalar.remsi v264 c8_i32
  let c0_i32_209 : BitVec 32 := 0#32
  let v278 : BitVec 1 := Scalar.cmpi .ne v277 c0_i32_209
  let v279 : BitVec 1 := Scalar.andi v276 v278
  let v265 : BitVec 32 := Scalar.divsi v264 c8_i32
  let c1_i32_210 : BitVec 32 := 1#32
  let v280 : BitVec 32 := Scalar.subi v265 c1_i32_210
  let v281 : BitVec 32 := Scalar.select v279 v280 v265
  let c512_i32 : BitVec 32 := 512#32
  let v302 : BitVec 32 := Scalar.muli v281 c512_i32
  v302
def k0_off1 (k0_t1 : Fin k0_t1_loop.trips) : Fin 3 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c0_i32_199 : BitVec 32 := 0#32
  let v249 : BitVec 1 := Scalar.cmpi .sgt v247 c0_i32_199
  let v250 : BitVec 32 := Scalar.extui v249
  let c0_i32_200 : BitVec 32 := 0#32
  let v251 : BitVec 1 := Scalar.cmpi .slt v247 c0_i32_200
  let v252 : BitVec 32 := Scalar.extui v251
  let v253 : BitVec 32 := Scalar.subi v250 v252
  let c1_i32_198 : BitVec 32 := 1#32
  let c0_i32_201 : BitVec 32 := 0#32
  let v254 : BitVec 1 := Scalar.cmpi .sgt c1_i32_198 c0_i32_201
  let v255 : BitVec 32 := Scalar.extui v254
  let c0_i32_202 : BitVec 32 := 0#32
  let v256 : BitVec 1 := Scalar.cmpi .slt c1_i32_198 c0_i32_202
  let v257 : BitVec 32 := Scalar.extui v256
  let v258 : BitVec 32 := Scalar.subi v255 v257
  let v259 : BitVec 1 := Scalar.cmpi .ne v253 v258
  let v260 : BitVec 32 := Scalar.remsi v247 c1_i32_198
  let c0_i32_203 : BitVec 32 := 0#32
  let v261 : BitVec 1 := Scalar.cmpi .ne v260 c0_i32_203
  let v262 : BitVec 1 := Scalar.andi v259 v261
  let v248 : BitVec 32 := Scalar.divsi v247 c1_i32_198
  let c1_i32_204 : BitVec 32 := 1#32
  let v263 : BitVec 32 := Scalar.subi v248 c1_i32_204
  let v264 : BitVec 32 := Scalar.select v262 v263 v248
  let c8_i32_211 : BitVec 32 := 8#32
  let c0_i32_212 : BitVec 32 := 0#32
  let v282 : BitVec 1 := Scalar.cmpi .eq c8_i32_211 c0_i32_212
  let c1_i32_213 : BitVec 32 := 1#32
  let v283 : BitVec 32 := Scalar.select v282 c1_i32_213 c8_i32_211
  let v284 : BitVec 32 := Scalar.remsi v264 v283
  let c0_i32_215 : BitVec 32 := 0#32
  let v286 : BitVec 1 := Scalar.cmpi .slt v284 c0_i32_215
  let c0_i32_216 : BitVec 32 := 0#32
  let v287 : BitVec 1 := Scalar.cmpi .slt v283 c0_i32_216
  let v288 : BitVec 1 := Scalar.xori v286 v287
  let c0_i32_214 : BitVec 32 := 0#32
  let v285 : BitVec 1 := Scalar.cmpi .ne v284 c0_i32_214
  let v289 : BitVec 1 := Scalar.andi v288 v285
  let v290 : BitVec 32 := Scalar.addi v284 v283
  let v291 : BitVec 32 := Scalar.select v289 v290 v284
  let v304 : Index := Scalar.indexCast v291
  let c0_i32_205 : BitVec 32 := 0#32
  let v266 : BitVec 1 := Scalar.cmpi .sgt v264 c0_i32_205
  let v267 : BitVec 32 := Scalar.extui v266
  let c0_i32_206 : BitVec 32 := 0#32
  let v268 : BitVec 1 := Scalar.cmpi .slt v264 c0_i32_206
  let v269 : BitVec 32 := Scalar.extui v268
  let v270 : BitVec 32 := Scalar.subi v267 v269
  let c8_i32 : BitVec 32 := 8#32
  let c0_i32_207 : BitVec 32 := 0#32
  let v271 : BitVec 1 := Scalar.cmpi .sgt c8_i32 c0_i32_207
  let v272 : BitVec 32 := Scalar.extui v271
  let c0_i32_208 : BitVec 32 := 0#32
  let v273 : BitVec 1 := Scalar.cmpi .slt c8_i32 c0_i32_208
  let v274 : BitVec 32 := Scalar.extui v273
  let v275 : BitVec 32 := Scalar.subi v272 v274
  let v276 : BitVec 1 := Scalar.cmpi .ne v270 v275
  let v277 : BitVec 32 := Scalar.remsi v264 c8_i32
  let c0_i32_209 : BitVec 32 := 0#32
  let v278 : BitVec 1 := Scalar.cmpi .ne v277 c0_i32_209
  let v279 : BitVec 1 := Scalar.andi v276 v278
  let v265 : BitVec 32 := Scalar.divsi v264 c8_i32
  let c1_i32_210 : BitVec 32 := 1#32
  let v280 : BitVec 32 := Scalar.subi v265 c1_i32_210
  let v281 : BitVec 32 := Scalar.select v279 v280 v265
  let c512_i32 : BitVec 32 := 512#32
  let v302 : BitVec 32 := Scalar.muli v281 c512_i32
  let v303 : BitVec 32 := v302
  let v305 : Index := Scalar.indexCast v303
  let c0_223 : Index := 0#32
  ![v304.toNat, v305.toNat, 0]
def k0_mult2 (k0_t1 : Fin k0_t1_loop.trips) : BitVec 32 :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_217 : BitVec 32 := 1#32
  let c0_i32_218 : BitVec 32 := 0#32
  let v292 : BitVec 1 := Scalar.cmpi .eq c1_i32_217 c0_i32_218
  let c1_i32_219 : BitVec 32 := 1#32
  let v293 : BitVec 32 := Scalar.select v292 c1_i32_219 c1_i32_217
  let v294 : BitVec 32 := Scalar.remsi v247 v293
  let c0_i32_221 : BitVec 32 := 0#32
  let v296 : BitVec 1 := Scalar.cmpi .slt v294 c0_i32_221
  let c0_i32_222 : BitVec 32 := 0#32
  let v297 : BitVec 1 := Scalar.cmpi .slt v293 c0_i32_222
  let v298 : BitVec 1 := Scalar.xori v296 v297
  let c0_i32_220 : BitVec 32 := 0#32
  let v295 : BitVec 1 := Scalar.cmpi .ne v294 c0_i32_220
  let v299 : BitVec 1 := Scalar.andi v298 v295
  let v300 : BitVec 32 := Scalar.addi v294 v293
  let v301 : BitVec 32 := Scalar.select v299 v300 v294
  let c2048_i32 : BitVec 32 := 2048#32
  let v308 : BitVec 32 := Scalar.muli v301 c2048_i32
  v308
def k0_off2 (k0_t1 : Fin k0_t1_loop.trips) : Fin 3 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c0_i32_199 : BitVec 32 := 0#32
  let v249 : BitVec 1 := Scalar.cmpi .sgt v247 c0_i32_199
  let v250 : BitVec 32 := Scalar.extui v249
  let c0_i32_200 : BitVec 32 := 0#32
  let v251 : BitVec 1 := Scalar.cmpi .slt v247 c0_i32_200
  let v252 : BitVec 32 := Scalar.extui v251
  let v253 : BitVec 32 := Scalar.subi v250 v252
  let c1_i32_198 : BitVec 32 := 1#32
  let c0_i32_201 : BitVec 32 := 0#32
  let v254 : BitVec 1 := Scalar.cmpi .sgt c1_i32_198 c0_i32_201
  let v255 : BitVec 32 := Scalar.extui v254
  let c0_i32_202 : BitVec 32 := 0#32
  let v256 : BitVec 1 := Scalar.cmpi .slt c1_i32_198 c0_i32_202
  let v257 : BitVec 32 := Scalar.extui v256
  let v258 : BitVec 32 := Scalar.subi v255 v257
  let v259 : BitVec 1 := Scalar.cmpi .ne v253 v258
  let v260 : BitVec 32 := Scalar.remsi v247 c1_i32_198
  let c0_i32_203 : BitVec 32 := 0#32
  let v261 : BitVec 1 := Scalar.cmpi .ne v260 c0_i32_203
  let v262 : BitVec 1 := Scalar.andi v259 v261
  let v248 : BitVec 32 := Scalar.divsi v247 c1_i32_198
  let c1_i32_204 : BitVec 32 := 1#32
  let v263 : BitVec 32 := Scalar.subi v248 c1_i32_204
  let v264 : BitVec 32 := Scalar.select v262 v263 v248
  let c8_i32_211 : BitVec 32 := 8#32
  let c0_i32_212 : BitVec 32 := 0#32
  let v282 : BitVec 1 := Scalar.cmpi .eq c8_i32_211 c0_i32_212
  let c1_i32_213 : BitVec 32 := 1#32
  let v283 : BitVec 32 := Scalar.select v282 c1_i32_213 c8_i32_211
  let v284 : BitVec 32 := Scalar.remsi v264 v283
  let c0_i32_215 : BitVec 32 := 0#32
  let v286 : BitVec 1 := Scalar.cmpi .slt v284 c0_i32_215
  let c0_i32_216 : BitVec 32 := 0#32
  let v287 : BitVec 1 := Scalar.cmpi .slt v283 c0_i32_216
  let v288 : BitVec 1 := Scalar.xori v286 v287
  let c0_i32_214 : BitVec 32 := 0#32
  let v285 : BitVec 1 := Scalar.cmpi .ne v284 c0_i32_214
  let v289 : BitVec 1 := Scalar.andi v288 v285
  let v290 : BitVec 32 := Scalar.addi v284 v283
  let v291 : BitVec 32 := Scalar.select v289 v290 v284
  let v310 : Index := Scalar.indexCast v291
  let c1_i32_217 : BitVec 32 := 1#32
  let c0_i32_218 : BitVec 32 := 0#32
  let v292 : BitVec 1 := Scalar.cmpi .eq c1_i32_217 c0_i32_218
  let c1_i32_219 : BitVec 32 := 1#32
  let v293 : BitVec 32 := Scalar.select v292 c1_i32_219 c1_i32_217
  let v294 : BitVec 32 := Scalar.remsi v247 v293
  let c0_i32_221 : BitVec 32 := 0#32
  let v296 : BitVec 1 := Scalar.cmpi .slt v294 c0_i32_221
  let c0_i32_222 : BitVec 32 := 0#32
  let v297 : BitVec 1 := Scalar.cmpi .slt v293 c0_i32_222
  let v298 : BitVec 1 := Scalar.xori v296 v297
  let c0_i32_220 : BitVec 32 := 0#32
  let v295 : BitVec 1 := Scalar.cmpi .ne v294 c0_i32_220
  let v299 : BitVec 1 := Scalar.andi v298 v295
  let v300 : BitVec 32 := Scalar.addi v294 v293
  let v301 : BitVec 32 := Scalar.select v299 v300 v294
  let c2048_i32 : BitVec 32 := 2048#32
  let v308 : BitVec 32 := Scalar.muli v301 c2048_i32
  let v309 : BitVec 32 := v308
  let v311 : Index := Scalar.indexCast v309
  let c0_224 : Index := 0#32
  ![v310.toNat, v311.toNat, 0]
def k0_off3 (k0_t1 : Fin k0_t1_loop.trips) : Fin 4 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_229 : BitVec 32 := 1#32
  let v320 : BitVec 32 := Scalar.subi v247 c1_i32_229
  let c0_i32_231 : BitVec 32 := 0#32
  let v322 : BitVec 1 := Scalar.cmpi .sgt v320 c0_i32_231
  let v323 : BitVec 32 := Scalar.extui v322
  let c0_i32_232 : BitVec 32 := 0#32
  let v324 : BitVec 1 := Scalar.cmpi .slt v320 c0_i32_232
  let v325 : BitVec 32 := Scalar.extui v324
  let v326 : BitVec 32 := Scalar.subi v323 v325
  let c1_i32_230 : BitVec 32 := 1#32
  let c0_i32_233 : BitVec 32 := 0#32
  let v327 : BitVec 1 := Scalar.cmpi .sgt c1_i32_230 c0_i32_233
  let v328 : BitVec 32 := Scalar.extui v327
  let c0_i32_234 : BitVec 32 := 0#32
  let v329 : BitVec 1 := Scalar.cmpi .slt c1_i32_230 c0_i32_234
  let v330 : BitVec 32 := Scalar.extui v329
  let v331 : BitVec 32 := Scalar.subi v328 v330
  let v332 : BitVec 1 := Scalar.cmpi .ne v326 v331
  let v333 : BitVec 32 := Scalar.remsi v320 c1_i32_230
  let c0_i32_235 : BitVec 32 := 0#32
  let v334 : BitVec 1 := Scalar.cmpi .ne v333 c0_i32_235
  let v335 : BitVec 1 := Scalar.andi v332 v334
  let v321 : BitVec 32 := Scalar.divsi v320 c1_i32_230
  let c1_i32_236 : BitVec 32 := 1#32
  let v336 : BitVec 32 := Scalar.subi v321 c1_i32_236
  let v337 : BitVec 32 := Scalar.select v335 v336 v321
  let c8_i32_244 : BitVec 32 := 8#32
  let c0_i32_245 : BitVec 32 := 0#32
  let v355 : BitVec 1 := Scalar.cmpi .eq c8_i32_244 c0_i32_245
  let c1_i32_246 : BitVec 32 := 1#32
  let v356 : BitVec 32 := Scalar.select v355 c1_i32_246 c8_i32_244
  let v357 : BitVec 32 := Scalar.remsi v337 v356
  let c0_i32_248 : BitVec 32 := 0#32
  let v359 : BitVec 1 := Scalar.cmpi .slt v357 c0_i32_248
  let c0_i32_249 : BitVec 32 := 0#32
  let v360 : BitVec 1 := Scalar.cmpi .slt v356 c0_i32_249
  let v361 : BitVec 1 := Scalar.xori v359 v360
  let c0_i32_247 : BitVec 32 := 0#32
  let v358 : BitVec 1 := Scalar.cmpi .ne v357 c0_i32_247
  let v362 : BitVec 1 := Scalar.andi v361 v358
  let v363 : BitVec 32 := Scalar.addi v357 v356
  let v364 : BitVec 32 := Scalar.select v362 v363 v357
  let c0_i32_260 : BitVec 32 := 0#32
  let v382 : BitVec 1 := Scalar.cmpi .sgt v364 c0_i32_260
  let v383 : BitVec 32 := Scalar.extui v382
  let c0_i32_261 : BitVec 32 := 0#32
  let v384 : BitVec 1 := Scalar.cmpi .slt v364 c0_i32_261
  let v385 : BitVec 32 := Scalar.extui v384
  let v386 : BitVec 32 := Scalar.subi v383 v385
  let c2_i32_259 : BitVec 32 := 2#32
  let c0_i32_262 : BitVec 32 := 0#32
  let v387 : BitVec 1 := Scalar.cmpi .sgt c2_i32_259 c0_i32_262
  let v388 : BitVec 32 := Scalar.extui v387
  let c0_i32_263 : BitVec 32 := 0#32
  let v389 : BitVec 1 := Scalar.cmpi .slt c2_i32_259 c0_i32_263
  let v390 : BitVec 32 := Scalar.extui v389
  let v391 : BitVec 32 := Scalar.subi v388 v390
  let v392 : BitVec 1 := Scalar.cmpi .ne v386 v391
  let v393 : BitVec 32 := Scalar.remsi v364 c2_i32_259
  let c0_i32_264 : BitVec 32 := 0#32
  let v394 : BitVec 1 := Scalar.cmpi .ne v393 c0_i32_264
  let v395 : BitVec 1 := Scalar.andi v392 v394
  let v381 : BitVec 32 := Scalar.divsi v364 c2_i32_259
  let c1_i32_265 : BitVec 32 := 1#32
  let v396 : BitVec 32 := Scalar.subi v381 c1_i32_265
  let v397 : BitVec 32 := Scalar.select v395 v396 v381
  let v398 : Index := Scalar.indexCast v397
  let c1_i32_250 : BitVec 32 := 1#32
  let c0_i32_251 : BitVec 32 := 0#32
  let v365 : BitVec 1 := Scalar.cmpi .eq c1_i32_250 c0_i32_251
  let c1_i32_252 : BitVec 32 := 1#32
  let v366 : BitVec 32 := Scalar.select v365 c1_i32_252 c1_i32_250
  let v367 : BitVec 32 := Scalar.remsi v320 v366
  let c0_i32_254 : BitVec 32 := 0#32
  let v369 : BitVec 1 := Scalar.cmpi .slt v367 c0_i32_254
  let c0_i32_255 : BitVec 32 := 0#32
  let v370 : BitVec 1 := Scalar.cmpi .slt v366 c0_i32_255
  let v371 : BitVec 1 := Scalar.xori v369 v370
  let c0_i32_253 : BitVec 32 := 0#32
  let v368 : BitVec 1 := Scalar.cmpi .ne v367 c0_i32_253
  let v372 : BitVec 1 := Scalar.andi v371 v368
  let v373 : BitVec 32 := Scalar.addi v367 v366
  let v374 : BitVec 32 := Scalar.select v372 v373 v367
  let v399 : Index := Scalar.indexCast v374
  let c0_266 : Index := 0#32
  let c0_267 : Index := 0#32
  ![v398.toNat, v399.toNat, 0, 0]
def k0_off4 (k0_t1 : Fin k0_t1_loop.trips) : Fin 4 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_229 : BitVec 32 := 1#32
  let v320 : BitVec 32 := Scalar.subi v247 c1_i32_229
  let c0_i32_231 : BitVec 32 := 0#32
  let v322 : BitVec 1 := Scalar.cmpi .sgt v320 c0_i32_231
  let v323 : BitVec 32 := Scalar.extui v322
  let c0_i32_232 : BitVec 32 := 0#32
  let v324 : BitVec 1 := Scalar.cmpi .slt v320 c0_i32_232
  let v325 : BitVec 32 := Scalar.extui v324
  let v326 : BitVec 32 := Scalar.subi v323 v325
  let c1_i32_230 : BitVec 32 := 1#32
  let c0_i32_233 : BitVec 32 := 0#32
  let v327 : BitVec 1 := Scalar.cmpi .sgt c1_i32_230 c0_i32_233
  let v328 : BitVec 32 := Scalar.extui v327
  let c0_i32_234 : BitVec 32 := 0#32
  let v329 : BitVec 1 := Scalar.cmpi .slt c1_i32_230 c0_i32_234
  let v330 : BitVec 32 := Scalar.extui v329
  let v331 : BitVec 32 := Scalar.subi v328 v330
  let v332 : BitVec 1 := Scalar.cmpi .ne v326 v331
  let v333 : BitVec 32 := Scalar.remsi v320 c1_i32_230
  let c0_i32_235 : BitVec 32 := 0#32
  let v334 : BitVec 1 := Scalar.cmpi .ne v333 c0_i32_235
  let v335 : BitVec 1 := Scalar.andi v332 v334
  let v321 : BitVec 32 := Scalar.divsi v320 c1_i32_230
  let c1_i32_236 : BitVec 32 := 1#32
  let v336 : BitVec 32 := Scalar.subi v321 c1_i32_236
  let v337 : BitVec 32 := Scalar.select v335 v336 v321
  let c8_i32_244 : BitVec 32 := 8#32
  let c0_i32_245 : BitVec 32 := 0#32
  let v355 : BitVec 1 := Scalar.cmpi .eq c8_i32_244 c0_i32_245
  let c1_i32_246 : BitVec 32 := 1#32
  let v356 : BitVec 32 := Scalar.select v355 c1_i32_246 c8_i32_244
  let v357 : BitVec 32 := Scalar.remsi v337 v356
  let c0_i32_248 : BitVec 32 := 0#32
  let v359 : BitVec 1 := Scalar.cmpi .slt v357 c0_i32_248
  let c0_i32_249 : BitVec 32 := 0#32
  let v360 : BitVec 1 := Scalar.cmpi .slt v356 c0_i32_249
  let v361 : BitVec 1 := Scalar.xori v359 v360
  let c0_i32_247 : BitVec 32 := 0#32
  let v358 : BitVec 1 := Scalar.cmpi .ne v357 c0_i32_247
  let v362 : BitVec 1 := Scalar.andi v361 v358
  let v363 : BitVec 32 := Scalar.addi v357 v356
  let v364 : BitVec 32 := Scalar.select v362 v363 v357
  let c0_i32_273 : BitVec 32 := 0#32
  let v412 : BitVec 1 := Scalar.cmpi .sgt v364 c0_i32_273
  let v413 : BitVec 32 := Scalar.extui v412
  let c0_i32_274 : BitVec 32 := 0#32
  let v414 : BitVec 1 := Scalar.cmpi .slt v364 c0_i32_274
  let v415 : BitVec 32 := Scalar.extui v414
  let v416 : BitVec 32 := Scalar.subi v413 v415
  let c2_i32_272 : BitVec 32 := 2#32
  let c0_i32_275 : BitVec 32 := 0#32
  let v417 : BitVec 1 := Scalar.cmpi .sgt c2_i32_272 c0_i32_275
  let v418 : BitVec 32 := Scalar.extui v417
  let c0_i32_276 : BitVec 32 := 0#32
  let v419 : BitVec 1 := Scalar.cmpi .slt c2_i32_272 c0_i32_276
  let v420 : BitVec 32 := Scalar.extui v419
  let v421 : BitVec 32 := Scalar.subi v418 v420
  let v422 : BitVec 1 := Scalar.cmpi .ne v416 v421
  let v423 : BitVec 32 := Scalar.remsi v364 c2_i32_272
  let c0_i32_277 : BitVec 32 := 0#32
  let v424 : BitVec 1 := Scalar.cmpi .ne v423 c0_i32_277
  let v425 : BitVec 1 := Scalar.andi v422 v424
  let v411 : BitVec 32 := Scalar.divsi v364 c2_i32_272
  let c1_i32_278 : BitVec 32 := 1#32
  let v426 : BitVec 32 := Scalar.subi v411 c1_i32_278
  let v427 : BitVec 32 := Scalar.select v425 v426 v411
  let v428 : Index := Scalar.indexCast v427
  let c1_i32_250 : BitVec 32 := 1#32
  let c0_i32_251 : BitVec 32 := 0#32
  let v365 : BitVec 1 := Scalar.cmpi .eq c1_i32_250 c0_i32_251
  let c1_i32_252 : BitVec 32 := 1#32
  let v366 : BitVec 32 := Scalar.select v365 c1_i32_252 c1_i32_250
  let v367 : BitVec 32 := Scalar.remsi v320 v366
  let c0_i32_254 : BitVec 32 := 0#32
  let v369 : BitVec 1 := Scalar.cmpi .slt v367 c0_i32_254
  let c0_i32_255 : BitVec 32 := 0#32
  let v370 : BitVec 1 := Scalar.cmpi .slt v366 c0_i32_255
  let v371 : BitVec 1 := Scalar.xori v369 v370
  let c0_i32_253 : BitVec 32 := 0#32
  let v368 : BitVec 1 := Scalar.cmpi .ne v367 c0_i32_253
  let v372 : BitVec 1 := Scalar.andi v371 v368
  let v373 : BitVec 32 := Scalar.addi v367 v366
  let v374 : BitVec 32 := Scalar.select v372 v373 v367
  let v429 : Index := Scalar.indexCast v374
  let c0_279 : Index := 0#32
  let c512_280 : Index := 512#32
  ![v428.toNat, v429.toNat, 0, 512]
def k0_off5 (k0_t1 : Fin k0_t1_loop.trips) : Fin 4 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_229 : BitVec 32 := 1#32
  let v320 : BitVec 32 := Scalar.subi v247 c1_i32_229
  let c0_i32_231 : BitVec 32 := 0#32
  let v322 : BitVec 1 := Scalar.cmpi .sgt v320 c0_i32_231
  let v323 : BitVec 32 := Scalar.extui v322
  let c0_i32_232 : BitVec 32 := 0#32
  let v324 : BitVec 1 := Scalar.cmpi .slt v320 c0_i32_232
  let v325 : BitVec 32 := Scalar.extui v324
  let v326 : BitVec 32 := Scalar.subi v323 v325
  let c1_i32_230 : BitVec 32 := 1#32
  let c0_i32_233 : BitVec 32 := 0#32
  let v327 : BitVec 1 := Scalar.cmpi .sgt c1_i32_230 c0_i32_233
  let v328 : BitVec 32 := Scalar.extui v327
  let c0_i32_234 : BitVec 32 := 0#32
  let v329 : BitVec 1 := Scalar.cmpi .slt c1_i32_230 c0_i32_234
  let v330 : BitVec 32 := Scalar.extui v329
  let v331 : BitVec 32 := Scalar.subi v328 v330
  let v332 : BitVec 1 := Scalar.cmpi .ne v326 v331
  let v333 : BitVec 32 := Scalar.remsi v320 c1_i32_230
  let c0_i32_235 : BitVec 32 := 0#32
  let v334 : BitVec 1 := Scalar.cmpi .ne v333 c0_i32_235
  let v335 : BitVec 1 := Scalar.andi v332 v334
  let v321 : BitVec 32 := Scalar.divsi v320 c1_i32_230
  let c1_i32_236 : BitVec 32 := 1#32
  let v336 : BitVec 32 := Scalar.subi v321 c1_i32_236
  let v337 : BitVec 32 := Scalar.select v335 v336 v321
  let c8_i32_244 : BitVec 32 := 8#32
  let c0_i32_245 : BitVec 32 := 0#32
  let v355 : BitVec 1 := Scalar.cmpi .eq c8_i32_244 c0_i32_245
  let c1_i32_246 : BitVec 32 := 1#32
  let v356 : BitVec 32 := Scalar.select v355 c1_i32_246 c8_i32_244
  let v357 : BitVec 32 := Scalar.remsi v337 v356
  let c0_i32_248 : BitVec 32 := 0#32
  let v359 : BitVec 1 := Scalar.cmpi .slt v357 c0_i32_248
  let c0_i32_249 : BitVec 32 := 0#32
  let v360 : BitVec 1 := Scalar.cmpi .slt v356 c0_i32_249
  let v361 : BitVec 1 := Scalar.xori v359 v360
  let c0_i32_247 : BitVec 32 := 0#32
  let v358 : BitVec 1 := Scalar.cmpi .ne v357 c0_i32_247
  let v362 : BitVec 1 := Scalar.andi v361 v358
  let v363 : BitVec 32 := Scalar.addi v357 v356
  let v364 : BitVec 32 := Scalar.select v362 v363 v357
  let c0_i32_286 : BitVec 32 := 0#32
  let v443 : BitVec 1 := Scalar.cmpi .sgt v364 c0_i32_286
  let v444 : BitVec 32 := Scalar.extui v443
  let c0_i32_287 : BitVec 32 := 0#32
  let v445 : BitVec 1 := Scalar.cmpi .slt v364 c0_i32_287
  let v446 : BitVec 32 := Scalar.extui v445
  let v447 : BitVec 32 := Scalar.subi v444 v446
  let c2_i32_285 : BitVec 32 := 2#32
  let c0_i32_288 : BitVec 32 := 0#32
  let v448 : BitVec 1 := Scalar.cmpi .sgt c2_i32_285 c0_i32_288
  let v449 : BitVec 32 := Scalar.extui v448
  let c0_i32_289 : BitVec 32 := 0#32
  let v450 : BitVec 1 := Scalar.cmpi .slt c2_i32_285 c0_i32_289
  let v451 : BitVec 32 := Scalar.extui v450
  let v452 : BitVec 32 := Scalar.subi v449 v451
  let v453 : BitVec 1 := Scalar.cmpi .ne v447 v452
  let v454 : BitVec 32 := Scalar.remsi v364 c2_i32_285
  let c0_i32_290 : BitVec 32 := 0#32
  let v455 : BitVec 1 := Scalar.cmpi .ne v454 c0_i32_290
  let v456 : BitVec 1 := Scalar.andi v453 v455
  let v442 : BitVec 32 := Scalar.divsi v364 c2_i32_285
  let c1_i32_291 : BitVec 32 := 1#32
  let v457 : BitVec 32 := Scalar.subi v442 c1_i32_291
  let v458 : BitVec 32 := Scalar.select v456 v457 v442
  let v459 : Index := Scalar.indexCast v458
  let c1_i32_250 : BitVec 32 := 1#32
  let c0_i32_251 : BitVec 32 := 0#32
  let v365 : BitVec 1 := Scalar.cmpi .eq c1_i32_250 c0_i32_251
  let c1_i32_252 : BitVec 32 := 1#32
  let v366 : BitVec 32 := Scalar.select v365 c1_i32_252 c1_i32_250
  let v367 : BitVec 32 := Scalar.remsi v320 v366
  let c0_i32_254 : BitVec 32 := 0#32
  let v369 : BitVec 1 := Scalar.cmpi .slt v367 c0_i32_254
  let c0_i32_255 : BitVec 32 := 0#32
  let v370 : BitVec 1 := Scalar.cmpi .slt v366 c0_i32_255
  let v371 : BitVec 1 := Scalar.xori v369 v370
  let c0_i32_253 : BitVec 32 := 0#32
  let v368 : BitVec 1 := Scalar.cmpi .ne v367 c0_i32_253
  let v372 : BitVec 1 := Scalar.andi v371 v368
  let v373 : BitVec 32 := Scalar.addi v367 v366
  let v374 : BitVec 32 := Scalar.select v372 v373 v367
  let v460 : Index := Scalar.indexCast v374
  let c0_292 : Index := 0#32
  let c1024_293 : Index := 1024#32
  ![v459.toNat, v460.toNat, 0, 1024]
def k0_off6 (k0_t1 : Fin k0_t1_loop.trips) : Fin 4 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_229 : BitVec 32 := 1#32
  let v320 : BitVec 32 := Scalar.subi v247 c1_i32_229
  let c0_i32_231 : BitVec 32 := 0#32
  let v322 : BitVec 1 := Scalar.cmpi .sgt v320 c0_i32_231
  let v323 : BitVec 32 := Scalar.extui v322
  let c0_i32_232 : BitVec 32 := 0#32
  let v324 : BitVec 1 := Scalar.cmpi .slt v320 c0_i32_232
  let v325 : BitVec 32 := Scalar.extui v324
  let v326 : BitVec 32 := Scalar.subi v323 v325
  let c1_i32_230 : BitVec 32 := 1#32
  let c0_i32_233 : BitVec 32 := 0#32
  let v327 : BitVec 1 := Scalar.cmpi .sgt c1_i32_230 c0_i32_233
  let v328 : BitVec 32 := Scalar.extui v327
  let c0_i32_234 : BitVec 32 := 0#32
  let v329 : BitVec 1 := Scalar.cmpi .slt c1_i32_230 c0_i32_234
  let v330 : BitVec 32 := Scalar.extui v329
  let v331 : BitVec 32 := Scalar.subi v328 v330
  let v332 : BitVec 1 := Scalar.cmpi .ne v326 v331
  let v333 : BitVec 32 := Scalar.remsi v320 c1_i32_230
  let c0_i32_235 : BitVec 32 := 0#32
  let v334 : BitVec 1 := Scalar.cmpi .ne v333 c0_i32_235
  let v335 : BitVec 1 := Scalar.andi v332 v334
  let v321 : BitVec 32 := Scalar.divsi v320 c1_i32_230
  let c1_i32_236 : BitVec 32 := 1#32
  let v336 : BitVec 32 := Scalar.subi v321 c1_i32_236
  let v337 : BitVec 32 := Scalar.select v335 v336 v321
  let c8_i32_244 : BitVec 32 := 8#32
  let c0_i32_245 : BitVec 32 := 0#32
  let v355 : BitVec 1 := Scalar.cmpi .eq c8_i32_244 c0_i32_245
  let c1_i32_246 : BitVec 32 := 1#32
  let v356 : BitVec 32 := Scalar.select v355 c1_i32_246 c8_i32_244
  let v357 : BitVec 32 := Scalar.remsi v337 v356
  let c0_i32_248 : BitVec 32 := 0#32
  let v359 : BitVec 1 := Scalar.cmpi .slt v357 c0_i32_248
  let c0_i32_249 : BitVec 32 := 0#32
  let v360 : BitVec 1 := Scalar.cmpi .slt v356 c0_i32_249
  let v361 : BitVec 1 := Scalar.xori v359 v360
  let c0_i32_247 : BitVec 32 := 0#32
  let v358 : BitVec 1 := Scalar.cmpi .ne v357 c0_i32_247
  let v362 : BitVec 1 := Scalar.andi v361 v358
  let v363 : BitVec 32 := Scalar.addi v357 v356
  let v364 : BitVec 32 := Scalar.select v362 v363 v357
  let c0_i32_299 : BitVec 32 := 0#32
  let v474 : BitVec 1 := Scalar.cmpi .sgt v364 c0_i32_299
  let v475 : BitVec 32 := Scalar.extui v474
  let c0_i32_300 : BitVec 32 := 0#32
  let v476 : BitVec 1 := Scalar.cmpi .slt v364 c0_i32_300
  let v477 : BitVec 32 := Scalar.extui v476
  let v478 : BitVec 32 := Scalar.subi v475 v477
  let c2_i32_298 : BitVec 32 := 2#32
  let c0_i32_301 : BitVec 32 := 0#32
  let v479 : BitVec 1 := Scalar.cmpi .sgt c2_i32_298 c0_i32_301
  let v480 : BitVec 32 := Scalar.extui v479
  let c0_i32_302 : BitVec 32 := 0#32
  let v481 : BitVec 1 := Scalar.cmpi .slt c2_i32_298 c0_i32_302
  let v482 : BitVec 32 := Scalar.extui v481
  let v483 : BitVec 32 := Scalar.subi v480 v482
  let v484 : BitVec 1 := Scalar.cmpi .ne v478 v483
  let v485 : BitVec 32 := Scalar.remsi v364 c2_i32_298
  let c0_i32_303 : BitVec 32 := 0#32
  let v486 : BitVec 1 := Scalar.cmpi .ne v485 c0_i32_303
  let v487 : BitVec 1 := Scalar.andi v484 v486
  let v473 : BitVec 32 := Scalar.divsi v364 c2_i32_298
  let c1_i32_304 : BitVec 32 := 1#32
  let v488 : BitVec 32 := Scalar.subi v473 c1_i32_304
  let v489 : BitVec 32 := Scalar.select v487 v488 v473
  let v490 : Index := Scalar.indexCast v489
  let c1_i32_250 : BitVec 32 := 1#32
  let c0_i32_251 : BitVec 32 := 0#32
  let v365 : BitVec 1 := Scalar.cmpi .eq c1_i32_250 c0_i32_251
  let c1_i32_252 : BitVec 32 := 1#32
  let v366 : BitVec 32 := Scalar.select v365 c1_i32_252 c1_i32_250
  let v367 : BitVec 32 := Scalar.remsi v320 v366
  let c0_i32_254 : BitVec 32 := 0#32
  let v369 : BitVec 1 := Scalar.cmpi .slt v367 c0_i32_254
  let c0_i32_255 : BitVec 32 := 0#32
  let v370 : BitVec 1 := Scalar.cmpi .slt v366 c0_i32_255
  let v371 : BitVec 1 := Scalar.xori v369 v370
  let c0_i32_253 : BitVec 32 := 0#32
  let v368 : BitVec 1 := Scalar.cmpi .ne v367 c0_i32_253
  let v372 : BitVec 1 := Scalar.andi v371 v368
  let v373 : BitVec 32 := Scalar.addi v367 v366
  let v374 : BitVec 32 := Scalar.select v372 v373 v367
  let v491 : Index := Scalar.indexCast v374
  let c0_305 : Index := 0#32
  let c1536_306 : Index := 1536#32
  ![v490.toNat, v491.toNat, 0, 1536]
def k0_mult3 (k0_t1 : Fin k0_t1_loop.trips) : BitVec 32 :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_229 : BitVec 32 := 1#32
  let v320 : BitVec 32 := Scalar.subi v247 c1_i32_229
  let c0_i32_231 : BitVec 32 := 0#32
  let v322 : BitVec 1 := Scalar.cmpi .sgt v320 c0_i32_231
  let v323 : BitVec 32 := Scalar.extui v322
  let c0_i32_232 : BitVec 32 := 0#32
  let v324 : BitVec 1 := Scalar.cmpi .slt v320 c0_i32_232
  let v325 : BitVec 32 := Scalar.extui v324
  let v326 : BitVec 32 := Scalar.subi v323 v325
  let c1_i32_230 : BitVec 32 := 1#32
  let c0_i32_233 : BitVec 32 := 0#32
  let v327 : BitVec 1 := Scalar.cmpi .sgt c1_i32_230 c0_i32_233
  let v328 : BitVec 32 := Scalar.extui v327
  let c0_i32_234 : BitVec 32 := 0#32
  let v329 : BitVec 1 := Scalar.cmpi .slt c1_i32_230 c0_i32_234
  let v330 : BitVec 32 := Scalar.extui v329
  let v331 : BitVec 32 := Scalar.subi v328 v330
  let v332 : BitVec 1 := Scalar.cmpi .ne v326 v331
  let v333 : BitVec 32 := Scalar.remsi v320 c1_i32_230
  let c0_i32_235 : BitVec 32 := 0#32
  let v334 : BitVec 1 := Scalar.cmpi .ne v333 c0_i32_235
  let v335 : BitVec 1 := Scalar.andi v332 v334
  let v321 : BitVec 32 := Scalar.divsi v320 c1_i32_230
  let c1_i32_236 : BitVec 32 := 1#32
  let v336 : BitVec 32 := Scalar.subi v321 c1_i32_236
  let v337 : BitVec 32 := Scalar.select v335 v336 v321
  let c8_i32_244 : BitVec 32 := 8#32
  let c0_i32_245 : BitVec 32 := 0#32
  let v355 : BitVec 1 := Scalar.cmpi .eq c8_i32_244 c0_i32_245
  let c1_i32_246 : BitVec 32 := 1#32
  let v356 : BitVec 32 := Scalar.select v355 c1_i32_246 c8_i32_244
  let v357 : BitVec 32 := Scalar.remsi v337 v356
  let c0_i32_248 : BitVec 32 := 0#32
  let v359 : BitVec 1 := Scalar.cmpi .slt v357 c0_i32_248
  let c0_i32_249 : BitVec 32 := 0#32
  let v360 : BitVec 1 := Scalar.cmpi .slt v356 c0_i32_249
  let v361 : BitVec 1 := Scalar.xori v359 v360
  let c0_i32_247 : BitVec 32 := 0#32
  let v358 : BitVec 1 := Scalar.cmpi .ne v357 c0_i32_247
  let v362 : BitVec 1 := Scalar.andi v361 v358
  let v363 : BitVec 32 := Scalar.addi v357 v356
  let v364 : BitVec 32 := Scalar.select v362 v363 v357
  let c2_i32_323 : BitVec 32 := 2#32
  let c0_i32_324 : BitVec 32 := 0#32
  let v532 : BitVec 1 := Scalar.cmpi .eq c2_i32_323 c0_i32_324
  let c1_i32_325 : BitVec 32 := 1#32
  let v533 : BitVec 32 := Scalar.select v532 c1_i32_325 c2_i32_323
  let v534 : BitVec 32 := Scalar.remsi v364 v533
  let c0_i32_327 : BitVec 32 := 0#32
  let v536 : BitVec 1 := Scalar.cmpi .slt v534 c0_i32_327
  let c0_i32_328 : BitVec 32 := 0#32
  let v537 : BitVec 1 := Scalar.cmpi .slt v533 c0_i32_328
  let v538 : BitVec 1 := Scalar.xori v536 v537
  let c0_i32_326 : BitVec 32 := 0#32
  let v535 : BitVec 1 := Scalar.cmpi .ne v534 c0_i32_326
  let v539 : BitVec 1 := Scalar.andi v538 v535
  let v540 : BitVec 32 := Scalar.addi v534 v533
  let v541 : BitVec 32 := Scalar.select v539 v540 v534
  let c64_i32 : BitVec 32 := 64#32
  let v542 : BitVec 32 := Scalar.muli v541 c64_i32
  v542
def k0_off7 (k0_t1 : Fin k0_t1_loop.trips) : Fin 4 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_229 : BitVec 32 := 1#32
  let v320 : BitVec 32 := Scalar.subi v247 c1_i32_229
  let c0_i32_231 : BitVec 32 := 0#32
  let v322 : BitVec 1 := Scalar.cmpi .sgt v320 c0_i32_231
  let v323 : BitVec 32 := Scalar.extui v322
  let c0_i32_232 : BitVec 32 := 0#32
  let v324 : BitVec 1 := Scalar.cmpi .slt v320 c0_i32_232
  let v325 : BitVec 32 := Scalar.extui v324
  let v326 : BitVec 32 := Scalar.subi v323 v325
  let c1_i32_230 : BitVec 32 := 1#32
  let c0_i32_233 : BitVec 32 := 0#32
  let v327 : BitVec 1 := Scalar.cmpi .sgt c1_i32_230 c0_i32_233
  let v328 : BitVec 32 := Scalar.extui v327
  let c0_i32_234 : BitVec 32 := 0#32
  let v329 : BitVec 1 := Scalar.cmpi .slt c1_i32_230 c0_i32_234
  let v330 : BitVec 32 := Scalar.extui v329
  let v331 : BitVec 32 := Scalar.subi v328 v330
  let v332 : BitVec 1 := Scalar.cmpi .ne v326 v331
  let v333 : BitVec 32 := Scalar.remsi v320 c1_i32_230
  let c0_i32_235 : BitVec 32 := 0#32
  let v334 : BitVec 1 := Scalar.cmpi .ne v333 c0_i32_235
  let v335 : BitVec 1 := Scalar.andi v332 v334
  let v321 : BitVec 32 := Scalar.divsi v320 c1_i32_230
  let c1_i32_236 : BitVec 32 := 1#32
  let v336 : BitVec 32 := Scalar.subi v321 c1_i32_236
  let v337 : BitVec 32 := Scalar.select v335 v336 v321
  let c0_i32_238 : BitVec 32 := 0#32
  let v339 : BitVec 1 := Scalar.cmpi .sgt v337 c0_i32_238
  let v340 : BitVec 32 := Scalar.extui v339
  let c0_i32_239 : BitVec 32 := 0#32
  let v341 : BitVec 1 := Scalar.cmpi .slt v337 c0_i32_239
  let v342 : BitVec 32 := Scalar.extui v341
  let v343 : BitVec 32 := Scalar.subi v340 v342
  let c8_i32_237 : BitVec 32 := 8#32
  let c0_i32_240 : BitVec 32 := 0#32
  let v344 : BitVec 1 := Scalar.cmpi .sgt c8_i32_237 c0_i32_240
  let v345 : BitVec 32 := Scalar.extui v344
  let c0_i32_241 : BitVec 32 := 0#32
  let v346 : BitVec 1 := Scalar.cmpi .slt c8_i32_237 c0_i32_241
  let v347 : BitVec 32 := Scalar.extui v346
  let v348 : BitVec 32 := Scalar.subi v345 v347
  let v349 : BitVec 1 := Scalar.cmpi .ne v343 v348
  let v350 : BitVec 32 := Scalar.remsi v337 c8_i32_237
  let c0_i32_242 : BitVec 32 := 0#32
  let v351 : BitVec 1 := Scalar.cmpi .ne v350 c0_i32_242
  let v352 : BitVec 1 := Scalar.andi v349 v351
  let v338 : BitVec 32 := Scalar.divsi v337 c8_i32_237
  let c1_i32_243 : BitVec 32 := 1#32
  let v353 : BitVec 32 := Scalar.subi v338 c1_i32_243
  let v354 : BitVec 32 := Scalar.select v352 v353 v338
  let v544 : Index := Scalar.indexCast v354
  let c8_i32_244 : BitVec 32 := 8#32
  let c0_i32_245 : BitVec 32 := 0#32
  let v355 : BitVec 1 := Scalar.cmpi .eq c8_i32_244 c0_i32_245
  let c1_i32_246 : BitVec 32 := 1#32
  let v356 : BitVec 32 := Scalar.select v355 c1_i32_246 c8_i32_244
  let v357 : BitVec 32 := Scalar.remsi v337 v356
  let c0_i32_248 : BitVec 32 := 0#32
  let v359 : BitVec 1 := Scalar.cmpi .slt v357 c0_i32_248
  let c0_i32_249 : BitVec 32 := 0#32
  let v360 : BitVec 1 := Scalar.cmpi .slt v356 c0_i32_249
  let v361 : BitVec 1 := Scalar.xori v359 v360
  let c0_i32_247 : BitVec 32 := 0#32
  let v358 : BitVec 1 := Scalar.cmpi .ne v357 c0_i32_247
  let v362 : BitVec 1 := Scalar.andi v361 v358
  let v363 : BitVec 32 := Scalar.addi v357 v356
  let v364 : BitVec 32 := Scalar.select v362 v363 v357
  let c0_i32_317 : BitVec 32 := 0#32
  let v516 : BitVec 1 := Scalar.cmpi .sgt v364 c0_i32_317
  let v517 : BitVec 32 := Scalar.extui v516
  let c0_i32_318 : BitVec 32 := 0#32
  let v518 : BitVec 1 := Scalar.cmpi .slt v364 c0_i32_318
  let v519 : BitVec 32 := Scalar.extui v518
  let v520 : BitVec 32 := Scalar.subi v517 v519
  let c2_i32_316 : BitVec 32 := 2#32
  let c0_i32_319 : BitVec 32 := 0#32
  let v521 : BitVec 1 := Scalar.cmpi .sgt c2_i32_316 c0_i32_319
  let v522 : BitVec 32 := Scalar.extui v521
  let c0_i32_320 : BitVec 32 := 0#32
  let v523 : BitVec 1 := Scalar.cmpi .slt c2_i32_316 c0_i32_320
  let v524 : BitVec 32 := Scalar.extui v523
  let v525 : BitVec 32 := Scalar.subi v522 v524
  let v526 : BitVec 1 := Scalar.cmpi .ne v520 v525
  let v527 : BitVec 32 := Scalar.remsi v364 c2_i32_316
  let c0_i32_321 : BitVec 32 := 0#32
  let v528 : BitVec 1 := Scalar.cmpi .ne v527 c0_i32_321
  let v529 : BitVec 1 := Scalar.andi v526 v528
  let v515 : BitVec 32 := Scalar.divsi v364 c2_i32_316
  let c1_i32_322 : BitVec 32 := 1#32
  let v530 : BitVec 32 := Scalar.subi v515 c1_i32_322
  let v531 : BitVec 32 := Scalar.select v529 v530 v515
  let v545 : Index := Scalar.indexCast v531
  let c2_i32_323 : BitVec 32 := 2#32
  let c0_i32_324 : BitVec 32 := 0#32
  let v532 : BitVec 1 := Scalar.cmpi .eq c2_i32_323 c0_i32_324
  let c1_i32_325 : BitVec 32 := 1#32
  let v533 : BitVec 32 := Scalar.select v532 c1_i32_325 c2_i32_323
  let v534 : BitVec 32 := Scalar.remsi v364 v533
  let c0_i32_327 : BitVec 32 := 0#32
  let v536 : BitVec 1 := Scalar.cmpi .slt v534 c0_i32_327
  let c0_i32_328 : BitVec 32 := 0#32
  let v537 : BitVec 1 := Scalar.cmpi .slt v533 c0_i32_328
  let v538 : BitVec 1 := Scalar.xori v536 v537
  let c0_i32_326 : BitVec 32 := 0#32
  let v535 : BitVec 1 := Scalar.cmpi .ne v534 c0_i32_326
  let v539 : BitVec 1 := Scalar.andi v538 v535
  let v540 : BitVec 32 := Scalar.addi v534 v533
  let v541 : BitVec 32 := Scalar.select v539 v540 v534
  let c64_i32 : BitVec 32 := 64#32
  let v542 : BitVec 32 := Scalar.muli v541 c64_i32
  let v543 : BitVec 32 := v542
  let v546 : Index := Scalar.indexCast v543
  let c0_329 : Index := 0#32
  ![v544.toNat, v545.toNat, v546.toNat, 0]
def k0_mult4 (k0_t1 : Fin k0_t1_loop.trips) : BitVec 32 :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_330 : BitVec 32 := 1#32
  let v550 : BitVec 32 := Scalar.addi v247 c1_i32_330
  let c0_i32_332 : BitVec 32 := 0#32
  let v552 : BitVec 1 := Scalar.cmpi .sgt v550 c0_i32_332
  let v553 : BitVec 32 := Scalar.extui v552
  let c0_i32_333 : BitVec 32 := 0#32
  let v554 : BitVec 1 := Scalar.cmpi .slt v550 c0_i32_333
  let v555 : BitVec 32 := Scalar.extui v554
  let v556 : BitVec 32 := Scalar.subi v553 v555
  let c1_i32_331 : BitVec 32 := 1#32
  let c0_i32_334 : BitVec 32 := 0#32
  let v557 : BitVec 1 := Scalar.cmpi .sgt c1_i32_331 c0_i32_334
  let v558 : BitVec 32 := Scalar.extui v557
  let c0_i32_335 : BitVec 32 := 0#32
  let v559 : BitVec 1 := Scalar.cmpi .slt c1_i32_331 c0_i32_335
  let v560 : BitVec 32 := Scalar.extui v559
  let v561 : BitVec 32 := Scalar.subi v558 v560
  let v562 : BitVec 1 := Scalar.cmpi .ne v556 v561
  let v563 : BitVec 32 := Scalar.remsi v550 c1_i32_331
  let c0_i32_336 : BitVec 32 := 0#32
  let v564 : BitVec 1 := Scalar.cmpi .ne v563 c0_i32_336
  let v565 : BitVec 1 := Scalar.andi v562 v564
  let v551 : BitVec 32 := Scalar.divsi v550 c1_i32_331
  let c1_i32_337 : BitVec 32 := 1#32
  let v566 : BitVec 32 := Scalar.subi v551 c1_i32_337
  let v567 : BitVec 32 := Scalar.select v565 v566 v551
  let c0_i32_339 : BitVec 32 := 0#32
  let v569 : BitVec 1 := Scalar.cmpi .sgt v567 c0_i32_339
  let v570 : BitVec 32 := Scalar.extui v569
  let c0_i32_340 : BitVec 32 := 0#32
  let v571 : BitVec 1 := Scalar.cmpi .slt v567 c0_i32_340
  let v572 : BitVec 32 := Scalar.extui v571
  let v573 : BitVec 32 := Scalar.subi v570 v572
  let c8_i32_338 : BitVec 32 := 8#32
  let c0_i32_341 : BitVec 32 := 0#32
  let v574 : BitVec 1 := Scalar.cmpi .sgt c8_i32_338 c0_i32_341
  let v575 : BitVec 32 := Scalar.extui v574
  let c0_i32_342 : BitVec 32 := 0#32
  let v576 : BitVec 1 := Scalar.cmpi .slt c8_i32_338 c0_i32_342
  let v577 : BitVec 32 := Scalar.extui v576
  let v578 : BitVec 32 := Scalar.subi v575 v577
  let v579 : BitVec 1 := Scalar.cmpi .ne v573 v578
  let v580 : BitVec 32 := Scalar.remsi v567 c8_i32_338
  let c0_i32_343 : BitVec 32 := 0#32
  let v581 : BitVec 1 := Scalar.cmpi .ne v580 c0_i32_343
  let v582 : BitVec 1 := Scalar.andi v579 v581
  let v568 : BitVec 32 := Scalar.divsi v567 c8_i32_338
  let c1_i32_344 : BitVec 32 := 1#32
  let v583 : BitVec 32 := Scalar.subi v568 c1_i32_344
  let v584 : BitVec 32 := Scalar.select v582 v583 v568
  let c512_i32_357 : BitVec 32 := 512#32
  let v605 : BitVec 32 := Scalar.muli v584 c512_i32_357
  v605
def k0_off8 (k0_t1 : Fin k0_t1_loop.trips) : Fin 3 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_330 : BitVec 32 := 1#32
  let v550 : BitVec 32 := Scalar.addi v247 c1_i32_330
  let c0_i32_332 : BitVec 32 := 0#32
  let v552 : BitVec 1 := Scalar.cmpi .sgt v550 c0_i32_332
  let v553 : BitVec 32 := Scalar.extui v552
  let c0_i32_333 : BitVec 32 := 0#32
  let v554 : BitVec 1 := Scalar.cmpi .slt v550 c0_i32_333
  let v555 : BitVec 32 := Scalar.extui v554
  let v556 : BitVec 32 := Scalar.subi v553 v555
  let c1_i32_331 : BitVec 32 := 1#32
  let c0_i32_334 : BitVec 32 := 0#32
  let v557 : BitVec 1 := Scalar.cmpi .sgt c1_i32_331 c0_i32_334
  let v558 : BitVec 32 := Scalar.extui v557
  let c0_i32_335 : BitVec 32 := 0#32
  let v559 : BitVec 1 := Scalar.cmpi .slt c1_i32_331 c0_i32_335
  let v560 : BitVec 32 := Scalar.extui v559
  let v561 : BitVec 32 := Scalar.subi v558 v560
  let v562 : BitVec 1 := Scalar.cmpi .ne v556 v561
  let v563 : BitVec 32 := Scalar.remsi v550 c1_i32_331
  let c0_i32_336 : BitVec 32 := 0#32
  let v564 : BitVec 1 := Scalar.cmpi .ne v563 c0_i32_336
  let v565 : BitVec 1 := Scalar.andi v562 v564
  let v551 : BitVec 32 := Scalar.divsi v550 c1_i32_331
  let c1_i32_337 : BitVec 32 := 1#32
  let v566 : BitVec 32 := Scalar.subi v551 c1_i32_337
  let v567 : BitVec 32 := Scalar.select v565 v566 v551
  let c8_i32_345 : BitVec 32 := 8#32
  let c0_i32_346 : BitVec 32 := 0#32
  let v585 : BitVec 1 := Scalar.cmpi .eq c8_i32_345 c0_i32_346
  let c1_i32_347 : BitVec 32 := 1#32
  let v586 : BitVec 32 := Scalar.select v585 c1_i32_347 c8_i32_345
  let v587 : BitVec 32 := Scalar.remsi v567 v586
  let c0_i32_349 : BitVec 32 := 0#32
  let v589 : BitVec 1 := Scalar.cmpi .slt v587 c0_i32_349
  let c0_i32_350 : BitVec 32 := 0#32
  let v590 : BitVec 1 := Scalar.cmpi .slt v586 c0_i32_350
  let v591 : BitVec 1 := Scalar.xori v589 v590
  let c0_i32_348 : BitVec 32 := 0#32
  let v588 : BitVec 1 := Scalar.cmpi .ne v587 c0_i32_348
  let v592 : BitVec 1 := Scalar.andi v591 v588
  let v593 : BitVec 32 := Scalar.addi v587 v586
  let v594 : BitVec 32 := Scalar.select v592 v593 v587
  let v607 : Index := Scalar.indexCast v594
  let c0_i32_339 : BitVec 32 := 0#32
  let v569 : BitVec 1 := Scalar.cmpi .sgt v567 c0_i32_339
  let v570 : BitVec 32 := Scalar.extui v569
  let c0_i32_340 : BitVec 32 := 0#32
  let v571 : BitVec 1 := Scalar.cmpi .slt v567 c0_i32_340
  let v572 : BitVec 32 := Scalar.extui v571
  let v573 : BitVec 32 := Scalar.subi v570 v572
  let c8_i32_338 : BitVec 32 := 8#32
  let c0_i32_341 : BitVec 32 := 0#32
  let v574 : BitVec 1 := Scalar.cmpi .sgt c8_i32_338 c0_i32_341
  let v575 : BitVec 32 := Scalar.extui v574
  let c0_i32_342 : BitVec 32 := 0#32
  let v576 : BitVec 1 := Scalar.cmpi .slt c8_i32_338 c0_i32_342
  let v577 : BitVec 32 := Scalar.extui v576
  let v578 : BitVec 32 := Scalar.subi v575 v577
  let v579 : BitVec 1 := Scalar.cmpi .ne v573 v578
  let v580 : BitVec 32 := Scalar.remsi v567 c8_i32_338
  let c0_i32_343 : BitVec 32 := 0#32
  let v581 : BitVec 1 := Scalar.cmpi .ne v580 c0_i32_343
  let v582 : BitVec 1 := Scalar.andi v579 v581
  let v568 : BitVec 32 := Scalar.divsi v567 c8_i32_338
  let c1_i32_344 : BitVec 32 := 1#32
  let v583 : BitVec 32 := Scalar.subi v568 c1_i32_344
  let v584 : BitVec 32 := Scalar.select v582 v583 v568
  let c512_i32_357 : BitVec 32 := 512#32
  let v605 : BitVec 32 := Scalar.muli v584 c512_i32_357
  let v606 : BitVec 32 := v605
  let v608 : Index := Scalar.indexCast v606
  let c0_358 : Index := 0#32
  ![v607.toNat, v608.toNat, 0]
def k0_mult5 (k0_t1 : Fin k0_t1_loop.trips) : BitVec 32 :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_330 : BitVec 32 := 1#32
  let v550 : BitVec 32 := Scalar.addi v247 c1_i32_330
  let c1_i32_351 : BitVec 32 := 1#32
  let c0_i32_352 : BitVec 32 := 0#32
  let v595 : BitVec 1 := Scalar.cmpi .eq c1_i32_351 c0_i32_352
  let c1_i32_353 : BitVec 32 := 1#32
  let v596 : BitVec 32 := Scalar.select v595 c1_i32_353 c1_i32_351
  let v597 : BitVec 32 := Scalar.remsi v550 v596
  let c0_i32_355 : BitVec 32 := 0#32
  let v599 : BitVec 1 := Scalar.cmpi .slt v597 c0_i32_355
  let c0_i32_356 : BitVec 32 := 0#32
  let v600 : BitVec 1 := Scalar.cmpi .slt v596 c0_i32_356
  let v601 : BitVec 1 := Scalar.xori v599 v600
  let c0_i32_354 : BitVec 32 := 0#32
  let v598 : BitVec 1 := Scalar.cmpi .ne v597 c0_i32_354
  let v602 : BitVec 1 := Scalar.andi v601 v598
  let v603 : BitVec 32 := Scalar.addi v597 v596
  let v604 : BitVec 32 := Scalar.select v602 v603 v597
  let c2048_i32_359 : BitVec 32 := 2048#32
  let v611 : BitVec 32 := Scalar.muli v604 c2048_i32_359
  v611
def k0_off9 (k0_t1 : Fin k0_t1_loop.trips) : Fin 3 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c1_i32_330 : BitVec 32 := 1#32
  let v550 : BitVec 32 := Scalar.addi v247 c1_i32_330
  let c0_i32_332 : BitVec 32 := 0#32
  let v552 : BitVec 1 := Scalar.cmpi .sgt v550 c0_i32_332
  let v553 : BitVec 32 := Scalar.extui v552
  let c0_i32_333 : BitVec 32 := 0#32
  let v554 : BitVec 1 := Scalar.cmpi .slt v550 c0_i32_333
  let v555 : BitVec 32 := Scalar.extui v554
  let v556 : BitVec 32 := Scalar.subi v553 v555
  let c1_i32_331 : BitVec 32 := 1#32
  let c0_i32_334 : BitVec 32 := 0#32
  let v557 : BitVec 1 := Scalar.cmpi .sgt c1_i32_331 c0_i32_334
  let v558 : BitVec 32 := Scalar.extui v557
  let c0_i32_335 : BitVec 32 := 0#32
  let v559 : BitVec 1 := Scalar.cmpi .slt c1_i32_331 c0_i32_335
  let v560 : BitVec 32 := Scalar.extui v559
  let v561 : BitVec 32 := Scalar.subi v558 v560
  let v562 : BitVec 1 := Scalar.cmpi .ne v556 v561
  let v563 : BitVec 32 := Scalar.remsi v550 c1_i32_331
  let c0_i32_336 : BitVec 32 := 0#32
  let v564 : BitVec 1 := Scalar.cmpi .ne v563 c0_i32_336
  let v565 : BitVec 1 := Scalar.andi v562 v564
  let v551 : BitVec 32 := Scalar.divsi v550 c1_i32_331
  let c1_i32_337 : BitVec 32 := 1#32
  let v566 : BitVec 32 := Scalar.subi v551 c1_i32_337
  let v567 : BitVec 32 := Scalar.select v565 v566 v551
  let c8_i32_345 : BitVec 32 := 8#32
  let c0_i32_346 : BitVec 32 := 0#32
  let v585 : BitVec 1 := Scalar.cmpi .eq c8_i32_345 c0_i32_346
  let c1_i32_347 : BitVec 32 := 1#32
  let v586 : BitVec 32 := Scalar.select v585 c1_i32_347 c8_i32_345
  let v587 : BitVec 32 := Scalar.remsi v567 v586
  let c0_i32_349 : BitVec 32 := 0#32
  let v589 : BitVec 1 := Scalar.cmpi .slt v587 c0_i32_349
  let c0_i32_350 : BitVec 32 := 0#32
  let v590 : BitVec 1 := Scalar.cmpi .slt v586 c0_i32_350
  let v591 : BitVec 1 := Scalar.xori v589 v590
  let c0_i32_348 : BitVec 32 := 0#32
  let v588 : BitVec 1 := Scalar.cmpi .ne v587 c0_i32_348
  let v592 : BitVec 1 := Scalar.andi v591 v588
  let v593 : BitVec 32 := Scalar.addi v587 v586
  let v594 : BitVec 32 := Scalar.select v592 v593 v587
  let v613 : Index := Scalar.indexCast v594
  let c1_i32_351 : BitVec 32 := 1#32
  let c0_i32_352 : BitVec 32 := 0#32
  let v595 : BitVec 1 := Scalar.cmpi .eq c1_i32_351 c0_i32_352
  let c1_i32_353 : BitVec 32 := 1#32
  let v596 : BitVec 32 := Scalar.select v595 c1_i32_353 c1_i32_351
  let v597 : BitVec 32 := Scalar.remsi v550 v596
  let c0_i32_355 : BitVec 32 := 0#32
  let v599 : BitVec 1 := Scalar.cmpi .slt v597 c0_i32_355
  let c0_i32_356 : BitVec 32 := 0#32
  let v600 : BitVec 1 := Scalar.cmpi .slt v596 c0_i32_356
  let v601 : BitVec 1 := Scalar.xori v599 v600
  let c0_i32_354 : BitVec 32 := 0#32
  let v598 : BitVec 1 := Scalar.cmpi .ne v597 c0_i32_354
  let v602 : BitVec 1 := Scalar.andi v601 v598
  let v603 : BitVec 32 := Scalar.addi v597 v596
  let v604 : BitVec 32 := Scalar.select v602 v603 v597
  let c2048_i32_359 : BitVec 32 := 2048#32
  let v611 : BitVec 32 := Scalar.muli v604 c2048_i32_359
  let v612 : BitVec 32 := v611
  let v614 : Index := Scalar.indexCast v612
  let c0_360 : Index := 0#32
  ![v613.toNat, v614.toNat, 0]
def k0_off10 (k0_t1 : Fin k0_t1_loop.trips) : Fin 4 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c0_i32_366 : BitVec 32 := 0#32
  let v624 : BitVec 1 := Scalar.cmpi .sgt v247 c0_i32_366
  let v625 : BitVec 32 := Scalar.extui v624
  let c0_i32_367 : BitVec 32 := 0#32
  let v626 : BitVec 1 := Scalar.cmpi .slt v247 c0_i32_367
  let v627 : BitVec 32 := Scalar.extui v626
  let v628 : BitVec 32 := Scalar.subi v625 v627
  let c1_i32_365 : BitVec 32 := 1#32
  let c0_i32_368 : BitVec 32 := 0#32
  let v629 : BitVec 1 := Scalar.cmpi .sgt c1_i32_365 c0_i32_368
  let v630 : BitVec 32 := Scalar.extui v629
  let c0_i32_369 : BitVec 32 := 0#32
  let v631 : BitVec 1 := Scalar.cmpi .slt c1_i32_365 c0_i32_369
  let v632 : BitVec 32 := Scalar.extui v631
  let v633 : BitVec 32 := Scalar.subi v630 v632
  let v634 : BitVec 1 := Scalar.cmpi .ne v628 v633
  let v635 : BitVec 32 := Scalar.remsi v247 c1_i32_365
  let c0_i32_370 : BitVec 32 := 0#32
  let v636 : BitVec 1 := Scalar.cmpi .ne v635 c0_i32_370
  let v637 : BitVec 1 := Scalar.andi v634 v636
  let v623 : BitVec 32 := Scalar.divsi v247 c1_i32_365
  let c1_i32_371 : BitVec 32 := 1#32
  let v638 : BitVec 32 := Scalar.subi v623 c1_i32_371
  let v639 : BitVec 32 := Scalar.select v637 v638 v623
  let c8_i32_379 : BitVec 32 := 8#32
  let c0_i32_380 : BitVec 32 := 0#32
  let v657 : BitVec 1 := Scalar.cmpi .eq c8_i32_379 c0_i32_380
  let c1_i32_381 : BitVec 32 := 1#32
  let v658 : BitVec 32 := Scalar.select v657 c1_i32_381 c8_i32_379
  let v659 : BitVec 32 := Scalar.remsi v639 v658
  let c0_i32_383 : BitVec 32 := 0#32
  let v661 : BitVec 1 := Scalar.cmpi .slt v659 c0_i32_383
  let c0_i32_384 : BitVec 32 := 0#32
  let v662 : BitVec 1 := Scalar.cmpi .slt v658 c0_i32_384
  let v663 : BitVec 1 := Scalar.xori v661 v662
  let c0_i32_382 : BitVec 32 := 0#32
  let v660 : BitVec 1 := Scalar.cmpi .ne v659 c0_i32_382
  let v664 : BitVec 1 := Scalar.andi v663 v660
  let v665 : BitVec 32 := Scalar.addi v659 v658
  let v666 : BitVec 32 := Scalar.select v664 v665 v659
  let c0_i32_395 : BitVec 32 := 0#32
  let v684 : BitVec 1 := Scalar.cmpi .sgt v666 c0_i32_395
  let v685 : BitVec 32 := Scalar.extui v684
  let c0_i32_396 : BitVec 32 := 0#32
  let v686 : BitVec 1 := Scalar.cmpi .slt v666 c0_i32_396
  let v687 : BitVec 32 := Scalar.extui v686
  let v688 : BitVec 32 := Scalar.subi v685 v687
  let c2_i32_394 : BitVec 32 := 2#32
  let c0_i32_397 : BitVec 32 := 0#32
  let v689 : BitVec 1 := Scalar.cmpi .sgt c2_i32_394 c0_i32_397
  let v690 : BitVec 32 := Scalar.extui v689
  let c0_i32_398 : BitVec 32 := 0#32
  let v691 : BitVec 1 := Scalar.cmpi .slt c2_i32_394 c0_i32_398
  let v692 : BitVec 32 := Scalar.extui v691
  let v693 : BitVec 32 := Scalar.subi v690 v692
  let v694 : BitVec 1 := Scalar.cmpi .ne v688 v693
  let v695 : BitVec 32 := Scalar.remsi v666 c2_i32_394
  let c0_i32_399 : BitVec 32 := 0#32
  let v696 : BitVec 1 := Scalar.cmpi .ne v695 c0_i32_399
  let v697 : BitVec 1 := Scalar.andi v694 v696
  let v683 : BitVec 32 := Scalar.divsi v666 c2_i32_394
  let c1_i32_400 : BitVec 32 := 1#32
  let v698 : BitVec 32 := Scalar.subi v683 c1_i32_400
  let v699 : BitVec 32 := Scalar.select v697 v698 v683
  let v700 : Index := Scalar.indexCast v699
  let c1_i32_385 : BitVec 32 := 1#32
  let c0_i32_386 : BitVec 32 := 0#32
  let v667 : BitVec 1 := Scalar.cmpi .eq c1_i32_385 c0_i32_386
  let c1_i32_387 : BitVec 32 := 1#32
  let v668 : BitVec 32 := Scalar.select v667 c1_i32_387 c1_i32_385
  let v669 : BitVec 32 := Scalar.remsi v247 v668
  let c0_i32_389 : BitVec 32 := 0#32
  let v671 : BitVec 1 := Scalar.cmpi .slt v669 c0_i32_389
  let c0_i32_390 : BitVec 32 := 0#32
  let v672 : BitVec 1 := Scalar.cmpi .slt v668 c0_i32_390
  let v673 : BitVec 1 := Scalar.xori v671 v672
  let c0_i32_388 : BitVec 32 := 0#32
  let v670 : BitVec 1 := Scalar.cmpi .ne v669 c0_i32_388
  let v674 : BitVec 1 := Scalar.andi v673 v670
  let v675 : BitVec 32 := Scalar.addi v669 v668
  let v676 : BitVec 32 := Scalar.select v674 v675 v669
  let v701 : Index := Scalar.indexCast v676
  let c0_401 : Index := 0#32
  let c0_402 : Index := 0#32
  ![v700.toNat, v701.toNat, 0, 0]
def k0_off11 (k0_t1 : Fin k0_t1_loop.trips) : Fin 4 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c0_i32_366 : BitVec 32 := 0#32
  let v624 : BitVec 1 := Scalar.cmpi .sgt v247 c0_i32_366
  let v625 : BitVec 32 := Scalar.extui v624
  let c0_i32_367 : BitVec 32 := 0#32
  let v626 : BitVec 1 := Scalar.cmpi .slt v247 c0_i32_367
  let v627 : BitVec 32 := Scalar.extui v626
  let v628 : BitVec 32 := Scalar.subi v625 v627
  let c1_i32_365 : BitVec 32 := 1#32
  let c0_i32_368 : BitVec 32 := 0#32
  let v629 : BitVec 1 := Scalar.cmpi .sgt c1_i32_365 c0_i32_368
  let v630 : BitVec 32 := Scalar.extui v629
  let c0_i32_369 : BitVec 32 := 0#32
  let v631 : BitVec 1 := Scalar.cmpi .slt c1_i32_365 c0_i32_369
  let v632 : BitVec 32 := Scalar.extui v631
  let v633 : BitVec 32 := Scalar.subi v630 v632
  let v634 : BitVec 1 := Scalar.cmpi .ne v628 v633
  let v635 : BitVec 32 := Scalar.remsi v247 c1_i32_365
  let c0_i32_370 : BitVec 32 := 0#32
  let v636 : BitVec 1 := Scalar.cmpi .ne v635 c0_i32_370
  let v637 : BitVec 1 := Scalar.andi v634 v636
  let v623 : BitVec 32 := Scalar.divsi v247 c1_i32_365
  let c1_i32_371 : BitVec 32 := 1#32
  let v638 : BitVec 32 := Scalar.subi v623 c1_i32_371
  let v639 : BitVec 32 := Scalar.select v637 v638 v623
  let c8_i32_379 : BitVec 32 := 8#32
  let c0_i32_380 : BitVec 32 := 0#32
  let v657 : BitVec 1 := Scalar.cmpi .eq c8_i32_379 c0_i32_380
  let c1_i32_381 : BitVec 32 := 1#32
  let v658 : BitVec 32 := Scalar.select v657 c1_i32_381 c8_i32_379
  let v659 : BitVec 32 := Scalar.remsi v639 v658
  let c0_i32_383 : BitVec 32 := 0#32
  let v661 : BitVec 1 := Scalar.cmpi .slt v659 c0_i32_383
  let c0_i32_384 : BitVec 32 := 0#32
  let v662 : BitVec 1 := Scalar.cmpi .slt v658 c0_i32_384
  let v663 : BitVec 1 := Scalar.xori v661 v662
  let c0_i32_382 : BitVec 32 := 0#32
  let v660 : BitVec 1 := Scalar.cmpi .ne v659 c0_i32_382
  let v664 : BitVec 1 := Scalar.andi v663 v660
  let v665 : BitVec 32 := Scalar.addi v659 v658
  let v666 : BitVec 32 := Scalar.select v664 v665 v659
  let c0_i32_408 : BitVec 32 := 0#32
  let v714 : BitVec 1 := Scalar.cmpi .sgt v666 c0_i32_408
  let v715 : BitVec 32 := Scalar.extui v714
  let c0_i32_409 : BitVec 32 := 0#32
  let v716 : BitVec 1 := Scalar.cmpi .slt v666 c0_i32_409
  let v717 : BitVec 32 := Scalar.extui v716
  let v718 : BitVec 32 := Scalar.subi v715 v717
  let c2_i32_407 : BitVec 32 := 2#32
  let c0_i32_410 : BitVec 32 := 0#32
  let v719 : BitVec 1 := Scalar.cmpi .sgt c2_i32_407 c0_i32_410
  let v720 : BitVec 32 := Scalar.extui v719
  let c0_i32_411 : BitVec 32 := 0#32
  let v721 : BitVec 1 := Scalar.cmpi .slt c2_i32_407 c0_i32_411
  let v722 : BitVec 32 := Scalar.extui v721
  let v723 : BitVec 32 := Scalar.subi v720 v722
  let v724 : BitVec 1 := Scalar.cmpi .ne v718 v723
  let v725 : BitVec 32 := Scalar.remsi v666 c2_i32_407
  let c0_i32_412 : BitVec 32 := 0#32
  let v726 : BitVec 1 := Scalar.cmpi .ne v725 c0_i32_412
  let v727 : BitVec 1 := Scalar.andi v724 v726
  let v713 : BitVec 32 := Scalar.divsi v666 c2_i32_407
  let c1_i32_413 : BitVec 32 := 1#32
  let v728 : BitVec 32 := Scalar.subi v713 c1_i32_413
  let v729 : BitVec 32 := Scalar.select v727 v728 v713
  let v730 : Index := Scalar.indexCast v729
  let c1_i32_385 : BitVec 32 := 1#32
  let c0_i32_386 : BitVec 32 := 0#32
  let v667 : BitVec 1 := Scalar.cmpi .eq c1_i32_385 c0_i32_386
  let c1_i32_387 : BitVec 32 := 1#32
  let v668 : BitVec 32 := Scalar.select v667 c1_i32_387 c1_i32_385
  let v669 : BitVec 32 := Scalar.remsi v247 v668
  let c0_i32_389 : BitVec 32 := 0#32
  let v671 : BitVec 1 := Scalar.cmpi .slt v669 c0_i32_389
  let c0_i32_390 : BitVec 32 := 0#32
  let v672 : BitVec 1 := Scalar.cmpi .slt v668 c0_i32_390
  let v673 : BitVec 1 := Scalar.xori v671 v672
  let c0_i32_388 : BitVec 32 := 0#32
  let v670 : BitVec 1 := Scalar.cmpi .ne v669 c0_i32_388
  let v674 : BitVec 1 := Scalar.andi v673 v670
  let v675 : BitVec 32 := Scalar.addi v669 v668
  let v676 : BitVec 32 := Scalar.select v674 v675 v669
  let v731 : Index := Scalar.indexCast v676
  let c0_414 : Index := 0#32
  let c512_415 : Index := 512#32
  ![v730.toNat, v731.toNat, 0, 512]
def k0_off12 (k0_t1 : Fin k0_t1_loop.trips) : Fin 4 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c0_i32_366 : BitVec 32 := 0#32
  let v624 : BitVec 1 := Scalar.cmpi .sgt v247 c0_i32_366
  let v625 : BitVec 32 := Scalar.extui v624
  let c0_i32_367 : BitVec 32 := 0#32
  let v626 : BitVec 1 := Scalar.cmpi .slt v247 c0_i32_367
  let v627 : BitVec 32 := Scalar.extui v626
  let v628 : BitVec 32 := Scalar.subi v625 v627
  let c1_i32_365 : BitVec 32 := 1#32
  let c0_i32_368 : BitVec 32 := 0#32
  let v629 : BitVec 1 := Scalar.cmpi .sgt c1_i32_365 c0_i32_368
  let v630 : BitVec 32 := Scalar.extui v629
  let c0_i32_369 : BitVec 32 := 0#32
  let v631 : BitVec 1 := Scalar.cmpi .slt c1_i32_365 c0_i32_369
  let v632 : BitVec 32 := Scalar.extui v631
  let v633 : BitVec 32 := Scalar.subi v630 v632
  let v634 : BitVec 1 := Scalar.cmpi .ne v628 v633
  let v635 : BitVec 32 := Scalar.remsi v247 c1_i32_365
  let c0_i32_370 : BitVec 32 := 0#32
  let v636 : BitVec 1 := Scalar.cmpi .ne v635 c0_i32_370
  let v637 : BitVec 1 := Scalar.andi v634 v636
  let v623 : BitVec 32 := Scalar.divsi v247 c1_i32_365
  let c1_i32_371 : BitVec 32 := 1#32
  let v638 : BitVec 32 := Scalar.subi v623 c1_i32_371
  let v639 : BitVec 32 := Scalar.select v637 v638 v623
  let c8_i32_379 : BitVec 32 := 8#32
  let c0_i32_380 : BitVec 32 := 0#32
  let v657 : BitVec 1 := Scalar.cmpi .eq c8_i32_379 c0_i32_380
  let c1_i32_381 : BitVec 32 := 1#32
  let v658 : BitVec 32 := Scalar.select v657 c1_i32_381 c8_i32_379
  let v659 : BitVec 32 := Scalar.remsi v639 v658
  let c0_i32_383 : BitVec 32 := 0#32
  let v661 : BitVec 1 := Scalar.cmpi .slt v659 c0_i32_383
  let c0_i32_384 : BitVec 32 := 0#32
  let v662 : BitVec 1 := Scalar.cmpi .slt v658 c0_i32_384
  let v663 : BitVec 1 := Scalar.xori v661 v662
  let c0_i32_382 : BitVec 32 := 0#32
  let v660 : BitVec 1 := Scalar.cmpi .ne v659 c0_i32_382
  let v664 : BitVec 1 := Scalar.andi v663 v660
  let v665 : BitVec 32 := Scalar.addi v659 v658
  let v666 : BitVec 32 := Scalar.select v664 v665 v659
  let c0_i32_421 : BitVec 32 := 0#32
  let v745 : BitVec 1 := Scalar.cmpi .sgt v666 c0_i32_421
  let v746 : BitVec 32 := Scalar.extui v745
  let c0_i32_422 : BitVec 32 := 0#32
  let v747 : BitVec 1 := Scalar.cmpi .slt v666 c0_i32_422
  let v748 : BitVec 32 := Scalar.extui v747
  let v749 : BitVec 32 := Scalar.subi v746 v748
  let c2_i32_420 : BitVec 32 := 2#32
  let c0_i32_423 : BitVec 32 := 0#32
  let v750 : BitVec 1 := Scalar.cmpi .sgt c2_i32_420 c0_i32_423
  let v751 : BitVec 32 := Scalar.extui v750
  let c0_i32_424 : BitVec 32 := 0#32
  let v752 : BitVec 1 := Scalar.cmpi .slt c2_i32_420 c0_i32_424
  let v753 : BitVec 32 := Scalar.extui v752
  let v754 : BitVec 32 := Scalar.subi v751 v753
  let v755 : BitVec 1 := Scalar.cmpi .ne v749 v754
  let v756 : BitVec 32 := Scalar.remsi v666 c2_i32_420
  let c0_i32_425 : BitVec 32 := 0#32
  let v757 : BitVec 1 := Scalar.cmpi .ne v756 c0_i32_425
  let v758 : BitVec 1 := Scalar.andi v755 v757
  let v744 : BitVec 32 := Scalar.divsi v666 c2_i32_420
  let c1_i32_426 : BitVec 32 := 1#32
  let v759 : BitVec 32 := Scalar.subi v744 c1_i32_426
  let v760 : BitVec 32 := Scalar.select v758 v759 v744
  let v761 : Index := Scalar.indexCast v760
  let c1_i32_385 : BitVec 32 := 1#32
  let c0_i32_386 : BitVec 32 := 0#32
  let v667 : BitVec 1 := Scalar.cmpi .eq c1_i32_385 c0_i32_386
  let c1_i32_387 : BitVec 32 := 1#32
  let v668 : BitVec 32 := Scalar.select v667 c1_i32_387 c1_i32_385
  let v669 : BitVec 32 := Scalar.remsi v247 v668
  let c0_i32_389 : BitVec 32 := 0#32
  let v671 : BitVec 1 := Scalar.cmpi .slt v669 c0_i32_389
  let c0_i32_390 : BitVec 32 := 0#32
  let v672 : BitVec 1 := Scalar.cmpi .slt v668 c0_i32_390
  let v673 : BitVec 1 := Scalar.xori v671 v672
  let c0_i32_388 : BitVec 32 := 0#32
  let v670 : BitVec 1 := Scalar.cmpi .ne v669 c0_i32_388
  let v674 : BitVec 1 := Scalar.andi v673 v670
  let v675 : BitVec 32 := Scalar.addi v669 v668
  let v676 : BitVec 32 := Scalar.select v674 v675 v669
  let v762 : Index := Scalar.indexCast v676
  let c0_427 : Index := 0#32
  let c1024_428 : Index := 1024#32
  ![v761.toNat, v762.toNat, 0, 1024]
def k0_off13 (k0_t1 : Fin k0_t1_loop.trips) : Fin 4 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c0_i32_366 : BitVec 32 := 0#32
  let v624 : BitVec 1 := Scalar.cmpi .sgt v247 c0_i32_366
  let v625 : BitVec 32 := Scalar.extui v624
  let c0_i32_367 : BitVec 32 := 0#32
  let v626 : BitVec 1 := Scalar.cmpi .slt v247 c0_i32_367
  let v627 : BitVec 32 := Scalar.extui v626
  let v628 : BitVec 32 := Scalar.subi v625 v627
  let c1_i32_365 : BitVec 32 := 1#32
  let c0_i32_368 : BitVec 32 := 0#32
  let v629 : BitVec 1 := Scalar.cmpi .sgt c1_i32_365 c0_i32_368
  let v630 : BitVec 32 := Scalar.extui v629
  let c0_i32_369 : BitVec 32 := 0#32
  let v631 : BitVec 1 := Scalar.cmpi .slt c1_i32_365 c0_i32_369
  let v632 : BitVec 32 := Scalar.extui v631
  let v633 : BitVec 32 := Scalar.subi v630 v632
  let v634 : BitVec 1 := Scalar.cmpi .ne v628 v633
  let v635 : BitVec 32 := Scalar.remsi v247 c1_i32_365
  let c0_i32_370 : BitVec 32 := 0#32
  let v636 : BitVec 1 := Scalar.cmpi .ne v635 c0_i32_370
  let v637 : BitVec 1 := Scalar.andi v634 v636
  let v623 : BitVec 32 := Scalar.divsi v247 c1_i32_365
  let c1_i32_371 : BitVec 32 := 1#32
  let v638 : BitVec 32 := Scalar.subi v623 c1_i32_371
  let v639 : BitVec 32 := Scalar.select v637 v638 v623
  let c8_i32_379 : BitVec 32 := 8#32
  let c0_i32_380 : BitVec 32 := 0#32
  let v657 : BitVec 1 := Scalar.cmpi .eq c8_i32_379 c0_i32_380
  let c1_i32_381 : BitVec 32 := 1#32
  let v658 : BitVec 32 := Scalar.select v657 c1_i32_381 c8_i32_379
  let v659 : BitVec 32 := Scalar.remsi v639 v658
  let c0_i32_383 : BitVec 32 := 0#32
  let v661 : BitVec 1 := Scalar.cmpi .slt v659 c0_i32_383
  let c0_i32_384 : BitVec 32 := 0#32
  let v662 : BitVec 1 := Scalar.cmpi .slt v658 c0_i32_384
  let v663 : BitVec 1 := Scalar.xori v661 v662
  let c0_i32_382 : BitVec 32 := 0#32
  let v660 : BitVec 1 := Scalar.cmpi .ne v659 c0_i32_382
  let v664 : BitVec 1 := Scalar.andi v663 v660
  let v665 : BitVec 32 := Scalar.addi v659 v658
  let v666 : BitVec 32 := Scalar.select v664 v665 v659
  let c0_i32_434 : BitVec 32 := 0#32
  let v776 : BitVec 1 := Scalar.cmpi .sgt v666 c0_i32_434
  let v777 : BitVec 32 := Scalar.extui v776
  let c0_i32_435 : BitVec 32 := 0#32
  let v778 : BitVec 1 := Scalar.cmpi .slt v666 c0_i32_435
  let v779 : BitVec 32 := Scalar.extui v778
  let v780 : BitVec 32 := Scalar.subi v777 v779
  let c2_i32_433 : BitVec 32 := 2#32
  let c0_i32_436 : BitVec 32 := 0#32
  let v781 : BitVec 1 := Scalar.cmpi .sgt c2_i32_433 c0_i32_436
  let v782 : BitVec 32 := Scalar.extui v781
  let c0_i32_437 : BitVec 32 := 0#32
  let v783 : BitVec 1 := Scalar.cmpi .slt c2_i32_433 c0_i32_437
  let v784 : BitVec 32 := Scalar.extui v783
  let v785 : BitVec 32 := Scalar.subi v782 v784
  let v786 : BitVec 1 := Scalar.cmpi .ne v780 v785
  let v787 : BitVec 32 := Scalar.remsi v666 c2_i32_433
  let c0_i32_438 : BitVec 32 := 0#32
  let v788 : BitVec 1 := Scalar.cmpi .ne v787 c0_i32_438
  let v789 : BitVec 1 := Scalar.andi v786 v788
  let v775 : BitVec 32 := Scalar.divsi v666 c2_i32_433
  let c1_i32_439 : BitVec 32 := 1#32
  let v790 : BitVec 32 := Scalar.subi v775 c1_i32_439
  let v791 : BitVec 32 := Scalar.select v789 v790 v775
  let v792 : Index := Scalar.indexCast v791
  let c1_i32_385 : BitVec 32 := 1#32
  let c0_i32_386 : BitVec 32 := 0#32
  let v667 : BitVec 1 := Scalar.cmpi .eq c1_i32_385 c0_i32_386
  let c1_i32_387 : BitVec 32 := 1#32
  let v668 : BitVec 32 := Scalar.select v667 c1_i32_387 c1_i32_385
  let v669 : BitVec 32 := Scalar.remsi v247 v668
  let c0_i32_389 : BitVec 32 := 0#32
  let v671 : BitVec 1 := Scalar.cmpi .slt v669 c0_i32_389
  let c0_i32_390 : BitVec 32 := 0#32
  let v672 : BitVec 1 := Scalar.cmpi .slt v668 c0_i32_390
  let v673 : BitVec 1 := Scalar.xori v671 v672
  let c0_i32_388 : BitVec 32 := 0#32
  let v670 : BitVec 1 := Scalar.cmpi .ne v669 c0_i32_388
  let v674 : BitVec 1 := Scalar.andi v673 v670
  let v675 : BitVec 32 := Scalar.addi v669 v668
  let v676 : BitVec 32 := Scalar.select v674 v675 v669
  let v793 : Index := Scalar.indexCast v676
  let c0_440 : Index := 0#32
  let c1536_441 : Index := 1536#32
  ![v792.toNat, v793.toNat, 0, 1536]
def k0_mult6 (k0_t1 : Fin k0_t1_loop.trips) : BitVec 32 :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c0_i32_366 : BitVec 32 := 0#32
  let v624 : BitVec 1 := Scalar.cmpi .sgt v247 c0_i32_366
  let v625 : BitVec 32 := Scalar.extui v624
  let c0_i32_367 : BitVec 32 := 0#32
  let v626 : BitVec 1 := Scalar.cmpi .slt v247 c0_i32_367
  let v627 : BitVec 32 := Scalar.extui v626
  let v628 : BitVec 32 := Scalar.subi v625 v627
  let c1_i32_365 : BitVec 32 := 1#32
  let c0_i32_368 : BitVec 32 := 0#32
  let v629 : BitVec 1 := Scalar.cmpi .sgt c1_i32_365 c0_i32_368
  let v630 : BitVec 32 := Scalar.extui v629
  let c0_i32_369 : BitVec 32 := 0#32
  let v631 : BitVec 1 := Scalar.cmpi .slt c1_i32_365 c0_i32_369
  let v632 : BitVec 32 := Scalar.extui v631
  let v633 : BitVec 32 := Scalar.subi v630 v632
  let v634 : BitVec 1 := Scalar.cmpi .ne v628 v633
  let v635 : BitVec 32 := Scalar.remsi v247 c1_i32_365
  let c0_i32_370 : BitVec 32 := 0#32
  let v636 : BitVec 1 := Scalar.cmpi .ne v635 c0_i32_370
  let v637 : BitVec 1 := Scalar.andi v634 v636
  let v623 : BitVec 32 := Scalar.divsi v247 c1_i32_365
  let c1_i32_371 : BitVec 32 := 1#32
  let v638 : BitVec 32 := Scalar.subi v623 c1_i32_371
  let v639 : BitVec 32 := Scalar.select v637 v638 v623
  let c8_i32_379 : BitVec 32 := 8#32
  let c0_i32_380 : BitVec 32 := 0#32
  let v657 : BitVec 1 := Scalar.cmpi .eq c8_i32_379 c0_i32_380
  let c1_i32_381 : BitVec 32 := 1#32
  let v658 : BitVec 32 := Scalar.select v657 c1_i32_381 c8_i32_379
  let v659 : BitVec 32 := Scalar.remsi v639 v658
  let c0_i32_383 : BitVec 32 := 0#32
  let v661 : BitVec 1 := Scalar.cmpi .slt v659 c0_i32_383
  let c0_i32_384 : BitVec 32 := 0#32
  let v662 : BitVec 1 := Scalar.cmpi .slt v658 c0_i32_384
  let v663 : BitVec 1 := Scalar.xori v661 v662
  let c0_i32_382 : BitVec 32 := 0#32
  let v660 : BitVec 1 := Scalar.cmpi .ne v659 c0_i32_382
  let v664 : BitVec 1 := Scalar.andi v663 v660
  let v665 : BitVec 32 := Scalar.addi v659 v658
  let v666 : BitVec 32 := Scalar.select v664 v665 v659
  let c2_i32_458 : BitVec 32 := 2#32
  let c0_i32_459 : BitVec 32 := 0#32
  let v834 : BitVec 1 := Scalar.cmpi .eq c2_i32_458 c0_i32_459
  let c1_i32_460 : BitVec 32 := 1#32
  let v835 : BitVec 32 := Scalar.select v834 c1_i32_460 c2_i32_458
  let v836 : BitVec 32 := Scalar.remsi v666 v835
  let c0_i32_462 : BitVec 32 := 0#32
  let v838 : BitVec 1 := Scalar.cmpi .slt v836 c0_i32_462
  let c0_i32_463 : BitVec 32 := 0#32
  let v839 : BitVec 1 := Scalar.cmpi .slt v835 c0_i32_463
  let v840 : BitVec 1 := Scalar.xori v838 v839
  let c0_i32_461 : BitVec 32 := 0#32
  let v837 : BitVec 1 := Scalar.cmpi .ne v836 c0_i32_461
  let v841 : BitVec 1 := Scalar.andi v840 v837
  let v842 : BitVec 32 := Scalar.addi v836 v835
  let v843 : BitVec 32 := Scalar.select v841 v842 v836
  let c64_i32_464 : BitVec 32 := 64#32
  let v844 : BitVec 32 := Scalar.muli v843 c64_i32_464
  v844
def k0_off14 (k0_t1 : Fin k0_t1_loop.trips) : Fin 4 → Nat :=
  let c2_i32 : BitVec 32 := 2#32
  let c0_i32 : BitVec 32 := 0#32
  let c1_i32 : BitVec 32 := 1#32
  let arg9 : BitVec 32 := Scf.iv c0_i32 c1_i32 k0_t1
  let v246 : BitVec 32 := Scalar.muli c2_i32 arg9
  let c1_i32_197 : BitVec 32 := 1#32
  let v247 : BitVec 32 := Scalar.addi v246 c1_i32_197
  let c0_i32_366 : BitVec 32 := 0#32
  let v624 : BitVec 1 := Scalar.cmpi .sgt v247 c0_i32_366
  let v625 : BitVec 32 := Scalar.extui v624
  let c0_i32_367 : BitVec 32 := 0#32
  let v626 : BitVec 1 := Scalar.cmpi .slt v247 c0_i32_367
  let v627 : BitVec 32 := Scalar.extui v626
  let v628 : BitVec 32 := Scalar.subi v625 v627
  let c1_i32_365 : BitVec 32 := 1#32
  let c0_i32_368 : BitVec 32 := 0#32
  let v629 : BitVec 1 := Scalar.cmpi .sgt c1_i32_365 c0_i32_368
  let v630 : BitVec 32 := Scalar.extui v629
  let c0_i32_369 : BitVec 32 := 0#32
  let v631 : BitVec 1 := Scalar.cmpi .slt c1_i32_365 c0_i32_369
  let v632 : BitVec 32 := Scalar.extui v631
  let v633 : BitVec 32 := Scalar.subi v630 v632
  let v634 : BitVec 1 := Scalar.cmpi .ne v628 v633
  let v635 : BitVec 32 := Scalar.remsi v247 c1_i32_365
  let c0_i32_370 : BitVec 32 := 0#32
  let v636 : BitVec 1 := Scalar.cmpi .ne v635 c0_i32_370
  let v637 : BitVec 1 := Scalar.andi v634 v636
  let v623 : BitVec 32 := Scalar.divsi v247 c1_i32_365
  let c1_i32_371 : BitVec 32 := 1#32
  let v638 : BitVec 32 := Scalar.subi v623 c1_i32_371
  let v639 : BitVec 32 := Scalar.select v637 v638 v623
  let c0_i32_373 : BitVec 32 := 0#32
  let v641 : BitVec 1 := Scalar.cmpi .sgt v639 c0_i32_373
  let v642 : BitVec 32 := Scalar.extui v641
  let c0_i32_374 : BitVec 32 := 0#32
  let v643 : BitVec 1 := Scalar.cmpi .slt v639 c0_i32_374
  let v644 : BitVec 32 := Scalar.extui v643
  let v645 : BitVec 32 := Scalar.subi v642 v644
  let c8_i32_372 : BitVec 32 := 8#32
  let c0_i32_375 : BitVec 32 := 0#32
  let v646 : BitVec 1 := Scalar.cmpi .sgt c8_i32_372 c0_i32_375
  let v647 : BitVec 32 := Scalar.extui v646
  let c0_i32_376 : BitVec 32 := 0#32
  let v648 : BitVec 1 := Scalar.cmpi .slt c8_i32_372 c0_i32_376
  let v649 : BitVec 32 := Scalar.extui v648
  let v650 : BitVec 32 := Scalar.subi v647 v649
  let v651 : BitVec 1 := Scalar.cmpi .ne v645 v650
  let v652 : BitVec 32 := Scalar.remsi v639 c8_i32_372
  let c0_i32_377 : BitVec 32 := 0#32
  let v653 : BitVec 1 := Scalar.cmpi .ne v652 c0_i32_377
  let v654 : BitVec 1 := Scalar.andi v651 v653
  let v640 : BitVec 32 := Scalar.divsi v639 c8_i32_372
  let c1_i32_378 : BitVec 32 := 1#32
  let v655 : BitVec 32 := Scalar.subi v640 c1_i32_378
  let v656 : BitVec 32 := Scalar.select v654 v655 v640
  let v846 : Index := Scalar.indexCast v656
  let c8_i32_379 : BitVec 32 := 8#32
  let c0_i32_380 : BitVec 32 := 0#32
  let v657 : BitVec 1 := Scalar.cmpi .eq c8_i32_379 c0_i32_380
  let c1_i32_381 : BitVec 32 := 1#32
  let v658 : BitVec 32 := Scalar.select v657 c1_i32_381 c8_i32_379
  let v659 : BitVec 32 := Scalar.remsi v639 v658
  let c0_i32_383 : BitVec 32 := 0#32
  let v661 : BitVec 1 := Scalar.cmpi .slt v659 c0_i32_383
  let c0_i32_384 : BitVec 32 := 0#32
  let v662 : BitVec 1 := Scalar.cmpi .slt v658 c0_i32_384
  let v663 : BitVec 1 := Scalar.xori v661 v662
  let c0_i32_382 : BitVec 32 := 0#32
  let v660 : BitVec 1 := Scalar.cmpi .ne v659 c0_i32_382
  let v664 : BitVec 1 := Scalar.andi v663 v660
  let v665 : BitVec 32 := Scalar.addi v659 v658
  let v666 : BitVec 32 := Scalar.select v664 v665 v659
  let c0_i32_452 : BitVec 32 := 0#32
  let v818 : BitVec 1 := Scalar.cmpi .sgt v666 c0_i32_452
  let v819 : BitVec 32 := Scalar.extui v818
  let c0_i32_453 : BitVec 32 := 0#32
  let v820 : BitVec 1 := Scalar.cmpi .slt v666 c0_i32_453
  let v821 : BitVec 32 := Scalar.extui v820
  let v822 : BitVec 32 := Scalar.subi v819 v821
  let c2_i32_451 : BitVec 32 := 2#32
  let c0_i32_454 : BitVec 32 := 0#32
  let v823 : BitVec 1 := Scalar.cmpi .sgt c2_i32_451 c0_i32_454
  let v824 : BitVec 32 := Scalar.extui v823
  let c0_i32_455 : BitVec 32 := 0#32
  let v825 : BitVec 1 := Scalar.cmpi .slt c2_i32_451 c0_i32_455
  let v826 : BitVec 32 := Scalar.extui v825
  let v827 : BitVec 32 := Scalar.subi v824 v826
  let v828 : BitVec 1 := Scalar.cmpi .ne v822 v827
  let v829 : BitVec 32 := Scalar.remsi v666 c2_i32_451
  let c0_i32_456 : BitVec 32 := 0#32
  let v830 : BitVec 1 := Scalar.cmpi .ne v829 c0_i32_456
  let v831 : BitVec 1 := Scalar.andi v828 v830
  let v817 : BitVec 32 := Scalar.divsi v666 c2_i32_451
  let c1_i32_457 : BitVec 32 := 1#32
  let v832 : BitVec 32 := Scalar.subi v817 c1_i32_457
  let v833 : BitVec 32 := Scalar.select v831 v832 v817
  let v847 : Index := Scalar.indexCast v833
  let c2_i32_458 : BitVec 32 := 2#32
  let c0_i32_459 : BitVec 32 := 0#32
  let v834 : BitVec 1 := Scalar.cmpi .eq c2_i32_458 c0_i32_459
  let c1_i32_460 : BitVec 32 := 1#32
  let v835 : BitVec 32 := Scalar.select v834 c1_i32_460 c2_i32_458
  let v836 : BitVec 32 := Scalar.remsi v666 v835
  let c0_i32_462 : BitVec 32 := 0#32
  let v838 : BitVec 1 := Scalar.cmpi .slt v836 c0_i32_462
  let c0_i32_463 : BitVec 32 := 0#32
  let v839 : BitVec 1 := Scalar.cmpi .slt v835 c0_i32_463
  let v840 : BitVec 1 := Scalar.xori v838 v839
  let c0_i32_461 : BitVec 32 := 0#32
  let v837 : BitVec 1 := Scalar.cmpi .ne v836 c0_i32_461
  let v841 : BitVec 1 := Scalar.andi v840 v837
  let v842 : BitVec 32 := Scalar.addi v836 v835
  let v843 : BitVec 32 := Scalar.select v841 v842 v836
  let c64_i32_464 : BitVec 32 := 64#32
  let v844 : BitVec 32 := Scalar.muli v843 c64_i32_464
  let v845 : BitVec 32 := v844
  let v848 : Index := Scalar.indexCast v845
  let c0_465 : Index := 0#32
  ![v846.toNat, v847.toNat, v848.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32x2048x8x96 : Shape := ⟨4, ![32, 2048, 8, 96]⟩
abbrev S32x2048x8x64 : Shape := ⟨4, ![32, 2048, 8, 64]⟩
abbrev S32x8x2048x2048 : Shape := ⟨4, ![32, 8, 2048, 2048]⟩
abbrev S_ : Shape := ⟨0, ![]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S65536x4x128 : Shape := ⟨3, ![65536, 4, 128]⟩
abbrev S4x65536x128 : Shape := ⟨3, ![4, 65536, 128]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x8x96, .f32⟩
  | .hbm, ⟨1, _⟩ => ⟨S32x2048x8x96, .f32⟩
  | .hbm, ⟨2, _⟩ => ⟨S32x2048x8x64, .f32⟩
  | .hbm, ⟨3, _⟩ => ⟨S32x8x2048x2048, .f32⟩
  | .hbm, ⟨4, _⟩ => ⟨S_, .f32⟩
  | .hbm, ⟨5, _⟩ => ⟨S_, .f32⟩
  | .hbm, ⟨6, _⟩ => ⟨S32x8x2048x2048, .f32⟩
  | .hbm, ⟨7, _⟩ => ⟨S32x8x2048x2048, .f32⟩
  | .hbm, ⟨8, _⟩ => ⟨S_, .f32⟩
  | .hbm, ⟨9, _⟩ => ⟨S32x8x2048, .f32⟩
  | .hbm, ⟨10, _⟩ => ⟨S_, .f32⟩
  | .hbm, ⟨11, _⟩ => ⟨S32x8x2048, .f32⟩
  | .hbm, ⟨12, _⟩ => ⟨S32x8x2048, .f32⟩
  | .hbm, ⟨13, _⟩ => ⟨S32x8x2048x1, .f32⟩
  | .hbm, ⟨14, _⟩ => ⟨S32x8x2048x2048, .f32⟩
  | .hbm, ⟨15, _⟩ => ⟨S32x8x2048x2048, .f32⟩
  | .hbm, ⟨16, _⟩ => ⟨S32x8x2048x2048, .f32⟩
  | .hbm, ⟨17, _⟩ => ⟨S_, .f32⟩
  | .hbm, ⟨18, _⟩ => ⟨S32x8x2048, .f32⟩
  | .hbm, ⟨19, _⟩ => ⟨S32x8x2048x1, .f32⟩
  | .hbm, ⟨20, _⟩ => ⟨S32x8x2048x2048, .f32⟩
  | .hbm, ⟨21, _⟩ => ⟨S32x8x2048x2048, .f32⟩
  | .hbm, ⟨22, _⟩ => ⟨S32x8x64x2048, .f32⟩
  | .hbm, ⟨23, _⟩ => ⟨S32x2048x8x64, .f32⟩
  | .hbm, ⟨24, _⟩ => ⟨S65536x4x128, .f32⟩
  | .hbm, ⟨25, _⟩ => ⟨S4x65536x128, .f32⟩
  | .hbm, ⟨26, _⟩ => ⟨S4x65536x128, .bf16⟩
  | _, _ => ⟨S32x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S65536x1024 : Shape := ⟨2, ![65536, 1024]⟩
abbrev S32x6x1024 : Shape := ⟨3, ![32, 6, 1024]⟩
abbrev S16x1024 : Shape := ⟨2, ![16, 1024]⟩
abbrev S1024x1024 : Shape := ⟨2, ![1024, 1024]⟩
abbrev S1x6x1024 : Shape := ⟨3, ![1, 6, 1024]⟩
abbrev S1024x2816 : Shape := ⟨2, ![1024, 2816]⟩
abbrev S1056x1024 : Shape := ⟨2, ![1056, 1024]⟩
abbrev S1056 : Shape := ⟨1, ![1056]⟩
abbrev S1056x1 : Shape := ⟨2, ![1056, 1]⟩
abbrev S1x1x1024 : Shape := ⟨3, ![1, 1, 1024]⟩
abbrev S1024x256 : Shape := ⟨2, ![1024, 256]⟩
abbrev S1056x256 : Shape := ⟨2, ![1056, 256]⟩
abbrev S3x256 : Shape := ⟨2, ![3, 256]⟩
abbrev S1x256 : Shape := ⟨2, ![1, 256]⟩

abbrev nBuf : Space → Nat
  | .hbm => 14
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S65536x1024, .f32⟩
  | .hbm, ⟨12, _⟩ => ⟨S32x6x1024, .f32⟩
  | .hbm, ⟨13, _⟩ => ⟨S65536x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x5632 : Shape := ⟨3, ![32, 2048, 5632]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩
abbrev S65536x1024 : Shape := ⟨2, ![65536, 1024]⟩

abbrev nBuf : Space → Nat
  | .hbm => 83
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S32x1x1024, .f32⟩
  | .hbm, ⟨30, _⟩ => ⟨S_, .f32⟩
  | .hbm, ⟨31, _⟩ => ⟨S32x1x1024, .f32⟩
  | .hbm, ⟨32, _⟩ => ⟨S32x1x1024, .f32⟩
  | .hbm, ⟨33, _⟩ => ⟨S32x2048x1024, .f32⟩
  | .hbm, ⟨34, _⟩ => ⟨S32x2048x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x1x1024, .f32⟩
  | .hbm, ⟨39, _⟩ => ⟨S32x2048x5632, .f32⟩
  | .hbm, ⟨40, _⟩ => ⟨S_, .i32⟩
  | .hbm, ⟨41, _⟩ => ⟨S_, .f32⟩
  | .hbm, ⟨42, _⟩ => ⟨S32x2050x5632, .f32⟩
  | .hbm, ⟨43, _⟩ => ⟨S1x5632, .f32⟩
  | .hbm, ⟨44, _⟩ => ⟨S5632, .f32⟩
  | .hbm, ⟨45, _⟩ => ⟨S32x2048x5632, .f32⟩
  | .hbm, ⟨46, _⟩ => ⟨S1x1x5632, .f32⟩
  | .hbm, ⟨47, _⟩ => ⟨S32x2048x5632, .f32⟩
  | .hbm, ⟨48, _⟩ => ⟨S32x2048x5632, .f32⟩
  | .hbm, ⟨49, _⟩ => ⟨S1x5632, .f32⟩
  | .hbm, ⟨50, _⟩ => ⟨S5632, .f32⟩
  | .hbm, ⟨51, _⟩ => ⟨S32x2048x5632, .f32⟩
  | .hbm, ⟨52, _⟩ => ⟨S1x1x5632, .f32⟩
  | .hbm, ⟨53, _⟩ => ⟨S32x2048x5632, .f32⟩
  | .hbm, ⟨54, _⟩ => ⟨S32x2048x5632, .f32⟩
  | .hbm, ⟨55, _⟩ => ⟨S32x2048x5632, .f32⟩
  | .hbm, ⟨56, _⟩ => ⟨S1x5632, .f32⟩
  | .hbm, ⟨57, _⟩ => ⟨S5632, .f32⟩
  | .hbm, ⟨58, _⟩ => ⟨S32x2048x5632, .f32⟩
  | .hbm, ⟨59, _⟩ => ⟨S1x1x5632, .f32⟩
  | .hbm, ⟨60, _⟩ => ⟨S32x2048x5632, .f32⟩
  | .hbm, ⟨61, _⟩ => ⟨S32x2048x5632, .f32⟩
  | .hbm, ⟨62, _⟩ => ⟨S32x2048x5632, .f32⟩
  | .hbm, ⟨63, _⟩ => ⟨S1x1x5632, .f32⟩
  | .hbm, ⟨64, _⟩ => ⟨S32x2048x5632, .f32⟩
  | .hbm, ⟨65, _⟩ => ⟨S32x2048x5632, .f32⟩
  | .hbm, ⟨66, _⟩ => ⟨S32x2048x2816, .f32⟩
  | .hbm, ⟨67, _⟩ => ⟨S32x2048x2816, .f32⟩
  | .hbm, ⟨68, _⟩ => ⟨S32x2048x2816, .f32⟩
  | .hbm, ⟨69, _⟩ => ⟨S32x2048x2816, .f32⟩
  | .hbm, ⟨70, _⟩ => ⟨S_, .f32⟩
  | .hbm, ⟨71, _⟩ => ⟨S32x2048x2816, .f32⟩
  | .hbm, ⟨72, _⟩ => ⟨S32x2048x2816, .f32⟩
  | .hbm, ⟨73, _⟩ => ⟨S_, .f32⟩
  | .hbm, ⟨74, _⟩ => ⟨S32x2048x2816, .f32⟩
  | .hbm, ⟨75, _⟩ => ⟨S32x2048x2816, .f32⟩
  | .hbm, ⟨76, _⟩ => ⟨S32x2048x2816, .f32⟩
  | .hbm, ⟨77, _⟩ => ⟨S32x2048x2816, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S32x2048x1024, .f32⟩
  | .hbm, ⟨82, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel3.lean ====
abbrev S32x2048x512 : Shape := ⟨3, ![32, 2048, 512]⟩
abbrev S32x2048x3072 : Shape := ⟨3, ![32, 2048, 3072]⟩
abbrev S32x2048x1024 : Shape := ⟨3, ![32, 2048, 1024]⟩
abbrev S32x6144 : Shape := ⟨2, ![32, 6144]⟩
abbrev S512x1024 : Shape := ⟨2, ![512, 1024]⟩
abbrev S1024x1024 : Shape := ⟨2, ![1024, 1024]⟩
abbrev S65536x4x128 : Shape := ⟨3, ![65536, 4, 128]⟩
abbrev S4x65536x128 : Shape := ⟨3, ![4, 65536, 128]⟩
abbrev S65536x512 : Shape := ⟨2, ![65536, 512]⟩
abbrev S65536x3072 : Shape := ⟨2, ![65536, 3072]⟩
abbrev S65536x1024 : Shape := ⟨2, ![65536, 1024]⟩
abbrev S32x6x1024 : Shape := ⟨3, ![32, 6, 1024]⟩
abbrev S4x512x128 : Shape := ⟨3, ![4, 512, 128]⟩
abbrev S512x512 : Shape := ⟨2, ![512, 512]⟩
abbrev S512x3072 : Shape := ⟨2, ![512, 3072]⟩
abbrev S1x6x1024 : Shape := ⟨3, ![1, 6, 1024]⟩
abbrev S1x512x128 : Shape := ⟨3, ![1, 512, 128]⟩
abbrev S512x128 : Shape := ⟨2, ![512, 128]⟩
abbrev S1x1x1024 : Shape := ⟨3, ![1, 1, 1024]⟩
abbrev S1x1024 : Shape := ⟨2, ![1, 1024]⟩

abbrev nBuf : Space → Nat
  | .hbm => 26
  | .vmem => 18
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S32x2048x3072, .f32⟩
  | .hbm, ⟨4, _⟩ => ⟨S32x2048x1024, .f32⟩
  | .hbm, ⟨5, _⟩ => ⟨S32x6144, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S65536x4x128, .f32⟩
  | .hbm, ⟨15, _⟩ => ⟨S4x65536x128, .f32⟩
  | .hbm, ⟨16, _⟩ => ⟨S4x65536x128, .bf16⟩
  | .hbm, ⟨17, _⟩ => ⟨S65536x512, .f32⟩
  | .hbm, ⟨18, _⟩ => ⟨S65536x512, .bf16⟩
  | .hbm, ⟨19, _⟩ => ⟨S65536x512, .f32⟩
  | .hbm, ⟨20, _⟩ => ⟨S65536x512, .bf16⟩
  | .hbm, ⟨21, _⟩ => ⟨S65536x3072, .f32⟩
  | .hbm, ⟨22, _⟩ => ⟨S65536x3072, .bf16⟩
  | .hbm, ⟨23, _⟩ => ⟨S65536x1024, .f32⟩
  | .hbm, ⟨24, _⟩ => ⟨S32x6x1024, .f32⟩
  | .hbm, ⟨25, _⟩ => ⟨S65536x1024, .f32⟩
  | .local _ .vmem, ⟨0, _⟩ => ⟨S4x512x128, .bf16⟩
  | .local _ .vmem, ⟨1, _⟩ => ⟨S4x512x128, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32x2048x512 : Shape := ⟨3, ![32, 2048, 512]⟩
abbrev S32x2048x3072 : Shape := ⟨3, ![32, 2048, 3072]⟩
abbrev S32x2048x1024 : Shape := ⟨3, ![32, 2048, 1024]⟩
abbrev S32x6144 : Shape := ⟨2, ![32, 6144]⟩
abbrev S512x1024 : Shape := ⟨2, ![512, 1024]⟩
abbrev S1024x1024 : Shape := ⟨2, ![1024, 1024]⟩
abbrev S32x1024 : Shape := ⟨2, ![32, 1024]⟩
abbrev S_ : Shape := ⟨0, ![]⟩
abbrev S32x1x1024 : Shape := ⟨3, ![32, 1, 1024]⟩
abbrev S65536x1024 : Shape := ⟨2, ![65536, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S32x2048x3072, .f32⟩
  | .hbm, ⟨4, _⟩ => ⟨S32x2048x1024, .f32⟩
  | .hbm, ⟨5, _⟩ => ⟨S32x6144, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x3072, .f32⟩
  | .hbm, ⟨20, _⟩ => ⟨S32x2048x3072, .f32⟩
  | .hbm, ⟨21, _⟩ => ⟨S_, .f32⟩
  | .hbm, ⟨22, _⟩ => ⟨S32x2048x3072, .f32⟩
  | .hbm, ⟨23, _⟩ => ⟨S32x2048x3072, .f32⟩
  | .hbm, ⟨24, _⟩ => ⟨S_, .f32⟩
  | .hbm, ⟨25, _⟩ => ⟨S32x2048x3072, .f32⟩
  | .hbm, ⟨26, _⟩ => ⟨S32x2048x3072, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S65536x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x6144 : Shape := ⟨2, ![32, 6144]⟩
abbrev S1024 : Shape := ⟨1, ![1024]⟩
abbrev S1024x5536 : Shape := ⟨2, ![1024, 5536]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S31x512 : Shape := ⟨2, ![31, 512]⟩
abbrev S512 : Shape := ⟨1, ![512]⟩
abbrev S4x128x128 : Shape := ⟨3, ![4, 128, 128]⟩
abbrev S4x128 : Shape := ⟨2, ![4, 128]⟩
abbrev S1024x32 : Shape := ⟨2, ![1024, 32]⟩
abbrev S_ : Shape := ⟨0, ![]⟩
abbrev S1024x96 : Shape := ⟨2, ![1024, 96]⟩
abbrev S128x1 : Shape := ⟨2, ![128, 1]⟩
abbrev S1 : Shape := ⟨1, ![1]⟩
abbrev S1x1 : Shape := ⟨2, ![1, 1]⟩
abbrev S1024x128 : Shape := ⟨2, ![1024, 128]⟩
abbrev S128x8x128 : Shape := ⟨3, ![128, 8, 128]⟩
abbrev S1x1024 : Shape := ⟨2, ![1, 1024]⟩
abbrev S1024x384 : Shape := ⟨2, ![1024, 384]⟩
abbrev S1024x512 : Shape := ⟨2, ![1024, 512]⟩
abbrev S1024x1024 : Shape := ⟨2, ![1024, 1024]⟩
abbrev S1024x3072 : Shape := ⟨2, ![1024, 3072]⟩
abbrev S1x256 : Shape := ⟨2, ![1, 256]⟩
abbrev S1x128 : Shape := ⟨2, ![1, 128]⟩
abbrev S256x8x96 : Shape := ⟨3, ![256, 8, 96]⟩
abbrev S256x8x128 : Shape := ⟨3, ![256, 8, 128]⟩
abbrev S256x1024 : Shape := ⟨2, ![256, 1024]⟩
abbrev S128x8x64 : Shape := ⟨3, ![128, 8, 64]⟩
abbrev S128x8x96 : Shape := ⟨3, ![128, 8, 96]⟩
abbrev S128x512 : Shape := ⟨2, ![128, 512]⟩
abbrev S1x512 : Shape := ⟨2, ![1, 512]⟩
abbrev S128x4 : Shape := ⟨2, ![128, 4]⟩
abbrev S128x4x128 : Shape := ⟨3, ![128, 4, 128]⟩
abbrev S65536x1024 : Shape := ⟨2, ![65536, 1024]⟩
abbrev S32x6x1024 : Shape := ⟨3, ![32, 6, 1024]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x96 : Shape := ⟨2, ![2048, 96]⟩
abbrev S2048x128 : Shape := ⟨2, ![2048, 128]⟩
abbrev S8x65536x128 : Shape := ⟨3, ![8, 65536, 128]⟩
abbrev S4x32x128x2048 : Shape := ⟨4, ![4, 32, 128, 2048]⟩
abbrev S65536x512 : Shape := ⟨2, ![65536, 512]⟩
abbrev S65536x3072 : Shape := ⟨2, ![65536, 3072]⟩
abbrev S16x1024 : Shape := ⟨2, ![16, 1024]⟩
abbrev S512x1024 : Shape := ⟨2, ![512, 1024]⟩
abbrev S1x6x1024 : Shape := ⟨3, ![1, 6, 1024]⟩
abbrev S512x128 : Shape := ⟨2, ![512, 128]⟩
abbrev S8x512x128 : Shape := ⟨3, ![8, 512, 128]⟩
abbrev S4x1x128x512 : Shape := ⟨4, ![4, 1, 128, 512]⟩
abbrev S512x512 : Shape := ⟨2, ![512, 512]⟩
abbrev S512x3072 : Shape := ⟨2, ![512, 3072]⟩
abbrev S544x512 : Shape := ⟨2, ![544, 512]⟩
abbrev S7x536x512 : Shape := ⟨3, ![7, 536, 512]⟩
abbrev S544x1024 : Shape := ⟨2, ![544, 1024]⟩
abbrev S1x1x1024 : Shape := ⟨3, ![1, 1, 1024]⟩
abbrev S544 : Shape := ⟨1, ![544]⟩
abbrev S544x1 : Shape := ⟨2, ![544, 1]⟩
abbrev S512x256 : Shape := ⟨2, ![512, 256]⟩
abbrev S512x1 : Shape := ⟨2, ![512, 1]⟩
abbrev S1x512x128 : Shape := ⟨3, ![1, 512, 128]⟩
abbrev S1x1x128x512 : Shape := ⟨4, ![1, 1, 128, 512]⟩
abbrev S1x128x128 : Shape := ⟨3, ![1, 128, 128]⟩
abbrev S128x128 : Shape := ⟨2, ![128, 128]⟩
abbrev S536x512 : Shape := ⟨2, ![536, 512]⟩
abbrev S1x536x512 : Shape := ⟨3, ![1, 536, 512]⟩
abbrev S1x512x512 : Shape := ⟨3, ![1, 512, 512]⟩

abbrev nBuf : Space → Nat
  | .hbm => 301
  | .vmem => 46
  | .smem => 0
  | _ => 0

abbrev hbmTy0_0 (i : Nat) : BufTy := match i % 128 with
  | 0 => ⟨S32x2048x1024, .f32⟩
  | 1 => ⟨S32x6144, .f32⟩
  | 2 => ⟨S1024, .f32⟩
  | 3 => ⟨S1024x5536, .f32⟩
  | 4 => ⟨S256, .f32⟩
  | 5 => ⟨S256x768, .f32⟩
  | 6 => ⟨S128, .f32⟩
  | 7 => ⟨S128x1024, .f32⟩
  | 8 => ⟨S96, .f32⟩
  | 9 => ⟨S96, .f32⟩
  | 10 => ⟨S31x512, .f32⟩
  | 11 => ⟨S512, .f32⟩
  | 12 => ⟨S512, .f32⟩
  | 13 => ⟨S512, .f32⟩
  | 14 => ⟨S512, .f32⟩
  | 15 => ⟨S512, .f32⟩
  | 16 => ⟨S4x128x128, .f32⟩
  | 17 => ⟨S4x128, .f32⟩
  | 18 => ⟨S128, .i32⟩
  | 19 => ⟨S128, .i1⟩
  | 20 => ⟨S128, .i32⟩
  | 21 => ⟨S128, .i1⟩
  | 22 => ⟨S128, .i32⟩
  | 23 => ⟨S128, .i1⟩
  | 24 => ⟨S128, .i32⟩
  | 25 => ⟨S128, .i1⟩
  | 26 => ⟨S128, .i32⟩
  | 27 => ⟨S128, .i1⟩
  | 28 => ⟨S128, .i32⟩
  | 29 => ⟨S128, .i1⟩
  | 30 => ⟨S128, .i32⟩
  | 31 => ⟨S128, .i1⟩
  | 32 => ⟨S1024x32, .f32⟩
  | 33 => ⟨S_, .i32⟩
  | 34 => ⟨S_, .f32⟩
  | 35 => ⟨S1024x96, .f32⟩
  | 36 => ⟨S_, .i32⟩
  | 37 => ⟨S128, .i32⟩
  | 38 => ⟨S128, .i1⟩
  | 39 => ⟨S_, .i32⟩
  | 40 => ⟨S128, .i32⟩
  | 41 => ⟨S128, .i32⟩
  | 42 => ⟨S128, .i32⟩
  | 43 => ⟨S128x1, .i32⟩
  | 44 => ⟨S1, .i32⟩
  | 45 => ⟨S_, .i32⟩
  | 46 => ⟨S128x1, .i32⟩
  | 47 => ⟨S128x1, .i1⟩
  | 48 => ⟨S1x1, .i32⟩
  | 49 => ⟨S128x1, .i32⟩
  | 50 => ⟨S128x1, .i1⟩
  | 51 => ⟨S128x1, .i1⟩
  | 52 => ⟨S_, .i1⟩
  | 53 => ⟨S128, .i1⟩
  | 54 => ⟨S1024x128, .f32⟩
  | 55 => ⟨S1024x128, .i1⟩
  | 56 => ⟨S_, .f32⟩
  | 57 => ⟨S1024x128, .f32⟩
  | 58 => ⟨S1024x128, .f32⟩
  | 59 => ⟨S_, .f32⟩
  | 60 => ⟨S_, .f32⟩
  | 61 => ⟨S1024x128, .i1⟩
  | 62 => ⟨S1024x128, .f32⟩
  | 63 => ⟨S1024x128, .f32⟩
  | 64 => ⟨S128x8x128, .f32⟩
  | 65 => ⟨S1x1024, .f32⟩
  | 66 => ⟨S1024x384, .f32⟩
  | 67 => ⟨S1024x512, .f32⟩
  | 68 => ⟨S1024x512, .bf16⟩
  | 69 => ⟨S1024x1024, .f32⟩
  | 70 => ⟨S1024x1024, .bf16⟩
  | 71 => ⟨S1024x1024, .f32⟩
  | 72 => ⟨S1024x1024, .bf16⟩
  | 73 => ⟨S1024x3072, .f32⟩
  | 74 => ⟨S1024x3072, .bf16⟩
  | 75 => ⟨S1x256, .f32⟩
  | 76 => ⟨S1x128, .f32⟩
  | 77 => ⟨S256x8x96, .f32⟩
  | 78 => ⟨S_, .i32⟩
  | 79 => ⟨S128, .i32⟩
  | 80 => ⟨S128, .i1⟩
  | 81 => ⟨S_, .i32⟩
  | 82 => ⟨S128, .i32⟩
  | 83 => ⟨S128, .i32⟩
  | 84 => ⟨S128, .i32⟩
  | 85 => ⟨S128x1, .i32⟩
  | 86 => ⟨S1, .i32⟩
  | 87 => ⟨S_, .i32⟩
  | 88 => ⟨S128x1, .i32⟩
  | 89 => ⟨S128x1, .i1⟩
  | 90 => ⟨S1x1, .i32⟩
  | 91 => ⟨S128x1, .i32⟩
  | 92 => ⟨S128x1, .i1⟩
  | 93 => ⟨S128x1, .i1⟩
  | 94 => ⟨S_, .i1⟩
  | 95 => ⟨S128, .i1⟩
  | 96 => ⟨S256x8x128, .f32⟩
  | 97 => ⟨S256x8x128, .i1⟩
  | 98 => ⟨S_, .f32⟩
  | 99 => ⟨S256x8x128, .f32⟩
  | 100 => ⟨S256x8x128, .f32⟩
  | 101 => ⟨S_, .f32⟩
  | 102 => ⟨S_, .f32⟩
  | 103 => ⟨S256x8x128, .i1⟩
  | 104 => ⟨S256x8x128, .f32⟩
  | 105 => ⟨S256x8x128, .f32⟩
  | 106 => ⟨S256x1024, .f32⟩
  | 107 => ⟨S256x1024, .bf16⟩
  | 108 => ⟨S128x8x64, .f32⟩
  | 109 => ⟨S_, .i32⟩
  | 110 => ⟨S_, .f32⟩
  | 111 => ⟨S128x8x96, .f32⟩
  | 112 => ⟨S_, .i32⟩
  | 113 => ⟨S128, .i32⟩
  | 114 => ⟨S128, .i1⟩
  | 115 => ⟨S_, .i32⟩
  | 116 => ⟨S128, .i32⟩
  | 117 => ⟨S128, .i32⟩
  | 118 => ⟨S128, .i32⟩
  | 119 => ⟨S128x1, .i32⟩
  | 120 => ⟨S1, .i32⟩
  | 121 => ⟨S_, .i32⟩
  | 122 => ⟨S128x1, .i32⟩
  | 123 => ⟨S128x1, .i1⟩
  | 124 => ⟨S1x1, .i32⟩
  | 125 => ⟨S128x1, .i32⟩
  | 126 => ⟨S128x1, .i1⟩
  | 127 => ⟨S128x1, .i1⟩
  | _ => ⟨S32x2048x1024, .f32⟩

abbrev hbmTy0_1 (i : Nat) : BufTy := match i % 128 with
  | 0 => ⟨S_, .i1⟩
  | 1 => ⟨S128, .i1⟩
  | 2 => ⟨S128x8x128, .f32⟩
  | 3 => ⟨S128x8x128, .i1⟩
  | 4 => ⟨S_, .f32⟩
  | 5 => ⟨S128x8x128, .f32⟩
  | 6 => ⟨S128x8x128, .f32⟩
  | 7 => ⟨S_, .f32⟩
  | 8 => ⟨S_, .f32⟩
  | 9 => ⟨S128x8x128, .i1⟩
  | 10 => ⟨S128x8x128, .f32⟩
  | 11 => ⟨S128x8x128, .f32⟩
  | 12 => ⟨S128x1024, .f32⟩
  | 13 => ⟨S128x1024, .bf16⟩
  | 14 => ⟨S128x8x64, .f32⟩
  | 15 => ⟨S128x512, .f32⟩
  | 16 => ⟨S128x512, .bf16⟩
  | 17 => ⟨S_, .i32⟩
  | 18 => ⟨S128, .i32⟩
  | 19 => ⟨S128, .i1⟩
  | 20 => ⟨S_, .i32⟩
  | 21 => ⟨S128, .i32⟩
  | 22 => ⟨S128, .i32⟩
  | 23 => ⟨S128, .i32⟩
  | 24 => ⟨S128x1, .i32⟩
  | 25 => ⟨S1, .i32⟩
  | 26 => ⟨S_, .i32⟩
  | 27 => ⟨S128x1, .i32⟩
  | 28 => ⟨S128x1, .i1⟩
  | 29 => ⟨S1x1, .i32⟩
  | 30 => ⟨S128x1, .i32⟩
  | 31 => ⟨S128x1, .i1⟩
  | 32 => ⟨S128x1, .i1⟩
  | 33 => ⟨S_, .i1⟩
  | 34 => ⟨S128, .i1⟩
  | 35 => ⟨S128, .f32⟩
  | 36 => ⟨S_, .f32⟩
  | 37 => ⟨S128, .f32⟩
  | 38 => ⟨S128, .f32⟩
  | 39 => ⟨S_, .f32⟩
  | 40 => ⟨S_, .f32⟩
  | 41 => ⟨S128, .f32⟩
  | 42 => ⟨S128, .f32⟩
  | 43 => ⟨S1x128, .f32⟩
  | 44 => ⟨S_, .i32⟩
  | 45 => ⟨S128, .i32⟩
  | 46 => ⟨S128, .i1⟩
  | 47 => ⟨S_, .i32⟩
  | 48 => ⟨S128, .i32⟩
  | 49 => ⟨S128, .i32⟩
  | 50 => ⟨S128, .i32⟩
  | 51 => ⟨S128x1, .i32⟩
  | 52 => ⟨S1, .i32⟩
  | 53 => ⟨S_, .i32⟩
  | 54 => ⟨S128x1, .i32⟩
  | 55 => ⟨S128x1, .i1⟩
  | 56 => ⟨S1x1, .i32⟩
  | 57 => ⟨S128x1, .i32⟩
  | 58 => ⟨S128x1, .i1⟩
  | 59 => ⟨S128x1, .i1⟩
  | 60 => ⟨S_, .i1⟩
  | 61 => ⟨S128, .i1⟩
  | 62 => ⟨S128, .f32⟩
  | 63 => ⟨S_, .f32⟩
  | 64 => ⟨S128, .f32⟩
  | 65 => ⟨S128, .f32⟩
  | 66 => ⟨S_, .f32⟩
  | 67 => ⟨S_, .f32⟩
  | 68 => ⟨S128, .f32⟩
  | 69 => ⟨S128, .f32⟩
  | 70 => ⟨S1x128, .f32⟩
  | 71 => ⟨S1x512, .f32⟩
  | 72 => ⟨S1x512, .f32⟩
  | 73 => ⟨S1x512, .f32⟩
  | 74 => ⟨S1x512, .f32⟩
  | 75 => ⟨S1x512, .f32⟩
  | 76 => ⟨S4x128x128, .bf16⟩
  | 77 => ⟨S128x4, .f32⟩
  | 78 => ⟨S128x4x128, .f32⟩
  | 79 => ⟨S128x512, .f32⟩
  | 80 => ⟨S65536x1024, .f32⟩
  | 81 => ⟨S32x6x1024, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S2048, .f32⟩
  | 97 => ⟨S2048x1, .f32⟩
  | 98 => ⟨S1x16, .f32⟩
  | 99 => ⟨S2048x16, .f32⟩
  | 100 => ⟨S2048x16, .f32⟩
  | 101 => ⟨S2048x16, .f32⟩
  | 102 => ⟨S2048x16, .f32⟩
  | 103 => ⟨S2048x16, .f32⟩
  | 104 => ⟨S_, .f32⟩
  | 105 => ⟨S2048x64, .f32⟩
  | 106 => ⟨S2048x96, .f32⟩
  | 107 => ⟨S_, .i32⟩
  | 108 => ⟨S128, .i32⟩
  | 109 => ⟨S128, .i1⟩
  | 110 => ⟨S_, .i32⟩
  | 111 => ⟨S128, .i32⟩
  | 112 => ⟨S128, .i32⟩
  | 113 => ⟨S128, .i32⟩
  | 114 => ⟨S128x1, .i32⟩
  | 115 => ⟨S1, .i32⟩
  | 116 => ⟨S_, .i32⟩
  | 117 => ⟨S128x1, .i32⟩
  | 118 => ⟨S128x1, .i1⟩
  | 119 => ⟨S1x1, .i32⟩
  | 120 => ⟨S128x1, .i32⟩
  | 121 => ⟨S128x1, .i1⟩
  | 122 => ⟨S128x1, .i1⟩
  | 123 => ⟨S_, .i1⟩
  | 124 => ⟨S128, .i1⟩
  | 125 => ⟨S2048x128, .f32⟩
  | 126 => ⟨S2048x128, .i1⟩
  | 127 => ⟨S_, .f32⟩
  | _ => ⟨S32x2048x1024, .f32⟩

abbrev hbmTy0_2 (i : Nat) : BufTy := match i % 128 with
  | 0 => ⟨S2048x128, .f32⟩
  | 1 => ⟨S2048x128, .f32⟩
  | 2 => ⟨S_, .f32⟩
  | 3 => ⟨S_, .f32⟩
  | 4 => ⟨S2048x128, .i1⟩
  | 5 => ⟨S2048x128, .f32⟩
  | 6 => ⟨S2048x128, .f32⟩
  | 7 => ⟨S_, .f32⟩
  | 8 => ⟨S2048x64, .f32⟩
  | 9 => ⟨S2048x16, .f32⟩
  | 10 => ⟨S2048x96, .f32⟩
  | 11 => ⟨S_, .i32⟩
  | 12 => ⟨S128, .i32⟩
  | 13 => ⟨S128, .i1⟩
  | 14 => ⟨S_, .i32⟩
  | 15 => ⟨S128, .i32⟩
  | 16 => ⟨S128, .i32⟩
  | 17 => ⟨S128, .i32⟩
  | 18 => ⟨S128x1, .i32⟩
  | 19 => ⟨S1, .i32⟩
  | 20 => ⟨S_, .i32⟩
  | 21 => ⟨S128x1, .i32⟩
  | 22 => ⟨S128x1, .i1⟩
  | 23 => ⟨S1x1, .i32⟩
  | 24 => ⟨S128x1, .i32⟩
  | 25 => ⟨S128x1, .i1⟩
  | 26 => ⟨S128x1, .i1⟩
  | 27 => ⟨S_, .i1⟩
  | 28 => ⟨S128, .i1⟩
  | 29 => ⟨S2048x128, .f32⟩
  | 30 => ⟨S2048x128, .i1⟩
  | 31 => ⟨S_, .f32⟩
  | 32 => ⟨S2048x128, .f32⟩
  | 33 => ⟨S2048x128, .f32⟩
  | 34 => ⟨S_, .f32⟩
  | 35 => ⟨S_, .f32⟩
  | 36 => ⟨S2048x128, .i1⟩
  | 37 => ⟨S2048x128, .f32⟩
  | 38 => ⟨S2048x128, .f32⟩
  | 39 => ⟨S8x65536x128, .bf16⟩
  | 40 => ⟨S8x65536x128, .bf16⟩
  | 41 => ⟨S4x32x128x2048, .bf16⟩
  | 42 => ⟨S65536x512, .bf16⟩
  | 43 => ⟨S65536x512, .bf16⟩
  | 44 => ⟨S65536x3072, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x3072, .bf16⟩
  | .local _ .vmem, ⟨13, _⟩ => ⟨S1x256, .f32⟩
  | .local _ .vmem, ⟨14, _⟩ => ⟨S256x1024, .bf16⟩
  | .local _ .vmem, ⟨15, _⟩ => ⟨S1x128, .f32⟩
  | .local _ .vmem, ⟨16, _⟩ => ⟨S128x1024, .bf16⟩
  | .local _ .vmem, ⟨17, _⟩ => ⟨S128x512, .bf16⟩
  | .local _ .vmem, ⟨18, _⟩ => ⟨S1x128, .f32⟩
  | .local _ .vmem, ⟨19, _⟩ => ⟨S1x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S31x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S4x128x128, .bf16⟩
  | .local _ .vmem, ⟨31, _⟩ => ⟨S128x512, .f32⟩
  | .local _ .vmem, ⟨32, _⟩ => ⟨S8x512x128, .bf16⟩
  | .local _ .vmem, ⟨33, _⟩ => ⟨S8x512x128, .bf16⟩
  | .local _ .vmem, ⟨34, _⟩ => ⟨S8x512x128, .bf16⟩
  | .local _ .vmem, ⟨35, _⟩ => ⟨S8x512x128, .bf16⟩
  | .local _ .vmem, ⟨36, _⟩ => ⟨S4x1x128x512, .bf16⟩
  | .local _ .vmem, ⟨37, _⟩ => ⟨S4x1x128x512, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | .local _ .vmem, ⟨42, _⟩ => ⟨S512x3072, .bf16⟩
  | .local _ .vmem, ⟨43, _⟩ => ⟨S512x3072, .bf16⟩
  | .local _ .vmem, ⟨44, _⟩ => ⟨S544x512, .f32⟩
  | .local _ .vmem, ⟨45, _⟩ => ⟨S7x536x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_c_0 : Ref sig .tc := ⟨.hbm, 19, rfl⟩
abbrev main_c_1 : Ref sig .tc := ⟨.hbm, 20, rfl⟩
abbrev main_c_2 : Ref sig .tc := ⟨.hbm, 21, rfl⟩
abbrev main_c_3 : Ref sig .tc := ⟨.hbm, 22, rfl⟩
abbrev main_c_4 : Ref sig .tc := ⟨.hbm, 23, rfl⟩
abbrev main_c_5 : Ref sig .tc := ⟨.hbm, 24, rfl⟩
abbrev main_c_6 : Ref sig .tc := ⟨.hbm, 25, rfl⟩
abbrev main_c_7 : Ref sig .tc := ⟨.hbm, 26, rfl⟩
abbrev main_c_8 : Ref sig .tc := ⟨.hbm, 27, rfl⟩
abbrev main_c_9 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v0 : Ref sig .tc := ⟨.hbm, 32, rfl⟩
abbrev main_c_13 : Ref sig .tc := ⟨.hbm, 33, rfl⟩
abbrev main_call0_v0 : Ref sig .tc := ⟨.hbm, 34, rfl⟩
abbrev main_v1 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v2 : Ref sig .tc := ⟨.hbm, 58, rfl⟩
abbrev main_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v18 : Ref sig .tc := ⟨.hbm, 100, rfl⟩
abbrev main_cst_14 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_c_15 : Ref sig .tc := ⟨.hbm, 109, rfl⟩
abbrev main_call5_v0 : Ref sig .tc := ⟨.hbm, 110, rfl⟩
abbrev main_v23 : Ref sig .tc := ⟨.hbm, 111, rfl⟩
abbrev main_call6_c : Ref sig .tc := ⟨.hbm, 112, rfl⟩
abbrev main_call6_v0 : Ref sig .tc := ⟨.hbm, 113, rfl⟩
abbrev main_call6_v1 : Ref sig .tc := ⟨.hbm, 114, rfl⟩
abbrev main_call6_c_0 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_v5 : Ref sig .tc := ⟨.hbm, 119, rfl⟩
abbrev main_call6_c_1 : Ref sig .tc := ⟨.hbm, 120, rfl⟩
abbrev main_call6_c_2 : Ref sig .tc := ⟨.hbm, 121, rfl⟩
abbrev main_call6_v6 : Ref sig .tc := ⟨.hbm, 122, rfl⟩
abbrev main_call6_v7 : Ref sig .tc := ⟨.hbm, 123, rfl⟩
abbrev main_call6_v8 : Ref sig .tc := ⟨.hbm, 124, rfl⟩
abbrev main_call6_v9 : Ref sig .tc := ⟨.hbm, 125, rfl⟩
abbrev main_call6_v10 : Ref sig .tc := ⟨.hbm, 126, rfl⟩
abbrev main_call6_v11 : Ref sig .tc := ⟨.hbm, 127, rfl⟩
abbrev main_call6_c_3 : Ref sig .tc := ⟨.hbm, 128, rfl⟩
abbrev main_call6_v12 : Ref sig .tc := ⟨.hbm, 129, rfl⟩
abbrev main_call6_v13 : Ref sig .tc := ⟨.hbm, 130, rfl⟩
abbrev main_call6_v14 : Ref sig .tc := ⟨.hbm, 131, rfl⟩
abbrev main_call6_cst : Ref sig .tc := ⟨.hbm, 132, rfl⟩
abbrev main_call6_v15 : Ref sig .tc := ⟨.hbm, 133, rfl⟩
abbrev main_v24 : Ref sig .tc := ⟨.hbm, 134, rfl⟩
abbrev main_cst_16 : Ref sig .tc := ⟨.hbm, 135, rfl⟩
abbrev main_call7_v0 : Ref sig .tc := ⟨.hbm, 136, rfl⟩
abbrev main_call7_v1 : Ref sig .tc := ⟨.hbm, 137, rfl⟩
abbrev main_call7_v2 : Ref sig .tc := ⟨.hbm, 138, rfl⟩
abbrev main_v25 : Ref sig .tc := ⟨.hbm, 139, rfl⟩
abbrev main_v26 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_call8_c : Ref sig .tc := ⟨.hbm, 145, rfl⟩
abbrev main_call8_v0 : Ref sig .tc := ⟨.hbm, 146, rfl⟩
abbrev main_call8_v1 : Ref sig .tc := ⟨.hbm, 147, rfl⟩
abbrev main_call8_c_0 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_call8_v5 : Ref sig .tc := ⟨.hbm, 152, rfl⟩
abbrev main_call8_c_1 : Ref sig .tc := ⟨.hbm, 153, rfl⟩
abbrev main_call8_c_2 : Ref sig .tc := ⟨.hbm, 154, rfl⟩
abbrev main_call8_v6 : Ref sig .tc := ⟨.hbm, 155, rfl⟩
abbrev main_call8_v7 : Ref sig .tc := ⟨.hbm, 156, rfl⟩
abbrev main_call8_v8 : Ref sig .tc := ⟨.hbm, 157, rfl⟩
abbrev main_call8_v9 : Ref sig .tc := ⟨.hbm, 158, rfl⟩
abbrev main_call8_v10 : Ref sig .tc := ⟨.hbm, 159, rfl⟩
abbrev main_call8_v11 : Ref sig .tc := ⟨.hbm, 160, rfl⟩
abbrev main_call8_c_3 : Ref sig .tc := ⟨.hbm, 161, rfl⟩
abbrev main_call8_v12 : Ref sig .tc := ⟨.hbm, 162, rfl⟩
abbrev main_call8_v13 : Ref sig .tc := ⟨.hbm, 163, rfl⟩
abbrev main_call8_cst : Ref sig .tc := ⟨.hbm, 164, rfl⟩
abbrev main_call8_v14 : Ref sig .tc := ⟨.hbm, 165, rfl⟩
abbrev main_v31 : Ref sig .tc := ⟨.hbm, 166, rfl⟩
abbrev main_cst_17 : Ref sig .tc := ⟨.hbm, 167, rfl⟩
abbrev main_call9_v0 : Ref sig .tc := ⟨.hbm, 168, rfl⟩
abbrev main_call9_v1 : Ref sig .tc := ⟨.hbm, 169, rfl⟩
abbrev main_v32 : Ref sig .tc := ⟨.hbm, 170, rfl⟩
abbrev main_v33 : Ref sig .tc := ⟨.hbm, 171, rfl⟩
abbrev main_call10_c : Ref sig .tc := ⟨.hbm, 172, rfl⟩
abbrev main_call10_v0 : Ref sig .tc := ⟨.hbm, 173, rfl⟩
abbrev main_call10_v1 : Ref sig .tc := ⟨.hbm, 174, rfl⟩
abbrev main_call10_c_0 : Ref sig .tc := ⟨.hbm, 175, rfl⟩
abbrev main_call10_v2 : Ref sig .tc := ⟨.hbm, 176, rfl⟩
abbrev main_call10_v3 : Ref sig .tc := ⟨.hbm, 177, rfl⟩
abbrev main_call10_v4 : Ref sig .tc := ⟨.hbm, 178, rfl⟩
abbrev main_call10_v5 : Ref sig .tc := ⟨.hbm, 179, rfl⟩
abbrev main_call10_c_1 : Ref sig .tc := ⟨.hbm, 180, rfl⟩
abbrev main_call10_c_2 : Ref sig .tc := ⟨.hbm, 181, rfl⟩
abbrev main_call10_v6 : Ref sig .tc := ⟨.hbm, 182, rfl⟩
abbrev main_call10_v7 : Ref sig .tc := ⟨.hbm, 183, rfl⟩
abbrev main_call10_v8 : Ref sig .tc := ⟨.hbm, 184, rfl⟩
abbrev main_call10_v9 : Ref sig .tc := ⟨.hbm, 185, rfl⟩
abbrev main_call10_v10 : Ref sig .tc := ⟨.hbm, 186, rfl⟩
abbrev main_call10_v11 : Ref sig .tc := ⟨.hbm, 187, rfl⟩
abbrev main_call10_c_3 : Ref sig .tc := ⟨.hbm, 188, rfl⟩
abbrev main_call10_v12 : Ref sig .tc := ⟨.hbm, 189, rfl⟩
abbrev main_call10_v13 : Ref sig .tc := ⟨.hbm, 190, rfl⟩
abbrev main_call10_cst : Ref sig .tc := ⟨.hbm, 191, rfl⟩
abbrev main_call10_v14 : Ref sig .tc := ⟨.hbm, 192, rfl⟩
abbrev main_v34 : Ref sig .tc := ⟨.hbm, 193, rfl⟩
abbrev main_cst_18 : Ref sig .tc := ⟨.hbm, 194, rfl⟩
abbrev main_call11_v0 : Ref sig .tc := ⟨.hbm, 195, rfl⟩
abbrev main_call11_v1 : Ref sig .tc := ⟨.hbm, 196, rfl⟩
abbrev main_v35 : Ref sig .tc := ⟨.hbm, 197, rfl⟩
abbrev main_v36 : Ref sig .tc := ⟨.hbm, 198, rfl⟩
abbrev main_v37 : Ref sig .tc := ⟨.hbm, 199, rfl⟩
abbrev main_v38 : Ref sig .tc := ⟨.hbm, 200, rfl⟩
abbrev main_v39 : Ref sig .tc := ⟨.hbm, 201, rfl⟩
abbrev main_v40 : Ref sig .tc := ⟨.hbm, 202, rfl⟩
abbrev main_v41 : Ref sig .tc := ⟨.hbm, 203, rfl⟩
abbrev main_v42 : Ref sig .tc := ⟨.hbm, 204, rfl⟩
abbrev main_v43 : Ref sig .tc := ⟨.hbm, 205, rfl⟩
abbrev main_v44 : Ref sig .tc := ⟨.hbm, 206, rfl⟩
abbrev main_v45 : Ref sig .tc := ⟨.hbm, 207, rfl⟩
abbrev main_v46 : Ref sig .tc := ⟨.hbm, 208, rfl⟩
abbrev main_v47 : Ref sig .tc := ⟨.hbm, 209, rfl⟩
abbrev main_v48 : Ref sig .tc := ⟨.hbm, 210, rfl⟩
abbrev main_cst_19 : Ref sig .tc := ⟨.hbm, 211, rfl⟩
abbrev main_v49 : Ref sig .tc := ⟨.hbm, 212, rfl⟩
abbrev main_v50 : Ref sig .tc := ⟨.hbm, 213, rfl⟩
abbrev main_cst_20 : Ref sig .tc := ⟨.hbm, 214, rfl⟩
abbrev main_v51 : Ref sig .tc := ⟨.hbm, 215, rfl⟩
abbrev main_v52 : Ref sig .tc := ⟨.hbm, 216, rfl⟩
abbrev main_v53 : Ref sig .tc := ⟨.hbm, 217, rfl⟩
abbrev main_cst_21 : Ref sig .tc := ⟨.hbm, 218, rfl⟩
abbrev main_v54 : Ref sig .tc := ⟨.hbm, 219, rfl⟩
abbrev main_v55 : Ref sig .tc := ⟨.hbm, 220, rfl⟩
abbrev main_cst_22 : Ref sig .tc := ⟨.hbm, 221, rfl⟩
abbrev main_v56 : Ref sig .tc := ⟨.hbm, 222, rfl⟩
abbrev main_v57 : Ref sig .tc := ⟨.hbm, 223, rfl⟩
abbrev main_v58 : Ref sig .tc := ⟨.hbm, 224, rfl⟩
abbrev main_v59 : Ref sig .tc := ⟨.hbm, 225, rfl⟩
abbrev main_v60 : Ref sig .tc := ⟨.hbm, 226, rfl⟩
abbrev main_v61 : Ref sig .tc := ⟨.hbm, 227, rfl⟩
abbrev main_v62 : Ref sig .tc := ⟨.hbm, 228, rfl⟩
abbrev main_v63 : Ref sig .tc := ⟨.hbm, 229, rfl⟩
abbrev main_v64 : Ref sig .tc := ⟨.hbm, 230, rfl⟩
abbrev main_v65 : Ref sig .tc := ⟨.hbm, 231, rfl⟩
abbrev main_cst_23 : Ref sig .tc := ⟨.hbm, 232, rfl⟩
abbrev main_v66 : Ref sig .tc := ⟨.hbm, 233, rfl⟩
abbrev main_v67 : Ref sig .tc := ⟨.hbm, 234, rfl⟩
abbrev main_call12_c : Ref sig .tc := ⟨.hbm, 235, rfl⟩
abbrev main_call12_v0 : Ref sig .tc := ⟨.hbm, 236, rfl⟩
abbrev main_call12_v1 : Ref sig .tc := ⟨.hbm, 237, rfl⟩
abbrev main_call12_c_0 : Ref sig .tc := ⟨.hbm, 238, rfl⟩
abbrev main_call12_v2 : Ref sig .tc := ⟨.hbm, 239, rfl⟩
abbrev main_call12_v3 : Ref sig .tc := ⟨.hbm, 240, rfl⟩
abbrev main_call12_v4 : Ref sig .tc := ⟨.hbm, 241, rfl⟩
abbrev main_call12_v5 : Ref sig .tc := ⟨.hbm, 242, rfl⟩
abbrev main_call12_c_1 : Ref sig .tc := ⟨.hbm, 243, rfl⟩
abbrev main_call12_c_2 : Ref sig .tc := ⟨.hbm, 244, rfl⟩
abbrev main_call12_v6 : Ref sig .tc := ⟨.hbm, 245, rfl⟩
abbrev main_call12_v7 : Ref sig .tc := ⟨.hbm, 246, rfl⟩
abbrev main_call12_v8 : Ref sig .tc := ⟨.hbm, 247, rfl⟩
abbrev main_call12_v9 : Ref sig .tc := ⟨.hbm, 248, rfl⟩
abbrev main_call12_v10 : Ref sig .tc := ⟨.hbm, 249, rfl⟩
abbrev main_call12_v11 : Ref sig .tc := ⟨.hbm, 250, rfl⟩
abbrev main_call12_c_3 : Ref sig .tc := ⟨.hbm, 251, rfl⟩
abbrev main_call12_v12 : Ref sig .tc := ⟨.hbm, 252, rfl⟩
abbrev main_call12_v13 : Ref sig .tc := ⟨.hbm, 253, rfl⟩
abbrev main_call12_v14 : Ref sig .tc := ⟨.hbm, 254, rfl⟩
abbrev main_call12_cst : Ref sig .tc := ⟨.hbm, 255, rfl⟩
abbrev main_call12_v15 : Ref sig .tc := ⟨.hbm, 256, rfl⟩
abbrev main_v68 : Ref sig .tc := ⟨.hbm, 257, rfl⟩
abbrev main_cst_24 : Ref sig .tc := ⟨.hbm, 258, rfl⟩
abbrev main_call13_v0 : Ref sig .tc := ⟨.hbm, 259, rfl⟩
abbrev main_call13_v1 : Ref sig .tc := ⟨.hbm, 260, rfl⟩
abbrev main_call13_v2 : Ref sig .tc := ⟨.hbm, 261, rfl⟩
abbrev main_v69 : Ref sig .tc := ⟨.hbm, 262, rfl⟩
abbrev main_cst_25 : Ref sig .tc := ⟨.hbm, 263, rfl⟩
abbrev main_v70 : Ref sig .tc := ⟨.hbm, 264, rfl⟩
abbrev main_v71 : Ref sig .tc := ⟨.hbm, 265, rfl⟩
abbrev main_v72 : Ref sig .tc := ⟨.hbm, 266, rfl⟩
abbrev main_call14_c : Ref sig .tc := ⟨.hbm, 267, rfl⟩
abbrev main_call14_v0 : Ref sig .tc := ⟨.hbm, 268, rfl⟩
abbrev main_call14_v1 : Ref sig .tc := ⟨.hbm, 269, rfl⟩
abbrev main_call14_c_0 : Ref sig .tc := ⟨.hbm, 270, rfl⟩
abbrev main_call14_v2 : Ref sig .tc := ⟨.hbm, 271, rfl⟩
abbrev main_call14_v3 : Ref sig .tc := ⟨.hbm, 272, rfl⟩
abbrev main_call14_v4 : Ref sig .tc := ⟨.hbm, 273, rfl⟩
abbrev main_call14_v5 : Ref sig .tc := ⟨.hbm, 274, rfl⟩
abbrev main_call14_c_1 : Ref sig .tc := ⟨.hbm, 275, rfl⟩
abbrev main_call14_c_2 : Ref sig .tc := ⟨.hbm, 276, rfl⟩
abbrev main_call14_v6 : Ref sig .tc := ⟨.hbm, 277, rfl⟩
abbrev main_call14_v7 : Ref sig .tc := ⟨.hbm, 278, rfl⟩
abbrev main_call14_v8 : Ref sig .tc := ⟨.hbm, 279, rfl⟩
abbrev main_call14_v9 : Ref sig .tc := ⟨.hbm, 280, rfl⟩
abbrev main_call14_v10 : Ref sig .tc := ⟨.hbm, 281, rfl⟩
abbrev main_call14_v11 : Ref sig .tc := ⟨.hbm, 282, rfl⟩
abbrev main_call14_c_3 : Ref sig .tc := ⟨.hbm, 283, rfl⟩
abbrev main_call14_v12 : Ref sig .tc := ⟨.hbm, 284, rfl⟩
abbrev main_call14_v13 : Ref sig .tc := ⟨.hbm, 285, rfl⟩
abbrev main_call14_v14 : Ref sig .tc := ⟨.hbm, 286, rfl⟩
abbrev main_call14_cst : Ref sig .tc := ⟨.hbm, 287, rfl⟩
abbrev main_call14_v15 : Ref sig .tc := ⟨.hbm, 288, rfl⟩
abbrev main_v73 : Ref sig .tc := ⟨.hbm, 289, rfl⟩
abbrev main_cst_26 : Ref sig .tc := ⟨.hbm, 290, rfl⟩
abbrev main_call15_v0 : Ref sig .tc := ⟨.hbm, 291, rfl⟩
abbrev main_call15_v1 : Ref sig .tc := ⟨.hbm, 292, rfl⟩
abbrev main_call15_v2 : Ref sig .tc := ⟨.hbm, 293, rfl⟩
abbrev main_v74 : Ref sig .tc := ⟨.hbm, 294, rfl⟩
abbrev main_v75_0 : Ref sig .tc := ⟨.hbm, 295, rfl⟩
abbrev main_v75_1 : Ref sig .tc := ⟨.hbm, 296, rfl⟩
abbrev main_v75_2 : Ref sig .tc := ⟨.hbm, 297, rfl⟩
abbrev main_v75_3 : Ref sig .tc := ⟨.hbm, 298, rfl⟩
abbrev main_v75_4 : Ref sig .tc := ⟨.hbm, 299, rfl⟩
abbrev main_v75_5 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg26_1 : Ref sig .tc := ⟨.vmem, 33, rfl⟩
abbrev cc0_stg27_0 : Ref sig .tc := ⟨.vmem, 34, rfl⟩
abbrev cc0_stg27_1 : Ref sig .tc := ⟨.vmem, 35, rfl⟩
abbrev cc0_stg28_0 : Ref sig .tc := ⟨.vmem, 36, rfl⟩
abbrev cc0_stg28_1 : Ref sig .tc := ⟨.vmem, 37, rfl⟩
abbrev cc0_stg29_0 : Ref sig .tc := ⟨.vmem, 38, rfl⟩
abbrev cc0_stg29_1 : Ref sig .tc := ⟨.vmem, 39, rfl⟩
abbrev cc0_stg30_0 : Ref sig .tc := ⟨.vmem, 40, rfl⟩
abbrev cc0_stg30_1 : Ref sig .tc := ⟨.vmem, 41, rfl⟩
abbrev cc0_stg31_0 : Ref sig .tc := ⟨.vmem, 42, rfl⟩
abbrev cc0_stg31_1 : Ref sig .tc := ⟨.vmem, 43, rfl⟩
abbrev cc0_scratch0 : Ref sig .tc := ⟨.vmem, 44, rfl⟩
abbrev cc0_scratch1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem26_1 : DmaSem sig := 33
abbrev cc0_sem27_0 : DmaSem sig := 34
abbrev cc0_sem27_1 : DmaSem sig := 35
abbrev cc0_sem28_0 : DmaSem sig := 36
abbrev cc0_sem28_1 : DmaSem sig := 37
abbrev cc0_sem29_0 : DmaSem sig := 38
abbrev cc0_sem29_1 : DmaSem sig := 39
abbrev cc0_sem30_0 : DmaSem sig := 40
abbrev cc0_sem30_1 : DmaSem sig := 41
abbrev cc0_sem31_0 : DmaSem sig := 42
abbrev cc0_sem31_1 : DmaSem sig := 43

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_17 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_28 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S31x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S4x128x128 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S8x512x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S8x512x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S4x1x128x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x512 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x512 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S512x3072 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]
-- ==== Reference4Ideal.lean ====
abbrev S32x2048x1024 : Shape := ⟨3, ![32, 2048, 1024]⟩
abbrev S32x6144 : Shape := ⟨2, ![32, 6144]⟩
abbrev S1024 : Shape := ⟨1, ![1024]⟩
abbrev S1024x5536 : Shape := ⟨2, ![1024, 5536]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S31x512 : Shape := ⟨2, ![31, 512]⟩
abbrev S512 : Shape := ⟨1, ![512]⟩
abbrev S4x128x128 : Shape := ⟨3, ![4, 128, 128]⟩
abbrev S4x128 : Shape := ⟨2, ![4, 128]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x5536 : Shape := ⟨3, ![32, 2048, 5536]⟩
abbrev S32x2048x256 : Shape := ⟨3, ![32, 2048, 256]⟩
abbrev S32x2048x128 : Shape := ⟨3, ![32, 2048, 128]⟩
abbrev S32x2048x32 : Shape := ⟨3, ![32, 2048, 32]⟩
abbrev S32x2048x3072 : Shape := ⟨3, ![32, 2048, 3072]⟩
abbrev S1x1x128 : Shape := ⟨3, ![1, 1, 128]⟩
abbrev S32x2048x8x128 : Shape := ⟨4, ![32, 2048, 8, 128]⟩
abbrev S32x2048x8x64 : Shape := ⟨4, ![32, 2048, 8, 64]⟩
abbrev S32x2048x512 : Shape := ⟨3, ![32, 2048, 512]⟩
abbrev S32x2078x512 : Shape := ⟨3, ![32, 2078, 512]⟩
abbrev S1x512 : Shape := ⟨2, ![1, 512]⟩
abbrev S1x1x512 : Shape := ⟨3, ![1, 1, 512]⟩
abbrev S32x16x128x4x128 : Shape := ⟨5, ![32, 16, 128, 4, 128]⟩
abbrev S4x32x16x128x128 : Shape := ⟨5, ![4, 32, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S32x2048x4x128 : Shape := ⟨4, ![32, 2048, 4, 128]⟩
abbrev S4x32x128x2048 : Shape := ⟨4, ![4, 32, 128, 2048]⟩
abbrev S65536x512 : Shape := ⟨2, ![65536, 512]⟩
abbrev S65536x3072 : Shape := ⟨2, ![65536, 3072]⟩

abbrev nBuf : Space → Nat
  | .hbm => 413
  | .vmem => 0
  | .smem => 0
  | _ => 0

abbrev hbmTy0_0 (i : Nat) : BufTy := match i % 128 with
  | 0 => ⟨S32x2048x1024, .f32⟩
  | 1 => ⟨S32x6144, .f32⟩
  | 2 => ⟨S1024, .f32⟩
  | 3 => ⟨S1024x5536, .f32⟩
  | 4 => ⟨S256, .f32⟩
  | 5 => ⟨S256x768, .f32⟩
  | 6 => ⟨S128, .f32⟩
  | 7 => ⟨S128x1024, .f32⟩
  | 8 => ⟨S96, .f32⟩
  | 9 => ⟨S96, .f32⟩
  | 10 => ⟨S31x512, .f32⟩
  | 11 => ⟨S512, .f32⟩
  | 12 => ⟨S512, .f32⟩
  | 13 => ⟨S512, .f32⟩
  | 14 => ⟨S512, .f32⟩
  | 15 => ⟨S512, .f32⟩
  | 16 => ⟨S4x128x128, .f32⟩
  | 17 => ⟨S4x128, .f32⟩
  | 18 => ⟨S32x1024, .f32⟩
  | 19 => ⟨S32x1024, .f32⟩
  | 20 => ⟨S32x1024, .f32⟩
  | 21 => ⟨S32x1024, .f32⟩
  | 22 => ⟨S32x1024, .f32⟩
  | 23 => ⟨S32x1024, .f32⟩
  | 24 => ⟨S32x2048x1024, .f32⟩
  | 25 => ⟨S_, .f32⟩
  | 26 => ⟨S32x2048, .f32⟩
  | 27 => ⟨S32x2048x1, .f32⟩
  | 28 => ⟨S_, .f32⟩
  | 29 => ⟨S32x2048x1, .f32⟩
  | 30 => ⟨S32x2048x1, .f32⟩
  | 31 => ⟨S_, .f32⟩
  | 32 => ⟨S32x2048x1, .f32⟩
  | 33 => ⟨S32x2048x1, .f32⟩
  | 34 => ⟨S32x2048x1, .f32⟩
  | 35 => ⟨S32x2048x1024, .f32⟩
  | 36 => ⟨S32x2048x1024, .f32⟩
  | 37 => ⟨S1x1x1024, .f32⟩
  | 38 => ⟨S32x2048x1024, .f32⟩
  | 39 => ⟨S32x2048x1024, .f32⟩
  | 40 => ⟨S32x1x1024, .f32⟩
  | 41 => ⟨S_, .f32⟩
  | 42 => ⟨S32x1x1024, .f32⟩
  | 43 => ⟨S32x1x1024, .f32⟩
  | 44 => ⟨S32x2048x1024, .f32⟩
  | 45 => ⟨S32x2048x1024, .f32⟩
  | 46 => ⟨S32x1x1024, .f32⟩
  | 47 => ⟨S32x2048x1024, .f32⟩
  | 48 => ⟨S32x2048x1024, .f32⟩
  | 49 => ⟨S32x2048x5536, .f32⟩
  | 50 => ⟨S32x2048x256, .f32⟩
  | 51 => ⟨S32x2048x128, .f32⟩
  | 52 => ⟨S32x2048x32, .f32⟩
  | 53 => ⟨S32x2048x1024, .f32⟩
  | 54 => ⟨S32x2048x1024, .f32⟩
  | 55 => ⟨S32x2048x3072, .f32⟩
  | 56 => ⟨S32x2048x128, .f32⟩
  | 57 => ⟨S_, .f32⟩
  | 58 => ⟨S32x2048, .f32⟩
  | 59 => ⟨S32x2048x1, .f32⟩
  | 60 => ⟨S_, .f32⟩
  | 61 => ⟨S32x2048x1, .f32⟩
  | 62 => ⟨S32x2048x1, .f32⟩
  | 63 => ⟨S_, .f32⟩
  | 64 => ⟨S32x2048x1, .f32⟩
  | 65 => ⟨S32x2048x1, .f32⟩
  | 66 => ⟨S32x2048x1, .f32⟩
  | 67 => ⟨S32x2048x128, .f32⟩
  | 68 => ⟨S32x2048x128, .f32⟩
  | 69 => ⟨S1x1x128, .f32⟩
  | 70 => ⟨S32x2048x128, .f32⟩
  | 71 => ⟨S32x2048x128, .f32⟩
  | 72 => ⟨S32x2048x1024, .f32⟩
  | 73 => ⟨S32x2048x8x128, .f32⟩
  | 74 => ⟨S32x2048x8x64, .f32⟩
  | 75 => ⟨S32x2048x512, .f32⟩
  | 76 => ⟨S32x2048x512, .f32⟩
  | 77 => ⟨S32x2048x512, .f32⟩
  | 78 => ⟨S32x2048x512, .f32⟩
  | 79 => ⟨S_, .f32⟩
  | 80 => ⟨S32x2048x512, .f32⟩
  | 81 => ⟨S32x2048x512, .f32⟩
  | 82 => ⟨S_, .f32⟩
  | 83 => ⟨S32x2048x512, .f32⟩
  | 84 => ⟨S32x2048x512, .f32⟩
  | 85 => ⟨S32x2048x512, .f32⟩
  | 86 => ⟨S_, .i32⟩
  | 87 => ⟨S_, .f32⟩
  | 88 => ⟨S32x2078x512, .f32⟩
  | 89 => ⟨S1x512, .f32⟩
  | 90 => ⟨S512, .f32⟩
  | 91 => ⟨S32x2048x512, .f32⟩
  | 92 => ⟨S1x1x512, .f32⟩
  | 93 => ⟨S32x2048x512, .f32⟩
  | 94 => ⟨S32x2048x512, .f32⟩
  | 95 => ⟨S1x512, .f32⟩
  | 96 => ⟨S512, .f32⟩
  | 97 => ⟨S32x2048x512, .f32⟩
  | 98 => ⟨S1x1x512, .f32⟩
  | 99 => ⟨S32x2048x512, .f32⟩
  | 100 => ⟨S32x2048x512, .f32⟩
  | 101 => ⟨S32x2048x512, .f32⟩
  | 102 => ⟨S1x512, .f32⟩
  | 103 => ⟨S512, .f32⟩
  | 104 => ⟨S32x2048x512, .f32⟩
  | 105 => ⟨S1x1x512, .f32⟩
  | 106 => ⟨S32x2048x512, .f32⟩
  | 107 => ⟨S32x2048x512, .f32⟩
  | 108 => ⟨S32x2048x512, .f32⟩
  | 109 => ⟨S1x512, .f32⟩
  | 110 => ⟨S512, .f32⟩
  | 111 => ⟨S32x2048x512, .f32⟩
  | 112 => ⟨S1x1x512, .f32⟩
  | 113 => ⟨S32x2048x512, .f32⟩
  | 114 => ⟨S32x2048x512, .f32⟩
  | 115 => ⟨S32x2048x512, .f32⟩
  | 116 => ⟨S1x512, .f32⟩
  | 117 => ⟨S512, .f32⟩
  | 118 => ⟨S32x2048x512, .f32⟩
  | 119 => ⟨S1x1x512, .f32⟩
  | 120 => ⟨S32x2048x512, .f32⟩
  | 121 => ⟨S32x2048x512, .f32⟩
  | 122 => ⟨S32x2048x512, .f32⟩
  | 123 => ⟨S1x512, .f32⟩
  | 124 => ⟨S512, .f32⟩
  | 125 => ⟨S32x2048x512, .f32⟩
  | 126 => ⟨S1x1x512, .f32⟩
  | 127 => ⟨S32x2048x512, .f32⟩
  | _ => ⟨S32x2048x1024, .f32⟩

abbrev hbmTy0_1 (i : Nat) : BufTy := match i % 128 with
  | 0 => ⟨S32x2048x512, .f32⟩
  | 1 => ⟨S32x2048x512, .f32⟩
  | 2 => ⟨S1x512, .f32⟩
  | 3 => ⟨S512, .f32⟩
  | 4 => ⟨S32x2048x512, .f32⟩
  | 5 => ⟨S1x1x512, .f32⟩
  | 6 => ⟨S32x2048x512, .f32⟩
  | 7 => ⟨S32x2048x512, .f32⟩
  | 8 => ⟨S32x2048x512, .f32⟩
  | 9 => ⟨S1x512, .f32⟩
  | 10 => ⟨S512, .f32⟩
  | 11 => ⟨S32x2048x512, .f32⟩
  | 12 => ⟨S1x1x512, .f32⟩
  | 13 => ⟨S32x2048x512, .f32⟩
  | 14 => ⟨S32x2048x512, .f32⟩
  | 15 => ⟨S32x2048x512, .f32⟩
  | 16 => ⟨S1x512, .f32⟩
  | 17 => ⟨S512, .f32⟩
  | 18 => ⟨S32x2048x512, .f32⟩
  | 19 => ⟨S1x1x512, .f32⟩
  | 20 => ⟨S32x2048x512, .f32⟩
  | 21 => ⟨S32x2048x512, .f32⟩
  | 22 => ⟨S32x2048x512, .f32⟩
  | 23 => ⟨S1x512, .f32⟩
  | 24 => ⟨S512, .f32⟩
  | 25 => ⟨S32x2048x512, .f32⟩
  | 26 => ⟨S1x1x512, .f32⟩
  | 27 => ⟨S32x2048x512, .f32⟩
  | 28 => ⟨S32x2048x512, .f32⟩
  | 29 => ⟨S32x2048x512, .f32⟩
  | 30 => ⟨S1x512, .f32⟩
  | 31 => ⟨S512, .f32⟩
  | 32 => ⟨S32x2048x512, .f32⟩
  | 33 => ⟨S1x1x512, .f32⟩
  | 34 => ⟨S32x2048x512, .f32⟩
  | 35 => ⟨S32x2048x512, .f32⟩
  | 36 => ⟨S32x2048x512, .f32⟩
  | 37 => ⟨S1x512, .f32⟩
  | 38 => ⟨S512, .f32⟩
  | 39 => ⟨S32x2048x512, .f32⟩
  | 40 => ⟨S1x1x512, .f32⟩
  | 41 => ⟨S32x2048x512, .f32⟩
  | 42 => ⟨S32x2048x512, .f32⟩
  | 43 => ⟨S32x2048x512, .f32⟩
  | 44 => ⟨S1x512, .f32⟩
  | 45 => ⟨S512, .f32⟩
  | 46 => ⟨S32x2048x512, .f32⟩
  | 47 => ⟨S1x1x512, .f32⟩
  | 48 => ⟨S32x2048x512, .f32⟩
  | 49 => ⟨S32x2048x512, .f32⟩
  | 50 => ⟨S32x2048x512, .f32⟩
  | 51 => ⟨S1x512, .f32⟩
  | 52 => ⟨S512, .f32⟩
  | 53 => ⟨S32x2048x512, .f32⟩
  | 54 => ⟨S1x1x512, .f32⟩
  | 55 => ⟨S32x2048x512, .f32⟩
  | 56 => ⟨S32x2048x512, .f32⟩
  | 57 => ⟨S32x2048x512, .f32⟩
  | 58 => ⟨S1x512, .f32⟩
  | 59 => ⟨S512, .f32⟩
  | 60 => ⟨S32x2048x512, .f32⟩
  | 61 => ⟨S1x1x512, .f32⟩
  | 62 => ⟨S32x2048x512, .f32⟩
  | 63 => ⟨S32x2048x512, .f32⟩
  | 64 => ⟨S32x2048x512, .f32⟩
  | 65 => ⟨S1x512, .f32⟩
  | 66 => ⟨S512, .f32⟩
  | 67 => ⟨S32x2048x512, .f32⟩
  | 68 => ⟨S1x1x512, .f32⟩
  | 69 => ⟨S32x2048x512, .f32⟩
  | 70 => ⟨S32x2048x512, .f32⟩
  | 71 => ⟨S32x2048x512, .f32⟩
  | 72 => ⟨S1x512, .f32⟩
  | 73 => ⟨S512, .f32⟩
  | 74 => ⟨S32x2048x512, .f32⟩
  | 75 => ⟨S1x1x512, .f32⟩
  | 76 => ⟨S32x2048x512, .f32⟩
  | 77 => ⟨S32x2048x512, .f32⟩
  | 78 => ⟨S32x2048x512, .f32⟩
  | 79 => ⟨S1x512, .f32⟩
  | 80 => ⟨S512, .f32⟩
  | 81 => ⟨S32x2048x512, .f32⟩
  | 82 => ⟨S1x1x512, .f32⟩
  | 83 => ⟨S32x2048x512, .f32⟩
  | 84 => ⟨S32x2048x512, .f32⟩
  | 85 => ⟨S32x2048x512, .f32⟩
  | 86 => ⟨S1x512, .f32⟩
  | 87 => ⟨S512, .f32⟩
  | 88 => ⟨S32x2048x512, .f32⟩
  | 89 => ⟨S1x1x512, .f32⟩
  | 90 => ⟨S32x2048x512, .f32⟩
  | 91 => ⟨S32x2048x512, .f32⟩
  | 92 => ⟨S32x2048x512, .f32⟩
  | 93 => ⟨S1x512, .f32⟩
  | 94 => ⟨S512, .f32⟩
  | 95 => ⟨S32x2048x512, .f32⟩
  | 96 => ⟨S1x1x512, .f32⟩
  | 97 => ⟨S32x2048x512, .f32⟩
  | 98 => ⟨S32x2048x512, .f32⟩
  | 99 => ⟨S32x2048x512, .f32⟩
  | 100 => ⟨S1x512, .f32⟩
  | 101 => ⟨S512, .f32⟩
  | 102 => ⟨S32x2048x512, .f32⟩
  | 103 => ⟨S1x1x512, .f32⟩
  | 104 => ⟨S32x2048x512, .f32⟩
  | 105 => ⟨S32x2048x512, .f32⟩
  | 106 => ⟨S32x2048x512, .f32⟩
  | 107 => ⟨S1x512, .f32⟩
  | 108 => ⟨S512, .f32⟩
  | 109 => ⟨S32x2048x512, .f32⟩
  | 110 => ⟨S1x1x512, .f32⟩
  | 111 => ⟨S32x2048x512, .f32⟩
  | 112 => ⟨S32x2048x512, .f32⟩
  | 113 => ⟨S32x2048x512, .f32⟩
  | 114 => ⟨S1x512, .f32⟩
  | 115 => ⟨S512, .f32⟩
  | 116 => ⟨S32x2048x512, .f32⟩
  | 117 => ⟨S1x1x512, .f32⟩
  | 118 => ⟨S32x2048x512, .f32⟩
  | 119 => ⟨S32x2048x512, .f32⟩
  | 120 => ⟨S32x2048x512, .f32⟩
  | 121 => ⟨S1x512, .f32⟩
  | 122 => ⟨S512, .f32⟩
  | 123 => ⟨S32x2048x512, .f32⟩
  | 124 => ⟨S1x1x512, .f32⟩
  | 125 => ⟨S32x2048x512, .f32⟩
  | 126 => ⟨S32x2048x512, .f32⟩
  | 127 => ⟨S32x2048x512, .f32⟩
  | _ => ⟨S32x2048x1024, .f32⟩

abbrev hbmTy0_2 (i : Nat) : BufTy := match i % 128 with
  | 0 => ⟨S1x512, .f32⟩
  | 1 => ⟨S512, .f32⟩
  | 2 => ⟨S32x2048x512, .f32⟩
  | 3 => ⟨S1x1x512, .f32⟩
  | 4 => ⟨S32x2048x512, .f32⟩
  | 5 => ⟨S32x2048x512, .f32⟩
  | 6 => ⟨S32x2048x512, .f32⟩
  | 7 => ⟨S1x512, .f32⟩
  | 8 => ⟨S512, .f32⟩
  | 9 => ⟨S32x2048x512, .f32⟩
  | 10 => ⟨S1x1x512, .f32⟩
  | 11 => ⟨S32x2048x512, .f32⟩
  | 12 => ⟨S32x2048x512, .f32⟩
  | 13 => ⟨S32x2048x512, .f32⟩
  | 14 => ⟨S1x512, .f32⟩
  | 15 => ⟨S512, .f32⟩
  | 16 => ⟨S32x2048x512, .f32⟩
  | 17 => ⟨S1x1x512, .f32⟩
  | 18 => ⟨S32x2048x512, .f32⟩
  | 19 => ⟨S32x2048x512, .f32⟩
  | 20 => ⟨S32x2048x512, .f32⟩
  | 21 => ⟨S1x512, .f32⟩
  | 22 => ⟨S512, .f32⟩
  | 23 => ⟨S32x2048x512, .f32⟩
  | 24 => ⟨S1x1x512, .f32⟩
  | 25 => ⟨S32x2048x512, .f32⟩
  | 26 => ⟨S32x2048x512, .f32⟩
  | 27 => ⟨S32x2048x512, .f32⟩
  | 28 => ⟨S1x512, .f32⟩
  | 29 => ⟨S512, .f32⟩
  | 30 => ⟨S32x2048x512, .f32⟩
  | 31 => ⟨S1x1x512, .f32⟩
  | 32 => ⟨S32x2048x512, .f32⟩
  | 33 => ⟨S32x2048x512, .f32⟩
  | 34 => ⟨S32x2048x512, .f32⟩
  | 35 => ⟨S1x512, .f32⟩
  | 36 => ⟨S512, .f32⟩
  | 37 => ⟨S32x2048x512, .f32⟩
  | 38 => ⟨S1x1x512, .f32⟩
  | 39 => ⟨S32x2048x512, .f32⟩
  | 40 => ⟨S32x2048x512, .f32⟩
  | 41 => ⟨S32x2048x512, .f32⟩
  | 42 => ⟨S1x512, .f32⟩
  | 43 => ⟨S512, .f32⟩
  | 44 => ⟨S32x2048x512, .f32⟩
  | 45 => ⟨S1x1x512, .f32⟩
  | 46 => ⟨S32x2048x512, .f32⟩
  | 47 => ⟨S32x2048x512, .f32⟩
  | 48 => ⟨S32x2048x512, .f32⟩
  | 49 => ⟨S1x1x512, .f32⟩
  | 50 => ⟨S32x2048x512, .f32⟩
  | 51 => ⟨S32x2048x512, .f32⟩
  | 52 => ⟨S_, .f32⟩
  | 53 => ⟨S32x2048, .f32⟩
  | 54 => ⟨S32x2048x1, .f32⟩
  | 55 => ⟨S_, .f32⟩
  | 56 => ⟨S32x2048x1, .f32⟩
  | 57 => ⟨S32x2048x1, .f32⟩
  | 58 => ⟨S32x2048x512, .f32⟩
  | 59 => ⟨S32x2048x512, .f32⟩
  | 60 => ⟨S32x2048x512, .f32⟩
  | 61 => ⟨S_, .f32⟩
  | 62 => ⟨S32x2048, .f32⟩
  | 63 => ⟨S32x2048x1, .f32⟩
  | 64 => ⟨S_, .f32⟩
  | 65 => ⟨S32x2048x1, .f32⟩
  | 66 => ⟨S32x2048x1, .f32⟩
  | 67 => ⟨S32x2048x512, .f32⟩
  | 68 => ⟨S32x2048x512, .f32⟩
  | 69 => ⟨S_, .f32⟩
  | 70 => ⟨S32x2048x1, .f32⟩
  | 71 => ⟨S32x2048x1, .f32⟩
  | 72 => ⟨S32x2048x1, .f32⟩
  | 73 => ⟨S32x2048x512, .f32⟩
  | 74 => ⟨S32x2048x512, .f32⟩
  | 75 => ⟨S1x1x512, .f32⟩
  | 76 => ⟨S32x2048x512, .f32⟩
  | 77 => ⟨S32x2048x512, .f32⟩
  | 78 => ⟨S1x1x512, .f32⟩
  | 79 => ⟨S32x2048x512, .f32⟩
  | 80 => ⟨S32x2048x512, .f32⟩
  | 81 => ⟨S32x2048x512, .f32⟩
  | 82 => ⟨S32x2048x512, .f32⟩
  | 83 => ⟨S_, .f32⟩
  | 84 => ⟨S32x2048x512, .f32⟩
  | 85 => ⟨S32x2048x512, .f32⟩
  | 86 => ⟨S_, .f32⟩
  | 87 => ⟨S32x2048x512, .f32⟩
  | 88 => ⟨S32x2048x512, .f32⟩
  | 89 => ⟨S32x2048x512, .f32⟩
  | 90 => ⟨S32x2048x1024, .f32⟩
  | 91 => ⟨S32x2048x1024, .f32⟩
  | 92 => ⟨S_, .f32⟩
  | 93 => ⟨S32x2048x1024, .f32⟩
  | 94 => ⟨S32x2048x1024, .f32⟩
  | 95 => ⟨S32x2048x1024, .f32⟩
  | 96 => ⟨S_, .f32⟩
  | 97 => ⟨S32x2048x1024, .f32⟩
  | 98 => ⟨S32x2048x1024, .f32⟩
  | 99 => ⟨S32x2048x1024, .f32⟩
  | 100 => ⟨S_, .f32⟩
  | 101 => ⟨S32x2048x1024, .f32⟩
  | 102 => ⟨S32x2048x1024, .f32⟩
  | 103 => ⟨S_, .f32⟩
  | 104 => ⟨S32x2048x1024, .f32⟩
  | 105 => ⟨S32x2048x1024, .f32⟩
  | 106 => ⟨S32x2048x1024, .f32⟩
  | 107 => ⟨S32x2048x512, .f32⟩
  | 108 => ⟨S32x2048x512, .f32⟩
  | 109 => ⟨S_, .f32⟩
  | 110 => ⟨S32x2048, .f32⟩
  | 111 => ⟨S32x2048x1, .f32⟩
  | 112 => ⟨S_, .f32⟩
  | 113 => ⟨S32x2048x1, .f32⟩
  | 114 => ⟨S32x2048x1, .f32⟩
  | 115 => ⟨S32x2048x512, .f32⟩
  | 116 => ⟨S32x2048x512, .f32⟩
  | 117 => ⟨S32x2048x512, .f32⟩
  | 118 => ⟨S_, .f32⟩
  | 119 => ⟨S32x2048, .f32⟩
  | 120 => ⟨S32x2048x1, .f32⟩
  | 121 => ⟨S_, .f32⟩
  | 122 => ⟨S32x2048x1, .f32⟩
  | 123 => ⟨S32x2048x1, .f32⟩
  | 124 => ⟨S32x2048x512, .f32⟩
  | 125 => ⟨S32x2048x512, .f32⟩
  | 126 => ⟨S_, .f32⟩
  | 127 => ⟨S32x2048x1, .f32⟩
  | _ => ⟨S32x2048x1024, .f32⟩

abbrev hbmTy0_3 (i : Nat) : BufTy := match i % 128 with
  | 0 => ⟨S32x2048x1, .f32⟩
  | 1 => ⟨S32x2048x1, .f32⟩
  | 2 => ⟨S32x2048x512, .f32⟩
  | 3 => ⟨S32x2048x512, .f32⟩
  | 4 => ⟨S1x1x512, .f32⟩
  | 5 => ⟨S32x2048x512, .f32⟩
  | 6 => ⟨S32x2048x512, .f32⟩
  | 7 => ⟨S1x1x512, .f32⟩
  | 8 => ⟨S32x2048x512, .f32⟩
  | 9 => ⟨S32x2048x512, .f32⟩
  | 10 => ⟨S32x16x128x4x128, .f32⟩
  | 11 => ⟨S4x32x16x128x128, .f32⟩
  | 12 => ⟨S32x16x128x4x128, .f32⟩
  | 13 => ⟨S128x4, .f32⟩
  | 14 => ⟨S128x4x1, .f32⟩
  | 15 => ⟨S1x1x128x4x1, .f32⟩
  | 16 => ⟨S32x16x128x4x128, .f32⟩
  | 17 => ⟨S32x16x128x4x128, .f32⟩
  | 18 => ⟨S32x2048x512, .f32⟩
  | 19 => ⟨S32x2048x512, .f32⟩
  | 20 => ⟨S32x2048x4x128, .f32⟩
  | 21 => ⟨S4x32x128x2048, .f32⟩
  | 22 => ⟨S4x32x128x2048, .bf16⟩
  | 23 => ⟨S65536x512, .f32⟩
  | 24 => ⟨S65536x512, .bf16⟩
  | 25 => ⟨S65536x512, .f32⟩
  | 26 => ⟨S65536x512, .bf16⟩
  | 27 => ⟨S65536x3072, .f32⟩
  | 28 => ⟨S65536x3072, .bf16⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c : Ref sig .tc := ⟨.hbm, 86, rfl⟩
abbrev main_call0_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_cst_8 : Ref sig .tc := ⟨.hbm, 308, rfl⟩
abbrev main_v279 : Ref sig .tc := ⟨.hbm, 309, rfl⟩
abbrev main_v280 : Ref sig .tc := ⟨.hbm, 310, rfl⟩
abbrev main_cst_9 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_cst_10 : Ref sig .tc := ⟨.hbm, 317, rfl⟩
abbrev main_v286 : Ref sig .tc := ⟨.hbm, 318, rfl⟩
abbrev main_v287 : Ref sig .tc := ⟨.hbm, 319, rfl⟩
abbrev main_cst_11 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_cst_12 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_call1_v0 : Ref sig .tc := ⟨.hbm, 337, rfl⟩
abbrev main_call1_v1 : Ref sig .tc := ⟨.hbm, 338, rfl⟩
abbrev main_call1_cst : Ref sig .tc := ⟨.hbm, 339, rfl⟩
abbrev main_call1_v2 : Ref sig .tc := ⟨.hbm, 340, rfl⟩
abbrev main_call1_v3 : Ref sig .tc := ⟨.hbm, 341, rfl⟩
abbrev main_call1_cst_0 : Ref sig .tc := ⟨.hbm, 342, rfl⟩
abbrev main_call1_v4 : Ref sig .tc := ⟨.hbm, 343, rfl⟩
abbrev main_call1_v5 : Ref sig .tc := ⟨.hbm, 344, rfl⟩
abbrev main_v303 : Ref sig .tc := ⟨.hbm, 345, rfl⟩
abbrev main_v304 : Ref sig .tc := ⟨.hbm, 346, rfl⟩
abbrev main_v305 : Ref sig .tc := ⟨.hbm, 347, rfl⟩
abbrev main_cst_13 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_cst_14 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_cst_15 : Ref sig .tc := ⟨.hbm, 356, rfl⟩
abbrev main_v312 : Ref sig .tc := ⟨.hbm, 357, rfl⟩
abbrev main_v313 : Ref sig .tc := ⟨.hbm, 358, rfl⟩
abbrev main_cst_16 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_cst_17 : Ref sig .tc := ⟨.hbm, 365, rfl⟩
abbrev main_v319 : Ref sig .tc := ⟨.hbm, 366, rfl⟩
abbrev main_v320 : Ref sig .tc := ⟨.hbm, 367, rfl⟩
abbrev main_cst_18 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_cst_19 : Ref sig .tc := ⟨.hbm, 374, rfl⟩
abbrev main_v326 : Ref sig .tc := ⟨.hbm, 375, rfl⟩
abbrev main_v327 : Ref sig .tc := ⟨.hbm, 376, rfl⟩
abbrev main_cst_20 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_cst_21 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_v339 : Ref sig .tc := ⟨.hbm, 390, rfl⟩
abbrev main_v340 : Ref sig .tc := ⟨.hbm, 391, rfl⟩
abbrev main_v341 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_v348 : Ref sig .tc := ⟨.hbm, 399, rfl⟩
abbrev main_v349 : Ref sig .tc := ⟨.hbm, 400, rfl⟩
abbrev main_v350 : Ref sig .tc := ⟨.hbm, 401, rfl⟩
abbrev main_v351 : Ref sig .tc := ⟨.hbm, 402, rfl⟩
abbrev main_v352 : Ref sig .tc := ⟨.hbm, 403, rfl⟩
abbrev main_v353 : Ref sig .tc := ⟨.hbm, 404, rfl⟩
abbrev main_v354 : Ref sig .tc := ⟨.hbm, 405, rfl⟩
abbrev main_v355 : Ref sig .tc := ⟨.hbm, 406, rfl⟩
abbrev main_v356 : Ref sig .tc := ⟨.hbm, 407, rfl⟩
abbrev main_v357 : Ref sig .tc := ⟨.hbm, 408, rfl⟩
abbrev main_v358 : Ref sig .tc := ⟨.hbm, 409, rfl⟩
abbrev main_v359 : Ref sig .tc := ⟨.hbm, 410, rfl⟩
abbrev main_v360 : Ref sig .tc := ⟨.hbm, 411, rfl⟩
abbrev main_v361 : Ref sig .tc := ⟨.hbm, 412, rfl⟩

abbrev nD : Nat := 1
abbrev τ : Topo := Topo.v7x

variable {F : FTy → Type} [FloatOps F]
-- ==== Proof.Steps.lean ====
module

public import proofs.«01_k».proof.Proof.Gen.KernelIdeal.Loops
public import Idealize.ShloMosaic.Lib.Pipeline.FrameBody
public import Idealize.ShloMosaic.Lib.WritesUnit

/-! # One step of the attention kernel

At a grid point the kernel works through 32 steps; step `u` is query tile `u / 8` of head `u % 8`. This module
names what a step reads (`qStep`, `kStep`, `vStep`), the scores it computes (`scores`), the running maximum of
each query (`scoreMax`), and the normalised mix of the values (`mixAll`) that it stores. -/

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

/-- Moving a load's rectangle along an equation of its offsets changes nothing. -/
theorem ld_off {Val : EltTy → Type} {s : Shape} {e : EltTy} (X : s.Idx → Val e) {o o' size : Fin s.rank → Nat}
    (h : o = o') (i : ∀ a, o a + size a ≤ s.size a) (i' : ∀ a, o' a + size a ≤ s.size a) :
    View.ld X (Rect.unit o size i) = View.ld X (Rect.unit o' size i') := by subst h; rfl

/-! ## Where a step reads and writes -/

/-- The query tile of step `u`. -/
def qOff (u : Fin 32) : Fin 3 → Nat := ![u.val % 8, 512 * (u.val / 8), 0]
/-- The head of step `u`, all keys. -/
def kOff (u : Fin 32) : Fin 3 → Nat := ![u.val % 8, 0, 0]
/-- The pair of heads of step `u` in the transposed values, keys `512 r` to `512 (r + 1)`. -/
def vOff (u : Fin 32) (r : Fin 4) : Fin 4 → Nat := ![u.val % 8 / 2, 0, 0, 512 * r.val]
/-- Rows `512 r` to `512 (r + 1)` of the scores. -/
def sOff (r : Fin 4) : Fin 2 → Nat := ![512 * r.val, 0]
/-- Where step `u` leaves its mix in the transposed output. -/
def oOff (u : Fin 32) : Fin 4 → Nat := ![u.val / 8, u.val % 8 / 2, 64 * (u.val % 2), 0]

theorem qInb : ∀ (u : Fin 32) (a : Fin 3), qOff u a + S1x512x128.size a ≤ S8x2048x128.size a := by decide +kernel
theorem kInb : ∀ (u : Fin 32) (a : Fin 3), kOff u a + S1x2048x128.size a ≤ S8x2048x128.size a := by decide +kernel
theorem vInb : ∀ (u : Fin 32) (r : Fin 4) (a : Fin 4), vOff u r a + S1x1x128x512.size a ≤ S4x1x128x2048.size a := by
  decide +kernel
theorem sInb : ∀ (r : Fin 4) (a : Fin 2), sOff r a + S512x512.size a ≤ S2048x512.size a := by decide +kernel

/-- The queries of step `u`. -/
def qStep (X : Vec F S8x2048x128 .bf16) (u : Fin 32) : Vec F S1x512x128 .bf16 :=
  View.ld (Val := Elt F) (e' := .bf16) X (Rect.unit (qOff u) S1x512x128.size (qInb u))
/-- The keys of step `u`. -/
def kStep (X : Vec F S8x2048x128 .bf16) (u : Fin 32) : Vec F S1x2048x128 .bf16 :=
  View.ld (Val := Elt F) (e' := .bf16) X (Rect.unit (kOff u) S1x2048x128.size (kInb u))
/-- The values of step `u` at quarter `r` of the keys. -/
def vStep (X : Vec F S4x1x128x2048 .bf16) (u : Fin 32) (r : Fin 4) : Vec F S1x1x128x512 .bf16 :=
  View.ld (Val := Elt F) (e' := .bf16) X (Rect.unit (vOff u r) S1x1x128x512.size (vInb u r))
/-- Quarter `r` of the scores. -/
def sPart (S : Vec F S2048x512 .f32) (r : Fin 4) : Vec F S512x512 .f32 :=
  View.ld (Val := Elt F) (e' := .f32) S (Rect.unit (sOff r) S512x512.size (sInb r))

/-! ## What a step computes -/

/-- The scores of all keys (rows) against the step's queries (columns). -/
def scores (q : Vec F S1x512x128 .bf16) (k : Vec F S1x2048x128 .bf16) : FVec F S2048x512 .f32 :=
  matmul dot_S2048x128_S512x128_S2048x512_1_1_0_0_n_n none
    (shapeCast S2048x128 k shapeCasts_S1x2048x128_S2048x128) (shapeCast S512x128 q shapeCasts_S1x512x128_S512x128)
    (constant S2048x512 .f32 0x00000000#32)

/-- The scores as stored: a cast to their own shape. -/
def scoresAt (q : Vec F S1x512x128 .bf16) (k : Vec F S1x2048x128 .bf16) : FVec F S2048x512 .f32 :=
  shapeCast S2048x512 (scores q k) shapeCasts_S2048x512_S2048x512

/-- The largest score of each query. -/
def scoreMax (q : Vec F S1x512x128 .bf16) (k : Vec F S1x2048x128 .bf16) : FVec F S1x512 .f32 :=
  shapeCast S1x512 (multiReduction .maximumf [0] S512 (scores q k) 0xFF800000#32 reduces_S2048x512_S512 (.inl rfl) rfl)
    shapeCasts_S512_S1x512

/-- The weights of a quarter of the keys. -/
def weights (mx : FVec F S1x512 .f32) (s : Vec F S512x512 .f32) : FVec F S512x512 .f32 :=
  exp2 (subf s (broadcastTo S512x512 mx broadcasts_S1x512_S512x512))

/-- Their sum over those keys. -/
def weightSum (mx : FVec F S1x512 .f32) (s : Vec F S512x512 .f32) : FVec F S1x512 .f32 :=
  shapeCast S1x512 (multiReduction .add [0] S512 (weights mx s) 0x00000000#32 reduces_S512x512_S512 (.inl rfl) rfl)
    shapeCasts_S512_S1x512

/-- The weighted sum of the values of those keys, for both heads of the pair. -/
def weighted (mx : FVec F S1x512 .f32) (s : Vec F S512x512 .f32) (v : Vec F S1x1x128x512 .bf16) : FVec F S128x512 .f32 :=
  matmul dot_S128x512_S512x512_S128x512_1_0_0_1_n_n none (shapeCast S128x512 v shapeCasts_S1x1x128x512_S128x512)
    (truncf .bf16 (weights mx s) bitsLt_bf16_f32) (constant S128x512 .f32 0x00000000#32)

/-- The four quarters' weighted sums added. -/
def weighted4 (mx : FVec F S1x512 .f32) (s : Fin 4 → Vec F S512x512 .f32) (v : Fin 4 → Vec F S1x1x128x512 .bf16) :
    FVec F S128x512 .f32 :=
  addf (addf (addf (weighted mx (s 0) (v 0)) (weighted mx (s 1) (v 1))) (weighted mx (s 2) (v 2))) (weighted mx (s 3) (v 3))

/-- The four quarters' sums added. -/
def weightSum4 (mx : FVec F S1x512 .f32) (s : Fin 4 → Vec F S512x512 .f32) : FVec F S1x512 .f32 :=
  addf (addf (addf (weightSum mx (s 0)) (weightSum mx (s 1))) (weightSum mx (s 2))) (weightSum mx (s 3))

/-- The half of the pair that the head is (`b` = the head is even), divided by the sum of its weights. -/
def mixAll (b : BitVec 1) (mx : FVec F S1x512 .f32) (s : Fin 4 → Vec F S512x512 .f32)
    (v : Fin 4 → Vec F S1x1x128x512 .bf16) : FVec F S1x1x64x512 .f32 :=
  shapeCast S1x1x64x512
    (mulf (Scalar.select b
        (extractStridedSlice S64x512 ![0, 0] (weighted4 mx s v) slices_S128x512_o0_0_S64x512)
        (extractStridedSlice S64x512 ![64, 0] (weighted4 mx s v) slices_S128x512_o64_0_S64x512))
      (broadcastTo S64x512 (divf (broadcast S1x512 (Scalar.ofBits .f32 0x3F800000#32)) (weightSum4 mx s))
        broadcasts_S1x512_S64x512))
    shapeCasts_S64x512_S1x1x64x512

/-- Whether step `u`'s head is even. -/
def evenBit (u : Fin 32) : BitVec 1 := if u.val % 2 = 0 then 1#1 else 0#1

/-- The mix of step `u`, from the blocks of the queries, keys and transposed values. -/
def mixStep (Q K : Vec F S8x2048x128 .bf16) (Vt : Vec F S4x1x128x2048 .bf16) (u : Fin 32) : FVec F S1x1x64x512 .f32 :=
  mixAll (evenBit u) (scoreMax (qStep Q u) (kStep K u)) (sPart (scoresAt (qStep Q u) (kStep K u))) (vStep Vt u)

/-! ## The loop's offsets -/

theorem trips_eq : k0_t1_loop.trips = 15 := by decide +kernel

/-- The even step of trip `k`. -/
def uEven (k : Fin k0_t1_loop.trips) : Fin 32 := ⟨2 * k.val, by have := k.isLt; have := trips_eq; omega⟩
/-- The odd step of trip `k`. -/
def uOdd (k : Fin k0_t1_loop.trips) : Fin 32 := ⟨2 * k.val + 1, by have := k.isLt; have := trips_eq; omega⟩
/-- The even step of the next trip. -/
def uNext (k : Fin k0_t1_loop.trips) : Fin 32 := ⟨2 * k.val + 2, by have := k.isLt; have := trips_eq; omega⟩

theorem off1_eq : ∀ k, k0_off1 k = qOff (uOdd k) := by decide +kernel
theorem off2_eq : ∀ k, k0_off2 k = kOff (uOdd k) := by decide +kernel
theorem off3_eq : ∀ k, k0_off3 k = vOff (uEven k) 0 := by decide +kernel
theorem off4_eq : ∀ k, k0_off4 k = vOff (uEven k) 1 := by decide +kernel
theorem off5_eq : ∀ k, k0_off5 k = vOff (uEven k) 2 := by decide +kernel
theorem off6_eq : ∀ k, k0_off6 k = vOff (uEven k) 3 := by decide +kernel
theorem off7_eq : ∀ k, k0_off7 k = oOff (uEven k) := by decide +kernel
theorem off8_eq : ∀ k, k0_off8 k = qOff (uNext k) := by decide +kernel
theorem off9_eq : ∀ k, k0_off9 k = kOff (uNext k) := by decide +kernel
theorem off10_eq : ∀ k, k0_off10 k = vOff (uOdd k) 0 := by decide +kernel
theorem off11_eq : ∀ k, k0_off11 k = vOff (uOdd k) 1 := by decide +kernel
theorem off12_eq : ∀ k, k0_off12 k = vOff (uOdd k) 2 := by decide +kernel
theorem off13_eq : ∀ k, k0_off13 k = vOff (uOdd k) 3 := by decide +kernel
theorem off14_eq : ∀ k, k0_off14 k = oOff (uOdd k) := by decide +kernel

/-- The kernel's test for an even head, on the word that holds the head. -/
def selWord (w : BitVec 32) : BitVec 1 :=
  Scalar.cmpi .eq (Scalar.select (Scalar.andi (Scalar.xori
      (Scalar.cmpi .slt (Scalar.remsi w (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi w (Scalar.select (Scalar.cmpi .eq 2#32 0#32) 1#32 2#32)) 0#32))
    (Scalar.addi (Scalar.remsi w (Scalar.select (Scalar.cmpi .eq 2#32 0#32) 1#32 2#32))
      (Scalar.select (Scalar.cmpi .eq 2#32 0#32) 1#32 2#32))
    (Scalar.remsi w (Scalar.select (Scalar.cmpi .eq 2#32 0#32) 1#32 2#32))) 0#32

theorem selWord_even : ∀ k, selWord (trip_k0_t1.sl.v364 k) = evenBit (uEven k) := by decide +kernel
theorem selWord_odd : ∀ k, selWord (trip_k0_t1.sl.v666 k) = evenBit (uOdd k) := by decide +kernel

end Cert.Proof.Attn
-- ==== Proof.Trip.lean ====
module

public import proofs.«01_k».proof.Proof.Steps
public import Idealize.ShloMosaic.Lib.VecWindow

/-! # One trip of the attention kernel's loop

Trip `k` computes the scores of steps `2 k + 1` and `2 k + 2`, and the mixes of steps `2 k` and `2 k + 1`. The
generated loop module finds what the trip yields and stores; here it is read in the words of `Proof/Steps.lean`. -/

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

/-- A load after one store of the whole buffer reads the stored value. -/
theorem readCov_whole (arg : Memref sig .tc .vmem S2048x512 .f32) {o o' size : Fin 2 → Nat}
    (i : ∀ a, o a + S2048x512.size a ≤ S2048x512.size a) (w : FVec F S2048x512 .f32)
    (i' : ∀ a, o' a + size a ≤ S2048x512.size a) :
    arg.view.readCov [(⟨Rect.unit o S2048x512.size i, w⟩ : View.Piece (Elt F) S2048x512 .f32)]
      (Rect.unit o' size i').toLoadRect = View.ld (Val := Elt F) (e' := .f32) w (Rect.unit o' size i') := by
  show View.ld (arg.view.read (Elt F) (arg.view.writes (Elt F) _ [(⟨Rect.unit o S2048x512.size i, w⟩ : View.Piece (Elt F) S2048x512 .f32)])) _ = _
  rw [View.read_writes_full]

theorem mixAll_congr {b b' : BitVec 1} {mx mx' : FVec F S1x512 .f32} {s s' : Fin 4 → Vec F S512x512 .f32}
    {v v' : Fin 4 → Vec F S1x1x128x512 .bf16} (hb : b = b') (hm : mx = mx')
    (s0 : s 0 = s' 0) (s1 : s 1 = s' 1) (s2 : s 2 = s' 2) (s3 : s 3 = s' 3)
    (v0 : v 0 = v' 0) (v1 : v 1 = v' 1) (v2 : v 2 = v' 2) (v3 : v 3 = v' 3) :
    mixAll b mx s v = mixAll b' mx' s' v' := by
  subst hb hm; unfold mixAll weighted4 weightSum4; rw [s0, s1, s2, s3, v0, v1, v2, v3]

section
variable (𝒱 : Variants) (c : Dev nD) (bd : Option 𝒱.V) (i : grid0.Coords) (arg2 : Memref sig .tc .vmem S8x2048x128 .bf16) (harg2 : arg2.IsWhole) (arg3 : Memref sig .tc .vmem S8x2048x128 .bf16) (harg3 : arg3.IsWhole) (arg4 : Memref sig .tc .vmem S4x1x128x2048 .bf16) (harg4 : arg4.IsWhole) (arg5 : Memref sig .tc .vmem S4x2048x128 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x4x128x512 .f32) (harg8 : arg8.IsWhole) (X2 : BufTy.Contents (Elt F) arg2.view.ty) (X3 : BufTy.Contents (Elt F) arg3.view.ty) (X4 : BufTy.Contents (Elt F) arg4.view.ty) (k : Fin k0_t1_loop.trips) (acc : FVec F S1x512 .f32) (f6 : BufTy.Contents (Elt F) arg6.view.ty) (f7 : BufTy.Contents (Elt F) arg7.view.ty) (f8 : BufTy.Contents (Elt F) arg8.view.ty)

theorem tripR_eq :
    tripR_k0_t1 (F := F) 𝒱 c bd i arg2 harg2 arg3 harg3 arg4 harg4 arg5 harg5 arg6 harg6 arg7 harg7 arg8 harg8 X2 X3 X4 k acc f6 f7 f8
      = scoreMax (qStep (View.read (Elt F) arg2.view X2) (uNext k)) (kStep (View.read (Elt F) arg3.view X3) (uNext k)) := by
  unfold tripR_k0_t1 trip_k0_t1
  dsimp only
  unfold trip_k0_t1.sl.r_11 trip_k0_t1.sl.v610
  exact congrArg₂ scoreMax (ld_off (View.read (Elt F) arg2.view X2) (off8_eq k) (k0_off8_inb k) (qInb _)) (ld_off (View.read (Elt F) arg3.view X3) (off9_eq k) (k0_off9_inb k) (kInb _))

theorem tripL6_eq :
    (tripL_k0_t1 (F := F) 𝒱 c bd i arg2 harg2 arg3 harg3 arg4 harg4 arg5 harg5 arg6 harg6 arg7 harg7 arg8 harg8 X2 X3 X4 k acc f6 f7 f8).1
      = [⟨Rect.unit ![0, 0] S2048x512.size inb_S2048x512_S2048x512_0_0, scoresAt (qStep (View.read (Elt F) arg2.view X2) (uNext k)) (kStep (View.read (Elt F) arg3.view X3) (uNext k))⟩] := by
  unfold tripL_k0_t1 trip_k0_t1
  exact congrArg (fun w => [(⟨Rect.unit ![0, 0] S2048x512.size inb_S2048x512_S2048x512_0_0, w⟩ : View.Piece (Elt F) S2048x512 .f32)])
    (congrArg₂ scoresAt (ld_off (View.read (Elt F) arg2.view X2) (off8_eq k) (k0_off8_inb k) (qInb _)) (ld_off (View.read (Elt F) arg3.view X3) (off9_eq k) (k0_off9_inb k) (kInb _)))

theorem tripL7_eq :
    (tripL_k0_t1 (F := F) 𝒱 c bd i arg2 harg2 arg3 harg3 arg4 harg4 arg5 harg5 arg6 harg6 arg7 harg7 arg8 harg8 X2 X3 X4 k acc f6 f7 f8).2.1
      = [⟨Rect.unit ![0, 0] S2048x512.size inb_S2048x512_S2048x512_0_0, scoresAt (qStep (View.read (Elt F) arg2.view X2) (uOdd k)) (kStep (View.read (Elt F) arg3.view X3) (uOdd k))⟩] := by
  unfold tripL_k0_t1 trip_k0_t1
  exact congrArg (fun w => [(⟨Rect.unit ![0, 0] S2048x512.size inb_S2048x512_S2048x512_0_0, w⟩ : View.Piece (Elt F) S2048x512 .f32)])
    (congrArg₂ scoresAt (ld_off (View.read (Elt F) arg2.view X2) (off1_eq k) (k0_off1_inb k) (qInb _)) (ld_off (View.read (Elt F) arg3.view X3) (off2_eq k) (k0_off2_inb k) (kInb _)))

/-- The scores of the odd step, at the offsets as printed. -/
def oddScores : FVec F S2048x512 .f32 :=
  scoresAt (View.ld (Val := Elt F) (e' := .bf16) (View.read (Elt F) arg2.view X2) (Rect.unit (k0_off1 k) S1x512x128.size (k0_off1_inb k)))
    (View.ld (Val := Elt F) (e' := .bf16) (View.read (Elt F) arg3.view X3) (Rect.unit (k0_off2 k) S1x2048x128.size (k0_off2_inb k)))

theorem oddScores_eq : oddScores arg2 arg3 X2 X3 k = scoresAt (qStep (View.read (Elt F) arg2.view X2) (uOdd k)) (kStep (View.read (Elt F) arg3.view X3) (uOdd k)) :=
  congrArg₂ scoresAt (ld_off (View.read (Elt F) arg2.view X2) (off1_eq k) (k0_off1_inb k) (qInb _)) (ld_off (View.read (Elt F) arg3.view X3) (off2_eq k) (k0_off2_inb k) (kInb _))

theorem mixOdd_eq :
    k0_pay34 (trip_k0_t1.sl.r_19 arg2 arg3 arg4 arg7 X2 X3 X4 k) = mixStep (View.read (Elt F) arg2.view X2) (View.read (Elt F) arg3.view X3) (View.read (Elt F) arg4.view X4) (uOdd k) := by
  have hs : ∀ r : Fin 4, View.ld (Val := Elt F) (e' := .f32) (oddScores arg2 arg3 X2 X3 k) (Rect.unit (sOff r) S512x512.size (sInb r))
      = sPart (scoresAt (qStep (View.read (Elt F) arg2.view X2) (uOdd k)) (kStep (View.read (Elt F) arg3.view X3) (uOdd k))) r := fun r => by rw [oddScores_eq]; rfl
  refine Eq.trans ?_ (mixAll_congr (F := F) (selWord_odd k)
    (congrArg₂ scoreMax (ld_off (View.read (Elt F) arg2.view X2) (off1_eq k) (k0_off1_inb k) (qInb _)) (ld_off (View.read (Elt F) arg3.view X3) (off2_eq k) (k0_off2_inb k) (kInb _)))
    (s := ![trip_k0_t1.sl.v677 arg2 arg3 arg7 X2 X3 k, trip_k0_t1.sl.v706 arg2 arg3 arg7 X2 X3 k,
      trip_k0_t1.sl.v737 arg2 arg3 arg7 X2 X3 k, trip_k0_t1.sl.v768 arg2 arg3 arg7 X2 X3 k])
    ((readCov_whole arg7 _ _ _).trans (hs 0)) ((readCov_whole arg7 _ _ _).trans (hs 1))
    ((readCov_whole arg7 _ _ _).trans (hs 2)) ((readCov_whole arg7 _ _ _).trans (hs 3))
    (v := ![View.ld (View.read (Elt F) arg4.view X4) (Rect.unit (k0_off10 k) S1x1x128x512.size (k0_off10_inb k)), View.ld (View.read (Elt F) arg4.view X4) (Rect.unit (k0_off11 k) S1x1x128x512.size (k0_off11_inb k)),
      View.ld (View.read (Elt F) arg4.view X4) (Rect.unit (k0_off12 k) S1x1x128x512.size (k0_off12_inb k)), View.ld (View.read (Elt F) arg4.view X4) (Rect.unit (k0_off13 k) S1x1x128x512.size (k0_off13_inb k))])
    (ld_off (View.read (Elt F) arg4.view X4) (off10_eq k) (k0_off10_inb k) (vInb _ _)) (ld_off (View.read (Elt F) arg4.view X4) (off11_eq k) (k0_off11_inb k) (vInb _ _))
    (ld_off (View.read (Elt F) arg4.view X4) (off12_eq k) (k0_off12_inb k) (vInb _ _)) (ld_off (View.read (Elt F) arg4.view X4) (off13_eq k) (k0_off13_inb k) (vInb _ _)))
  rfl

theorem mixEven_eq :
    trip_k0_t1.sl.v549 arg4 arg6 X4 k acc f6
      = mixAll (evenBit (uEven k)) acc (sPart (View.read (Elt F) arg6.view f6)) (vStep (View.read (Elt F) arg4.view X4) (uEven k)) := by
  refine Eq.trans ?_ (mixAll_congr (F := F) (selWord_even k) rfl
    (s := sPart (View.read (Elt F) arg6.view f6)) rfl rfl rfl rfl
    (v := ![View.ld (View.read (Elt F) arg4.view X4) (Rect.unit (k0_off3 k) S1x1x128x512.size (k0_off3_inb k)), View.ld (View.read (Elt F) arg4.view X4) (Rect.unit (k0_off4 k) S1x1x128x512.size (k0_off4_inb k)),
      View.ld (View.read (Elt F) arg4.view X4) (Rect.unit (k0_off5 k) S1x1x128x512.size (k0_off5_inb k)), View.ld (View.read (Elt F) arg4.view X4) (Rect.unit (k0_off6 k) S1x1x128x512.size (k0_off6_inb k))])
    (ld_off (View.read (Elt F) arg4.view X4) (off3_eq k) (k0_off3_inb k) (vInb _ _)) (ld_off (View.read (Elt F) arg4.view X4) (off4_eq k) (k0_off4_inb k) (vInb _ _))
    (ld_off (View.read (Elt F) arg4.view X4) (off5_eq k) (k0_off5_inb k) (vInb _ _)) (ld_off (View.read (Elt F) arg4.view X4) (off6_eq k) (k0_off6_inb k) (vInb _ _)))
  rfl

theorem tripL8_eq :
    (tripL_k0_t1 (F := F) 𝒱 c bd i arg2 harg2 arg3 harg3 arg4 harg4 arg5 harg5 arg6 harg6 arg7 harg7 arg8 harg8 X2 X3 X4 k acc f6 f7 f8).2.2
      = [⟨Rect.unit (k0_off14 k) S1x1x64x512.size (k0_off14_inb k), mixStep (View.read (Elt F) arg2.view X2) (View.read (Elt F) arg3.view X3) (View.read (Elt F) arg4.view X4) (uOdd k)⟩,
         ⟨Rect.unit (k0_off7 k) S1x1x64x512.size (k0_off7_inb k),
          mixAll (evenBit (uEven k)) acc (sPart (View.read (Elt F) arg6.view f6)) (vStep (View.read (Elt F) arg4.view X4) (uEven k))⟩] := by
  rw [← mixOdd_eq (arg7 := arg7), ← mixEven_eq]
  unfold tripL_k0_t1 trip_k0_t1
  rfl

end

end Cert.Proof.Attn
-- ==== Proof.Loop.lean ====
module

public import proofs.«01_k».proof.Proof.Trip

/-! # The loop of the attention kernel

Before trip `k` the carried value is the maximum of step `2 k`, the first score buffer holds that step's scores, and
every earlier step's mix stands in the transposed output. -/

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

/-- Step number `n`. -/
def us (n : ℕ) : Fin 32 := ⟨n % 32, Nat.mod_lt _ (by decide)⟩

theorem uEven_us (k : Fin k0_t1_loop.trips) : uEven k = us (2 * k.val) := by
  have := k.isLt; have := trips_eq; apply Fin.ext; show 2 * k.val = 2 * k.val % 32; omega
theorem uOdd_us (k : Fin k0_t1_loop.trips) : uOdd k = us (2 * k.val + 1) := by
  have := k.isLt; have := trips_eq; apply Fin.ext; show 2 * k.val + 1 = (2 * k.val + 1) % 32; omega
theorem uNext_us (k : Fin k0_t1_loop.trips) : uNext k = us (2 * (k.val + 1)) := by
  have := k.isLt; have := trips_eq; apply Fin.ext; show 2 * k.val + 2 = (2 * (k.val + 1)) % 32; omega

theorem oInb : ∀ (u : Fin 32) (a : Fin 4), oOff u a + S1x1x64x512.size a ≤ S4x4x128x512.size a := by decide +kernel

/-- The place of a step's mix in the transposed output. -/
def oIdx (u : Fin 32) (x : S1x1x64x512.Idx) : S4x4x128x512.Idx :=
  fun a => ⟨oOff u a + (x a).val, Nat.lt_of_lt_of_le (Nat.add_lt_add_left (x a).isLt _) (oInb u a)⟩

section
variable (arg8 : Memref sig .tc .vmem S4x4x128x512 .f32) (f : BufTy.Contents (Elt F) arg8.view.ty)

/-- A step's mix just stored is read at its place. -/
theorem read_step_same {u : Fin 32} {o : Fin 4 → Nat} (h : o = oOff u)
    (inb : ∀ a, o a + S1x1x64x512.size a ≤ S4x4x128x512.size a) (w : FVec F S1x1x64x512 .f32)
    (L : List (View.Piece (Elt F) S4x4x128x512 .f32)) (x : S1x1x64x512.Idx) :
    arg8.view.read (Elt F) (arg8.view.writes (Elt F) f (⟨Rect.unit o S1x1x64x512.size inb, w⟩ :: L)) (oIdx u x) = w x :=
  View.read_writes_cons_unit_of_mem (Val := Elt F) (e := .f32) (size := S1x1x64x512.size) arg8.view f inb w L (oIdx u x) x h fun _ => rfl

/-- It leaves the other steps' places alone. -/
theorem read_step_other {u u' : Fin 32} (hu : u' ≠ u) {o : Fin 4 → Nat} (h : o = oOff u)
    (inb : ∀ a, o a + S1x1x64x512.size a ≤ S4x4x128x512.size a) (w : FVec F S1x1x64x512 .f32)
    (L : List (View.Piece (Elt F) S4x4x128x512 .f32)) (x : S1x1x64x512.Idx) :
    arg8.view.read (Elt F) (arg8.view.writes (Elt F) f (⟨Rect.unit o S1x1x64x512.size inb, w⟩ :: L)) (oIdx u' x)
      = arg8.view.read (Elt F) (arg8.view.writes (Elt F) f L) (oIdx u' x) := by
  have hne : u'.val ≠ u.val := fun e => hu (Fin.ext e)
  have h0 : (x 0).val < 1 := (x 0).isLt
  have h1 : (x 1).val < 1 := (x 1).isLt
  have h2 : (x 2).val < 64 := (x 2).isLt
  by_cases c0 : u'.val / 8 = u.val / 8
  · by_cases c1 : u'.val % 8 / 2 = u.val % 8 / 2
    · refine View.read_writes_cons_unit_of_not_mem (Val := Elt F) (e := .f32) (size := S1x1x64x512.size) arg8.view f inb w L (oIdx u' x) h (2 : Fin 4) ?_
      show 64 * (u'.val % 2) + (x 2).val < 64 * (u.val % 2) ∨ 64 * (u.val % 2) + 64 ≤ 64 * (u'.val % 2) + (x 2).val
      omega
    · refine View.read_writes_cons_unit_of_not_mem (Val := Elt F) (e := .f32) (size := S1x1x64x512.size) arg8.view f inb w L (oIdx u' x) h (1 : Fin 4) ?_
      show u'.val % 8 / 2 + (x 1).val < u.val % 8 / 2 ∨ u.val % 8 / 2 + 1 ≤ u'.val % 8 / 2 + (x 1).val
      omega
  · refine View.read_writes_cons_unit_of_not_mem (Val := Elt F) (e := .f32) (size := S1x1x64x512.size) arg8.view f inb w L (oIdx u' x) h (0 : Fin 4) ?_
    show u'.val / 8 + (x 0).val < u.val / 8 ∨ u.val / 8 + 1 ≤ u'.val / 8 + (x 0).val
    omega

end

section
variable (𝒱 : Variants) (c : Dev nD) (bd : Option 𝒱.V) (i : grid0.Coords) (arg2 : Memref sig .tc .vmem S8x2048x128 .bf16) (harg2 : arg2.IsWhole) (arg3 : Memref sig .tc .vmem S8x2048x128 .bf16) (harg3 : arg3.IsWhole) (arg4 : Memref sig .tc .vmem S4x1x128x2048 .bf16) (harg4 : arg4.IsWhole) (arg5 : Memref sig .tc .vmem S4x2048x128 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x4x128x512 .f32) (harg8 : arg8.IsWhole) (X2 : BufTy.Contents (Elt F) arg2.view.ty) (X3 : BufTy.Contents (Elt F) arg3.view.ty) (X4 : BufTy.Contents (Elt F) arg4.view.ty)
  (G6 : BufTy.Contents (Elt F) arg6.view.ty) (G7 : BufTy.Contents (Elt F) arg7.view.ty) (G8 : BufTy.Contents (Elt F) arg8.view.ty) (init : FVec F S1x512 .f32)

/-- The state of the loop before trip `k`. -/
theorem loop_state (h6 : arg6.view.read (Elt F) G6 = scoresAt (qStep (View.read (Elt F) arg2.view X2) (us 0)) (kStep (View.read (Elt F) arg3.view X3) (us 0)))
    (hi : init = scoreMax (qStep (View.read (Elt F) arg2.view X2) (us 0)) (kStep (View.read (Elt F) arg3.view X3) (us 0))) (k : ℕ) (hk : k ≤ k0_t1_loop.trips) :
    ((st_k0_t1 (F := F) 𝒱 c bd i arg2 harg2 arg3 harg3 arg4 harg4 arg5 harg5 arg6 harg6 arg7 harg7 arg8 harg8 X2 X3 X4 G6 G7 G8 init) k).1 = scoreMax (qStep (View.read (Elt F) arg2.view X2) (us (2 * k))) (kStep (View.read (Elt F) arg3.view X3) (us (2 * k)))
    ∧ arg6.view.read (Elt F) (arg6.view.writes (Elt F) G6 ((st_k0_t1 (F := F) 𝒱 c bd i arg2 harg2 arg3 harg3 arg4 harg4 arg5 harg5 arg6 harg6 arg7 harg7 arg8 harg8 X2 X3 X4 G6 G7 G8 init) k).2.1) = scoresAt (qStep (View.read (Elt F) arg2.view X2) (us (2 * k))) (kStep (View.read (Elt F) arg3.view X3) (us (2 * k)))
    ∧ ∀ u : Fin 32, u.val < 2 * k → ∀ x, arg8.view.read (Elt F) (arg8.view.writes (Elt F) G8 ((st_k0_t1 (F := F) 𝒱 c bd i arg2 harg2 arg3 harg3 arg4 harg4 arg5 harg5 arg6 harg6 arg7 harg7 arg8 harg8 X2 X3 X4 G6 G7 G8 init) k).2.2.2) (oIdx u x) = mixStep (View.read (Elt F) arg2.view X2) (View.read (Elt F) arg3.view X3) (View.read (Elt F) arg4.view X4) u x := by
  induction k with
  | zero => exact ⟨hi, h6, fun u hu => absurd hu (Nat.not_lt_zero _)⟩
  | succ k ih =>
    obtain ⟨i1, i2, i3⟩ := ih (Nat.le_of_succ_le hk)
    have hs := st_k0_t1_succ (F := F) 𝒱 c bd i arg2 harg2 arg3 harg3 arg4 harg4 arg5 harg5 arg6 harg6 arg7 harg7 arg8 harg8 X2 X3 X4 G6 G7 G8 init ⟨k, hk⟩
    have e1 := (congrArg Prod.fst hs).trans (tripR_eq 𝒱 c bd i arg2 harg2 arg3 harg3 arg4 harg4 arg5 harg5 arg6 harg6 arg7 harg7 arg8 harg8 X2 X3 X4 ⟨k, hk⟩ _ _ _ _)
    have e6 := (congrArg (fun s => s.2.1) hs).trans (congrArg (· ++ _) (tripL6_eq 𝒱 c bd i arg2 harg2 arg3 harg3 arg4 harg4 arg5 harg5 arg6 harg6 arg7 harg7 arg8 harg8 X2 X3 X4 ⟨k, hk⟩ _ _ _ _))
    have e8 := (congrArg (fun s => s.2.2.2) hs).trans (congrArg (· ++ _) (tripL8_eq 𝒱 c bd i arg2 harg2 arg3 harg3 arg4 harg4 arg5 harg5 arg6 harg6 arg7 harg7 arg8 harg8 X2 X3 X4 ⟨k, hk⟩ _ _ _ _))
    dsimp only at e1 e6 e8
    rw [e1, e6, e8]
    refine ⟨?_, ?_, ?_⟩
    · rw [uNext_us]
    · rw [uNext_us]; exact View.read_writes_full _ _ _ _ _
    · intro u hu x
      have hkt := trips_eq
      by_cases c1 : u = uOdd ⟨k, hk⟩
      · subst c1
        exact read_step_same arg8 G8 (off14_eq _) _ _ _ _
      · refine (read_step_other arg8 G8 c1 (off14_eq _) _ _ _ _).trans ?_
        by_cases c0 : u = uEven ⟨k, hk⟩
        · subst c0
          refine (read_step_same arg8 G8 (off7_eq _) _ _ _ _).trans ?_
          rw [i1, i2, ← uEven_us ⟨k, hk⟩]; rfl
        · refine (read_step_other arg8 G8 c0 (off7_eq _) _ _ _ _).trans (i3 u ?_ x)
          have n1 : u.val ≠ 2 * k + 1 := fun e => c1 (Fin.ext e)
          have n0 : u.val ≠ 2 * k := fun e => c0 (Fin.ext e)
          omega

end

end Cert.Proof.Attn
-- ==== Proof.Body.lean ====
module

public import proofs.«01_k».proof.Proof.Loop
public import Idealize.ShloMosaic.Lib.Pipeline.Value

/-! # What the attention kernel writes at one grid point

After the loop come steps 30 and 31; then the transposed output is packed: query tile `t` of pair `p` is transposed
and cast into rows `512 t` to `512 (t + 1)` of pair `p` of the result. -/

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

/-- The transposed output that the 32 steps leave. -/
def mixes (Q K : Vec F S8x2048x128 .bf16) (Vt : Vec F S4x1x128x2048 .bf16) : FVec F S4x4x128x512 .f32 := fun j =>
  mixStep Q K Vt (us (8 * (j 0).val + 2 * (j 1).val + (j 2).val / 64))
    (fun a => ⟨![0, 0, (j 2).val % 64, (j 3).val] a, by
      have h3 : (j 3).val < 512 := (j 3).isLt
      have h2 := Nat.mod_lt (j 2).val (show 0 < 64 by decide)
      match a with
      | ⟨0, _⟩ => exact Nat.one_pos
      | ⟨1, _⟩ => exact Nat.one_pos
      | ⟨2, _⟩ => exact h2
      | ⟨3, _⟩ => exact h3⟩)

/-- A tile of the transposed output as it is packed into the result. -/
def packStep (v : Vec F S1x1x128x512 .f32) : FVec F S1x512x128 .bf16 :=
  shapeCast S1x512x128 (truncf .bf16 (transpose S512x128 [1, 0] (shapeCast S128x512 v shapeCasts_S1x1x128x512_S128x512)
    transposes_S128x512_p1_0_S512x128) bitsLt_bf16_f32) shapeCasts_S512x128_S1x512x128

theorem tInb : ∀ (t p : Fin 4) (a : Fin 4), (![t.val, p.val, 0, 0] : Fin 4 → Nat) a + S1x1x128x512.size a ≤ S4x4x128x512.size a := by
  decide +kernel
theorem rInb : ∀ (t p : Fin 4) (a : Fin 3), (![p.val, 512 * t.val, 0] : Fin 3 → Nat) a + S1x512x128.size a ≤ S4x2048x128.size a := by
  decide +kernel

/-- Query tile `t` of pair `p` of the transposed output. -/
def tile (M : FVec F S4x4x128x512 .f32) (t p : Fin 4) : Vec F S1x1x128x512 .f32 :=
  View.ld (Val := Elt F) (e' := .f32) M (Rect.unit ![t.val, p.val, 0, 0] S1x1x128x512.size (tInb t p))

/-- The packed result of a transposed output. -/
def packed (M : FVec F S4x4x128x512 .f32) : FVec F S4x2048x128 .bf16 := fun i =>
  packStep (tile M ⟨(i 1).val / 512, Nat.div_lt_of_lt_mul (i 1).isLt⟩ (i 0))
    (fun a => ⟨![0, (i 1).val % 512, (i 2).val] a, by
      have h2 : (i 2).val < 128 := (i 2).isLt
      have h1 := Nat.mod_lt (i 1).val (show 0 < 512 by decide)
      match a with
      | ⟨0, _⟩ => exact Nat.one_pos
      | ⟨1, _⟩ => exact h1
      | ⟨2, _⟩ => exact h2⟩)

/-- The block of the result that a grid point writes. -/
def attnBlock (Q K : Vec F S8x2048x128 .bf16) (Vt : Vec F S4x1x128x2048 .bf16) : FVec F S4x2048x128 .bf16 :=
  packed (mixes Q K Vt)

/-- The step whose mix an index of the transposed output belongs to. -/
def uOf (j : S4x4x128x512.Idx) : Fin 32 := us (8 * (j 0).val + 2 * (j 1).val + (j 2).val / 64)

theorem uOf_val (j : S4x4x128x512.Idx) : (uOf j).val = 8 * (j 0).val + 2 * (j 1).val + (j 2).val / 64 := by
  have h0 : (j 0).val < 4 := (j 0).isLt
  have h1 : (j 1).val < 4 := (j 1).isLt
  have h2 : (j 2).val < 128 := (j 2).isLt
  exact Nat.mod_eq_of_lt (by omega)

/-- Contents that hold a step's mix at its place read as `mixes` there. -/
theorem read_at_mixes (arg8 : Memref sig .tc .vmem S4x4x128x512 .f32) (f : BufTy.Contents (Elt F) arg8.view.ty)
    (Q K : Vec F S8x2048x128 .bf16) (Vt : Vec F S4x1x128x2048 .bf16) (j : S4x4x128x512.Idx)
    (h : ∀ x, arg8.view.read (Elt F) f (oIdx (uOf j) x) = mixStep Q K Vt (uOf j) x) :
    arg8.view.read (Elt F) f j = mixes Q K Vt j := by
  have h0 : (j 0).val < 4 := (j 0).isLt
  have h1 : (j 1).val < 4 := (j 1).isLt
  have h2 : (j 2).val < 128 := (j 2).isLt
  have hu := uOf_val j
  refine Eq.trans (congrArg _ ?_) (h _)
  funext a
  apply Fin.ext
  match a with
  | ⟨0, _⟩ => show (j 0).val = (uOf j).val / 8 + 0; rw [hu]; omega
  | ⟨1, _⟩ => show (j 1).val = (uOf j).val % 8 / 2 + 0; rw [hu]; omega
  | ⟨2, _⟩ => show (j 2).val = 64 * ((uOf j).val % 2) + (j 2).val % 64; rw [hu]; omega
  | ⟨3, _⟩ => show (j 3).val = 0 + (j 3).val; omega

/-- The 16 stores of the packing, last first. -/
def packPieces (w : Fin 4 → Fin 4 → FVec F S1x512x128 .bf16) : List (View.Piece (Elt F) S4x2048x128 .bf16) :=
  [⟨Rect.unit ![3, 1536, 0] S1x512x128.size inb_S4x2048x128_S1x512x128_3_1536_0, w 3 3⟩,
   ⟨Rect.unit ![2, 1536, 0] S1x512x128.size inb_S4x2048x128_S1x512x128_2_1536_0, w 3 2⟩,
   ⟨Rect.unit ![1, 1536, 0] S1x512x128.size inb_S4x2048x128_S1x512x128_1_1536_0, w 3 1⟩,
   ⟨Rect.unit ![0, 1536, 0] S1x512x128.size inb_S4x2048x128_S1x512x128_0_1536_0, w 3 0⟩,
   ⟨Rect.unit ![3, 1024, 0] S1x512x128.size inb_S4x2048x128_S1x512x128_3_1024_0, w 2 3⟩,
   ⟨Rect.unit ![2, 1024, 0] S1x512x128.size inb_S4x2048x128_S1x512x128_2_1024_0, w 2 2⟩,
   ⟨Rect.unit ![1, 1024, 0] S1x512x128.size inb_S4x2048x128_S1x512x128_1_1024_0, w 2 1⟩,
   ⟨Rect.unit ![0, 1024, 0] S1x512x128.size inb_S4x2048x128_S1x512x128_0_1024_0, w 2 0⟩,
   ⟨Rect.unit ![3, 512, 0] S1x512x128.size inb_S4x2048x128_S1x512x128_3_512_0, w 1 3⟩,
   ⟨Rect.unit ![2, 512, 0] S1x512x128.size inb_S4x2048x128_S1x512x128_2_512_0, w 1 2⟩,
   ⟨Rect.unit ![1, 512, 0] S1x512x128.size inb_S4x2048x128_S1x512x128_1_512_0, w 1 1⟩,
   ⟨Rect.unit ![0, 512, 0] S1x512x128.size inb_S4x2048x128_S1x512x128_0_512_0, w 1 0⟩,
   ⟨Rect.unit ![3, 0, 0] S1x512x128.size inb_S4x2048x128_S1x512x128_3_0_0, w 0 3⟩,
   ⟨Rect.unit ![2, 0, 0] S1x512x128.size inb_S4x2048x128_S1x512x128_2_0_0, w 0 2⟩,
   ⟨Rect.unit ![1, 0, 0] S1x512x128.size inb_S4x2048x128_S1x512x128_1_0_0, w 0 1⟩,
   ⟨Rect.unit ![0, 0, 0] S1x512x128.size inb_S4x2048x128_S1x512x128_0_0_0, w 0 0⟩]

/-- The same stores by tile and pair. -/
theorem packPieces_eq (w : Fin 4 → Fin 4 → FVec F S1x512x128 .bf16) :
    packPieces w = ([(3, 3), (3, 2), (3, 1), (3, 0), (2, 3), (2, 2), (2, 1), (2, 0), (1, 3), (1, 2), (1, 1), (1, 0),
      (0, 3), (0, 2), (0, 1), (0, 0)] : List (Fin 4 × Fin 4)).map
      (fun tp => (⟨Rect.unit ![tp.2.val, 512 * tp.1.val, 0] S1x512x128.size (rInb tp.1 tp.2), w tp.1 tp.2⟩ : View.Piece (Elt F) S4x2048x128 .bf16)) := rfl

/-- The packed result is what the 16 stores leave. -/
theorem read_packPieces (arg5 : Memref sig .tc .vmem S4x2048x128 .bf16) (f : BufTy.Contents (Elt F) arg5.view.ty)
    (M : FVec F S4x4x128x512 .f32) :
    arg5.view.read (Elt F) (arg5.view.writes (Elt F) f (packPieces fun t p => packStep (tile M t p))) = packed M := by
  have hcov : ∀ y : S4x2048x128.Idx, ∃ p ∈ packPieces (F := F) (fun t p => packStep (tile M t p)), y ∈ p.1.set := by
    intro y
    rw [packPieces_eq]
    have h0 : (y 0).val < 4 := (y 0).isLt
    have h1 : (y 1).val < 2048 := (y 1).isLt
    have h2 : (y 2).val < 128 := (y 2).isLt
    have ht : (y 1).val / 512 < 4 := by omega
    refine ⟨_, List.mem_map_of_mem (a := ((⟨(y 1).val / 512, ht⟩ : Fin 4), (y 0 : Fin 4))) ?_, ?_⟩
    · exact (show ∀ a b : Fin 4, (a, b) ∈ ([(3, 3), (3, 2), (3, 1), (3, 0), (2, 3), (2, 2), (2, 1), (2, 0), (1, 3), (1, 2),
        (1, 1), (1, 0), (0, 3), (0, 2), (0, 1), (0, 0)] : List (Fin 4 × Fin 4)) by decide) _ _
    · rw [Rect.mem_set_unit]
      intro a
      match a with
      | ⟨0, _⟩ => show (y 0).val ≤ (y 0).val ∧ (y 0).val < (y 0).val + 1; omega
      | ⟨1, _⟩ => show 512 * ((y 1).val / 512) ≤ (y 1).val ∧ (y 1).val < 512 * ((y 1).val / 512) + 512; omega
      | ⟨2, _⟩ => show 0 ≤ (y 2).val ∧ (y 2).val < 0 + 128; omega
  rw [View.read_writes_eq_canon _ _ _ hcov]
  funext y
  refine View.canon_apply_of_pieces (packed M) _ ?_ y (hcov y)
  intro p hp x
  rw [packPieces_eq] at hp
  obtain ⟨⟨t, q⟩, -, rfl⟩ := List.mem_map.1 hp
  have x0 : (x 0).val < 1 := (x 0).isLt
  have x1 : (x 1).val < 512 := (x 1).isLt
  have e0 : ((Rect.unit (s := S4x2048x128) ![q.val, 512 * t.val, 0] S1x512x128.size (rInb t q)).emb x (0 : Fin 3)) = q :=
    Fin.ext (by show q.val + 1 * (x 0).val = q.val; omega)
  have e1 : ((Rect.unit (s := S4x2048x128) ![q.val, 512 * t.val, 0] S1x512x128.size (rInb t q)).emb x (1 : Fin 3)).val = 512 * t.val + (x 1).val := by
    show 512 * t.val + 1 * (x 1).val = _; omega
  have e2 : ((Rect.unit (s := S4x2048x128) ![q.val, 512 * t.val, 0] S1x512x128.size (rInb t q)).emb x (2 : Fin 3)).val = (x 2).val := by
    show 0 + 1 * (x 2).val = _; omega
  show packStep (tile M t q) x = packStep (tile M _ _) _
  refine congr (congrArg packStep (congr (congrArg (tile M) (Fin.ext ?_)) e0.symm)) ?_
  · show t.val = _ / 512; rw [e1]; omega
  · funext a
    apply Fin.ext
    match a with
    | ⟨0, _⟩ => show (x 0).val = 0; omega
    | ⟨1, _⟩ => show (x 1).val = _ % 512; rw [e1]; omega
    | ⟨2, _⟩ => exact e2.symm

section
variable (arg8 : Memref sig .tc .vmem S4x4x128x512 .f32) (f : BufTy.Contents (Elt F) arg8.view.ty)
    {Q K : Vec F S8x2048x128 .bf16} {Vt : Vec F S4x1x128x2048 .bf16} (w30 w31 : FVec F S1x1x64x512 .f32)
    (L : List (View.Piece (Elt F) S4x4x128x512 .f32))
    (h31 : w31 = mixStep Q K Vt (us 31)) (h30 : w30 = mixStep Q K Vt (us 30))

include h31 h30

/-- What steps 30 and 31 leave in front of the loop's stores. -/
theorem final_step (u : Fin 32)
    (hL : u.val < 30 → ∀ x, arg8.view.read (Elt F) (arg8.view.writes (Elt F) f L) (oIdx u x) = mixStep Q K Vt u x)
    (x : S1x1x64x512.Idx) :
    arg8.view.read (Elt F) (arg8.view.writes (Elt F) f
      (⟨Rect.unit ![3, 3, 64, 0] S1x1x64x512.size inb_S4x4x128x512_S1x1x64x512_3_3_64_0, w31⟩
        :: ⟨Rect.unit ![3, 3, 0, 0] S1x1x64x512.size inb_S4x4x128x512_S1x1x64x512_3_3_0_0, w30⟩ :: L)) (oIdx u x)
      = mixStep Q K Vt u x := by
  have o31 : (![3, 3, 64, 0] : Fin 4 → Nat) = oOff (us 31) := by decide +kernel
  have o30 : (![3, 3, 0, 0] : Fin 4 → Nat) = oOff (us 30) := by decide +kernel
  by_cases c1 : u = us 31
  · subst c1; exact (read_step_same arg8 f o31 _ _ _ _).trans (congrFun h31 x)
  · refine (read_step_other arg8 f c1 o31 _ _ _ _).trans ?_
    by_cases c0 : u = us 30
    · subst c0; exact (read_step_same arg8 f o30 _ _ _ _).trans (congrFun h30 x)
    · refine (read_step_other arg8 f c0 o30 _ _ _ _).trans (hL ?_ x)
      have hu := u.isLt
      have n1 : u.val ≠ 31 := fun e => c1 (Fin.ext e)
      have n0 : u.val ≠ 30 := fun e => c0 (Fin.ext e)
      omega

/-- Together they leave every step's mix. -/
theorem final_mixes
    (hL : ∀ u : Fin 32, u.val < 30 → ∀ x, arg8.view.read (Elt F) (arg8.view.writes (Elt F) f L) (oIdx u x) = mixStep Q K Vt u x) :
    arg8.view.read (Elt F) (arg8.view.writes (Elt F) f
      (⟨Rect.unit ![3, 3, 64, 0] S1x1x64x512.size inb_S4x4x128x512_S1x1x64x512_3_3_64_0, w31⟩
        :: ⟨Rect.unit ![3, 3, 0, 0] S1x1x64x512.size inb_S4x4x128x512_S1x1x64x512_3_3_0_0, w30⟩ :: L)) = mixes Q K Vt :=
  funext fun j => read_at_mixes arg8 _ _ _ _ j (final_step arg8 f w30 w31 L h31 h30 _ (hL _))

/-- The last tile is theirs alone. -/
theorem final_tile :
    tile (arg8.view.read (Elt F) (arg8.view.writes (Elt F) f
      (⟨Rect.unit ![3, 3, 64, 0] S1x1x64x512.size inb_S4x4x128x512_S1x1x64x512_3_3_64_0, w31⟩
        :: ⟨Rect.unit ![3, 3, 0, 0] S1x1x64x512.size inb_S4x4x128x512_S1x1x64x512_3_3_0_0, w30⟩ :: L))) 3 3
      = tile (mixes Q K Vt) 3 3 := by
  funext x
  refine read_at_mixes arg8 _ _ _ _ _ (final_step arg8 f w30 w31 L h31 h30 _ fun hu => absurd hu ?_)
  rw [uOf_val]
  show ¬ 8 * (3 + 1 * (x 0).val) + 2 * (3 + 1 * (x 1).val) + (0 + 1 * (x 2).val) / 64 < 30
  omega

end

end Cert.Proof.Attn
-- ==== Proof.Run.lean ====
module

public import proofs.«01_k».proof.Proof.Body
public import proofs.«01_k».proof.Proof.Gen.KernelIdeal.Frame

/-! # The attention kernel's body, run once

From the three staged blocks the body leaves `attnBlock` of them in the result's block. -/

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The packing `pk` of a tile loaded from contents that read as `M`. -/
theorem pack_tile (pk : Vec F S1x1x128x512 .f32 → FVec F S1x512x128 .bf16) (hpk : ∀ v, pk v = packStep v) (arg8 : Memref sig .tc .vmem S4x4x128x512 .f32) {f8 : BufTy.Contents (Elt F) arg8.view.ty}
    {M : FVec F S4x4x128x512 .f32} (h : arg8.view.read (Elt F) f8 = M) (t p : Fin 4) {o : Fin 4 → Nat}
    (ho : o = ![t.val, p.val, 0, 0]) (inb : ∀ a, o a + S1x1x128x512.size a ≤ S4x4x128x512.size a) :
    pk (View.readAt (Elt F) arg8.view (Rect.unit (s := S4x4x128x512) o S1x1x128x512.size inb).toLoadRect f8)
      = packStep (tile M t p) := by rw [hpk]; subst h ho; rfl

/-- The packing's 16 stores, each of a tile of `M`, leave `packed M`. -/
theorem read_pack (arg5 : Memref sig .tc .vmem S4x2048x128 .bf16) (f : BufTy.Contents (Elt F) arg5.view.ty)
    {M : FVec F S4x4x128x512 .f32}
    {w33 w32 w31 w30 w23 w22 w21 w20 w13 w12 w11 w10 w03 w02 w01 w00 : FVec F S1x512x128 .bf16}
    (h33 : w33 = packStep (tile M 3 3)) (h32 : w32 = packStep (tile M 3 2)) (h31 : w31 = packStep (tile M 3 1)) (h30 : w30 = packStep (tile M 3 0))
    (h23 : w23 = packStep (tile M 2 3)) (h22 : w22 = packStep (tile M 2 2)) (h21 : w21 = packStep (tile M 2 1)) (h20 : w20 = packStep (tile M 2 0))
    (h13 : w13 = packStep (tile M 1 3)) (h12 : w12 = packStep (tile M 1 2)) (h11 : w11 = packStep (tile M 1 1)) (h10 : w10 = packStep (tile M 1 0))
    (h03 : w03 = packStep (tile M 0 3)) (h02 : w02 = packStep (tile M 0 2)) (h01 : w01 = packStep (tile M 0 1)) (h00 : w00 = packStep (tile M 0 0)) :
    arg5.view.read (Elt F) (arg5.view.writes (Elt F) f
      [⟨Rect.unit ![3, 1536, 0] S1x512x128.size inb_S4x2048x128_S1x512x128_3_1536_0, w33⟩,
       ⟨Rect.unit ![2, 1536, 0] S1x512x128.size inb_S4x2048x128_S1x512x128_2_1536_0, w32⟩,
       ⟨Rect.unit ![1, 1536, 0] S1x512x128.size inb_S4x2048x128_S1x512x128_1_1536_0, w31⟩,
       ⟨Rect.unit ![0, 1536, 0] S1x512x128.size inb_S4x2048x128_S1x512x128_0_1536_0, w30⟩,
       ⟨Rect.unit ![3, 1024, 0] S1x512x128.size inb_S4x2048x128_S1x512x128_3_1024_0, w23⟩,
       ⟨Rect.unit ![2, 1024, 0] S1x512x128.size inb_S4x2048x128_S1x512x128_2_1024_0, w22⟩,
       ⟨Rect.unit ![1, 1024, 0] S1x512x128.size inb_S4x2048x128_S1x512x128_1_1024_0, w21⟩,
       ⟨Rect.unit ![0, 1024, 0] S1x512x128.size inb_S4x2048x128_S1x512x128_0_1024_0, w20⟩,
       ⟨Rect.unit ![3, 512, 0] S1x512x128.size inb_S4x2048x128_S1x512x128_3_512_0, w13⟩,
       ⟨Rect.unit ![2, 512, 0] S1x512x128.size inb_S4x2048x128_S1x512x128_2_512_0, w12⟩,
       ⟨Rect.unit ![1, 512, 0] S1x512x128.size inb_S4x2048x128_S1x512x128_1_512_0, w11⟩,
       ⟨Rect.unit ![0, 512, 0] S1x512x128.size inb_S4x2048x128_S1x512x128_0_512_0, w10⟩,
       ⟨Rect.unit ![3, 0, 0] S1x512x128.size inb_S4x2048x128_S1x512x128_3_0_0, w03⟩,
       ⟨Rect.unit ![2, 0, 0] S1x512x128.size inb_S4x2048x128_S1x512x128_2_0_0, w02⟩,
       ⟨Rect.unit ![1, 0, 0] S1x512x128.size inb_S4x2048x128_S1x512x128_1_0_0, w01⟩,
       ⟨Rect.unit ![0, 0, 0] S1x512x128.size inb_S4x2048x128_S1x512x128_0_0_0, w00⟩]) = packed M := by
  subst h33 h32 h31 h30 h23 h22 h21 h20 h13 h12 h11 h10 h03 h02 h01 h00
  exact read_packPieces arg5 f M

theorem kernelRun (𝒱 : Variants) (c : Dev nD) (bd : Option 𝒱.V) (E : Set ℕ) (i : grid0.Coords) (arg2 : Memref sig .tc .vmem S8x2048x128 .bf16) (harg2 : arg2.IsWhole) (arg3 : Memref sig .tc .vmem S8x2048x128 .bf16) (harg3 : arg3.IsWhole) (arg4 : Memref sig .tc .vmem S4x1x128x2048 .bf16) (harg4 : arg4.IsWhole) (arg5 : Memref sig .tc .vmem S4x2048x128 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x4x128x512 .f32) (harg8 : arg8.IsWhole)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty) (X8 : BufTy.Contents (Elt F) arg8.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)) : sProp 𝕄)
      ⊢ wp frame (wpE (defs₀ (F := F)) 𝒱 (c : Thread nD τ) bd) E (cc0_attention (F := F) i arg2 harg2 arg3 harg3 arg4 harg4 arg5 harg5 arg6 harg6 arg7 harg7 arg8 harg8)
        (fun _ => iprop(∃ g6, ∃ g7, ∃ g8, ∃ g5, (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8)
          ∗ ⌜arg5.view.read (Elt F) g5 = attnBlock (arg2.view.read (Elt F) X2) (arg3.view.read (Elt F) X3) (arg4.view.read (Elt F) X4)⌝)) := by
  unfold cc0_attention
  iintro ⟨H2, H3, H4, H5, H6, H7, H8⟩
  sl_exec
  sl_step
  iexists _
  iexists _
  iexists _
  iexists _
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  · ipureintro
    have h6 : arg6.view.read (Elt F) (arg6.view.writes (Elt F) arg6.view.junk (kernelRun.sl.H6_1 arg2 arg3 X2 X3))
        = scoresAt (qStep (arg2.view.read (Elt F) X2) (us 0)) (kStep (arg3.view.read (Elt F) X3) (us 0)) :=
      View.read_writes_full _ _ _ _ _
    obtain ⟨l1, l2, l3⟩ := loop_state (F := F) 𝒱 c bd i arg2 harg2 arg3 harg3 arg4 harg4 arg5 harg5 arg6 harg6 arg7 harg7 arg8 harg8 X2 X3 X4
      (arg6.view.writes (Elt F) arg6.view.junk (kernelRun.sl.H6_1 arg2 arg3 X2 X3)) X7 X8
      (k0_pay33 (View.readAt (Elt F) arg2.view (Rect.unit (s := S8x2048x128) ![0, 0, 0] S1x512x128.size inb_S8x2048x128_S1x512x128_0_0_0).toLoadRect X2)
        (View.readAt (Elt F) arg3.view (Rect.unit (s := S8x2048x128) ![0, 0, 0] S1x2048x128.size inb_S8x2048x128_S1x2048x128_0_0_0).toLoadRect X3))
      h6 rfl k0_t1_loop.trips (Nat.le_refl _)
    have ht : us (2 * k0_t1_loop.trips) = us 30 := by rw [trips_eq]
    rw [ht] at l1 l2
    rw [← View.writes_append] at l2
    have e30 : k0_pay45 (kernelRun.sl.r_4 (F := F) 𝒱 c bd i arg2 harg2 arg3 harg3 arg4 harg4 arg5 harg5 arg6 harg6 arg7 harg7 arg8 harg8 X2 X3 X4 X7 X8) (kernelRun.sl.r_5 (F := F) 𝒱 c bd i arg2 harg2 arg3 harg3 arg4 harg4 arg5 harg5 arg6 harg6 arg7 harg7 arg8 harg8 X2 X3 X4 X7 X8) (kernelRun.sl.r_6 (F := F) 𝒱 c bd i arg2 harg2 arg3 harg3 arg4 harg4 arg5 harg5 arg6 harg6 arg7 harg7 arg8 harg8 X2 X3 X4 X7 X8)
        (View.readAt (Elt F) arg4.view (Rect.unit (s := S4x1x128x2048) ![3, 0, 0, 1536] S1x1x128x512.size inb_S4x1x128x2048_S1x1x128x512_3_0_0_1536).toLoadRect X4)
        = mixStep (arg2.view.read (Elt F) X2) (arg3.view.read (Elt F) X3) (arg4.view.read (Elt F) X4) (us 30) := by
      refine Eq.trans ?_ (mixAll_congr (F := F) (b := 1#1) (by decide +kernel) l1 (s := sPart _)
        (congrArg (fun S => sPart S 0) l2) (congrArg (fun S => sPart S 1) l2) (congrArg (fun S => sPart S 2) l2) (congrArg (fun S => sPart S 3) l2)
        (v := ![View.ld (Val := Elt F) (e' := .bf16) (arg4.view.read (Elt F) X4) (Rect.unit (s := S4x1x128x2048) ![3, 0, 0, 0] S1x1x128x512.size inb_S4x1x128x2048_S1x1x128x512_3_0_0_0),
        View.ld (Val := Elt F) (e' := .bf16) (arg4.view.read (Elt F) X4) (Rect.unit (s := S4x1x128x2048) ![3, 0, 0, 512] S1x1x128x512.size inb_S4x1x128x2048_S1x1x128x512_3_0_0_512),
        View.ld (Val := Elt F) (e' := .bf16) (arg4.view.read (Elt F) X4) (Rect.unit (s := S4x1x128x2048) ![3, 0, 0, 1024] S1x1x128x512.size inb_S4x1x128x2048_S1x1x128x512_3_0_0_1024),
        View.ld (Val := Elt F) (e' := .bf16) (arg4.view.read (Elt F) X4) (Rect.unit (s := S4x1x128x2048) ![3, 0, 0, 1536] S1x1x128x512.size inb_S4x1x128x2048_S1x1x128x512_3_0_0_1536)])
        (ld_off (arg4.view.read (Elt F) X4) (by decide +kernel) inb_S4x1x128x2048_S1x1x128x512_3_0_0_0 (vInb (us 30) 0)) (ld_off (arg4.view.read (Elt F) X4) (by decide +kernel) inb_S4x1x128x2048_S1x1x128x512_3_0_0_512 (vInb (us 30) 1)) (ld_off (arg4.view.read (Elt F) X4) (by decide +kernel) inb_S4x1x128x2048_S1x1x128x512_3_0_0_1024 (vInb (us 30) 2)) (ld_off (arg4.view.read (Elt F) X4) (by decide +kernel) inb_S4x1x128x2048_S1x1x128x512_3_0_0_1536 (vInb (us 30) 3)))
      rfl
    have s31 : arg7.view.read (Elt F) (arg7.view.writes (Elt F) arg7.view.junk (kernelRun.sl.H7_1 (F := F) 𝒱 c bd i arg2 harg2 arg3 harg3 arg4 harg4 arg5 harg5 arg6 harg6 arg7 harg7 arg8 harg8 X2 X3 X4 X7 X8))
        = scoresAt (qStep (arg2.view.read (Elt F) X2) (us 31)) (kStep (arg3.view.read (Elt F) X3) (us 31)) := by
      unfold kernelRun.sl.H7_1
      refine (View.read_writes_full _ _ _ _ _).trans ?_
      exact congrArg₂ scoresAt (ld_off (arg2.view.read (Elt F) X2) (show ![7, 1536, 0] = qOff (us 31) by decide +kernel) inb_S8x2048x128_S1x512x128_7_1536_0 (qInb _))
        (ld_off (arg3.view.read (Elt F) X3) (show ![7, 0, 0] = kOff (us 31) by decide +kernel) inb_S8x2048x128_S1x2048x128_7_0_0 (kInb _))
    have e31 : k0_pay52 (kernelRun.sl.r_1 arg2 arg3 X2 X3) (kernelRun.sl.r_7 (F := F) 𝒱 c bd i arg2 harg2 arg3 harg3 arg4 harg4 arg5 harg5 arg6 harg6 arg7 harg7 arg8 harg8 X2 X3 X4 X7 X8) (kernelRun.sl.r_8 (F := F) 𝒱 c bd i arg2 harg2 arg3 harg3 arg4 harg4 arg5 harg5 arg6 harg6 arg7 harg7 arg8 harg8 X2 X3 X4 X7 X8)
        (kernelRun.sl.r_9 arg4 X4) (kernelRun.sl.r_10 (F := F) 𝒱 c bd i arg2 harg2 arg3 harg3 arg4 harg4 arg5 harg5 arg6 harg6 arg7 harg7 arg8 harg8 X2 X3 X4 X7 X8) (kernelRun.sl.v100 (F := F) 𝒱 c bd i arg2 harg2 arg3 harg3 arg4 harg4 arg5 harg5 arg6 harg6 arg7 harg7 arg8 harg8 X2 X3 X4 X7 X8)
        (View.readAt (Elt F) arg4.view (Rect.unit (s := S4x1x128x2048) ![3, 0, 0, 1024] S1x1x128x512.size inb_S4x1x128x2048_S1x1x128x512_3_0_0_1024).toLoadRect X4) (kernelRun.sl.v112 (F := F) 𝒱 c bd i arg2 harg2 arg3 harg3 arg4 harg4 arg5 harg5 arg6 harg6 arg7 harg7 arg8 harg8 X2 X3 X4 X7 X8)
        (View.readAt (Elt F) arg4.view (Rect.unit (s := S4x1x128x2048) ![3, 0, 0, 1536] S1x1x128x512.size inb_S4x1x128x2048_S1x1x128x512_3_0_0_1536).toLoadRect X4)
        = mixStep (arg2.view.read (Elt F) X2) (arg3.view.read (Elt F) X3) (arg4.view.read (Elt F) X4) (us 31) := by
      refine Eq.trans ?_ (mixAll_congr (F := F) (b := 0#1) (by decide +kernel)
        (congrArg₂ scoreMax (ld_off (arg2.view.read (Elt F) X2) (show ![7, 1536, 0] = qOff (us 31) by decide +kernel) inb_S8x2048x128_S1x512x128_7_1536_0 (qInb _))
          (ld_off (arg3.view.read (Elt F) X3) (show ![7, 0, 0] = kOff (us 31) by decide +kernel) inb_S8x2048x128_S1x2048x128_7_0_0 (kInb _))) (s := sPart _)
        (congrArg (fun S => sPart S 0) s31) (congrArg (fun S => sPart S 1) s31) (congrArg (fun S => sPart S 2) s31) (congrArg (fun S => sPart S 3) s31)
        (v := ![View.ld (Val := Elt F) (e' := .bf16) (arg4.view.read (Elt F) X4) (Rect.unit (s := S4x1x128x2048) ![3, 0, 0, 0] S1x1x128x512.size inb_S4x1x128x2048_S1x1x128x512_3_0_0_0),
        View.ld (Val := Elt F) (e' := .bf16) (arg4.view.read (Elt F) X4) (Rect.unit (s := S4x1x128x2048) ![3, 0, 0, 512] S1x1x128x512.size inb_S4x1x128x2048_S1x1x128x512_3_0_0_512),
        View.ld (Val := Elt F) (e' := .bf16) (arg4.view.read (Elt F) X4) (Rect.unit (s := S4x1x128x2048) ![3, 0, 0, 1024] S1x1x128x512.size inb_S4x1x128x2048_S1x1x128x512_3_0_0_1024),
        View.ld (Val := Elt F) (e' := .bf16) (arg4.view.read (Elt F) X4) (Rect.unit (s := S4x1x128x2048) ![3, 0, 0, 1536] S1x1x128x512.size inb_S4x1x128x2048_S1x1x128x512_3_0_0_1536)])
        (ld_off (arg4.view.read (Elt F) X4) (by decide +kernel) inb_S4x1x128x2048_S1x1x128x512_3_0_0_0 (vInb (us 31) 0)) (ld_off (arg4.view.read (Elt F) X4) (by decide +kernel) inb_S4x1x128x2048_S1x1x128x512_3_0_0_512 (vInb (us 31) 1)) (ld_off (arg4.view.read (Elt F) X4) (by decide +kernel) inb_S4x1x128x2048_S1x1x128x512_3_0_0_1024 (vInb (us 31) 2)) (ld_off (arg4.view.read (Elt F) X4) (by decide +kernel) inb_S4x1x128x2048_S1x1x128x512_3_0_0_1536 (vInb (us 31) 3)))
      rfl
    have hM : arg8.view.read (Elt F) (arg8.view.writes (Elt F) X8 (kernelRun.sl.H8_2 (F := F) 𝒱 c bd i arg2 harg2 arg3 harg3 arg4 harg4 arg5 harg5 arg6 harg6 arg7 harg7 arg8 harg8 X2 X3 X4 X7 X8)) = mixes (arg2.view.read (Elt F) X2) (arg3.view.read (Elt F) X3) (arg4.view.read (Elt F) X4) := by
     unfold kernelRun.sl.H8_2
     refine final_mixes arg8 X8 _ _ _ ?_ ?_ fun u hu x => l3 u (by have := trips_eq; omega) x
     · exact e31
     · exact e30
    have h33 : k0_pay68 (kernelRun.sl.v239 (F := F) 𝒱 c bd i arg2 harg2 arg3 harg3 arg4 harg4 arg5 harg5 arg6 harg6 arg7 harg7 arg8 harg8 X2 X3 X4 X7 X8) = packStep (tile (mixes (arg2.view.read (Elt F) X2) (arg3.view.read (Elt F) X3) (arg4.view.read (Elt F) X4)) 3 3) := by
      unfold kernelRun.sl.v239 kernelRun.sl.H8_2
      exact congrArg packStep (final_tile arg8 arg8.view.junk _ _ _ e31 e30)
    generalize arg8.view.writes (Elt F) X8 (kernelRun.sl.H8_2 (F := F) 𝒱 c bd i arg2 harg2 arg3 harg3 arg4 harg4 arg5 harg5 arg6 harg6 arg7 harg7 arg8 harg8 X2 X3 X4 X7 X8) = f8 at hM ⊢
    clear l1 l2 l3 h6
    unfold attnBlock
    refine read_pack arg5 _ ?_ ?_ ?_ ?_ ?_ ?_ ?_ ?_ ?_ ?_ ?_ ?_ ?_ ?_ ?_ ?_
    · exact h33
    · exact pack_tile k0_pay67 (fun _ => rfl) arg8 hM 3 2 rfl inb_S4x4x128x512_S1x1x128x512_3_2_0_0
    · exact pack_tile k0_pay66 (fun _ => rfl) arg8 hM 3 1 rfl inb_S4x4x128x512_S1x1x128x512_3_1_0_0
    · exact pack_tile k0_pay65 (fun _ => rfl) arg8 hM 3 0 rfl inb_S4x4x128x512_S1x1x128x512_3_0_0_0
    · exact pack_tile k0_pay64 (fun _ => rfl) arg8 hM 2 3 rfl inb_S4x4x128x512_S1x1x128x512_2_3_0_0
    · exact pack_tile k0_pay63 (fun _ => rfl) arg8 hM 2 2 rfl inb_S4x4x128x512_S1x1x128x512_2_2_0_0
    · exact pack_tile k0_pay62 (fun _ => rfl) arg8 hM 2 1 rfl inb_S4x4x128x512_S1x1x128x512_2_1_0_0
    · exact pack_tile k0_pay61 (fun _ => rfl) arg8 hM 2 0 rfl inb_S4x4x128x512_S1x1x128x512_2_0_0_0
    · exact pack_tile k0_pay60 (fun _ => rfl) arg8 hM 1 3 rfl inb_S4x4x128x512_S1x1x128x512_1_3_0_0
    · exact pack_tile k0_pay59 (fun _ => rfl) arg8 hM 1 2 rfl inb_S4x4x128x512_S1x1x128x512_1_2_0_0
    · exact pack_tile k0_pay58 (fun _ => rfl) arg8 hM 1 1 rfl inb_S4x4x128x512_S1x1x128x512_1_1_0_0
    · exact pack_tile k0_pay57 (fun _ => rfl) arg8 hM 1 0 rfl inb_S4x4x128x512_S1x1x128x512_1_0_0_0
    · exact pack_tile k0_pay56 (fun _ => rfl) arg8 hM 0 3 rfl inb_S4x4x128x512_S1x1x128x512_0_3_0_0
    · exact pack_tile k0_pay55 (fun _ => rfl) arg8 hM 0 2 rfl inb_S4x4x128x512_S1x1x128x512_0_2_0_0
    · exact pack_tile k0_pay54 (fun _ => rfl) arg8 hM 0 1 rfl inb_S4x4x128x512_S1x1x128x512_0_1_0_0
    · exact pack_tile k0_pay53 (fun _ => rfl) arg8 hM 0 0 rfl inb_S4x4x128x512_S1x1x128x512_0_0_0_0

end Cert.Proof.Attn
-- ==== Proof.Pipe.lean ====
module

public import proofs.«01_k».proof.Proof.Run

/-! # The attention kernel under its pipeline

Each of the 32 grid points is handed one sequence's blocks and leaves `attnBlock` of them in the result's block. -/

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel calls nothing. -/
abbrev 𝒱₀ : Variants := Variants.none

/-- The body's run in terms of what the buffers read as. -/
theorem kernelOwns (c : Dev nD) (E : Set ℕ) (i : grid0.Coords) (arg2 : Memref sig .tc .vmem S8x2048x128 .bf16) (harg2 : arg2.IsWhole) (arg3 : Memref sig .tc .vmem S8x2048x128 .bf16) (harg3 : arg3.IsWhole) (arg4 : Memref sig .tc .vmem S4x1x128x2048 .bf16) (harg4 : arg4.IsWhole) (arg5 : Memref sig .tc .vmem S4x2048x128 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x4x128x512 .f32) (harg8 : arg8.IsWhole)
    (Q K : Vec F S8x2048x128 .bf16) (Vt : Vec F S4x1x128x2048 .bf16) (R : PUnit → sProp 𝕄) :
    (iprop(owns (c : Thread nD τ) arg2 fullShare Q ∗ owns (c : Thread nD τ) arg3 fullShare K ∗ owns (c : Thread nD τ) arg4 fullShare Vt
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare Q ∗ owns (c : Thread nD τ) arg3 fullShare K ∗ owns (c : Thread nD τ) arg4 fullShare Vt
          ∗ owns (c : Thread nD τ) arg5 fullShare (attnBlock Q K Vt) ∗ (∃ d, owns (c : Thread nD τ) arg6 fullShare d)
          ∗ (∃ d, owns (c : Thread nD τ) arg7 fullShare d) ∗ (∃ d, owns (c : Thread nD τ) arg8 fullShare d)) -∗ R ⟨⟩)) : sProp 𝕄)
      ⊢ wp frame (wpE (defs₀ (F := F)) 𝒱₀ (c : Thread nD τ) none) E (cc0_attention (F := F) i arg2 harg2 arg3 harg3 arg4 harg4 arg5 harg5 arg6 harg6 arg7 harg7 arg8 harg8) R := by
  unfold owns
  iintro ⟨⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, Hk⟩
  subst h2 h3 h4
  iapply (wp_wand_r frame _ E)
  isplitl [H2 H3 H4 H5 H6 H7 H8]
  · iapply (kernelRun 𝒱₀ c none E i arg2 harg2 arg3 harg3 arg4 harg4 arg5 harg5 arg6 harg6 arg7 harg7 arg8 harg8 f2 f3 f4 f5 f6 f7 f8)
    isplitl [H2]
    · iexact H2
    isplitl [H3]
    · iexact H3
    isplitl [H4]
    · iexact H4
    isplitl [H5]
    · iexact H5
    isplitl [H6]
    · iexact H6
    isplitl [H7]
    · iexact H7
    iexact H8
  · iintro %u ⟨%g6, %g7, %g8, %g5, H2, H3, H4, H5, H6, H7, H8, %h5⟩
    iapply Hk
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; exact h5
      iexact H5
    isplitl [H6]
    · iexists (arg6.view.read (Elt F) g6); iexists g6; isplitr; · ipureintro; rfl
      iexact H6
    isplitl [H7]
    · iexists (arg7.view.read (Elt F) g7); iexists g7; isplitr; · ipureintro; rfl
      iexact H7
    iexists (arg8.view.read (Elt F) g8); iexists g8; isplitr; · ipureintro; rfl
    iexact H8

variable (m : (ℓ : Loc nD τ sig) → Buf (Elt F) ℓ) (ρ : Dev nD → PrngReg)

/-- The block of the result at point `t`. -/
def outAt (c : Dev nD) (t : Fin cfg0.N) : Vec F S4x2048x128 .bf16 :=
  attnBlock (iblk m c 0 t) (iblk m c 1 t) (iblk m c 2 t)

/-- What the pipeline finds and leaves: inputs at their blocks, the result at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d

/-- The scratch buffers, held through whole memrefs. -/
theorem scratch_eq (c : Dev nD) :
    (Pipeline.ΦA spec0 c : sProp 𝕄) = iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)) ∗ ∃ r, prngReg c r) := by
  unfold Pipeline.ΦA
  rw [scopedRest0_eq]
  simp only [owns_whole]

theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3, scratch_eq]
  unfold outAt
  iintro ⟨⟨⟨H6, H7, H8⟩, Hp⟩, Ho, ⟨%d0, H0⟩, ⟨%d1, H1⟩, ⟨%d2, H2⟩, ⟨%d3, H3⟩⟩
  iapply (kernelOwns c Set.univ _ _ _ _ _ _ _ _ _ _ _ _ _ _ _ (iblk m c 0 t) (iblk m c 1 t) (iblk m c 2 t) _)
  isplitl [H0]
  · iexact H0
  isplitl [H1]
  · iexact H1
  isplitl [H2]
  · iexact H2
  isplitl [H3]
  · iexists _; iexact H3
  isplitl [H6]
  · iexact H6
  isplitl [H7]
  · iexact H7
  isplitl [H8]
  · iexact H8
  iintro ⟨H0, H1, H2, H3, H6, H7, H8⟩
  isplitl [H6 H7 H8 Hp]
  · isplitl [H6 H7 H8]
    · isplitl [H6]
      · iexact H6
      isplitl [H7]
      · iexact H7
      iexact H8
    iexact Hp
  isplitl [Ho]
  · iexact Ho
  isplitl [H0]
  · iexact H0
  isplitl [H1]
  · iexact H1
  isplitl [H2]
  · iexact H2
  iexact H3

set_option backward.isDefEq.respectTransparency.types false in
/-- Every execution ends, with every array at what the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The arguments end as they began. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.Proof.Attn
-- ==== Proof.Frames.lean ====
module

public import proofs.«01_k».proof.Defs
public import proofs.«01_k».proof.Proof.Gen.Kernel
public import proofs.«01_k».proof.Proof.Pipe

/-! # The kernel's frames

The two programs have one text, so the run proved once for any floats serves both. -/

@[expose] public section

set_option maxRecDepth 16384

noncomputable section

namespace Cert.Proof.Attn

open Idealize.ShloMosaic Idealize.SL.Sem

theorem frame_kernelIdeal : Cert.quiescent_KernelIdeal := fun m ρ _ => frame_main (F := Ideal) m ρ

theorem bodies_eq : @Cert.Kernel.defs₀ Bits _ _ = @Cert.KernelIdeal.defs₀ Bits _ _ := by
  unfold Cert.Kernel.defs₀ Cert.KernelIdeal.defs₀
  refine congrArg Defs.onTc ?_
  funext l x
  match l, x with
  | ⟨0, _⟩, x => rfl

theorem defs_eq : @Cert.Kernel.defs Bits _ _ = @Cert.KernelIdeal.defs Bits _ _ :=
  congrArg (Pipeline.defs Cert.Kernel.pcfgs) bodies_eq

set_option maxHeartbeats 4000000 in
theorem frame_kernel : Cert.quiescent_Kernel := fun m ρ _ => by
  have h := frame_main (F := Bits) m ρ
  rw [← defs_eq] at h
  exact h

end Cert.Proof.Attn
-- ==== Proof.Finite.lean ====
module

public import proofs.«01_k».proof.Pre_finite_scores
public import Idealize.ShloMosaic.Lib.ReduceAll
public import Idealize.ShloMosaic.Lib.ValueIdx
public import Idealize.ShloMosaic.Lib.Pipeline.Value
public import Idealize.ShloMosaic.PureOps.Ideal.Laws

/-! # What the precondition says: every query and every key is a real number -/

@[expose] public section

set_option maxRecDepth 16384

noncomputable section

namespace Cert.Proof.Finite

open Cert.Pre_finite_scores
open Idealize.ShloMosaic Idealize.ShloMosaic.ValueIdx

theorem facts : Cert.Pre_finite_scores.Facts := ⟨by decide, by decide, by decide⟩

attribute [local instance] facts

/-- A magnitude below +∞ is a real number's. -/
theorem real_of_lt (x : Ideal .f32)
    (h : FloatOps.cmpf .olt (FloatOps.hostAbsf x) (FloatOps.ofBits .f32 0x7F800000#32 : Ideal .f32) = 1#1) : ∃ a : ℝ, x = (a : EReal) := by
  have ht : (FloatOps.ofBits .f32 0x7F800000#32 : Ideal .f32) = (⊤ : EReal) := by simp [Ideal.ofBits, Ideal.ieee]
  rw [ht] at h
  change Ideal.cmp .olt (max x (-x) : EReal) ⊤ = 1#1 at h
  induction x using EReal.rec with
  | bot => simp [Ideal.cmp] at h
  | top => simp [Ideal.cmp] at h
  | coe a => exact ⟨a, rfl⟩

/-- An array all of whose magnitudes are below +∞ holds real numbers. -/
theorem real_of_all (x : FVec Ideal S32x2048x8x96 .f32) (b : S32x2048x8x96.Idx → Ideal .f32)
    (hb : ∀ i, b i = FloatOps.ofBits .f32 0x7F800000#32)
    (h : Host.reduce IntOp.andi (cmpf .olt (Host.absf x) b) (constantI S_ 1 1#1) Facts.reducesTo_S32x2048x8x96_S_d0_1_2_3 Facts.h_S_ ix0 = 1#1)
    (i : S32x2048x8x96.Idx) : ∃ a : ℝ, x i = (a : EReal) := by
  haveI : Subsingleton S_.Idx := ⟨fun p q => funext fun a => a.elim0⟩
  have e := Host.reduce_andi_all _ _ _ _ _ h i
  rw [cmpf_apply, hb] at e
  exact real_of_lt _ e

theorem real_args (x0 x1 : FVec Ideal S32x2048x8x96 .f32) (x2 : FVec Ideal S32x2048x8x64 .f32)
    (h : Cert.Pre_finite_scores.fn (F := Ideal) x0 x1 x2 = fun _ => 1#1) :
    (∀ i, ∃ a : ℝ, x0 i = (a : EReal)) ∧ ∀ i, ∃ a : ℝ, x1 i = (a : EReal) := by
  have e := congrFun h ix0
  dsimp only [Cert.Pre_finite_scores.fn] at e
  have hb : ∀ i, broadcastInDim S32x2048x8x96 ![] Facts.bcast_S_S32x2048x8x96 (constant S_ .f32 0x7F800000#32 : FVec Ideal S_ .f32) i
      = FloatOps.ofBits .f32 0x7F800000#32 := fun i => (broadcastInDim_apply _ _ _ i ix0 fun a => a.elim0).trans rfl
  generalize broadcastInDim S32x2048x8x96 ![] Facts.bcast_S_S32x2048x8x96 (constant S_ .f32 0x7F800000#32 : FVec Ideal S_ .f32) = b at e hb
  obtain ⟨e0, e1⟩ := IntOp.andi_eq_one.1 e
  exact ⟨real_of_all x0 b hb e0, real_of_all x1 b hb e1⟩

end Cert.Proof.Finite
-- ==== Proof.BlockValue.lean ====
module

public import proofs.«01_k».proof.Proof.Body
public import Idealize.ShloMosaic.Lib.ValueIdx
public import Idealize.ShloMosaic.Lib.Pipeline.ValueKit.Tiles
public import Idealize.ShloMosaic.PureOps.Ideal.Laws

/-! # What a block of the result is, over the extended reals

`attnBlock` read at an index: the values weighted by powers of two of the scores less their largest, summed and
divided by the sum of the weights. -/

@[expose] public section

set_option maxRecDepth 16384

noncomputable section

namespace Cert.Proof.Attn

open Cert.KernelIdeal Cert.KernelIdeal.Gen
open Idealize.ShloMosaic Idealize.ShloMosaic.TcCoe Idealize.ShloMosaic.ValueIdx

/-! ## Constants -/

theorem bits_zero : (FloatOps.ofBits .f32 0x00000000#32 : Ideal .f32) = (0 : EReal) := by
  simp [Ideal.ofBits, Ideal.ieee]
theorem bits_one : (FloatOps.ofBits .f32 0x3F800000#32 : Ideal .f32) = (1 : EReal) := by
  simp [Ideal.ofBits, Ideal.ieee, -EReal.coe_mul]; norm_num
theorem bits_bot : (FloatOps.ofBits .f32 0xFF800000#32 : Ideal .f32) = (⊥ : EReal) := by
  simp [Ideal.ofBits, Ideal.ieee]

/-! ## The products' index maps -/

theorem score_lhs (j : S2048x512.Idx) (q : dot_S2048x128_S512x128_S2048x512_1_1_0_0_n_n.contr.Idx) :
    (dot_S2048x128_S512x128_S2048x512_1_1_0_0_n_n.lhsIdx j q 0).val = (j 0).val
    ∧ (dot_S2048x128_S512x128_S2048x512_1_1_0_0_n_n.lhsIdx j q 1).val = (q ⟨0, by decide⟩).val := ⟨rfl, rfl⟩
theorem score_rhs (j : S2048x512.Idx) (q : dot_S2048x128_S512x128_S2048x512_1_1_0_0_n_n.contr.Idx) :
    (dot_S2048x128_S512x128_S2048x512_1_1_0_0_n_n.rhsIdx j q 0).val = (j 1).val
    ∧ (dot_S2048x128_S512x128_S2048x512_1_1_0_0_n_n.rhsIdx j q 1).val = (q ⟨0, by decide⟩).val := ⟨rfl, rfl⟩
theorem mix_lhs (j : S128x512.Idx) (q : dot_S128x512_S512x512_S128x512_1_0_0_1_n_n.contr.Idx) :
    (dot_S128x512_S512x512_S128x512_1_0_0_1_n_n.lhsIdx j q 0).val = (j 0).val
    ∧ (dot_S128x512_S512x512_S128x512_1_0_0_1_n_n.lhsIdx j q 1).val = (q ⟨0, by decide⟩).val := ⟨rfl, rfl⟩
theorem mix_rhs (j : S128x512.Idx) (q : dot_S128x512_S512x512_S128x512_1_0_0_1_n_n.contr.Idx) :
    (dot_S128x512_S512x512_S128x512_1_0_0_1_n_n.rhsIdx j q 0).val = (q ⟨0, by decide⟩).val
    ∧ (dot_S128x512_S512x512_S128x512_1_0_0_1_n_n.rhsIdx j q 1).val = (j 1).val := ⟨rfl, rfl⟩

/-! ## One step at an index -/

theorem scores_apply (q : Vec Ideal S1x512x128 .bf16) (k : Vec Ideal S1x2048x128 .bf16) (a : Fin 2048) (b : Fin 512) :
    scores q k (ix2 a b) = ∑ l : Fin 128, k (ix3 0 a l) * q (ix3 0 b l) := by
  have e : ∀ l : Fin 128,
      shapeCast S2048x128 k shapeCasts_S1x2048x128_S2048x128 (dot_S2048x128_S512x128_S2048x512_1_1_0_0_n_n.lhsIdx (ix2 a b)
        ((contrEquiv1 dot_S2048x128_S512x128_S2048x512_1_1_0_0_n_n 128 rfl rfl).symm l)) = k (ix3 0 a l)
      ∧ shapeCast S512x128 q shapeCasts_S1x512x128_S512x128 (dot_S2048x128_S512x128_S2048x512_1_1_0_0_n_n.rhsIdx (ix2 a b)
        ((contrEquiv1 dot_S2048x128_S512x128_S2048x512_1_1_0_0_n_n 128 rfl rfl).symm l)) = q (ix3 0 b l) := fun l => by
    have hl := contrEquiv1_symm_val dot_S2048x128_S512x128_S2048x512_1_1_0_0_n_n 128 rfl rfl l
    constructor
    · refine shapeCast_apply _ _ _ _ ?_
      rw [Shape.rowMajor_val_three, Shape.rowMajor_val_two, (score_lhs _ _).1, (score_lhs _ _).2, hl]
      show (0 * 2048 + a.val) * 128 + l.val = a.val * 128 + l.val
      omega
    · refine shapeCast_apply _ _ _ _ ?_
      rw [Shape.rowMajor_val_three, Shape.rowMajor_val_two, (score_rhs _ _).1, (score_rhs _ _).2, hl]
      show (0 * 512 + b.val) * 128 + l.val = b.val * 128 + l.val
      omega
  unfold scores
  simp only [matmul]
  rw [Ideal.matmul_apply, ← Equiv.sum_comp (contrEquiv1 dot_S2048x128_S512x128_S2048x512_1_1_0_0_n_n 128 rfl rfl).symm]
  refine (congr (congrArg _ bits_zero) (Finset.sum_congr rfl fun l _ => ?_)).trans (zero_add _)
  rw [(e l).1, (e l).2]

theorem scoreMax_apply (q : Vec Ideal S1x512x128 .bf16) (k : Vec Ideal S1x2048x128 .bf16) (b : Fin 512) :
    scoreMax q k (ix2 0 b) = Finset.univ.sup fun a : Fin 2048 => (scores q k (ix2 a b) : EReal) := by
  unfold scoreMax
  rw [shapeCast_apply _ _ (ix2 0 b) (ix1 b) (by
      rw [Shape.rowMajor_val_one, Shape.rowMajor_val_two]; show b.val = 0 * 512 + b.val; omega)]
  refine (Ideal.multiReduction_maximumf_single _ _ _ _ _ _).trans ?_
  rw [bits_bot]
  show Finset.univ.fold max ⊥ _ = Finset.univ.fold max ⊥ _
  congr 1

theorem weights_apply (mx : FVec Ideal S1x512 .f32) (s : Vec Ideal S512x512 .f32) (a b : Fin 512) :
    weights mx s (ix2 a b) = Ideal.exp2 (s (ix2 a b) - mx (ix2 0 b)) := by
  unfold weights
  show Ideal.exp2 (s (ix2 a b) - broadcastTo S512x512 mx broadcasts_S1x512_S512x512 (ix2 a b)) = _
  rw [broadcastTo_apply mx broadcasts_S1x512_S512x512 (ix2 a b) (ix2 0 b) fun x => by match x with | ⟨0, _⟩ => rfl | ⟨1, _⟩ => rfl]

theorem weightSum_apply (mx : FVec Ideal S1x512 .f32) (s : Vec Ideal S512x512 .f32) (b : Fin 512) :
    weightSum mx s (ix2 0 b) = ∑ a : Fin 512, (weights mx s (ix2 a b) : EReal) := by
  unfold weightSum
  rw [shapeCast_apply _ _ (ix2 0 b) (ix1 b) (by
      rw [Shape.rowMajor_val_one, Shape.rowMajor_val_two]; show b.val = 0 * 512 + b.val; omega)]
  refine (Ideal.multiReduction_add_single _ _ _ _ _ _).trans ?_
  refine Finset.sum_congr rfl fun a _ => ?_
  exact congrArg (weights mx s) (funext fun x => Fin.ext (by match x with | ⟨0, _⟩ => rfl | ⟨1, _⟩ => rfl))

theorem weighted_apply (mx : FVec Ideal S1x512 .f32) (s : Vec Ideal S512x512 .f32) (v : Vec Ideal S1x1x128x512 .bf16)
    (r : Fin 128) (b : Fin 512) :
    weighted mx s v (ix2 r b) = ∑ a : Fin 512, v (ix4 0 0 r a) * (weights mx s (ix2 a b) : EReal) := by
  have e : ∀ l : Fin 512,
      shapeCast S128x512 v shapeCasts_S1x1x128x512_S128x512 (dot_S128x512_S512x512_S128x512_1_0_0_1_n_n.lhsIdx (ix2 r b)
        ((contrEquiv1 dot_S128x512_S512x512_S128x512_1_0_0_1_n_n 512 rfl rfl).symm l)) = v (ix4 0 0 r l)
      ∧ (truncf .bf16 (weights mx s) bitsLt_bf16_f32 : FVec Ideal S512x512 .bf16) (dot_S128x512_S512x512_S128x512_1_0_0_1_n_n.rhsIdx (ix2 r b)
        ((contrEquiv1 dot_S128x512_S512x512_S128x512_1_0_0_1_n_n 512 rfl rfl).symm l)) = weights mx s (ix2 l b) := fun l => by
    have hl := contrEquiv1_symm_val dot_S128x512_S512x512_S128x512_1_0_0_1_n_n 512 rfl rfl l
    constructor
    · refine shapeCast_apply _ _ _ _ ?_
      rw [Shape.rowMajor_val_four, Shape.rowMajor_val_two, (mix_lhs _ _).1, (mix_lhs _ _).2, hl]
      show ((0 * 1 + 0) * 128 + r.val) * 512 + l.val = r.val * 512 + l.val
      omega
    · rw [truncf_apply]
      refine congrArg (weights mx s) (funext fun x => Fin.ext ?_)
      match x with
      | ⟨0, _⟩ => exact (mix_rhs _ _).1.trans hl
      | ⟨1, _⟩ => exact (mix_rhs _ _).2
  unfold weighted
  simp only [matmul]
  rw [Ideal.matmul_apply, ← Equiv.sum_comp (contrEquiv1 dot_S128x512_S512x512_S128x512_1_0_0_1_n_n 512 rfl rfl).symm]
  refine (congr (congrArg _ bits_zero) (Finset.sum_congr rfl fun l _ => ?_)).trans (zero_add _)
  rw [(e l).1, (e l).2]

/-- Key `a` of quarter `r`. -/
def key (r : Fin 4) (a : Fin 512) : Fin 2048 := ⟨512 * r.val + a.val, by have := r.isLt; have := a.isLt; omega⟩

/-- A sum over the keys is the sum of its quarters. -/
theorem sum_quarters (f : Fin 2048 → EReal) :
    ∑ a, f a = ((∑ a, f (key 0 a) + ∑ a, f (key 1 a)) + ∑ a, f (key 2 a)) + ∑ a, f (key 3 a) := by
  rw [← Equiv.sum_comp (finProdFinEquiv (m := 4) (n := 512)) f, Fintype.sum_prod_type, Fin.sum_univ_four]
  refine congr (congrArg _ (congr (congrArg _ (congr (congrArg _ ?_) ?_)) ?_)) ?_ <;>
  · refine Finset.sum_congr rfl fun a _ => congrArg f (Fin.ext ?_)
    exact Nat.add_comm _ _

/-- Head, query row and lane: a position in the block of the result, over the extended reals. -/
def blockMix (Q K : Vec Ideal S8x2048x128 .bf16) (Vt : Vec Ideal S4x1x128x2048 .bf16) (h : Fin 8) (r : Fin 2048) (p : Fin 4)
    (l : Fin 128) : EReal :=
  (∑ a : Fin 2048, Vt (ix4 p 0 l a) * Ideal.exp2 ((∑ d : Fin 128, K (ix3 h a d) * Q (ix3 h r d))
      - Finset.univ.sup fun a : Fin 2048 => ∑ d : Fin 128, K (ix3 h a d) * Q (ix3 h r d)))
    * Ideal.div 1 (∑ a : Fin 2048, Ideal.exp2 ((∑ d : Fin 128, K (ix3 h a d) * Q (ix3 h r d))
      - Finset.univ.sup fun a : Fin 2048 => ∑ d : Fin 128, K (ix3 h a d) * Q (ix3 h r d)))

theorem qStep_apply (X : Vec Ideal S8x2048x128 .bf16) (u : Fin 32) (h : Fin 8) (r : Fin 2048) (b : Fin 512) (l : Fin 128)
    (hh : h.val = u.val % 8) (hr : r.val = 512 * (u.val / 8) + b.val) : qStep X u (ix3 0 b l) = X (ix3 h r l) :=
  View.ld_unit_apply_of (Val := Elt Ideal) (e := .bf16) X _ _ _ _ _ fun x => by
    match x with
    | ⟨0, _⟩ => exact hh
    | ⟨1, _⟩ => exact hr
    | ⟨2, _⟩ => exact (Nat.zero_add _).symm

theorem kStep_apply (X : Vec Ideal S8x2048x128 .bf16) (u : Fin 32) (h : Fin 8) (a : Fin 2048) (l : Fin 128)
    (hh : h.val = u.val % 8) : kStep X u (ix3 0 a l) = X (ix3 h a l) :=
  View.ld_unit_apply_of (Val := Elt Ideal) (e := .bf16) X _ _ _ _ _ fun x => by
    match x with
    | ⟨0, _⟩ => exact hh
    | ⟨1, _⟩ => exact (Nat.zero_add _).symm
    | ⟨2, _⟩ => exact (Nat.zero_add _).symm

theorem vStep_apply (X : Vec Ideal S4x1x128x2048 .bf16) (u : Fin 32) (q : Fin 4) (p : Fin 4) (l : Fin 128) (a : Fin 512)
    (hp : p.val = u.val % 8 / 2) : vStep X u q (ix4 0 0 l a) = X (ix4 p 0 l (key q a)) :=
  View.ld_unit_apply_of (Val := Elt Ideal) (e := .bf16) X _ _ _ _ _ fun x => by
    match x with
    | ⟨0, _⟩ => exact hp
    | ⟨1, _⟩ => rfl
    | ⟨2, _⟩ => exact (Nat.zero_add _).symm
    | ⟨3, _⟩ => rfl

theorem sPart_apply (q : Vec Ideal S1x512x128 .bf16) (k : Vec Ideal S1x2048x128 .bf16) (r : Fin 4) (a b : Fin 512) :
    sPart (scoresAt q k) r (ix2 a b) = scores q k (ix2 (key r a) b) := by
  refine (View.ld_unit_apply_of (Val := Elt Ideal) (e := .f32) (scoresAt q k) _ _ _ _ (ix2 (key r a) b) fun x => ?_).trans ?_
  · match x with
    | ⟨0, _⟩ => rfl
    | ⟨1, _⟩ => exact (Nat.zero_add _).symm
  · exact shapeCast_apply _ _ _ _ rfl

/-- A mix at a row and a query: the head's half of the pair, divided by the sum of the weights. -/
theorem mixAll_apply (e : BitVec 1) (mx : FVec Ideal S1x512 .f32) (s : Fin 4 → Vec Ideal S512x512 .f32)
    (v : Fin 4 → Vec Ideal S1x1x128x512 .bf16) (x : Fin 64) (b : Fin 512) (l : Fin 128) (o : Nat) (ho : o < 2)
    (he : e = if o = 0 then 1#1 else 0#1) (hl : l.val = 64 * o + x.val) :
    mixAll e mx s v (ix4 0 0 x b) = (weighted4 mx s v (ix2 l b) : EReal) * Ideal.div 1 (weightSum4 mx s (ix2 0 b) : EReal) := by
  unfold mixAll
  generalize weighted4 mx s v = A
  generalize weightSum4 mx s = B
  refine (shapeCast_apply _ _ (ix4 0 0 x b) (ix2 x b) ?_).trans ?_
  · rw [Shape.rowMajor_val_two, Shape.rowMajor_val_four]
    show x.val * 512 + b.val = ((0 * 1 + 0) * 64 + x.val) * 512 + b.val
    omega
  rw [mulf_apply]
  refine congr (congrArg _ ?_) ?_
  · subst he
    split
    · rw [select_one]
      refine extractStridedSlice_apply _ _ _ _ _ fun z => ?_
      match z with
      | ⟨0, _⟩ => show l.val = 0 + x.val; omega
      | ⟨1, _⟩ => exact (Nat.zero_add _).symm
    · rw [select_zero]
      refine extractStridedSlice_apply _ _ _ _ _ fun z => ?_
      match z with
      | ⟨0, _⟩ => show l.val = 64 + x.val; omega
      | ⟨1, _⟩ => exact (Nat.zero_add _).symm
  · refine (broadcastTo_apply _ broadcasts_S1x512_S64x512 (ix2 x b) (ix2 0 b) fun z => ?_).trans ?_
    · match z with
      | ⟨0, _⟩ => rfl
      | ⟨1, _⟩ => rfl
    rw [divf_apply, broadcast_apply]
    exact congrArg (Ideal.div · _) bits_one

/-- The sum of the weights over all keys. -/
theorem weightSum4_apply (mx : FVec Ideal S1x512 .f32) (s : Fin 4 → Vec Ideal S512x512 .f32) (b : Fin 512) (W : Fin 2048 → EReal)
    (hw : ∀ (q : Fin 4) (a : Fin 512), (weights mx (s q) (ix2 a b) : EReal) = W (key q a)) :
    (weightSum4 mx s (ix2 0 b) : EReal) = ∑ a, W a := by
  rw [sum_quarters W]
  unfold weightSum4
  simp only [addf_apply, weightSum_apply, hw]

/-- The weighted sum over all keys. -/
theorem weighted4_apply (mx : FVec Ideal S1x512 .f32) (s : Fin 4 → Vec Ideal S512x512 .f32) (v : Fin 4 → Vec Ideal S1x1x128x512 .bf16)
    (l : Fin 128) (b : Fin 512) (W V : Fin 2048 → EReal)
    (hw : ∀ (q : Fin 4) (a : Fin 512), (weights mx (s q) (ix2 a b) : EReal) = W (key q a))
    (hv : ∀ (q : Fin 4) (a : Fin 512), (v q (ix4 0 0 l a) : EReal) = V (key q a)) :
    (weighted4 mx s v (ix2 l b) : EReal) = ∑ a, V a * W a := by
  rw [sum_quarters fun a => V a * W a]
  unfold weighted4
  simp only [addf_apply, weighted_apply, hw, hv]

/-- A step's mix at a row and a query. -/
theorem mixStep_apply (Q K : Vec Ideal S8x2048x128 .bf16) (Vt : Vec Ideal S4x1x128x2048 .bf16) (u : Fin 32) (x : Fin 64) (b : Fin 512)
    (h : Fin 8) (r : Fin 2048) (p : Fin 4) (l : Fin 128) (hh : h.val = u.val % 8) (hr : r.val = 512 * (u.val / 8) + b.val)
    (hp : p.val = u.val % 8 / 2) (hl : l.val = 64 * (u.val % 2) + x.val) :
    mixStep Q K Vt u (ix4 0 0 x b) = blockMix Q K Vt h r p l := by
  have es : ∀ a : Fin 2048, (scores (qStep Q u) (kStep K u) (ix2 a b) : EReal) = ∑ d : Fin 128, K (ix3 h a d) * Q (ix3 h r d) := fun a => by
    rw [scores_apply]
    exact Finset.sum_congr rfl fun d _ => by rw [kStep_apply K u h a d hh, qStep_apply Q u h r b d hh hr]
  have em : (scoreMax (qStep Q u) (kStep K u) (ix2 0 b) : EReal)
      = Finset.univ.sup fun a : Fin 2048 => ∑ d : Fin 128, K (ix3 h a d) * Q (ix3 h r d) := by
    rw [scoreMax_apply]; simp only [es]
  have ew : ∀ (q : Fin 4) (a : Fin 512), (weights (scoreMax (qStep Q u) (kStep K u)) (sPart (scoresAt (qStep Q u) (kStep K u)) q) (ix2 a b) : EReal)
      = Ideal.exp2 ((∑ d : Fin 128, K (ix3 h (key q a) d) * Q (ix3 h r d))
      - Finset.univ.sup fun a : Fin 2048 => ∑ d : Fin 128, K (ix3 h a d) * Q (ix3 h r d)) := fun q a => by
    rw [weights_apply, sPart_apply, es, em]
  have esum : (weightSum4 (scoreMax (qStep Q u) (kStep K u)) (sPart (scoresAt (qStep Q u) (kStep K u))) (ix2 0 b) : EReal)
      = ∑ a : Fin 2048, Ideal.exp2 ((∑ d : Fin 128, K (ix3 h a d) * Q (ix3 h r d))
      - Finset.univ.sup fun a : Fin 2048 => ∑ d : Fin 128, K (ix3 h a d) * Q (ix3 h r d)) := by
    exact weightSum4_apply _ _ b _ ew
  have emix : (weighted4 (scoreMax (qStep Q u) (kStep K u)) (sPart (scoresAt (qStep Q u) (kStep K u))) (vStep Vt u) (ix2 l b) : EReal)
      = ∑ a : Fin 2048, Vt (ix4 p 0 l a) * Ideal.exp2 ((∑ d : Fin 128, K (ix3 h a d) * Q (ix3 h r d))
      - Finset.univ.sup fun a : Fin 2048 => ∑ d : Fin 128, K (ix3 h a d) * Q (ix3 h r d)) := by
    exact weighted4_apply _ _ _ l b _ (fun a => Vt (ix4 p 0 l a)) ew fun q a => vStep_apply Vt u q p l a hp
  unfold mixStep blockMix
  rw [mixAll_apply _ _ _ _ x b l (u.val % 2) (by omega) (by unfold evenBit; split <;> rfl) hl, esum, emix]

/-- The block of the result at an index. -/
theorem attnBlock_apply (Q K : Vec Ideal S8x2048x128 .bf16) (Vt : Vec Ideal S4x1x128x2048 .bf16) (p : Fin 4) (r : Fin 2048) (l : Fin 128)
    (h : Fin 8) (hh : h.val = 2 * p.val + l.val / 64) :
    attnBlock Q K Vt (ix3 p r l) = blockMix Q K Vt h r p l := by
  have hp := p.isLt
  have hr := r.isLt
  have hl := l.isLt
  unfold attnBlock packed packStep
  refine (shapeCast_apply _ _ _ (ix2 ⟨r.val % 512, Nat.mod_lt _ (by decide)⟩ l) ?_).trans ?_
  · rw [Shape.rowMajor_val_two, Shape.rowMajor_val_three]
    show r.val % 512 * 128 + l.val = (0 * 512 + r.val % 512) * 128 + l.val
    omega
  rw [truncf_apply]
  refine (transpose_apply _ _ _ _ (ix2 l ⟨r.val % 512, Nat.mod_lt _ (by decide)⟩) fun z => ?_).trans ?_
  · match z with
    | ⟨0, _⟩ => rfl
    | ⟨1, _⟩ => rfl
  refine (shapeCast_apply _ _ _ (ix4 0 0 l ⟨r.val % 512, Nat.mod_lt _ (by decide)⟩) ?_).trans ?_
  · rw [Shape.rowMajor_val_two, Shape.rowMajor_val_four]
    show ((0 * 1 + 0) * 128 + l.val) * 512 + r.val % 512 = l.val * 512 + r.val % 512
    omega
  unfold tile
  refine (View.ld_unit_apply_of (Val := Elt Ideal) (e := .f32) (mixes Q K Vt) _ _ _ _
    (ix4 ⟨r.val / 512, by omega⟩ p l ⟨r.val % 512, Nat.mod_lt _ (by decide)⟩) fun z => ?_).trans ?_
  · match z with
    | ⟨0, _⟩ => rfl
    | ⟨1, _⟩ => rfl
    | ⟨2, _⟩ => exact (Nat.zero_add _).symm
    | ⟨3, _⟩ => exact (Nat.zero_add _).symm
  unfold mixes
  have hu : (us (8 * (r.val / 512) + 2 * p.val + l.val / 64)).val = 8 * (r.val / 512) + 2 * p.val + l.val / 64 :=
    Nat.mod_eq_of_lt (by omega)
  refine Eq.trans (congrArg (mixStep Q K Vt (us (8 * (r.val / 512) + 2 * p.val + l.val / 64))) (funext fun z => Fin.ext ?_))
    (mixStep_apply Q K Vt (us (8 * (r.val / 512) + 2 * p.val + l.val / 64)) ⟨l.val % 64, Nat.mod_lt _ (by decide)⟩
      ⟨r.val % 512, Nat.mod_lt _ (by decide)⟩ h r p l (by omega) (by show r.val = _ + r.val % 512; omega) (by omega)
      (by show l.val = _ + l.val % 64; omega))
  match z with
  | ⟨0, _⟩ => rfl
  | ⟨1, _⟩ => rfl
  | ⟨2, _⟩ => rfl
  | ⟨3, _⟩ => rfl

end Cert.Proof.Attn
-- ==== Proof.HostValue.lean ====
module

public import proofs.«01_k».proof.Proof.Gen.KernelIdeal.Frame
public import Idealize.ShloMosaic.Lib.ValueIdx
public import Idealize.ShloMosaic.Lib.Pipeline.Value
public import Idealize.ShloMosaic.PureOps.Ideal.Laws

/-! # The arrays the kernel is handed

The queries and keys in the kernel's lane order, head by head, and the values transposed. -/

@[expose] public section

set_option maxRecDepth 16384

noncomputable section

namespace Cert.Proof.Attn

open Cert.KernelIdeal Cert.KernelIdeal.Gen
open Idealize.ShloMosaic Idealize.ShloMosaic.TcCoe Idealize.ShloMosaic.ValueIdx

section
variable {F : FTy → Type} [FloatOps F]

/-- The kernel's scale of the queries. -/
def scaleVec : FVec F S_ .f32 := mulf (Host.sqrt (constant S_ .f32 0x42C00000#32)) (Host.log (constant S_ .f32 0x40000000#32))

/-- Which number of a head each lane reads, as the start indices of the gather (a negative one would count from the end). -/
def column : IVec S128x1 32 :=
  let src : IVec S128 32 := fun i => lit0 (S128.rowMajor i)
  broadcastInDim S128x1 ![0] bcast_S128_S128x1_0
    (select (cmpi .slt src (broadcastInDim S128 ![] bcast_S_S128 (constantI S_ 32 0#32)))
      (addi src (broadcastInDim S128 ![] bcast_S_S128 (constantI S_ 32 96#32))) src)

/-- Whether each lane's start index is a number of the head. -/
def inside : IVec S128 1 :=
  Host.reduce IntOp.andi
    (andi (cmpi .sge column (broadcastInDim S128x1 ![] bcast_S_S128x1 (constantI S_ 32 0#32)))
      (cmpi .sle column (broadcastInDim S128x1 ![0, 1] bcast_S1x1_S128x1_0_1 (broadcastInDim S1x1 ![1] bcast_S1_S1x1_1 (constantI S1 32 95#32)))))
    (constantI S_ 1 1#1) reducesTo_S128x1_S128_d1 h_S_

/-- Whether each lane holds a number of the head. -/
def held : IVec S128 1 := fun i => lit1 (S128.rowMajor i)

/-- The numbers of the heads, lane by lane. -/
def taken (x : FVec F S32x2048x8x96 .f32) : FVec F S32x2048x8x128 .f32 :=
  select (broadcastInDim S32x2048x8x128 ![3] bcast_S128_S32x2048x8x128_3 inside)
    (Host.gather gather_S32x2048x8x96_S128x1_S32x2048x8x128_012_3_n_n_3_1_32204881 x column)
    (broadcastInDim S32x2048x8x128 ![] bcast_S_S32x2048x8x128 (constant S_ .f32 0x7FC00000#32))

/-- The lanes that hold a number of the head, and zeros in the others. -/
def padded (x : FVec F S32x2048x8x96 .f32) : FVec F S32x2048x8x128 .f32 :=
  select (broadcastInDim S32x2048x8x128 ![3] bcast_S128_S32x2048x8x128_3 held) (taken x)
    (broadcastInDim S32x2048x8x128 ![] bcast_S_S32x2048x8x128 (constant S_ .f32 0x00000000#32))

/-- An array of heads of 96 numbers in the kernel's order: lanes reordered and padded with zeros, heads outermost. -/
def laid (x : FVec F S32x2048x8x96 .f32) : FVec F S8x65536x128 .bf16 :=
  truncf .bf16 (transpose S8x65536x128 [1, 0, 2] (shapeCast S65536x8x128 (padded x)
    shapeCasts_S32x2048x8x128_S65536x8x128) transposes_S65536x8x128_S8x65536x128_1_0_2) bitsLt_bf16_f32

/-- The scaled queries. -/
def scaled (x : FVec F S32x2048x8x96 .f32) : FVec F S32x2048x8x96 .f32 :=
  Host.divf x (broadcastInDim S32x2048x8x96 ![] bcast_S_S32x2048x8x96 scaleVec)

/-- The values, tokens innermost. -/
def flipped (x : FVec F S32x2048x8x64 .f32) : FVec F S4x32x128x2048 .bf16 :=
  truncf .bf16 (transpose S4x32x128x2048 [2, 0, 3, 1] (shapeCast S32x2048x4x128 x shapeCasts_S32x2048x8x64_S32x2048x4x128)
    transposes_S32x2048x4x128_S4x32x128x2048_2_0_3_1) bitsLt_bf16_f32

variable (m : (ℓ : Loc nD τ sig) → Buf (Elt F) ℓ) (c : Dev nD)

theorem V_q : V m c main_v12 = laid (scaled (m ((c : Thread nD τ).loc main_arg0))) := by
  dsimp only [V, hostOps0, hostOps0_1, hostOps0_2, hostOps0_3, hostOps0_4, hostOps0_5, hostOps0_6, hostOps0_7, hostOps0_8, List.flatten_cons,
    List.flatten_nil, List.append_nil, List.cons_append, List.nil_append]; after_results
  simp only [StableHlo.TRef.ofBuf_toBuf, id]
  unfold laid padded taken inside held column
  rfl
theorem V_k : V m c main_v17 = laid (m ((c : Thread nD τ).loc main_arg1)) := by
  dsimp only [V, hostOps0, hostOps0_1, hostOps0_2, hostOps0_3, hostOps0_4, hostOps0_5, hostOps0_6, hostOps0_7, hostOps0_8, List.flatten_cons,
    List.flatten_nil, List.append_nil, List.cons_append, List.nil_append]; after_results
  simp only [StableHlo.TRef.ofBuf_toBuf, id]
  unfold laid padded taken inside held column
  rfl
theorem V_v : V m c main_v5 = flipped (m ((c : Thread nD τ).loc main_arg2)) := by
  dsimp only [V, hostOps0, hostOps0_1, hostOps0_2, hostOps0_3, hostOps0_4, hostOps0_5, hostOps0_6, hostOps0_7, hostOps0_8, List.flatten_cons,
    List.flatten_nil, List.append_nil, List.cons_append, List.nil_append]; after_results
  rfl
end

/-! ## Read at an index -/

/-- Where the kernel keeps a head's number `d`. -/
def lane (d : Fin 96) : Fin 128 :=
  ⟨if d.val < 48 then 16 + d.val else if d.val < 64 then 32 + d.val else if d.val < 80 then d.val - 64 else d.val - 16, by
    have := d.isLt; split <;> [skip; split <;> [skip; split]] <;> omega⟩

theorem lane_injective : Function.Injective lane := by decide +kernel

theorem lane_hit (l : Fin 128) (h : l.val < 96) : ∃ d, lane d = l := by
  revert l; decide +kernel

theorem inside_all (l : Fin 128) : inside (ix1 l) = 1#1 := by
  revert l; decide +kernel

theorem held_lane (d : Fin 96) : held (ix1 (lane d)) = 1#1 := by
  revert d; decide +kernel

theorem held_not (l : Fin 128) (h : 96 ≤ l.val) : held (ix1 l) = 0#1 := by
  revert l; decide +kernel

theorem column_lane (d : Fin 96) : min (column (ix2 (lane d) 0)).toInt.toNat 95 = d.val := by
  revert d; decide +kernel

/-- The gather at a lane: the head's number that the lane's start index names. -/
theorem gather_apply (x : FVec Ideal S32x2048x8x96 .f32) (idx : IVec S128x1 32) (t : Fin 32) (r : Fin 2048) (h : Fin 8) (l : Fin 128)
    (d : Fin 96) (hd : min (idx (ix2 l 0)).toInt.toNat 95 = d.val) :
    Host.gather gather_S32x2048x8x96_S128x1_S32x2048x8x128_012_3_n_n_3_1_32204881 x idx (ix4 t r h l) = x (ix4 t r h d) := by
  refine congrArg x (funext fun a => Fin.ext ?_)
  match a with
  | ⟨0, _⟩ => show 0 + 0 + t.val = t.val; omega
  | ⟨1, _⟩ => show 0 + 0 + r.val = r.val; omega
  | ⟨2, _⟩ => show 0 + 0 + h.val = h.val; omega
  | ⟨3, _⟩ =>
    have e : (gather_S32x2048x8x96_S128x1_S32x2048x8x128_012_3_n_n_3_1_32204881).siIdx (ix4 t r h l) ⟨0, by decide⟩ = ix2 l 0 := by
      funext b; refine Fin.ext ?_
      match b with
      | ⟨0, _⟩ => rfl
      | ⟨1, _⟩ => rfl
    refine Eq.trans ?_ ((congrArg (fun i => min (idx i).toInt.toNat 95) e).trans hd)
    rfl

theorem across (z : IVec S128 1) (t : Fin 32) (r : Fin 2048) (h : Fin 8) (l : Fin 128) :
    broadcastInDim S32x2048x8x128 ![3] bcast_S128_S32x2048x8x128_3 z (ix4 t r h l) = z (ix1 l) :=
  broadcastInDim_apply _ _ _ _ (ix1 l) fun a => match a with | ⟨0, _⟩ => rfl

theorem laid_eq (x : FVec Ideal S32x2048x8x96 .f32) (t : Fin 32) (r : Fin 2048) (h : Fin 8) (n : Fin 65536) (l : Fin 128)
    (hn : n.val = 2048 * t.val + r.val) (y : EReal) (hy : padded x (ix4 t r h l) = y) : laid x (ix3 h n l) = y := by
  unfold laid
  rw [truncf_apply]
  refine (transpose_apply _ _ _ _ (ix3 n h l) fun z => ?_).trans ?_
  · match z with
    | ⟨0, _⟩ => rfl
    | ⟨1, _⟩ => rfl
    | ⟨2, _⟩ => rfl
  refine (shapeCast_apply _ _ _ (ix4 t r h l) ?_).trans hy
  rw [Shape.rowMajor_val_three, Shape.rowMajor_val_four]
  show ((t.val * 2048 + r.val) * 8 + h.val) * 128 + l.val = (n.val * 8 + h.val) * 128 + l.val
  omega

theorem laid_zero (x : FVec Ideal S32x2048x8x96 .f32) (t : Fin 32) (r : Fin 2048) (h : Fin 8) (n : Fin 65536) (l : Fin 128)
    (hn : n.val = 2048 * t.val + r.val) (hl : 96 ≤ l.val) : laid x (ix3 h n l) = (0 : EReal) := by
  refine laid_eq x t r h n l hn _ ?_
  unfold padded
  rw [select_apply, across, held_not l hl]
  show broadcastInDim S32x2048x8x128 ![] bcast_S_S32x2048x8x128 (constant S_ .f32 0x00000000#32 : FVec Ideal S_ .f32) (ix4 t r h l) = 0
  refine (broadcastInDim_apply _ _ _ _ ix0 fun a => a.elim0).trans ?_
  simp [constant, Ideal.ofBits, Ideal.ieee]

theorem laid_lane (x : FVec Ideal S32x2048x8x96 .f32) (t : Fin 32) (r : Fin 2048) (h : Fin 8) (n : Fin 65536) (d : Fin 96)
    (hn : n.val = 2048 * t.val + r.val) : laid x (ix3 h n (lane d)) = x (ix4 t r h d) := by
  refine laid_eq x t r h n _ hn _ ?_
  unfold padded taken
  rw [select_apply, across, held_lane d, select_apply, across, inside_all]
  exact gather_apply x column t r h (lane d) d (column_lane d)

theorem flipped_apply (x : FVec Ideal S32x2048x8x64 .f32) (t : Fin 32) (p : Fin 4) (l : Fin 128) (a : Fin 2048) (h : Fin 8) (u : Fin 64)
    (hl : 128 * p.val + l.val = 64 * h.val + u.val) : flipped x (ix4 p t l a) = x (ix4 t a h u) := by
  unfold flipped
  rw [truncf_apply]
  refine (transpose_apply _ _ _ _ (ix4 t a p l) fun z => ?_).trans ?_
  · match z with
    | ⟨0, _⟩ => rfl
    | ⟨1, _⟩ => rfl
    | ⟨2, _⟩ => rfl
    | ⟨3, _⟩ => rfl
  refine shapeCast_apply _ _ _ (ix4 t a h u) ?_
  rw [Shape.rowMajor_val_four, Shape.rowMajor_val_four]
  show ((t.val * 2048 + a.val) * 8 + h.val) * 64 + u.val = ((t.val * 2048 + a.val) * 4 + p.val) * 128 + l.val
  omega

theorem bits_96 : (FloatOps.ofBits .f32 0x42C00000#32 : Ideal .f32) = ((96 : ℝ) : EReal) := by
  simp [Ideal.ofBits, Ideal.ieee, -EReal.coe_mul]; norm_num
theorem bits_two : (FloatOps.ofBits .f32 0x40000000#32 : Ideal .f32) = ((2 : ℝ) : EReal) := by
  simp [Ideal.ofBits, Ideal.ieee, -EReal.coe_mul]; norm_num

theorem sqrt_96 (i : S_.Idx) : (Host.sqrt (constant S_ .f32 0x42C00000#32) : FVec Ideal S_ .f32) i = ((Real.sqrt 96 : ℝ) : EReal) := by
  show Ideal.sqrt (FloatOps.ofBits .f32 0x42C00000#32 : Ideal .f32) = _
  rw [bits_96]; simp

theorem scaleVec_apply (i : S_.Idx) : (scaleVec : FVec Ideal S_ .f32) i = ((Real.sqrt 96 * Real.log 2 : ℝ) : EReal) := by
  unfold scaleVec
  rw [mulf_apply, sqrt_96]
  show _ * Ideal.log (FloatOps.ofBits .f32 0x40000000#32 : Ideal .f32) = _
  rw [bits_two]; simp

theorem scaled_apply (x : FVec Ideal S32x2048x8x96 .f32) (i : S32x2048x8x96.Idx) :
    scaled x i = Ideal.div (x i) ((Real.sqrt 96 * Real.log 2 : ℝ) : EReal) := by
  refine congrArg (Ideal.div (x i)) ?_
  exact (broadcastInDim_apply _ _ (scaleVec : FVec Ideal S_ .f32) i ix0 fun a => a.elim0).trans (scaleVec_apply _)

end Cert.Proof.Attn
-- ==== Proof.Softmax.lean ====
module

public import Idealize.ShloMosaic.PureOps.Ideal

/-! # Softmax over the extended reals

The kernel takes powers of two of scores divided by `log 2`, and divides the mix by the sum of the weights once. The
reference takes exponentials and divides each weight. On real scores the two agree, whatever the values are. -/

@[expose] public section

noncomputable section

namespace Cert.Proof.Attn

open Idealize.ShloMosaic

variable {n : Nat}

/-- Extended reals: a finite nonnegative factor goes into a sum. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- Extended reals: the sum of reals is the real sum. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The largest of real scores is one of them. -/
theorem sup_attained [NeZero n] (a : Fin n → ℝ) : ∃ k0, (∀ k, a k ≤ a k0) ∧ Finset.univ.sup (fun k => (a k : EReal)) = a k0 := by
  obtain ⟨k0, -, h⟩ := Finset.exists_max_image Finset.univ a ⟨0, Finset.mem_univ _⟩
  refine ⟨k0, fun k => h k (Finset.mem_univ _), le_antisymm (Finset.sup_le fun k _ => ?_) ?_⟩
  · exact_mod_cast h k (Finset.mem_univ _)
  · exact Finset.le_sup (f := fun k => (a k : EReal)) (Finset.mem_univ k0)

/-- The weight of key `k`: a positive real, the same for both spellings. -/
theorem weight_eq [NeZero n] (a : Fin n → ℝ) : ∃ w : Fin n → ℝ, ∀ k, 0 < w k
    ∧ Ideal.exp2 ((a k : EReal) - Finset.univ.sup fun k => (a k : EReal)) = w k
    ∧ Ideal.exp (((a k * Real.log 2 : ℝ) : EReal) - Finset.univ.sup fun k => ((a k * Real.log 2 : ℝ) : EReal)) = w k := by
  obtain ⟨k0, h0, e0⟩ := sup_attained a
  have hl : 0 < Real.log 2 := Real.log_pos one_lt_two
  have e1 : Finset.univ.sup (fun k => ((a k * Real.log 2 : ℝ) : EReal)) = ((a k0 * Real.log 2 : ℝ) : EReal) := by
    refine le_antisymm (Finset.sup_le fun k _ => ?_) (Finset.le_sup (f := fun k => ((a k * Real.log 2 : ℝ) : EReal)) (Finset.mem_univ k0))
    exact_mod_cast mul_le_mul_of_nonneg_right (h0 k) hl.le
  refine ⟨fun k => Real.exp ((a k - a k0) * Real.log 2), fun k => ⟨Real.exp_pos _, ?_, ?_⟩⟩
  · rw [e0, ← EReal.coe_sub, Ideal.exp2_coe]
    exact congrArg _ ((Real.rpow_def_of_pos two_pos _).trans (congrArg Real.exp (mul_comm _ _)))
  · rw [e1, ← EReal.coe_sub, Ideal.exp_coe]
    exact congrArg _ (congrArg Real.exp (sub_mul _ _ _).symm)

/-- Dividing the mix once is dividing each weight. -/
theorem mix_div [NeZero n] (w : Fin n → ℝ) (hw : ∀ k, 0 < w k) (p v : Fin n → EReal) (hp : ∀ k, p k = w k) :
    (∑ k, v k * p k) * Ideal.div 1 (∑ k, p k) = ∑ k, v k * Ideal.div (p k) (0 + ∑ k, p k) := by
  have hL : 0 < ∑ k, w k := Finset.sum_pos (fun k _ => hw k) ⟨0, Finset.mem_univ _⟩
  have e : ∑ k, p k = ((∑ k, w k : ℝ) : EReal) := by simp only [hp]; exact sum_coe _ _
  rw [zero_add, e, Ideal.div_coe hL.ne', one_mul, sum_mul_real _ _ _ (by positivity)]
  refine Finset.sum_congr rfl fun k _ => ?_
  rw [Ideal.div_coe hL.ne', mul_assoc]

/-- The two attentions of one query agree: `t` are the kernel's scores, `s` the reference's, `v` the values. -/
theorem attention_row [NeZero n] (a : Fin n → ℝ) (s t v : Fin n → EReal) (ht : ∀ k, t k = a k)
    (hs : ∀ k, s k = ((a k * Real.log 2 : ℝ) : EReal)) :
    (∑ k, v k * Ideal.exp2 (t k - Finset.univ.sup t)) * Ideal.div 1 (∑ k, Ideal.exp2 (t k - Finset.univ.sup t))
      = ∑ k, v k * Ideal.div (Ideal.exp (s k - Finset.univ.sup s)) (0 + ∑ k, Ideal.exp (s k - Finset.univ.sup s)) := by
  obtain rfl : t = fun k => (a k : EReal) := funext ht
  obtain rfl : s = fun k => ((a k * Real.log 2 : ℝ) : EReal) := funext hs
  obtain ⟨w, hw⟩ := weight_eq a
  rw [mix_div w (fun k => (hw k).1) _ v fun k => (hw k).2.1]
  simp only [(hw _).2.1, (hw _).2.2]

/-- The scores of real queries and keys: the kernel divides the query by `√96 · log 2` before the product, the
    reference divides the product by `√96`. `e` places the 96 coordinates among the kernel's 128 lanes. -/
theorem scores_real (e : Fin 96 → Fin 128) (he : Function.Injective e) (q k : Fin 96 → ℝ) (q' k' : Fin 128 → EReal)
    (hq : ∀ d, q' (e d) = Ideal.div (q d : EReal) ((Real.sqrt 96 * Real.log 2 : ℝ) : EReal)) (hk : ∀ d, k' (e d) = k d)
    (h0 : ∀ l, (∀ d, e d ≠ l) → k' l = 0) :
    ∃ a : ℝ, ∑ l, k' l * q' l = a ∧ Ideal.div (∑ d, (q d : EReal) * k d) ((Real.sqrt 96 : ℝ) : EReal) = ((a * Real.log 2 : ℝ) : EReal) := by
  have hl : Real.log 2 ≠ 0 := (Real.log_pos one_lt_two).ne'
  have hs : Real.sqrt 96 ≠ 0 := (Real.sqrt_pos.2 (by norm_num)).ne'
  refine ⟨∑ d, q d * k d * (1 / (Real.sqrt 96 * Real.log 2)), ?_, ?_⟩
  · rw [← sum_coe]
    refine (Finset.sum_of_injOn e he.injOn (fun _ _ => Finset.mem_univ _) (fun l _ hl => ?_) fun d _ => ?_).symm
    · rw [h0 l (fun d hd => hl ⟨d, Finset.mem_univ _, hd⟩), zero_mul]
    · rw [hq, hk, Ideal.div_coe (mul_ne_zero hs hl)]
      norm_cast
      ring
  · rw [Ideal.div_coe hs]
    simp only [← EReal.coe_mul]
    rw [sum_coe, ← EReal.coe_mul, ← Finset.sum_mul]
    congr 1
    field_simp

end Cert.Proof.Attn
-- ==== Proof.RefValue.lean ====
module

public import proofs.«01_k».proof.Proof.Gen.ReferenceIdeal.Read
public import Idealize.ShloMosaic.Lib.ValueIdx
public import Idealize.ShloMosaic.Lib.Pipeline.Value
public import Idealize.ShloMosaic.PureOps.Ideal.Laws

/-! # The reference at an index

Softmax of the scaled scores, mixed with the values. -/

@[expose] public section

set_option maxRecDepth 16384

noncomputable section

namespace Cert.Proof.AttnRef

open Cert.ReferenceIdeal Cert.ReferenceIdeal.Gen Cert.ReferenceIdeal.Read
open Idealize.ShloMosaic Idealize.ShloMosaic.TcCoe Idealize.ShloMosaic.ValueIdx

variable (x0 x1 : FVec Ideal S32x2048x8x96 .f32) (x2 : FVec Ideal S32x2048x8x64 .f32)

/-- The scaled score of a query `r` with a key `k`. -/
def score (t : Fin 32) (h : Fin 8) (r k : Fin 2048) : EReal :=
  Ideal.div (∑ d : Fin 96, x0 (ix4 t r h d) * x1 (ix4 t k h d)) ((Real.sqrt 96 : ℝ) : EReal)

theorem v3_apply (t : Fin 32) (h : Fin 8) (r k : Fin 2048) :
    val_main_v3 (F := Ideal) x0 x1 (ix4 t h r k) = score x0 x1 t h r k := by
  rw [val_main_v3_apply, val_main_v0_apply, val_main_v2_apply, val_main_v1_apply, val_main_cst_apply]
  show Ideal.div _ (Ideal.sqrt (FloatOps.ofBits .f32 0x42C00000#32 : Ideal .f32)) = _
  have e96 : (FloatOps.ofBits .f32 0x42C00000#32 : Ideal .f32) = ((96 : ℝ) : EReal) := by
    simp [Ideal.ofBits, Ideal.ieee, -EReal.coe_mul]; norm_num
  have es : Ideal.sqrt ((96 : ℝ) : EReal) = ((Real.sqrt 96 : ℝ) : EReal) := by simp
  rw [e96, es]
  unfold score
  refine congrArg (Ideal.div · _) (Finset.sum_congr rfl fun d _ => congrArg₂ (· * ·) (congrArg x0 ?_) (congrArg x1 ?_))
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)

/-- A maximum over the last axis from −∞. -/
theorem fold_max (y : FVec Ideal S32x8x2048x2048 .f32) (b : FVec Ideal S_ .f32) (t : Fin 32) (h : Fin 8) (r : Fin 2048)
    (f : Fin 2048 → EReal) (hb : b (Shape.Idx.first h_S_) = (⊥ : EReal)) (hy : ∀ k, y (ix4 t h r k) = f k) :
    Host.reduce FloatOps.maximumf y b reducesTo_S32x8x2048x2048_S32x8x2048_d3 h_S_ (ix3 t h r) = Finset.univ.sup f := by
  have hr : S32x8x2048x2048.Reduces [3] S32x8x2048 := by decide
  have e := Host.reduce_eq_fold_single (FloatOps.maximumf : Ideal .f32 → Ideal .f32 → Ideal .f32) y b
    reducesTo_S32x8x2048x2048_S32x8x2048_d3 hr h_S_ (ix3 t h r)
  rw [e, hb]
  have ef : y ∘ hr.lift (ix3 t h r) = f := funext fun k => Eq.trans (congrArg y (funext fun a => Fin.ext (by
    match a with | ⟨0, _⟩ => rfl | ⟨1, _⟩ => rfl | ⟨2, _⟩ => rfl | ⟨3, _⟩ => rfl))) (hy k)
  rw [ef]
  rfl

theorem v4_apply (t : Fin 32) (h : Fin 8) (r : Fin 2048) :
    val_main_v4 (F := Ideal) x0 x1 (ix3 t h r) = Finset.univ.sup (score x0 x1 t h r) := by
  unfold val_main_v4
  have hv : ∀ k, val_main_v3 (F := Ideal) x0 x1 (ix4 t h r k) = score x0 x1 t h r k := v3_apply x0 x1 t h r
  generalize val_main_v3 (F := Ideal) x0 x1 = y at hv
  exact fold_max y _ t h r _ (by rw [val_main_cst_0_apply]; simp [Ideal.ofBits, Ideal.ieee]) hv

theorem v6_apply (t : Fin 32) (h : Fin 8) (r : Fin 2048) :
    val_main_v6 (F := Ideal) x0 x1 (ix3 t h r) = Finset.univ.sup (score x0 x1 t h r) := by
  rw [val_main_v6_apply, v4_apply, val_main_v5_apply, val_main_cst_1_apply]
  have eb : (FloatOps.ofBits .f32 0xFF800000#32 : Ideal .f32) = (⊥ : EReal) := by simp [Ideal.ofBits, Ideal.ieee]
  rw [eb]
  exact max_eq_right bot_le

theorem v10_apply (t : Fin 32) (h : Fin 8) (r k : Fin 2048) :
    val_main_v10 (F := Ideal) x0 x1 (ix4 t h r k)
      = Ideal.exp (score x0 x1 t h r k - Finset.univ.sup (score x0 x1 t h r)) := by
  rw [val_main_v10_apply, val_main_v9_apply, v3_apply, val_main_v8_apply, val_main_v7_apply]
  have ei : idx_main_v7 (idx_main_v8 (ix4 t h r k)) = ix3 t h r :=
    funext fun a => Fin.ext (by match a with | ⟨0, _⟩ => rfl | ⟨1, _⟩ => rfl | ⟨2, _⟩ => rfl)
  rw [ei, v6_apply]
  rfl

theorem v14_apply (t : Fin 32) (h : Fin 8) (r k : Fin 2048) :
    val_main_v14 (F := Ideal) x0 x1 (ix4 t h r k)
      = Ideal.div (Ideal.exp (score x0 x1 t h r k - Finset.univ.sup (score x0 x1 t h r)))
        (0 + ∑ k, Ideal.exp (score x0 x1 t h r k - Finset.univ.sup (score x0 x1 t h r))) := by
  rw [val_main_v14_apply, v10_apply, val_main_v13_apply, val_main_v12_apply, val_main_v11_apply, val_main_cst_2_apply]
  have ez : (FloatOps.ofBits .f32 0x00000000#32 : Ideal .f32) = (0 : EReal) := by simp [Ideal.ofBits, Ideal.ieee]
  rw [ez]
  show Ideal.div _ _ = _
  refine congrArg (fun z => Ideal.div _ (0 + z)) (Finset.sum_congr rfl fun k' _ => ?_)
  refine Eq.trans (congrArg (val_main_v10 (F := Ideal) x0 x1) ?_) (v10_apply x0 x1 t h r k')
  exact funext fun a => Fin.ext (by match a with | ⟨0, _⟩ => rfl | ⟨1, _⟩ => rfl | ⟨2, _⟩ => rfl | ⟨3, _⟩ => rfl)

/-- The reference's result at row `n = 2048 t + r`, head `h`, lane `u` of it. -/
theorem result_apply (p : Fin 4) (n : Fin 65536) (l : Fin 128) (t : Fin 32) (r : Fin 2048) (h : Fin 8) (u : Fin 64)
    (hn : n.val = 2048 * t.val + r.val) (hl : 128 * p.val + l.val = 64 * h.val + u.val) :
    val_main_v19 (F := Ideal) x0 x1 x2 (ix3 p n l)
      = ∑ k : Fin 2048, x2 (ix4 t k h u) * Ideal.div (Ideal.exp (score x0 x1 t h r k - Finset.univ.sup (score x0 x1 t h r)))
        (0 + ∑ k, Ideal.exp (score x0 x1 t h r k - Finset.univ.sup (score x0 x1 t h r))) := by
  have ht := t.isLt
  have hr := r.isLt
  have hh := h.isLt
  have hu := u.isLt
  have hlt := l.isLt
  have hp := p.isLt
  rw [val_main_v19_apply, val_main_v18_apply, val_main_v17_apply, val_main_v16_apply]
  have ei : idx_main_v16 (idx_main_v17 (idx_main_v18 (ix3 p n l))) = ix4 t h u r :=
    funext fun a => Fin.ext (by
      match a with
      | ⟨0, _⟩ => show ((n.val * 4 + p.val) * 128 + l.val) / 1048576 = t.val; omega
      | ⟨1, _⟩ => show ((n.val * 4 + p.val) * 128 + l.val) / 64 % 8 = h.val; omega
      | ⟨2, _⟩ => show ((n.val * 4 + p.val) * 128 + l.val) % 64 = u.val; omega
      | ⟨3, _⟩ => show ((n.val * 4 + p.val) * 128 + l.val) / 512 % 2048 = r.val; omega)
  rw [ei, val_main_v15_apply]
  refine Finset.sum_congr rfl fun k _ => congrArg₂ (· * ·) (congrArg x2 ?_)
    (Eq.trans (congrArg (val_main_v14 (F := Ideal) x0 x1) ?_) (v14_apply x0 x1 t h r k))
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)

end Cert.Proof.AttnRef
-- ==== Proof.Value.lean ====
module

public import proofs.«01_k».proof.Proof.Pipe
public import proofs.«01_k».proof.Proof.BlockValue
public import proofs.«01_k».proof.Proof.HostValue
public import proofs.«01_k».proof.Proof.Softmax
public import proofs.«01_k».proof.Proof.RefValue

/-! # The kernel's result is the reference's

Every grid point leaves its rows of softmax attention, and the grid's blocks tile the result. -/

@[expose] public section

set_option maxRecDepth 16384

noncomputable section

namespace Cert.Proof.Attn

open Cert.KernelIdeal Cert.KernelIdeal.Gen
open Idealize.ShloMosaic Idealize.ShloMosaic.TcCoe Idealize.ShloMosaic.ValueIdx
open Idealize.SL.Sem

/-! ## The blocks in their arrays -/

theorem idx_q : ∀ t : Fin cfg0.N, win0_0.index t (0 : Fin 3) = 0 ∧ win0_0.index t (1 : Fin 3) = t.val ∧ win0_0.index t (2 : Fin 3) = 0 :=
  (by decide +kernel : ∀ t : Fin grid0.N, _)
theorem idx_k : ∀ t : Fin cfg0.N, win0_1.index t (0 : Fin 3) = 0 ∧ win0_1.index t (1 : Fin 3) = t.val ∧ win0_1.index t (2 : Fin 3) = 0 :=
  (by decide +kernel : ∀ t : Fin grid0.N, _)
theorem idx_v : ∀ t : Fin cfg0.N, win0_2.index t (0 : Fin 4) = 0 ∧ win0_2.index t (1 : Fin 4) = t.val ∧ win0_2.index t (2 : Fin 4) = 0
    ∧ win0_2.index t (3 : Fin 4) = 0 :=
  (by decide +kernel : ∀ t : Fin grid0.N, _)
theorem idx_o : ∀ t : Fin cfg0.N, win0_3.index t (0 : Fin 3) = 0 ∧ win0_3.index t (1 : Fin 3) = t.val ∧ win0_3.index t (2 : Fin 3) = 0 :=
  (by decide +kernel : ∀ t : Fin grid0.N, _)

/-- The sequence a grid point works on. -/
def seqOf (t : Fin cfg0.N) : Fin 32 := ⟨t.val, (by decide +kernel : ∀ t : Fin grid0.N, t.val < 32) t⟩

/-- Row `r` of sequence `t` among all rows. -/
def row (t : Fin 32) (r : Fin 2048) : Fin 65536 := ⟨2048 * t.val + r.val, by have := t.isLt; have := r.isLt; omega⟩

theorem emb_q (t : Fin cfg0.N) (h : Fin 8) (r : Fin 2048) (l : Fin 128) :
    ((cfg0.win 0).blk t).view.emb (ix3 h r l) = ix3 h (row (seqOf t) r) l := by
  obtain ⟨e0, e1, e2⟩ := idx_q t
  funext a; apply Fin.ext
  match a with
  | ⟨0, _⟩ => show win0_0.index t (0 : Fin 3) * 8 + 1 * h.val = h.val; omega
  | ⟨1, _⟩ => show win0_0.index t (1 : Fin 3) * 2048 + 1 * r.val = 2048 * t.val + r.val; omega
  | ⟨2, _⟩ => show win0_0.index t (2 : Fin 3) * 128 + 1 * l.val = l.val; omega

theorem emb_k (t : Fin cfg0.N) (h : Fin 8) (r : Fin 2048) (l : Fin 128) :
    ((cfg0.win 1).blk t).view.emb (ix3 h r l) = ix3 h (row (seqOf t) r) l := by
  obtain ⟨e0, e1, e2⟩ := idx_k t
  funext a; apply Fin.ext
  match a with
  | ⟨0, _⟩ => show win0_1.index t (0 : Fin 3) * 8 + 1 * h.val = h.val; omega
  | ⟨1, _⟩ => show win0_1.index t (1 : Fin 3) * 2048 + 1 * r.val = 2048 * t.val + r.val; omega
  | ⟨2, _⟩ => show win0_1.index t (2 : Fin 3) * 128 + 1 * l.val = l.val; omega

theorem emb_v (t : Fin cfg0.N) (p : Fin 4) (l : Fin 128) (a : Fin 2048) :
    ((cfg0.win 2).blk t).view.emb (ix4 p 0 l a) = ix4 p (seqOf t) l a := by
  obtain ⟨e0, e1, e2, e3⟩ := idx_v t
  funext b; apply Fin.ext
  match b with
  | ⟨0, _⟩ => show win0_2.index t (0 : Fin 4) * 4 + 1 * p.val = p.val; omega
  | ⟨1, _⟩ => show win0_2.index t (1 : Fin 4) * 1 + 1 * 0 = t.val; omega
  | ⟨2, _⟩ => show win0_2.index t (2 : Fin 4) * 128 + 1 * l.val = l.val; omega
  | ⟨3, _⟩ => show win0_2.index t (3 : Fin 4) * 2048 + 1 * a.val = a.val; omega

theorem emb_o (t : Fin cfg0.N) (p : Fin 4) (r : Fin 2048) (l : Fin 128) :
    ((cfg0.win 3).blk t).view.emb (ix3 p r l) = ix3 p (row (seqOf t) r) l := by
  obtain ⟨e0, e1, e2⟩ := idx_o t
  funext a; apply Fin.ext
  match a with
  | ⟨0, _⟩ => show win0_3.index t (0 : Fin 3) * 4 + 1 * p.val = p.val; omega
  | ⟨1, _⟩ => show win0_3.index t (1 : Fin 3) * 2048 + 1 * r.val = 2048 * t.val + r.val; omega
  | ⟨2, _⟩ => show win0_3.index t (2 : Fin 3) * 128 + 1 * l.val = l.val; omega

/-! ## One row -/

/-- Attention on the kernel's arrays is the reference's, where queries and keys are real. -/
theorem blockMix_eq (x0 x1 : FVec Ideal S32x2048x8x96 .f32) (x2 : FVec Ideal S32x2048x8x64 .f32)
    (h0 : ∀ i, ∃ a : ℝ, x0 i = (a : EReal)) (h1 : ∀ i, ∃ a : ℝ, x1 i = (a : EReal))
    (Q K : Vec Ideal S8x2048x128 .bf16) (Vt : Vec Ideal S4x1x128x2048 .bf16) (t : Fin 32)
    (hQ : ∀ h r l, Q (ix3 h r l) = laid (scaled x0) (ix3 h (row t r) l))
    (hK : ∀ h r l, K (ix3 h r l) = laid x1 (ix3 h (row t r) l))
    (hV : ∀ p l a, Vt (ix4 p 0 l a) = flipped x2 (ix4 p t l a))
    (p : Fin 4) (r : Fin 2048) (l : Fin 128) (h : Fin 8) (hh : h.val = 2 * p.val + l.val / 64) :
    blockMix Q K Vt h r p l = Cert.ReferenceIdeal.Read.val_main_v19 (F := Ideal) x0 x1 x2 (ix3 p (row t r) l) := by
  have hl := l.isLt
  choose q hq using h0
  choose k hk using h1
  rw [AttnRef.result_apply x0 x1 x2 p (row t r) l t r h ⟨l.val % 64, Nat.mod_lt _ (by decide)⟩ rfl
    (by show 128 * p.val + l.val = 64 * h.val + l.val % 64; omega)]
  have hs := fun a : Fin 2048 => scores_real lane lane_injective (fun d => q (ix4 t r h d)) (fun d => k (ix4 t a h d))
    (fun l => Q (ix3 h r l)) (fun l => K (ix3 h a l))
    (fun d => by rw [hQ, laid_lane _ t r h _ d rfl, scaled_apply, hq])
    (fun d => by rw [hK, laid_lane _ t a h _ d rfl, hk])
    (fun l hl => by
      rw [hK]
      refine laid_zero _ t a h _ l rfl (Nat.le_of_not_lt fun hlt => ?_)
      obtain ⟨d, hd⟩ := lane_hit l hlt
      exact hl d hd)
  choose a ha hb using hs
  unfold blockMix
  have hv : ∀ b : Fin 2048, Vt (ix4 p 0 l b) = x2 (ix4 t b h ⟨l.val % 64, Nat.mod_lt _ (by decide)⟩) := fun b =>
    (hV p l b).trans (flipped_apply x2 t p l b h _ (by show 128 * p.val + l.val = 64 * h.val + l.val % 64; omega))
  have key := attention_row a (AttnRef.score x0 x1 t h r) (fun b => ∑ d : Fin 128, K (ix3 h b d) * Q (ix3 h r d))
    (fun b => Vt (ix4 p 0 l b)) ha (fun b => by
      unfold AttnRef.score
      rw [← hb b]
      refine congrArg (Ideal.div · _) (Finset.sum_congr rfl fun d _ => ?_)
      rw [hq, hk])
  refine key.trans (Finset.sum_congr rfl fun b _ => ?_)
  rw [hv]

/-! ## The whole array -/

variable (m : (ℓ : Loc nD τ sig) → Buf (Elt Ideal) ℓ) (ρ : Dev nD → PrngReg)

/-- The reference's function of the kernel's arguments. -/
def G (c : Dev nD) : FVec Ideal S4x65536x128 .bf16 :=
  Cert.ReferenceIdeal.Read.val_main_v19 (F := Ideal) (m ((c : Thread nD τ).loc main_arg0)) (m ((c : Thread nD τ).loc main_arg1))
    (m ((c : Thread nD τ).loc main_arg2))

theorem outAt_apply (c : Dev nD) (h0 : ∀ i, ∃ a : ℝ, m ((c : Thread nD τ).loc main_arg0) i = (a : EReal))
    (h1 : ∀ i, ∃ a : ℝ, m ((c : Thread nD τ).loc main_arg1) i = (a : EReal)) (t : Fin cfg0.N) (p : Fin 4) (r : Fin 2048) (l : Fin 128) :
    outAt m c t (ix3 p r l) = G m c (ix3 p (row (seqOf t) r) l) := by
  have hp := p.isLt
  have hl := l.isLt
  unfold outAt G
  refine (attnBlock_apply _ _ _ p r l ⟨2 * p.val + l.val / 64, by omega⟩ rfl).trans ?_
  refine blockMix_eq _ _ _ h0 h1 _ _ _ (seqOf t) (fun h r l => ?_) (fun h r l => ?_) (fun p l a => ?_) p r l _ rfl
  · rw [← V_q m c, ← emb_q t]; rfl
  · rw [← V_k m c, ← emb_k t]; rfl
  · rw [← V_v m c, ← emb_v t]; rfl

theorem flushed_eq (c : Dev nD) (h0 : ∀ i, ∃ a : ℝ, m ((c : Thread nD τ).loc main_arg0) i = (a : EReal))
    (h1 : ∀ i, ∃ a : ℝ, m ((c : Thread nD τ).loc main_arg1) i = (a : EReal)) (t : Fin cfg0.N) :
    (dats m 0 c).flushed 3 t = ((cfg0.win 3).blk t).view.read (Elt Ideal) (G m c) := by
  funext j
  show (dats m 0 c).after 3 t j = G m c (((cfg0.win 3).blk t).view.emb j)
  rw [after_3]
  obtain ⟨p, r, l, rfl⟩ : ∃ (p : Fin 4) (r : Fin 2048) (l : Fin 128), j = ix3 p r l := ⟨j 0, j 1, j 2, eq_ix3 j⟩
  rw [emb_o]
  exact outAt_apply m c h0 h1 t p r l

theorem covered (i : S4x65536x128.Idx) :
    ∃ t : Fin cfg0.N, (cfg0.win 3).flush t = true ∧ i ∈ ((cfg0.win 3).blk t).view.set := by
  have h1 : (i 1).val < 65536 := (i 1).isLt
  have hN : grid0.N = 32 := by decide +kernel
  refine ⟨⟨(i 1).val / 2048, by show _ < grid0.N; rw [hN]; omega⟩, flush0_3 _, ?_⟩
  have h := ((cfg0.win 3).blk (⟨(i 1).val / 2048, by show _ < grid0.N; rw [hN]; omega⟩ : Fin cfg0.N)).view.emb_mem_set
    (ix3 (i 0) ⟨(i 1).val % 2048, Nat.mod_lt _ (by decide)⟩ (i 2))
  refine (congrArg (· ∈ _) ((emb_o _ _ _ _).trans (funext fun a => Fin.ext ?_))).mp h
  match a with
  | ⟨0, _⟩ => rfl
  | ⟨1, _⟩ => show 2048 * ((i 1).val / 2048) + (i 1).val % 2048 = (i 1).val; omega
  | ⟨2, _⟩ => rfl

theorem final (c : Dev nD) (h0 : ∀ i, ∃ a : ℝ, m ((c : Thread nD τ).loc main_arg0) i = (a : EReal))
    (h1 : ∀ i, ∃ a : ℝ, m ((c : Thread nD τ).loc main_arg1) i = (a : EReal)) :
    (dats m 0 c).arrAt 3 cfg0.N = G m c :=
  (dats m 0 c).arrAt_eq_of_cover 3 (G m c) (fun t _ => flushed_eq m c h0 h1 t) covered

/-- The kernel ends with the reference's function of its arguments, and its arguments as they were. -/
theorem run_value (h0 : ∀ c : Dev nD, ∀ i, ∃ a : ℝ, m ((c : Thread nD τ).loc main_arg0) i = (a : EReal))
    (h1 : ∀ c : Dev nD, ∀ i, ∃ a : ℝ, m ((c : Thread nD τ).loc main_arg1) i = (a : EReal)) :
    θ_run defs (onTc (τ := τ) (main (F := Ideal))) ⟨m, fun _ => 0, ρ⟩ (fun r => ∀ c : Dev nD,
      r.2.mem ((c.tc : Thread nD τ).loc main_v18) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m c (h0 c) (h1 c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end Cert.Proof.Attn
-- ==== Proof.FfnMath.lean ====
module

public import Idealize.ShloMosaic.PureOps.Ideal.Laws

/-! # The gated convolutional network on numbers

The modulated root-mean-square norm of a row, the three-tap convolution and the gate. -/

@[expose] public section

noncomputable section

namespace Cert.Proof.Ffn

open Idealize.ShloMosaic

/-- The number a float word denotes. -/
abbrev word (b : BitVec 32) : EReal := (FloatOps.ofBits .f32 b : Ideal .f32)

theorem word_zero : word 0x00000000#32 = 0 := by simp [word, Ideal.ofBits, Ideal.ieee]

theorem word_one : word 0x3F800000#32 = 1 := by simp [word, Ideal.ofBits, Ideal.ieee, -EReal.coe_mul]; norm_num

/-- The column of a sequence's six vectors where vector `k` has entry `d`. -/
def mcol (k : Fin 6) (d : Fin 1024) : Fin 6144 := ⟨1024 * k.val + d.val, by have := k.isLt; have := d.isLt; omega⟩

/-- A row `x`, normed, weighted by `g`, scaled by `1 + sc` and shifted by `sh`. -/
def normed (x g sh sc : Fin 1024 → EReal) (d : Fin 1024) : EReal :=
  x d * Ideal.rsqrt (Ideal.div (∑ k, x k * x k) (word 0x44800000#32) + word 0x358637BD#32) * g d
    * (word 0x3F800000#32 + sc d) + sh d

/-- Three taps and a bias. -/
def conv3 (w₀ w₁ w₂ b p c n : EReal) : EReal := w₀ * p + w₁ * c + w₂ * n + b

/-- The gate: `g · σ(g) · v`. -/
def gate (g v : EReal) : EReal := g * Ideal.logistic g * v

end Cert.Proof.Ffn
-- ==== Proof.FfnChunk.lean ====
module

public import proofs.«01_k».proof.Proof.Gen.Kernel2Ideal.Skeleton
public import proofs.«01_k».proof.Proof.FfnMath
public import Idealize.ShloMosaic.Lib.KernelVsHost
public import Idealize.ShloMosaic.Lib.ValueIdx
public import Idealize.ShloMosaic.PureOps.Ideal.Laws

/-! # One chunk of the network's inner channels

The kernel works on 256 channels at a time. The text of a chunk, the same for all eleven, and its value at an index. -/

@[expose] public section

set_option maxRecDepth 16384

noncomputable section

namespace Cert.Proof.Ffn

open Cert.Kernel2Ideal Cert.Kernel2Ideal.Gen
open Idealize.ShloMosaic Idealize.ShloMosaic.TcCoe Idealize.ShloMosaic.ValueIdx

variable (hb : FVec Ideal S1056x1024 .bf16)

/-- A tile's rows, with their neighbours, projected on 256 channels. -/
def proj (W : Vec Ideal S1024x256 .bf16) : FVec Ideal S1056x256 .f32 :=
  matmul dot_S1056x1024_S1024x256_S1056x256_1_0_0_1_n_n none hb (shapeCast S1024x256 W shapeCasts_S1024x256_S1024x256 : FVec Ideal S1024x256 .bf16)
    (constant S1056x256 .f32 0x00000000#32)

/-- One tap on the tile's rows. -/
def tap (T : FVec Ideal S1x256 .f32) (y : FVec Ideal S1056x256 .f32) : FVec Ideal S1024x256 .f32 :=
  mulf (broadcastTo S1024x256 T broadcasts_S1x256_S1024x256)
    (extractStridedSlice S1024x256 ![16, 0] y slices_S1056x256_o16_0_S1024x256)

/-- The three taps and the bias. -/
def half (W : Vec Ideal S1024x256 .bf16) (T : Vec Ideal S3x256 .f32) (B : Vec Ideal S1x256 .f32) : FVec Ideal S1024x256 .f32 :=
  addf (addf (addf
    (tap (extractStridedSlice S1x256 ![0, 0] T slices_S3x256_o0_0_S1x256) (dynamicRotate 0 1#32 none (proj hb W) rotates_S1056x256_d0))
    (tap (extractStridedSlice S1x256 ![1, 0] T slices_S3x256_o1_0_S1x256) (proj hb W)))
    (tap (extractStridedSlice S1x256 ![2, 0] T slices_S3x256_o2_0_S1x256) (dynamicRotate 0 1055#32 none (proj hb W) rotates_S1056x256_d0)))
    (broadcastTo S1024x256 (shapeCast S1x256 B shapeCasts_S1x256_S1x256) broadcasts_S1x256_S1024x256)

/-- The gated chunk. -/
def chunk (W : Vec Ideal S1024x256 .bf16) (T : Vec Ideal S3x256 .f32) (B : Vec Ideal S1x256 .f32)
    (W' : Vec Ideal S1024x256 .bf16) (T' : Vec Ideal S3x256 .f32) (B' : Vec Ideal S1x256 .f32) : FVec Ideal S1024x256 .bf16 :=
  shapeCast S1024x256 (truncf .bf16 (mulf (mulf (half hb W T B) (logistic (half hb W T B))) (half hb W' T' B')) bitsLt_bf16_f32
    : FVec Ideal S1024x256 .bf16) shapeCasts_S1024x256_S1024x256

/-! ## The eleven chunks have this text -/

variable (W W' : Vec Ideal S1024x256 .bf16) (T T' : Vec Ideal S3x256 .f32) (B B' : Vec Ideal S1x256 .f32)

theorem chunk_0 (v10 v11 : BitVec 1) (v32 : FVec Ideal S1056x1024 .f32) (v34 v35 : FVec Ideal S1x1024 .f32) (v39 : Vec Ideal S1x1x1024 .f32) :
    k0_pay7 (k0_pay5 v10 v11 v32 v34 v35 v39) (k0_pay6 v10 v11 v32 v34 v35 v39 W T) B W' T' B'
      = chunk (k0_pay5 v10 v11 v32 v34 v35 v39) W T B W' T' B' := rfl
theorem chunk_1 : k0_pay11 (k0_pay10 hb (k0_pay8 hb W) T (k0_pay9 hb W) B W' T' B') = chunk hb W T B W' T' B' := rfl
theorem chunk_2 : k0_pay16 (k0_pay12 hb W T B) T' (k0_pay14 hb W') (k0_pay15 hb W' T') B' = chunk hb W T B W' T' B' := rfl
theorem chunk_3 : k0_pay19 (k0_pay17 hb W T B) (k0_pay18 hb W') T' B' = chunk hb W T B W' T' B' := rfl
theorem chunk_4 : k0_pay24 hb (k0_pay21 hb W) (k0_pay22 hb W T) (k0_pay23 T) B W' T' B' = chunk hb W T B W' T' B' := rfl
theorem chunk_5 : k0_pay28 (k0_pay26 hb W' T' B') (k0_pay27 (k0_pay25 hb W) T B) = chunk hb W T B W' T' B' := rfl
theorem chunk_6 : k0_pay34 (k0_pay29 hb W T B) (k0_pay30 hb W') T' (k0_pay31 hb W') (k0_pay32 hb W' T') (k0_pay33 T') B'
    = chunk hb W T B W' T' B' := rfl
theorem chunk_7 : k0_pay36 hb (k0_pay35 hb W T B) W' T' B' = chunk hb W T B W' T' B' := rfl
theorem chunk_8 : k0_pay42 hb T (k0_pay38 hb W) (k0_pay39 hb W T) (k0_pay40 T) (k0_pay41 hb W) B W' T' B'
    = chunk hb W T B W' T' B' := rfl
theorem chunk_9 : k0_pay47 (k0_pay44 hb (k0_pay43 W) T B) (k0_pay45 hb W' T') (k0_pay46 B') = chunk hb W T B W' T' B' := rfl
theorem chunk_10 : k0_pay52 (k0_pay48 hb W T B) (k0_pay49 hb W') T' (k0_pay50 hb W') (k0_pay51 hb W') B'
    = chunk hb W T B W' T' B' := rfl

/-! ## At an index -/

theorem proj_lhs (j : S1056x256.Idx) (q : dot_S1056x1024_S1024x256_S1056x256_1_0_0_1_n_n.contr.Idx) :
    (dot_S1056x1024_S1024x256_S1056x256_1_0_0_1_n_n.lhsIdx j q 0).val = (j 0).val
    ∧ (dot_S1056x1024_S1024x256_S1056x256_1_0_0_1_n_n.lhsIdx j q 1).val = (q ⟨0, by decide⟩).val := ⟨rfl, rfl⟩
theorem proj_rhs (j : S1056x256.Idx) (q : dot_S1056x1024_S1024x256_S1056x256_1_0_0_1_n_n.contr.Idx) :
    (dot_S1056x1024_S1024x256_S1056x256_1_0_0_1_n_n.rhsIdx j q 0).val = (q ⟨0, by decide⟩).val
    ∧ (dot_S1056x1024_S1024x256_S1056x256_1_0_0_1_n_n.rhsIdx j q 1).val = (j 1).val := ⟨rfl, rfl⟩

theorem proj_apply (e : Fin 1056) (n : Fin 256) : proj hb W (ix2 e n) = ∑ d : Fin 1024, hb (ix2 e d) * W (ix2 d n) := by
  have hw : (shapeCast S1024x256 W shapeCasts_S1024x256_S1024x256 : FVec Ideal S1024x256 .bf16) = W := shapeCast_self _ _
  unfold proj
  rw [hw]
  simp only [matmul]
  rw [Ideal.matmul_apply, ← Equiv.sum_comp (contrEquiv1 dot_S1056x1024_S1024x256_S1056x256_1_0_0_1_n_n 1024 rfl rfl).symm]
  refine (congr (congrArg _ word_zero) (Finset.sum_congr rfl fun l _ => ?_)).trans (zero_add _)
  have hl := contrEquiv1_symm_val dot_S1056x1024_S1024x256_S1056x256_1_0_0_1_n_n 1024 rfl rfl l
  refine congrArg₂ (· * ·) (congrArg hb (funext fun x => Fin.ext ?_)) (congrArg W (funext fun x => Fin.ext ?_))
  · match x with
    | ⟨0, _⟩ => exact (proj_lhs _ _).1
    | ⟨1, _⟩ => exact (proj_lhs _ _).2.trans hl
  · match x with
    | ⟨0, _⟩ => exact (proj_rhs _ _).1.trans hl
    | ⟨1, _⟩ => exact (proj_rhs _ _).2

theorem tap_apply (t : FVec Ideal S1x256 .f32) (y : FVec Ideal S1056x256 .f32) (r : Fin 1024) (n : Fin 256) (e : Fin 1056)
    (he : e.val = 16 + r.val) : tap t y (ix2 r n) = t (ix2 0 n) * y (ix2 e n) := by
  unfold tap
  rw [mulf_apply]
  refine congrArg₂ (· * ·) ?_ ?_
  · exact broadcastTo_apply t broadcasts_S1x256_S1024x256 (ix2 r n) (ix2 0 n) fun x => by match x with | ⟨0, _⟩ => rfl | ⟨1, _⟩ => rfl
  · exact extractStridedSlice_apply _ _ _ _ _ fun x => by
      match x with
      | ⟨0, _⟩ => exact he
      | ⟨1, _⟩ => exact (Nat.zero_add _).symm

theorem row_apply (o : Fin 3) (n : Fin 256) (off : Fin 2 → ℕ) (h : S3x256.Slices off S1x256) (ho : off = ![o.val, 0]) :
    extractStridedSlice S1x256 off T h (ix2 0 n) = T (ix2 o n) := by
  subst ho
  exact extractStridedSlice_apply _ _ _ _ _ fun x => by
    match x with
    | ⟨0, _⟩ => rfl
    | ⟨1, _⟩ => exact (Nat.zero_add _).symm

/-- A channel of a half: the projections of the rows `15 + r`, `16 + r` and `17 + r`. -/
theorem half_apply (r : Fin 1024) (n : Fin 256) (u : ℕ → EReal)
    (hu : ∀ e : Fin 1056, u e.val = ∑ d : Fin 1024, hb (ix2 e d) * W (ix2 d n)) :
    half hb W T B (ix2 r n) = conv3 (T (ix2 0 n)) (T (ix2 1 n)) (T (ix2 2 n)) (B (ix2 0 n))
      (u (15 + r.val)) (u (16 + r.val)) (u (17 + r.val)) := by
  have hr := r.isLt
  have hp : ∀ e : Fin 1056, proj hb W (ix2 e n) = u e.val := fun e => (proj_apply hb W e n).trans (hu e).symm
  have hB : (shapeCast S1x256 B shapeCasts_S1x256_S1x256 : FVec Ideal S1x256 .f32) = B := shapeCast_self _ _
  unfold half conv3
  rw [hB]
  generalize proj hb W = y at hp
  rw [addf_apply, addf_apply, addf_apply]
  refine congrArg₂ (· + ·) (congrArg₂ (· + ·) (congrArg₂ (· + ·) ?_ ?_) ?_) ?_
  · rw [tap_apply _ _ r n ⟨16 + r.val, by omega⟩ rfl, row_apply T 0 n ![0, 0] slices_S3x256_o0_0_S1x256 rfl]
    refine congrArg (_ * ·) ((dynamicRotate_apply (0 : Fin 2) 1#32 y rotates_S1056x256_d0 _ (ix2 (⟨15 + r.val, by omega⟩ : Fin 1056) n) fun b => ?_).trans (hp _))
    match b with
    | ⟨0, _⟩ => show 15 + r.val = (16 + r.val + 1056 - 1) % 1056; omega
    | ⟨1, _⟩ => rfl
  · rw [tap_apply _ _ r n ⟨16 + r.val, by omega⟩ rfl, row_apply T 1 n ![1, 0] slices_S3x256_o1_0_S1x256 rfl]
    exact congrArg (_ * ·) (hp _)
  · rw [tap_apply _ _ r n ⟨16 + r.val, by omega⟩ rfl, row_apply T 2 n ![2, 0] slices_S3x256_o2_0_S1x256 rfl]
    refine congrArg (_ * ·) ((dynamicRotate_apply (0 : Fin 2) 1055#32 y rotates_S1056x256_d0 _ (ix2 (⟨17 + r.val, by omega⟩ : Fin 1056) n) fun b => ?_).trans (hp _))
    match b with
    | ⟨0, _⟩ => show 17 + r.val = (16 + r.val + 1056 - 1055) % 1056; omega
    | ⟨1, _⟩ => rfl
  · exact broadcastTo_apply B broadcasts_S1x256_S1024x256 (ix2 r n) (ix2 0 n) fun x => by match x with | ⟨0, _⟩ => rfl | ⟨1, _⟩ => rfl

theorem chunk_apply (i : S1024x256.Idx) :
    chunk hb W T B W' T' B' i = gate (half hb W T B i) (half hb W' T' B' i) := by
  unfold chunk
  rw [shapeCast_self]
  rfl

end Cert.Proof.Ffn
-- ==== Proof.FfnHid.lean ====
module

public import proofs.«01_k».proof.Proof.FfnChunk
public import Idealize.ShloMosaic.Lib.Pipeline.Value

/-! # The modulated norm of a tile's rows and their neighbours

A tile of 1024 tokens is joined with 16 tokens before it and 16 after it; the joined rows are normed and modulated, and
the neighbours beyond an end of the sequence are made zero. -/

@[expose] public section

set_option maxRecDepth 16384

noncomputable section

namespace Cert.Proof.Ffn

open Cert.Kernel2Ideal Cert.Kernel2Ideal.Gen
open Idealize.ShloMosaic Idealize.ShloMosaic.TcCoe Idealize.ShloMosaic.ValueIdx

variable (x0 : Vec Ideal S16x1024 .f32) (x1 : Vec Ideal S1024x1024 .f32) (x2 : Vec Ideal S16x1024 .f32)
  (x4 : Vec Ideal S1x1024 .f32)

/-- The joined rows. -/
def joined : FVec Ideal S1056x1024 .f32 :=
  concatenate S1056x1024 0 [⟨S16x1024, x0⟩, ⟨S1024x1024, x1⟩, ⟨S16x1024, x2⟩] concatenates_S16x1024_S1024x1024_S16x1024_S1056x1024_d0

/-- Row `e` of the joined rows. -/
def rowOf (e : ℕ) (k : Fin 1024) : EReal :=
  if h : e < 16 then x0 (ix2 ⟨e, h⟩ k) else
    if h : e - 16 < 1024 then x1 (ix2 ⟨e - 16, h⟩ k) else if h : e - 1040 < 16 then x2 (ix2 ⟨e - 1040, h⟩ k) else 0

theorem joined_apply (e : Fin 1056) (k : Fin 1024) : joined x0 x1 x2 (ix2 e k) = rowOf x0 x1 x2 e.val k := by
  have he := e.isLt
  unfold rowOf joined
  split
  · refine concatenate_apply_piece (t := S1056x1024) 0 _ _ (ix2 e k) 0 (by show 0 < 3; decide) S16x1024 _ rfl rfl 0 rfl _ (fun b hb => ?_) ?_
    · match b with
      | ⟨0, _⟩ => exact absurd rfl hb
      | ⟨1, _⟩ => rfl
    · exact Nat.zero_add _
  split
  · refine concatenate_apply_piece (t := S1056x1024) 0 _ _ (ix2 e k) 1 (by show 1 < 3; decide) S1024x1024 _ rfl rfl 16 rfl _ (fun b hb => ?_) ?_
    · match b with
      | ⟨0, _⟩ => exact absurd rfl hb
      | ⟨1, _⟩ => rfl
    · show 16 + (e.val - 16) = e.val
      omega
  rw [dif_pos (by omega)]
  refine concatenate_apply_piece (t := S1056x1024) 0 _ _ (ix2 e k) 2 (by show 2 < 3; decide) S16x1024 _ rfl rfl 1040 rfl _ (fun b hb => ?_) ?_
  · match b with
    | ⟨0, _⟩ => exact absurd rfl hb
    | ⟨1, _⟩ => rfl
  · show 1040 + (e.val - 1040) = e.val
    omega

/-- The text of the normed rows, over the joined ones. -/
def normRows (v18 : FVec Ideal S1056x1024 .f32) : FVec Ideal S1056x1024 .f32 :=
  mulf (mulf v18 (broadcastTo S1056x1024 (rsqrt (addf (divf
      (shapeCast S1056x1 (multiReduction .add [1] S1056 (mulf v18 v18) 0x00000000#32 reduces_S1056x1024_S1056 (.inl rfl) rfl) shapeCasts_S1056_S1056x1)
      (broadcast S1056x1 (Scalar.ofBits .f32 0x44800000#32 : Ideal .f32))) (broadcast S1056x1 (Scalar.ofBits .f32 0x358637BD#32 : Ideal .f32))))
      broadcasts_S1056x1_S1056x1024)) (broadcastTo S1056x1024 x4 broadcasts_S1x1024_S1056x1024)

theorem pay2_eq : k0_pay2 x1 x0 x2 x4 = normRows x4 (joined x0 x1 x2) := by
  have h0 : (shapeCast S16x1024 x0 shapeCasts_S16x1024_S16x1024 : FVec Ideal S16x1024 .f32) = x0 := shapeCast_self _ _
  have h1 : (shapeCast S1024x1024 x1 shapeCasts_S1024x1024_S1024x1024 : FVec Ideal S1024x1024 .f32) = x1 := shapeCast_self _ _
  have h2 : (shapeCast S16x1024 x2 shapeCasts_S16x1024_S16x1024 : FVec Ideal S16x1024 .f32) = x2 := shapeCast_self _ _
  have h4 : (shapeCast S1x1024 x4 shapeCasts_S1x1024_S1x1024 : FVec Ideal S1x1024 .f32) = x4 := shapeCast_self _ _
  unfold k0_pay2 k0_pay1
  dsimp only
  rw [h0, h1, h2, h4]
  rfl

theorem normRows_apply (y : FVec Ideal S1056x1024 .f32) (e : Fin 1056) (d : Fin 1024) (u : Fin 1024 → EReal)
    (hu : ∀ k, y (ix2 e k) = u k) :
    normRows x4 y (ix2 e d) = u d * Ideal.rsqrt (Ideal.div (∑ k, u k * u k) (word 0x44800000#32) + word 0x358637BD#32) * x4 (ix2 0 d) := by
  have hi : ∀ (k : Fin 1024) (i : S1056x1024.Idx), (i 0).val = e.val → (i 1).val = k.val → mulf y y i = u k * u k := fun k i h0 h1 => by
    have : i = ix2 e k := funext fun a => Fin.ext (by match a with | ⟨0, _⟩ => exact h0 | ⟨1, _⟩ => exact h1)
    rw [this, mulf_apply, hu]
  unfold normRows
  rw [mulf_apply, mulf_apply, hu]
  refine congrArg₂ (· * ·) (congrArg (_ * ·) ?_) ?_
  · refine (broadcastTo_apply _ broadcasts_S1056x1_S1056x1024 (ix2 e d) (ix2 e 0) fun x => by match x with | ⟨0, _⟩ => rfl | ⟨1, _⟩ => rfl).trans ?_
    refine congrArg (fun z => Ideal.rsqrt (Ideal.div z (word 0x44800000#32) + word 0x358637BD#32)) ?_
    refine (shapeCast_apply _ _ (ix2 e 0) (ix1 e) (by
      rw [Shape.rowMajor_val_one, Shape.rowMajor_val_two]; show e.val = e.val * 1 + 0; omega)).trans ?_
    refine (Ideal.multiReduction_add_single _ _ _ _ _ _).trans ?_
    refine Finset.sum_congr rfl fun k _ => ?_
    exact hi k _ rfl rfl
  · exact broadcastTo_apply x4 broadcasts_S1x1024_S1056x1024 (ix2 e d) (ix2 0 d) fun x => by match x with | ⟨0, _⟩ => rfl | ⟨1, _⟩ => rfl

/-- Row `e` belongs to the sequence: it is no neighbour beyond the sequence's start or end. -/
def inside (first last : Prop) (e : ℕ) : Prop := (16 ≤ e ∨ ¬ first) ∧ (e < 1040 ∨ ¬ last)

theorem mask_word : ∀ (e : Fin 1056) (p q : BitVec 1),
    IntOp.andi (IntOp.ori (IntOp.cmpi .sge (BitVec.ofNat 32 e.val) 16#32) (Scalar.xori p 1#1))
      (IntOp.ori (IntOp.cmpi .slt (BitVec.ofNat 32 e.val) 1040#32) (Scalar.xori q 1#1))
    = if (16 ≤ e.val ∨ p ≠ 1#1) ∧ (e.val < 1040 ∨ q ≠ 1#1) then 1#1 else 0#1 := by decide +kernel

/-- The hidden rows: the normed ones, modulated and masked. -/
theorem pay5_apply (p q : BitVec 1) (y : FVec Ideal S1056x1024 .f32) (sc sh : Vec Ideal S1x1x1024 .f32) (e : Fin 1056) (d : Fin 1024) :
    k0_pay5 p q y (k0_pay3 sc) k0_pay4 sh (ix2 e d)
      = if (16 ≤ e.val ∨ p ≠ 1#1) ∧ (e.val < 1040 ∨ q ≠ 1#1)
        then y (ix2 e d) * (word 0x3F800000#32 + sc (ix3 0 0 d)) + sh (ix3 0 0 d) else 0 := by
  have hc : ∀ z : Vec Ideal S1x1x1024 .f32, (shapeCast S1x1024 z shapeCasts_S1x1x1024_S1x1024 : FVec Ideal S1x1024 .f32) (ix2 0 d) = z (ix3 0 0 d) :=
    fun z => shapeCast_apply _ _ _ _ (by
      rw [Shape.rowMajor_val_three, Shape.rowMajor_val_two]; show (0 * 1 + 0) * 1024 + d.val = 0 * 1024 + d.val; omega)
  have hm : ∀ (v : IVec S1056x1 1), (broadcastTo S1056x1024 (shapeCast S1056x1 v shapeCasts_S1056x1_S1056x1) broadcasts_S1056x1_S1056x1024) (ix2 e d) = v (ix2 e 0) :=
    fun v => (broadcastTo_apply _ broadcasts_S1056x1_S1056x1024 (ix2 e d) (ix2 e 0) fun x => by match x with | ⟨0, _⟩ => rfl | ⟨1, _⟩ => rfl).trans
      (congrFun (shapeCast_self _ _) _)
  unfold k0_pay5 k0_pay3 k0_pay4
  dsimp only
  rw [truncf_apply, select_apply, hm]
  have hw : ∀ w : BitVec 1, w = (if (16 ≤ e.val ∨ p ≠ 1#1) ∧ (e.val < 1040 ∨ q ≠ 1#1) then 1#1 else 0#1) → ∀ A B : EReal,
      Scalar.select w A B = if (16 ≤ e.val ∨ p ≠ 1#1) ∧ (e.val < 1040 ∨ q ≠ 1#1) then A else B := fun w hw A B => by
    subst hw
    split
    · rw [select_one]
    · rw [select_zero]
  refine (hw _ ((?_ : _ = _).trans (mask_word e p q)) _ _).trans ?_
  · have hi := iota_single_apply .tc S1056x1 32 0 iota_S1056x1_d0_w32 (ix2 e 0)
    show IntOp.andi (IntOp.ori (IntOp.cmpi .sge (iota .tc S1056x1 32 [0] iota_S1056x1_d0_w32 (ix2 e 0)) 16#32) (Scalar.xori p 1#1))
      (IntOp.ori (IntOp.cmpi .slt (iota .tc S1056x1 32 [0] iota_S1056x1_d0_w32 (ix2 e 0)) 1040#32) (Scalar.xori q 1#1)) = _
    rw [hi]
  refine if_congr Iff.rfl ?_ word_zero
  rw [addf_apply, mulf_apply]
  refine congrArg₂ (· + ·) (congrArg (_ * ·) ?_) ?_
  · refine (broadcastTo_apply _ broadcasts_S1x1024_S1056x1024 (ix2 e d) (ix2 0 d) fun x => by match x with | ⟨0, _⟩ => rfl | ⟨1, _⟩ => rfl).trans ?_
    rw [addf_apply, hc]
    rfl
  · refine (broadcastTo_apply _ broadcasts_S1x1024_S1056x1024 (ix2 e d) (ix2 0 d) fun x => by match x with | ⟨0, _⟩ => rfl | ⟨1, _⟩ => rfl).trans ?_
    exact hc sh

end Cert.Proof.Ffn
-- ==== Proof.FfnCells.lean ====
module

public import proofs.«01_k».proof.Proof.FfnHid
public import proofs.«01_k».proof.Proof.Gen.Kernel2Ideal.Frame
public import Idealize.ShloMosaic.Lib.Pipeline.ValueKit.Tiles

/-! # What a point leaves in its output block

The eleven chunks are laid side by side in the scratch, read back at once, and projected to the tile's 1024 channels. -/

@[expose] public section

set_option maxRecDepth 16384

noncomputable section

namespace Cert.Proof.Ffn

open Cert.Kernel2Ideal Cert.Kernel2Ideal.Gen
open Idealize.ShloMosaic Idealize.ShloMosaic.TcCoe Idealize.ShloMosaic.ValueIdx Idealize.SL.Sem

variable (hb : FVec Ideal S1056x1024 .bf16) (x5 : Vec Ideal S1024x5632 .bf16) (x6 : Vec Ideal S3x5632 .f32) (x7 : Vec Ideal S1x5632 .f32)

/-- Row `e` of the hidden rows, projected on inner channel `n`. -/
def projAt (e : ℕ) (n : Fin 5632) : EReal :=
  if h : e < 1056 then ∑ d : Fin 1024, hb (ix2 ⟨e, h⟩ d) * x5 (ix2 d n) else 0

/-- The convolution of the tile's row `r` at inner channel `n`. -/
def convAt (r : ℕ) (n : Fin 5632) : EReal :=
  conv3 (x6 (ix2 0 n)) (x6 (ix2 1 n)) (x6 (ix2 2 n)) (x7 (ix2 0 n))
    (projAt hb x5 (15 + r) n) (projAt hb x5 (16 + r) n) (projAt hb x5 (17 + r) n)

/-- The gated channel `j` of the tile's row `r`. -/
def cellAt (r : ℕ) (j : Fin 2816) : EReal :=
  gate (convAt hb x5 x6 x7 r ⟨j.val, j.isLt.trans (by decide)⟩)
    (convAt hb x5 x6 x7 r ⟨2816 + j.val, Nat.add_lt_add_left j.isLt 2816⟩)

/-- The scratch's contents. -/
def cells (y : S1024x2816.Idx) : EReal := cellAt hb x5 x6 x7 (y 0).val (y 1)

theorem half_ld (o : ℕ) (i5 i6 i7) (r : Fin 1024) (n : Fin 256) (N : Fin 5632) (hN : N.val = o + n.val) :
    half hb (View.ld (Val := Elt Ideal) (e' := .bf16) x5 (Rect.unit (s := S1024x5632) ![0, o] ![1024, 256] i5))
      (View.ld (Val := Elt Ideal) (e' := .f32) x6 (Rect.unit (s := S3x5632) ![0, o] ![3, 256] i6))
      (View.ld (Val := Elt Ideal) (e' := .f32) x7 (Rect.unit (s := S1x5632) ![0, o] ![1, 256] i7)) (ix2 r n)
      = convAt hb x5 x6 x7 r.val N := by
  have h5 : ∀ d : Fin 1024, View.ld (Val := Elt Ideal) (e' := .bf16) x5 (Rect.unit (s := S1024x5632) ![0, o] ![1024, 256] i5) (ix2 d n) = x5 (ix2 d N) :=
    fun d => View.ld_unit_apply_of _ _ _ _ _ _ fun a => by
      match a with
      | ⟨0, _⟩ => exact (Nat.zero_add _).symm
      | ⟨1, _⟩ => exact hN
  have h6 : ∀ d : Fin 3, View.ld (Val := Elt Ideal) (e' := .f32) x6 (Rect.unit (s := S3x5632) ![0, o] ![3, 256] i6) (ix2 d n) = x6 (ix2 d N) :=
    fun d => View.ld_unit_apply_of _ _ _ _ _ _ fun a => by
      match a with
      | ⟨0, _⟩ => exact (Nat.zero_add _).symm
      | ⟨1, _⟩ => exact hN
  have h7 : ∀ d : Fin 1, View.ld (Val := Elt Ideal) (e' := .f32) x7 (Rect.unit (s := S1x5632) ![0, o] ![1, 256] i7) (ix2 d n) = x7 (ix2 d N) :=
    fun d => View.ld_unit_apply_of _ _ _ _ _ _ fun a => by
      match a with
      | ⟨0, _⟩ => exact (Nat.zero_add _).symm
      | ⟨1, _⟩ => exact hN
  refine (half_apply hb _ _ _ r n (fun e => projAt hb x5 e N) fun e => ?_).trans ?_
  · unfold projAt
    rw [dif_pos e.isLt]
    exact Finset.sum_congr rfl fun d _ => congrArg (_ * ·) (h5 d).symm
  · unfold convAt
    exact congrFun (congrFun (congrFun (congr (congr (congr (congrArg conv3 (h6 0)) (h6 1)) (h6 2)) (h7 0)) _) _) _

theorem piece_apply (o o' : ℕ) (ho : o' = 2816 + o) (i0 i5 i6 i7 i5' i6' i7')
    (x : (Rect.unit (s := S1024x2816) ![0, o] ![1024, 256] i0).shape.Idx) :
    chunk hb (View.ld (Val := Elt Ideal) (e' := .bf16) x5 (Rect.unit (s := S1024x5632) ![0, o] ![1024, 256] i5))
      (View.ld (Val := Elt Ideal) (e' := .f32) x6 (Rect.unit (s := S3x5632) ![0, o] ![3, 256] i6))
      (View.ld (Val := Elt Ideal) (e' := .f32) x7 (Rect.unit (s := S1x5632) ![0, o] ![1, 256] i7))
      (View.ld (Val := Elt Ideal) (e' := .bf16) x5 (Rect.unit (s := S1024x5632) ![0, o'] ![1024, 256] i5'))
      (View.ld (Val := Elt Ideal) (e' := .f32) x6 (Rect.unit (s := S3x5632) ![0, o'] ![3, 256] i6'))
      (View.ld (Val := Elt Ideal) (e' := .f32) x7 (Rect.unit (s := S1x5632) ![0, o'] ![1, 256] i7')) x
      = cells hb x5 x6 x7 ((Rect.unit (s := S1024x2816) ![0, o] ![1024, 256] i0).emb x) := by
  obtain ⟨r, n, rfl⟩ : ∃ (r : Fin 1024) (n : Fin 256), x = ix2 r n := ⟨x 0, x 1, eq_ix2 x⟩
  have h0 := Rect.idx_unit_val (s := S1024x2816) ![0, o] ![1024, 256] i0 (ix2 r n) 0
  have h1 := Rect.idx_unit_val (s := S1024x2816) ![0, o] ![1024, 256] i0 (ix2 r n) 1
  have e0 : ((Rect.unit (s := S1024x2816) ![0, o] ![1024, 256] i0).emb (ix2 r n) 0).val = r.val := h0.trans (Nat.zero_add _)
  have e1 : ((Rect.unit (s := S1024x2816) ![0, o] ![1024, 256] i0).emb (ix2 r n) 1).val = o + n.val := h1
  rw [chunk_apply]
  unfold cells cellAt
  rw [e0]
  refine congrArg₂ gate (half_ld hb x5 x6 x7 o _ _ _ r n _ e1) (half_ld hb x5 x6 x7 o' _ _ _ r n _ ?_)
  show 2816 + ((Rect.unit (s := S1024x2816) ![0, o] ![1024, 256] i0).emb (ix2 r n) 1).val = o' + n.val
  rw [e1, ho, Nat.add_assoc]

theorem cover_cons (y : S1024x2816.Idx) (o : ℕ) (h : (y 1).val < o + 256) (i0)
    (w : (Rect.unit (s := S1024x2816) ![0, o] ![1024, 256] i0).shape.Idx → Elt Ideal .bf16) (L : List (View.Piece (Elt Ideal) S1024x2816 .bf16))
    (hL : (y 1).val < o → ∃ p ∈ L, y ∈ p.1.set) :
    ∃ p ∈ (⟨Rect.unit (s := S1024x2816) ![0, o] ![1024, 256] i0, w⟩ : View.Piece (Elt Ideal) S1024x2816 .bf16) :: L, y ∈ p.1.set := by
  by_cases ho : (y 1).val < o
  · obtain ⟨p, hp, hy⟩ := hL ho
    exact ⟨p, List.mem_cons_of_mem _ hp, hy⟩
  · refine ⟨_, List.mem_cons_self, (Rect.mem_set_unit (inb := i0)).2 fun a => ?_⟩
    match a with
    | ⟨0, _⟩ => exact ⟨Nat.zero_le _, (y 0).isLt.trans_eq (Nat.zero_add 1024).symm⟩
    | ⟨1, _⟩ => exact ⟨Nat.le_of_not_lt ho, h⟩

/-! ## The last product -/

theorem out_lhs (j : S1024x1024.Idx) (q : dot_S1024x2816_S2816x1024_S1024x1024_1_0_0_1_n_n.contr.Idx) :
    (dot_S1024x2816_S2816x1024_S1024x1024_1_0_0_1_n_n.lhsIdx j q 0).val = (j 0).val
    ∧ (dot_S1024x2816_S2816x1024_S1024x1024_1_0_0_1_n_n.lhsIdx j q 1).val = (q ⟨0, by decide⟩).val := ⟨rfl, rfl⟩
theorem out_rhs (j : S1024x1024.Idx) (q : dot_S1024x2816_S2816x1024_S1024x1024_1_0_0_1_n_n.contr.Idx) :
    (dot_S1024x2816_S2816x1024_S1024x1024_1_0_0_1_n_n.rhsIdx j q 0).val = (q ⟨0, by decide⟩).val
    ∧ (dot_S1024x2816_S2816x1024_S1024x1024_1_0_0_1_n_n.rhsIdx j q 1).val = (j 1).val := ⟨rfl, rfl⟩

/-- The residual, and the gated projection. -/
theorem pay53_apply (x1 : FVec Ideal S1024x1024 .f32) (A : Vec Ideal S1024x2816 .bf16) (x8 : Vec Ideal S2816x1024 .bf16)
    (g : Vec Ideal S1x1x1024 .f32) (r : Fin 1024) (d : Fin 1024) :
    k0_pay53 (k0_pay1 x1) A x8 g (ix2 r d) = x1 (ix2 r d) + g (ix3 0 0 d) * ∑ j : Fin 2816, A (ix2 r j) * x8 (ix2 j d) := by
  have hw : (shapeCast S2816x1024 x8 shapeCasts_S2816x1024_S2816x1024 : FVec Ideal S2816x1024 .bf16) = x8 := shapeCast_self _ _
  have h1 : (shapeCast S1024x1024 x1 shapeCasts_S1024x1024_S1024x1024 : FVec Ideal S1024x1024 .f32) = x1 := shapeCast_self _ _
  unfold k0_pay53 k0_pay1
  dsimp only
  rw [hw, h1, addf_apply, mulf_apply]
  refine congrArg (_ + ·) (congrArg₂ (· * ·) ?_ ?_)
  · refine (broadcastTo_apply _ broadcasts_S1x1024_S1024x1024 (ix2 r d) (ix2 0 d) fun x => by match x with | ⟨0, _⟩ => rfl | ⟨1, _⟩ => rfl).trans ?_
    exact shapeCast_apply _ _ _ _ (by
      rw [Shape.rowMajor_val_three, Shape.rowMajor_val_two]; show (0 * 1 + 0) * 1024 + d.val = 0 * 1024 + d.val; omega)
  · simp only [matmul]
    rw [Ideal.matmul_apply, ← Equiv.sum_comp (contrEquiv1 dot_S1024x2816_S2816x1024_S1024x1024_1_0_0_1_n_n 2816 rfl rfl).symm]
    refine (congr (congrArg _ word_zero) (Finset.sum_congr rfl fun l _ => ?_)).trans (zero_add _)
    have hl := contrEquiv1_symm_val dot_S1024x2816_S2816x1024_S1024x1024_1_0_0_1_n_n 2816 rfl rfl l
    refine congrArg₂ (· * ·) (congrArg A (funext fun x => Fin.ext ?_)) (congrArg x8 (funext fun x => Fin.ext ?_))
    · match x with
      | ⟨0, _⟩ => exact (out_lhs _ _).1
      | ⟨1, _⟩ => exact (out_lhs _ _).2.trans hl
    · match x with
      | ⟨0, _⟩ => exact (out_rhs _ _).1.trans hl
      | ⟨1, _⟩ => exact (out_rhs _ _).2

end Cert.Proof.Ffn
-- ==== Proof.FfnBlock.lean ====
module

public import proofs.«01_k».proof.Proof.FfnCells

/-! # A point's output block

The run's last store, with the scratch's contents put in. -/

@[expose] public section

set_option maxRecDepth 16384

noncomputable section

namespace Cert.Proof.Ffn

open Cert.Kernel2Ideal Cert.Kernel2Ideal.Gen
open Idealize.ShloMosaic Idealize.ShloMosaic.TcCoe Idealize.ShloMosaic.ValueIdx Idealize.SL.Sem Idealize.ShloMosaic.Tactic

/-- A word's remainder by two. -/
abbrev parity (w : BitVec 32) : BitVec 32 :=
  Scalar.select (Scalar.andi (Scalar.xori (Scalar.cmpi .slt (Scalar.remsi w 2#32) 0#32) 0#1) (Scalar.cmpi .ne (Scalar.remsi w 2#32) 0#32))
    (Scalar.addi (Scalar.remsi w 2#32) 2#32) (Scalar.remsi w 2#32)

theorem parity_zero : ∀ t : Fin 64, Scalar.cmpi .eq (parity (BitVec.ofNat 32 t.val)) 0#32 ≠ 1#1 ↔ t.val % 2 ≠ 0 := by decide +kernel
theorem parity_one : ∀ t : Fin 64, Scalar.cmpi .eq (parity (BitVec.ofNat 32 t.val)) 1#32 ≠ 1#1 ↔ t.val % 2 ≠ 1 := by decide +kernel

variable (x0 : Vec Ideal S16x1024 .f32) (x1 : Vec Ideal S1024x1024 .f32) (x2 : Vec Ideal S16x1024 .f32)
  (x3 : Vec Ideal S1x6x1024 .f32) (x4 : Vec Ideal S1x1024 .f32) (x5 : Vec Ideal S1024x5632 .bf16) (x6 : Vec Ideal S3x5632 .f32)
  (x7 : Vec Ideal S1x5632 .f32) (x8 : Vec Ideal S2816x1024 .bf16)

/-- The point's hidden rows. -/
def hidden (w : BitVec 32) : FVec Ideal S1056x1024 .bf16 :=
  k0_pay5 (Scalar.cmpi .eq (parity w) 0#32) (Scalar.cmpi .eq (parity w) 1#32) (k0_pay2 x1 x0 x2 x4)
    (k0_pay3 (View.ld x3 (Rect.unit ![0, 4, 0] ![1, 1, 1024] inb_S1x6x1024_S1x1x1024_0_4_0))) k0_pay4
    (View.ld x3 (Rect.unit ![0, 3, 0] ![1, 1, 1024] inb_S1x6x1024_S1x1x1024_0_3_0))

theorem mod_ld (k : Fin 6) (i) (d : Fin 1024) :
    View.ld (Val := Elt Ideal) (e' := .f32) x3 (Rect.unit (s := S1x6x1024) ![0, k.val, 0] ![1, 1, 1024] i) (ix3 0 0 d) = x3 (ix3 0 k d) :=
  View.ld_unit_apply_of _ _ _ _ _ _ fun a => by
    match a with
    | ⟨0, _⟩ => rfl
    | ⟨1, _⟩ => rfl
    | ⟨2, _⟩ => exact (Nat.zero_add _).symm

theorem hidden_apply (t : Fin 64) (e : Fin 1056) (d : Fin 1024) :
    hidden x0 x1 x2 x3 x4 (BitVec.ofNat 32 t.val) (ix2 e d)
      = if (16 ≤ e.val ∨ t.val % 2 ≠ 0) ∧ (e.val < 1040 ∨ t.val % 2 ≠ 1)
        then normed (rowOf x0 x1 x2 e.val) (fun k => x4 (ix2 0 k)) (fun k => x3 (ix3 0 3 k)) (fun k => x3 (ix3 0 4 k)) d else 0 := by
  unfold hidden
  rw [pay2_eq, pay5_apply]
  refine if_congr (and_congr (or_congr Iff.rfl (parity_zero t)) (or_congr Iff.rfl (parity_one t))) ?_ rfl
  rw [normRows_apply x4 _ e d _ fun k => joined_apply x0 x1 x2 e k]
  exact congrArg₂ (· + ·) (congrArg (fun z => _ * (word 0x3F800000#32 + z)) (mod_ld x3 4 _ d)) (mod_ld x3 3 _ d)

theorem out_apply (c : Dev nD) (i : grid0.Coords) (arg1 : Memref sig .tc .vmem S16x1024 .f32) (harg1 : arg1.IsWhole) (arg2 : Memref sig .tc .vmem S1024x1024 .f32) (harg2 : arg2.IsWhole) (arg3 : Memref sig .tc .vmem S16x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1024x1024 .f32) (harg10 : arg10.IsWhole) (arg11 : Memref sig .tc .vmem S1024x2816 .bf16) (harg11 : arg11.IsWhole)
    (r d : Fin 1024) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 r d)
      = x1 (ix2 r d) + x3 (ix3 0 5 d) * ∑ j : Fin 2816, cellAt (hidden x0 x1 x2 x3 x4 (BitVec.ofNat 32 (i 0).val)) x5 x6 x7 r.val j * x8 (ix2 j d) := by
  unfold out0_A_9
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  have z1 : (View.ld x1 (Rect.unit ![0, 0] ![1024, 1024] inb_S1024x1024_S1024x1024_0_0)) = x1 := View.ld_unit_lit _ _ fun a => by match a with | ⟨0, _⟩ => rfl | ⟨1, _⟩ => rfl
  have z0 : (View.ld x0 (Rect.unit ![0, 0] ![16, 1024] inb_S16x1024_S16x1024_0_0)) = x0 := View.ld_unit_lit _ _ fun a => by match a with | ⟨0, _⟩ => rfl | ⟨1, _⟩ => rfl
  have z2 : (View.ld x2 (Rect.unit ![0, 0] ![16, 1024] inb_S16x1024_S16x1024_0_0)) = x2 := View.ld_unit_lit _ _ fun a => by match a with | ⟨0, _⟩ => rfl | ⟨1, _⟩ => rfl
  have z4 : (View.ld x4 (Rect.unit ![0, 0] ![1, 1024] inb_S1x1024_S1x1024_0_0)) = x4 := View.ld_unit_lit _ _ fun a => by match a with | ⟨0, _⟩ => rfl | ⟨1, _⟩ => rfl
  have z8 : (View.ld x8 (Rect.unit ![0, 0] ![2816, 1024] inb_S2816x1024_S2816x1024_0_0)) = x8 := View.ld_unit_lit _ _ fun a => by match a with | ⟨0, _⟩ => rfl | ⟨1, _⟩ => rfl
  rw [z0, z1, z2, z4, z8]
  simp only [chunk_0, chunk_1, chunk_2, chunk_3, chunk_4, chunk_5, chunk_6, chunk_7, chunk_8, chunk_9, chunk_10]
  generalize hH : k0_pay5 (F := Ideal) _ _ _ _ _ _ = H
  have hH' : hidden x0 x1 x2 x3 x4 (BitVec.ofNat 32 (i 0).val) = H := hH
  rw [hH']
  clear hH hH'
  refine (congrFun (View.canon_cons_unit_lit inb_S1024x1024_S1024x1024_0_0 _ [] fun a => by match a with | ⟨0, _⟩ => rfl | ⟨1, _⟩ => rfl) (ix2 r d)).trans ?_
  rw [pay53_apply]
  refine congrArg (_ + ·) (congrArg₂ (· * ·) (mod_ld x3 5 _ d) (Finset.sum_congr rfl fun j _ => congrArg (· * _) ?_))
  rw [View.readCov_eq_canon']
  have hy : (Rect.unit (s := S1024x2816) ![0, 0] ![1024, 2816] inb_S1024x2816_S1024x2816_0_0).toLoadRect.idx (ix2 r j) = ix2 r j :=
    funext fun a => Fin.ext ((Rect.idx_unit_val (s := S1024x2816) ![0, 0] ![1024, 2816] inb_S1024x2816_S1024x2816_0_0 (ix2 r j) a).trans (by
      match a with
      | ⟨0, _⟩ => exact Nat.zero_add _
      | ⟨1, _⟩ => exact Nat.zero_add _))
  refine (congrArg (View.canon _) hy).trans ?_
  refine (View.canon_apply_of_pieces (cells H x5 x6 x7) _ ?_ (ix2 r j) ?_).trans rfl
  · refine List.forall_mem_cons.2 ⟨fun x => piece_apply _ x5 x6 x7 2560 5376 rfl inb_S1024x2816_S1024x256_0_2560 _ _ _ _ _ _ x, ?_⟩
    refine List.forall_mem_cons.2 ⟨fun x => piece_apply _ x5 x6 x7 2304 5120 rfl inb_S1024x2816_S1024x256_0_2304 _ _ _ _ _ _ x, ?_⟩
    refine List.forall_mem_cons.2 ⟨fun x => piece_apply _ x5 x6 x7 2048 4864 rfl inb_S1024x2816_S1024x256_0_2048 _ _ _ _ _ _ x, ?_⟩
    refine List.forall_mem_cons.2 ⟨fun x => piece_apply _ x5 x6 x7 1792 4608 rfl inb_S1024x2816_S1024x256_0_1792 _ _ _ _ _ _ x, ?_⟩
    refine List.forall_mem_cons.2 ⟨fun x => piece_apply _ x5 x6 x7 1536 4352 rfl inb_S1024x2816_S1024x256_0_1536 _ _ _ _ _ _ x, ?_⟩
    refine List.forall_mem_cons.2 ⟨fun x => piece_apply _ x5 x6 x7 1280 4096 rfl inb_S1024x2816_S1024x256_0_1280 _ _ _ _ _ _ x, ?_⟩
    refine List.forall_mem_cons.2 ⟨fun x => piece_apply _ x5 x6 x7 1024 3840 rfl inb_S1024x2816_S1024x256_0_1024 _ _ _ _ _ _ x, ?_⟩
    refine List.forall_mem_cons.2 ⟨fun x => piece_apply _ x5 x6 x7 768 3584 rfl inb_S1024x2816_S1024x256_0_768 _ _ _ _ _ _ x, ?_⟩
    refine List.forall_mem_cons.2 ⟨fun x => piece_apply _ x5 x6 x7 512 3328 rfl inb_S1024x2816_S1024x256_0_512 _ _ _ _ _ _ x, ?_⟩
    refine List.forall_mem_cons.2 ⟨fun x => piece_apply _ x5 x6 x7 256 3072 rfl inb_S1024x2816_S1024x256_0_256 _ _ _ _ _ _ x, ?_⟩
    refine List.forall_mem_cons.2 ⟨fun x => piece_apply _ x5 x6 x7 0 2816 rfl inb_S1024x2816_S1024x256_0_0 _ _ _ _ _ _ x, ?_⟩
    exact fun p hp => absurd hp List.not_mem_nil
  · have hj := j.isLt
    refine cover_cons _ _ hj _ _ _ fun h => ?_
    iterate 10 refine cover_cons _ _ h _ _ _ fun h => ?_
    exact absurd h (Nat.not_lt_zero _)

end Cert.Proof.Ffn
-- ==== Proof.FfnRef.lean ====
module

public import proofs.«01_k».proof.Proof.Gen.Reference2Ideal.Read
public import proofs.«01_k».proof.Proof.FfnMath
public import Idealize.ShloMosaic.Lib.KernelVsHost

/-! # The reference of the convolutional network at an index -/

@[expose] public section

set_option maxRecDepth 16384

noncomputable section

namespace Cert.Proof.Ffn

open Cert.Reference2Ideal Cert.Reference2Ideal.Gen Cert.Reference2Ideal.Read
open Idealize.ShloMosaic Idealize.ShloMosaic.TcCoe Idealize.ShloMosaic.ValueIdx

variable (x0 : FVec Ideal S32x2048x1024 .f32) (x1 : FVec Ideal S32x6144 .f32) (x2 : FVec Ideal S1024 .f32)
  (x3 : FVec Ideal S1024x5632 .f32) (x4 : FVec Ideal S3x5632 .f32) (x5 : FVec Ideal S5632 .f32)
  (x6 : FVec Ideal S2816x1024 .f32)

/-- The modulated norm of a token. -/
def hid (b : Fin 32) (s : Fin 2048) (d : Fin 1024) : EReal :=
  normed (fun k => x0 (ix3 b s k)) (fun k => x2 (ix1 k)) (fun k => x1 (ix2 b (mcol 3 k))) (fun k => x1 (ix2 b (mcol 4 k))) d

/-- Its projection up. -/
def up (b : Fin 32) (s : Fin 2048) (n : Fin 5632) : EReal := ∑ d : Fin 1024, hid x0 x1 x2 b s d * x3 (ix2 d n)

/-- The projections of a sequence with a zero before and one after. -/
def upAt (b : Fin 32) (p : ℕ) (n : Fin 5632) : EReal :=
  if h : 1 ≤ p ∧ p ≤ 2048 then up x0 x1 x2 x3 b ⟨p - 1, by omega⟩ n else 0

/-- The convolution along the sequence. -/
def cv (b : Fin 32) (s : Fin 2048) (n : Fin 5632) : EReal :=
  conv3 (x4 (ix2 0 n)) (x4 (ix2 1 n)) (x4 (ix2 2 n)) (x5 (ix1 n))
    (upAt x0 x1 x2 x3 b s.val n) (upAt x0 x1 x2 x3 b (s.val + 1) n) (upAt x0 x1 x2 x3 b (s.val + 2) n)

/-- The gated channel `j`. -/
def act (b : Fin 32) (s : Fin 2048) (j : Fin 2816) : EReal :=
  gate (cv x0 x1 x2 x3 x4 x5 b s ⟨j.val, by have := j.isLt; omega⟩)
    (cv x0 x1 x2 x3 x4 x5 b s ⟨2816 + j.val, by have := j.isLt; omega⟩)

/-- The layer's result for a token. -/
def res (b : Fin 32) (s : Fin 2048) (d : Fin 1024) : EReal :=
  x0 (ix3 b s d) + x1 (ix2 b (mcol 5 d)) * ∑ j : Fin 2816, act x0 x1 x2 x3 x4 x5 b s j * x6 (ix2 j d)

theorem v10_apply (b : Fin 32) (s : Fin 2048) (i : S32x2048x1.Idx) (h0 : (i 0).val = b.val) (h1 : (i 1).val = s.val) :
    val_main_v10 (F := Ideal) x0 i = Ideal.div (∑ k : Fin 1024, x0 (ix3 b s k) * x0 (ix3 b s k)) (word 0x44800000#32) := by
  rw [val_main_v10_apply, val_main_v8_apply, val_main_v7_apply, val_main_v9_apply, val_main_cst_0_apply, val_main_cst_apply]
  show Ideal.div (word 0x00000000#32 + _) _ = _
  rw [word_zero, zero_add]
  refine congrArg (Ideal.div · _) (Finset.sum_congr rfl fun k _ => ?_)
  have e : idx_main_v7 (idx_main_v8 i) k = ix3 b s k := funext fun a => Fin.ext (by
    match a with
    | ⟨0, _⟩ => exact h0
    | ⟨1, _⟩ => exact h1
    | ⟨2, _⟩ => rfl)
  rw [val_main_v6_apply, e]
  rfl

theorem v26_apply (b : Fin 32) (s : Fin 2048) (d : Fin 1024) :
    val_main_v26 (F := Ideal) x0 x1 x2 (ix3 b s d) = hid x0 x1 x2 b s d := by
  rw [val_main_v26_apply, val_main_v23_apply, val_main_v18_apply, val_main_v15_apply, val_main_v14_apply,
    val_main_v13_apply, val_main_v12_apply, v10_apply x0 b s _ rfl rfl, val_main_v11_apply, val_main_cst_1_apply,
    val_main_v17_apply, val_main_v16_apply, val_main_v22_apply, val_main_v21_apply, val_main_v20_apply,
    val_main_cst_2_apply, val_main_v19_apply, val_main_v4_apply, val_main_v25_apply, val_main_v24_apply, val_main_v3_apply]
  show x0 (ix3 b s d) * Ideal.rsqrt (_ + word 0x358637BD#32) * x2 _ * (word 0x3F800000#32 + x1 _) + x1 _ = _
  unfold hid normed
  refine congrArg₂ (· + ·) (congrArg₂ (· * ·) (congrArg (_ * ·) (congrArg x2 ?_)) (congrArg (_ + ·) (congrArg x1 ?_)))
    (congrArg x1 ?_)
  · exact funext fun a => Fin.ext (by match a with | ⟨0, _⟩ => rfl)
  · exact funext fun a => Fin.ext (by match a with | ⟨0, _⟩ => rfl | ⟨1, _⟩ => rfl)
  · exact funext fun a => Fin.ext (by match a with | ⟨0, _⟩ => rfl | ⟨1, _⟩ => rfl)

theorem v28_apply (b : Fin 32) (s : Fin 2048) (n : Fin 5632) :
    val_main_v28 (F := Ideal) x0 x1 x2 x3 (ix3 b s n) = up x0 x1 x2 x3 b s n := by
  rw [val_main_v28_apply]
  refine Finset.sum_congr rfl fun k _ => congrArg₂ (· * ·)
    (Eq.trans (congrArg (val_main_v26 (F := Ideal) x0 x1 x2) ?_) (v26_apply x0 x1 x2 b s k)) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem v29_apply (b : Fin 32) (p : Fin 2050) (n : Fin 5632) :
    val_main_v29 (F := Ideal) x0 x1 x2 x3 (ix3 b p n) = upAt x0 x1 x2 x3 b p.val n := by
  have hp := p.isLt
  unfold val_main_v29 upAt
  have hv : ∀ s, val_main_v28 (F := Ideal) x0 x1 x2 x3 (ix3 b s n) = up x0 x1 x2 x3 b s n := fun s => v28_apply x0 x1 x2 x3 b s n
  generalize val_main_v28 (F := Ideal) x0 x1 x2 x3 = y at hv
  by_cases h : 1 ≤ p.val ∧ p.val ≤ 2048
  · rw [dif_pos h]
    refine (pad_apply_of_inside _ _ _ y _ _ _ (ix3 b p n) (ix3 b (⟨p.val - 1, by omega⟩ : Fin 2048) n) fun a => ?_).trans (hv _)
    match a with
    | ⟨0, _⟩ => show b.val = 0 + b.val * 1; omega
    | ⟨1, _⟩ => show p.val = 1 + (p.val - 1) * 1; omega
    | ⟨2, _⟩ => show n.val = 0 + n.val * 1; omega
  · rw [dif_neg h]
    refine (pad_apply_of_not_inside _ _ _ y _ _ _ (ix3 b p n) 1 fun hin => h ?_).trans ?_
    · have h1 : 1 ≤ p.val := hin.1
      have h2 : (p.val - 1) / 1 < 2048 := hin.2.2
      omega
    · rw [val_main_call0_v0_apply, val_main_c_apply]
      show (((0#32 : BitVec 32).toInt : ℝ) : EReal) = 0
      simp

theorem v52_apply (b : Fin 32) (s : Fin 2048) (n : Fin 5632) :
    val_main_v52 (F := Ideal) x0 x1 x2 x3 x4 x5 (ix3 b s n) = cv x0 x1 x2 x3 x4 x5 b s n := by
  have hs := s.isLt
  have hz : ∀ p, val_main_v29 (F := Ideal) x0 x1 x2 x3 (ix3 b p n) = upAt x0 x1 x2 x3 b p.val n :=
    fun p => v29_apply x0 x1 x2 x3 b p n
  rw [val_main_v52_apply, val_main_v49_apply, val_main_v42_apply, val_main_v35_apply, val_main_v34_apply, val_main_v33_apply,
    val_main_v31_apply, val_main_v30_apply, val_main_v32_apply, val_main_v41_apply, val_main_v40_apply, val_main_v39_apply,
    val_main_v37_apply, val_main_v36_apply, val_main_v38_apply, val_main_v48_apply, val_main_v47_apply, val_main_v46_apply,
    val_main_v44_apply, val_main_v43_apply, val_main_v45_apply, val_main_v51_apply, val_main_v50_apply]
  have e0 : idx_main_v32 (ix3 b s n) = ix3 b (⟨s.val, by omega⟩ : Fin 2050) n :=
    funext fun a => Fin.ext (by match a with | ⟨0, _⟩ => rfl | ⟨1, _⟩ => rfl | ⟨2, _⟩ => rfl)
  have e1 : idx_main_v38 (ix3 b s n) = ix3 b (⟨s.val + 1, by omega⟩ : Fin 2050) n :=
    funext fun a => Fin.ext (by match a with | ⟨0, _⟩ => rfl | ⟨1, _⟩ => exact Nat.add_comm _ _ | ⟨2, _⟩ => rfl)
  have e2 : idx_main_v45 (ix3 b s n) = ix3 b (⟨s.val + 2, by omega⟩ : Fin 2050) n :=
    funext fun a => Fin.ext (by match a with | ⟨0, _⟩ => rfl | ⟨1, _⟩ => exact Nat.add_comm _ _ | ⟨2, _⟩ => rfl)
  rw [e0, e1, e2, hz, hz, hz]
  show x4 _ * _ + x4 _ * _ + x4 _ * _ + x5 _ = _
  unfold cv conv3
  refine congrArg₂ (· + ·) (congrArg₂ (· + ·) (congrArg₂ (· + ·) (congrArg (· * _) (congrArg x4 ?_))
    (congrArg (· * _) (congrArg x4 ?_))) (congrArg (· * _) (congrArg x4 ?_))) (congrArg x5 ?_)
  · exact funext fun a => Fin.ext (by match a with | ⟨0, _⟩ => rfl | ⟨1, _⟩ => exact Nat.mod_eq_of_lt n.isLt)
  · exact funext fun a => Fin.ext (by match a with | ⟨0, _⟩ => rfl | ⟨1, _⟩ => exact Nat.mod_eq_of_lt n.isLt)
  · exact funext fun a => Fin.ext (by match a with | ⟨0, _⟩ => rfl | ⟨1, _⟩ => exact Nat.mod_eq_of_lt n.isLt)
  · exact funext fun a => Fin.ext (by match a with | ⟨0, _⟩ => rfl)

theorem v56_apply (b : Fin 32) (s : Fin 2048) (j : Fin 2816) :
    val_main_v56 (F := Ideal) x0 x1 x2 x3 x4 x5 (ix3 b s j) = act x0 x1 x2 x3 x4 x5 b s j := by
  have hj := j.isLt
  have hz : ∀ n, val_main_v52 (F := Ideal) x0 x1 x2 x3 x4 x5 (ix3 b s n) = cv x0 x1 x2 x3 x4 x5 b s n :=
    fun n => v52_apply x0 x1 x2 x3 x4 x5 b s n
  have e0 : idx_main_v53 (ix3 b s j) = ix3 b s (⟨j.val, by omega⟩ : Fin 5632) :=
    funext fun a => Fin.ext (by match a with | ⟨0, _⟩ => rfl | ⟨1, _⟩ => rfl | ⟨2, _⟩ => rfl)
  have e1 : idx_main_v54 (ix3 b s j) = ix3 b s (⟨2816 + j.val, by omega⟩ : Fin 5632) :=
    funext fun a => Fin.ext (by match a with | ⟨0, _⟩ => rfl | ⟨1, _⟩ => rfl | ⟨2, _⟩ => rfl)
  rw [val_main_v56_apply, val_main_v55_apply, val_main_call1_v5_apply, val_main_call1_v4_apply, val_main_call1_cst_0_apply,
    val_main_call1_v3_apply, val_main_call1_v2_apply, val_main_call1_cst_apply, val_main_call1_v1_apply,
    val_main_call1_v0_apply, val_main_v53_apply, val_main_v54_apply, e0, e1, hz, hz]
  show _ * Ideal.div (word 0x3F800000#32) (word 0x3F800000#32 + Ideal.exp (-_)) * _ = _
  rw [word_one]
  rfl

/-- The reference's result at token `n = 2048 b + s`. -/
theorem result_apply (n : Fin 65536) (d : Fin 1024) (b : Fin 32) (s : Fin 2048) (hn : n.val = 2048 * b.val + s.val) :
    val_main_v61 (F := Ideal) x0 x1 x2 x3 x4 x5 x6 (ix2 n d) = res x0 x1 x2 x3 x4 x5 x6 b s d := by
  have hb := b.isLt
  have hs := s.isLt
  have hd := d.isLt
  have ei : idx_main_v61 (ix2 n d) = ix3 b s d := funext fun a => Fin.ext (by
    match a with
    | ⟨0, _⟩ => show (n.val * 1024 + d.val) / 2097152 = b.val; omega
    | ⟨1, _⟩ => show (n.val * 1024 + d.val) / 1024 % 2048 = s.val; omega
    | ⟨2, _⟩ => show (n.val * 1024 + d.val) % 1024 = d.val; omega)
  rw [val_main_v61_apply, ei, val_main_v60_apply, val_main_v59_apply, val_main_v58_apply, val_main_v27_apply,
    val_main_v5_apply, val_main_v57_apply]
  show x0 _ + x1 _ * _ = _
  unfold res
  refine congrArg (_ + ·) (congrArg₂ (· * ·) (congrArg x1 ?_) (Finset.sum_congr rfl fun j _ => congrArg₂ (· * ·)
    (Eq.trans (congrArg (val_main_v56 (F := Ideal) x0 x1 x2 x3 x4 x5) ?_) (v56_apply x0 x1 x2 x3 x4 x5 b s j)) (congrArg x6 ?_)))
  · exact funext fun a => Fin.ext (by match a with | ⟨0, _⟩ => rfl | ⟨1, _⟩ => rfl)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

end Cert.Proof.Ffn
-- ==== Proof.FfnTile.lean ====
module

public import proofs.«01_k».proof.Proof.FfnBlock
public import proofs.«01_k».proof.Proof.FfnRef

/-! # A tile's block is the layer's result

A point works on one half of a sequence. Its rows' neighbours are the tokens beside the half, or zero at the sequence's ends,
so its projections are the sequence's, with a zero before and one after. -/

@[expose] public section

set_option maxRecDepth 16384

noncomputable section

namespace Cert.Proof.Ffn

open Cert.Kernel2Ideal Cert.Kernel2Ideal.Gen
open Idealize.ShloMosaic Idealize.ShloMosaic.TcCoe Idealize.ShloMosaic.ValueIdx Idealize.SL.Sem

variable (X : FVec Ideal S32x2048x1024 .f32) (M : FVec Ideal S32x6144 .f32) (g : FVec Ideal S1024 .f32) (U : FVec Ideal S1024x5632 .f32)
  (C : FVec Ideal S3x5632 .f32) (β : FVec Ideal S5632 .f32) (D : FVec Ideal S2816x1024 .f32)
  (x0 : Vec Ideal S16x1024 .f32) (x1 : Vec Ideal S1024x1024 .f32) (x2 : Vec Ideal S16x1024 .f32)
  (x3 : Vec Ideal S1x6x1024 .f32) (x4 : Vec Ideal S1x1024 .f32) (x5 : Vec Ideal S1024x5632 .bf16) (x6 : Vec Ideal S3x5632 .f32)
  (x7 : Vec Ideal S1x5632 .f32) (x8 : Vec Ideal S2816x1024 .bf16)

/-- A point's blocks hold the tokens of its half of sequence `b`, the tokens beside it, and the weights. -/
structure Holds (t : Fin 64) (b : Fin 32) : Prop where
  before : t.val % 2 = 1 → ∀ d, x0 (ix2 15 d) = X (ix3 b 1023 d)
  here : ∀ (r : Fin 1024) (s : Fin 2048) d, s.val = 1024 * (t.val % 2) + r.val → x1 (ix2 r d) = X (ix3 b s d)
  after : t.val % 2 = 0 → ∀ d, x2 (ix2 0 d) = X (ix3 b 1024 d)
  modulation : ∀ (k : Fin 6) d, x3 (ix3 0 k d) = M (ix2 b (mcol k d))
  weight : ∀ d, x4 (ix2 0 d) = g (ix1 d)
  up : ∀ d n, x5 (ix2 d n) = U (ix2 d n)
  taps : ∀ k n, x6 (ix2 k n) = C (ix2 k n)
  bias : ∀ n, x7 (ix2 0 n) = β (ix1 n)
  down : ∀ j d, x8 (ix2 j d) = D (ix2 j d)

variable {X M g U C β D x0 x1 x2 x3 x4 x5 x6 x7 x8}

/-- A joined row inside the sequence is its token. -/
theorem Holds.row {t : Fin 64} {b : Fin 32} (H : Holds X M g U C β D x0 x1 x2 x3 x4 x5 x6 x7 x8 t b) (e : ℕ) (s : Fin 2048)
    (he : 15 ≤ e ∧ e ≤ 1040) (hs : s.val + 16 = 1024 * (t.val % 2) + e) (d : Fin 1024) : rowOf x0 x1 x2 e d = X (ix3 b s d) := by
  have ht : t.val % 2 < 2 := Nat.mod_lt _ (by decide)
  have h2 := s.isLt
  unfold rowOf
  split
  · rename_i h
    obtain rfl : e = 15 := by omega
    obtain rfl : s = 1023 := Fin.ext (by show s.val = 1023; omega)
    exact H.before (by omega) d
  split
  · exact H.here _ s d (by show s.val = _ + (e - 16); omega)
  · rw [dif_pos (by omega)]
    obtain rfl : e = 1040 := by omega
    obtain rfl : s = 1024 := Fin.ext (by show s.val = 1024; omega)
    exact H.after (by omega) d

theorem Holds.proj {t : Fin 64} {b : Fin 32} (H : Holds X M g U C β D x0 x1 x2 x3 x4 x5 x6 x7 x8 t b) (e p : ℕ) (he : 15 ≤ e ∧ e ≤ 1040)
    (hp : p + 15 = 1024 * (t.val % 2) + e) (n : Fin 5632) :
    projAt (hidden x0 x1 x2 x3 x4 (BitVec.ofNat 32 t.val)) x5 e n = upAt X M g U b p n := by
  have ht : t.val % 2 < 2 := Nat.mod_lt _ (by decide)
  unfold projAt upAt
  rw [dif_pos (by omega)]
  split
  · rename_i h
    refine Finset.sum_congr rfl fun d _ => congrArg₂ (· * ·) ?_ (H.up d n)
    rw [hidden_apply, if_pos ⟨by show 16 ≤ e ∨ _; omega, by show e < 1040 ∨ _; omega⟩]
    unfold hid
    have h1 : rowOf x0 x1 x2 e = fun k => X (ix3 b ⟨p - 1, by omega⟩ k) := funext fun k => H.row e _ he (by show p - 1 + 16 = _; omega) k
    have h2 : (fun k => x4 (ix2 0 k)) = fun k => g (ix1 k) := funext H.weight
    have h3 : (fun k => x3 (ix3 0 3 k)) = fun k => M (ix2 b (mcol 3 k)) := funext fun k => H.modulation 3 k
    have h4 : (fun k => x3 (ix3 0 4 k)) = fun k => M (ix2 b (mcol 4 k)) := funext fun k => H.modulation 4 k
    show normed (rowOf x0 x1 x2 e) _ _ _ d = _
    rw [h1, h2, h3, h4]
  · rename_i h
    refine Finset.sum_eq_zero fun d _ => ?_
    rw [hidden_apply, if_neg, zero_mul]
    show ¬ ((16 ≤ e ∨ _) ∧ (e < 1040 ∨ _))
    omega

/-- The point's block is the layer's result on its tokens. -/
theorem Holds.block {t : Fin 64} {b : Fin 32} (H : Holds X M g U C β D x0 x1 x2 x3 x4 x5 x6 x7 x8 t b) (r d : Fin 1024) (s : Fin 2048)
    (hs : s.val = 1024 * (t.val % 2) + r.val) :
    x1 (ix2 r d) + x3 (ix3 0 5 d) * ∑ j : Fin 2816, cellAt (hidden x0 x1 x2 x3 x4 (BitVec.ofNat 32 t.val)) x5 x6 x7 r.val j * x8 (ix2 j d)
      = res X M g U C β D b s d := by
  have hr := r.isLt
  have hc : ∀ n, convAt (hidden x0 x1 x2 x3 x4 (BitVec.ofNat 32 t.val)) x5 x6 x7 r.val n = cv X M g U C β b s n := fun n => by
    unfold convAt cv
    rw [H.proj (15 + r.val) s.val (by omega) (by omega), H.proj (16 + r.val) (s.val + 1) (by omega) (by omega),
      H.proj (17 + r.val) (s.val + 2) (by omega) (by omega), H.taps 0 n, H.taps 1 n, H.taps 2 n, H.bias n]
  unfold res
  rw [H.here r s d hs, H.modulation 5 d]
  refine congrArg (fun z => _ + _ * z) (Finset.sum_congr rfl fun j _ => congrArg₂ (· * ·) ?_ (H.down j d))
  unfold cellAt act
  rw [hc, hc]

end Cert.Proof.Ffn
-- ==== Proof.FfnValue.lean ====
module

public import proofs.«01_k».proof.Proof.FfnTile
public import proofs.«01_k».proof.Proof.Gen.Kernel2Ideal.Value

/-! # The convolutional network's result

The host's preparation, the blocks in their arrays, and the whole array the kernel leaves. -/

@[expose] public section

set_option maxRecDepth 16384

noncomputable section

namespace Cert.Proof.Ffn

open Cert.Kernel2Ideal Cert.Kernel2Ideal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## The host's preparation -/

theorem V_g : V m c main_v0 = shapeCast S1x1024 (m ((c : Thread nD τ).loc main_arg2)) shapeCasts_S1024_S1x1024 := by
  dsimp only [V, hostOps0]; after_results
  rfl
theorem V_u : V m c main_v1 = m ((c : Thread nD τ).loc main_arg3) := by
  dsimp only [V, hostOps0]; after_results
  rfl
theorem V_b : V m c main_v2 = shapeCast S1x5632 (m ((c : Thread nD τ).loc main_arg5)) shapeCasts_S5632_S1x5632 := by
  dsimp only [V, hostOps0]; after_results
  rfl
theorem V_d : V m c main_v3 = m ((c : Thread nD τ).loc main_arg6) := by
  dsimp only [V, hostOps0]; after_results
  rfl
theorem V_x : V m c main_v4 = shapeCast S65536x1024 (m ((c : Thread nD τ).loc main_arg0)) shapeCasts_S32x2048x1024_S65536x1024 := by
  dsimp only [V, hostOps0]; after_results
  rfl
theorem V_m : V m c main_v5 = shapeCast S32x6x1024 (m ((c : Thread nD τ).loc main_arg1)) shapeCasts_S32x6144_S32x6x1024 := by
  dsimp only [V, hostOps0]; after_results
  rfl

theorem g_apply (v : FVec Ideal S1024 .f32) (d : Fin 1024) : shapeCast S1x1024 v shapeCasts_S1024_S1x1024 (ix2 0 d) = v (ix1 d) :=
  shapeCast_apply _ _ _ _ (by rw [Shape.rowMajor_val_one, Shape.rowMajor_val_two]; show d.val = 0 * 1024 + d.val; omega)
theorem b_apply (v : FVec Ideal S5632 .f32) (d : Fin 5632) : shapeCast S1x5632 v shapeCasts_S5632_S1x5632 (ix2 0 d) = v (ix1 d) :=
  shapeCast_apply _ _ _ _ (by rw [Shape.rowMajor_val_one, Shape.rowMajor_val_two]; show d.val = 0 * 5632 + d.val; omega)
theorem x_apply (v : FVec Ideal S32x2048x1024 .f32) (n : Fin 65536) (b : Fin 32) (s : Fin 2048) (d : Fin 1024) (h : n.val = 2048 * b.val + s.val) :
    shapeCast S65536x1024 v shapeCasts_S32x2048x1024_S65536x1024 (ix2 n d) = v (ix3 b s d) :=
  shapeCast_apply _ _ _ _ (by
    rw [Shape.rowMajor_val_three, Shape.rowMajor_val_two]; show (b.val * 2048 + s.val) * 1024 + d.val = n.val * 1024 + d.val; omega)
theorem m_apply (v : FVec Ideal S32x6144 .f32) (b : Fin 32) (k : Fin 6) (d : Fin 1024) :
    shapeCast S32x6x1024 v shapeCasts_S32x6144_S32x6x1024 (ix3 b k d) = v (ix2 b (mcol k d)) :=
  shapeCast_apply _ _ _ _ (by
    rw [Shape.rowMajor_val_three, Shape.rowMajor_val_two]
    show b.val * 6144 + (1024 * k.val + d.val) = (b.val * 6 + k.val) * 1024 + d.val; omega)

/-! ## The blocks in their arrays -/

theorem idx_0 : ∀ t : Fin cfg0.N, win0_0.index t (0 : Fin 2) = t.val * 64 - 1 ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = min ((t.val + 1) * 64) 4095 ∧ win0_2.index t (1 : Fin 2) = 0 :=
  (by decide +kernel : ∀ t : Fin grid0.N, _)
theorem idx_3 : ∀ t : Fin cfg0.N, win0_3.index t (0 : Fin 3) = t.val / 2 ∧ win0_3.index t (1 : Fin 3) = 0 ∧ win0_3.index t (2 : Fin 3) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = t.val ∧ win0_9.index t (1 : Fin 2) = 0 :=
  (by decide +kernel : ∀ t : Fin grid0.N, _)
theorem coord : ∀ t : Fin cfg0.N, (grid0.coords t 0).val = t.val := (by decide +kernel : ∀ t : Fin grid0.N, _)
theorem lt_64 (t : Fin cfg0.N) : t.val < 64 := t.isLt.trans_eq N_0

theorem emb_0 (t : Fin cfg0.N) (r : Fin 16) (d : Fin 1024) (n : Fin 65536) (hn : n.val = (t.val * 64 - 1) * 16 + r.val) :
    ((cfg0.win 0).blk t).view.emb (ix2 r d) = ix2 n d := by
  obtain ⟨e0, e1⟩ := idx_0 t
  funext a; apply Fin.ext
  match a with
  | ⟨0, _⟩ => show win0_0.index t (0 : Fin 2) * 16 + 1 * r.val = n.val; omega
  | ⟨1, _⟩ => show win0_0.index t (1 : Fin 2) * 1024 + 1 * d.val = d.val; omega
theorem emb_1 (t : Fin cfg0.N) (r : Fin 1024) (d : Fin 1024) (n : Fin 65536) (hn : n.val = t.val * 1024 + r.val) :
    ((cfg0.win 1).blk t).view.emb (ix2 r d) = ix2 n d := by
  obtain ⟨e0, e1⟩ := idx_1 t
  funext a; apply Fin.ext
  match a with
  | ⟨0, _⟩ => show win0_1.index t (0 : Fin 2) * 1024 + 1 * r.val = n.val; omega
  | ⟨1, _⟩ => show win0_1.index t (1 : Fin 2) * 1024 + 1 * d.val = d.val; omega
theorem emb_2 (t : Fin cfg0.N) (r : Fin 16) (d : Fin 1024) (n : Fin 65536) (hn : n.val = min ((t.val + 1) * 64) 4095 * 16 + r.val) :
    ((cfg0.win 2).blk t).view.emb (ix2 r d) = ix2 n d := by
  obtain ⟨e0, e1⟩ := idx_2 t
  funext a; apply Fin.ext
  match a with
  | ⟨0, _⟩ => show win0_2.index t (0 : Fin 2) * 16 + 1 * r.val = n.val; rw [e0]; omega
  | ⟨1, _⟩ => show win0_2.index t (1 : Fin 2) * 1024 + 1 * d.val = d.val; omega
theorem emb_3 (t : Fin cfg0.N) (k : Fin 6) (d : Fin 1024) (b : Fin 32) (hb : b.val = t.val / 2) :
    ((cfg0.win 3).blk t).view.emb (ix3 0 k d) = ix3 b k d := by
  obtain ⟨e0, e1, e2⟩ := idx_3 t
  funext a; apply Fin.ext
  match a with
  | ⟨0, _⟩ => show win0_3.index t (0 : Fin 3) * 1 + 1 * 0 = b.val; omega
  | ⟨1, _⟩ => show win0_3.index t (1 : Fin 3) * 6 + 1 * k.val = k.val; omega
  | ⟨2, _⟩ => show win0_3.index t (2 : Fin 3) * 1024 + 1 * d.val = d.val; omega
theorem emb_4 (t : Fin cfg0.N) (d : Fin 1024) : ((cfg0.win 4).blk t).view.emb (ix2 0 d) = ix2 0 d := by
  obtain ⟨e0, e1⟩ := idx_4 t
  funext a; apply Fin.ext
  match a with
  | ⟨0, _⟩ => show win0_4.index t (0 : Fin 2) * 1 + 1 * 0 = 0; omega
  | ⟨1, _⟩ => show win0_4.index t (1 : Fin 2) * 1024 + 1 * d.val = d.val; omega
theorem emb_5 (t : Fin cfg0.N) (k : Fin 1024) (n : Fin 5632) : ((cfg0.win 5).blk t).view.emb (ix2 k n) = ix2 k n := by
  obtain ⟨e0, e1⟩ := idx_5 t
  funext a; apply Fin.ext
  match a with
  | ⟨0, _⟩ => show win0_5.index t (0 : Fin 2) * 1024 + 1 * k.val = k.val; omega
  | ⟨1, _⟩ => show win0_5.index t (1 : Fin 2) * 5632 + 1 * n.val = n.val; omega
theorem emb_6 (t : Fin cfg0.N) (k : Fin 3) (n : Fin 5632) : ((cfg0.win 6).blk t).view.emb (ix2 k n) = ix2 k n := by
  obtain ⟨e0, e1⟩ := idx_6 t
  funext a; apply Fin.ext
  match a with
  | ⟨0, _⟩ => show win0_6.index t (0 : Fin 2) * 3 + 1 * k.val = k.val; omega
  | ⟨1, _⟩ => show win0_6.index t (1 : Fin 2) * 5632 + 1 * n.val = n.val; omega
theorem emb_7 (t : Fin cfg0.N) (n : Fin 5632) : ((cfg0.win 7).blk t).view.emb (ix2 0 n) = ix2 0 n := by
  obtain ⟨e0, e1⟩ := idx_7 t
  funext a; apply Fin.ext
  match a with
  | ⟨0, _⟩ => show win0_7.index t (0 : Fin 2) * 1 + 1 * 0 = 0; omega
  | ⟨1, _⟩ => show win0_7.index t (1 : Fin 2) * 5632 + 1 * n.val = n.val; omega
theorem emb_8 (t : Fin cfg0.N) (j : Fin 2816) (d : Fin 1024) : ((cfg0.win 8).blk t).view.emb (ix2 j d) = ix2 j d := by
  obtain ⟨e0, e1⟩ := idx_8 t
  funext a; apply Fin.ext
  match a with
  | ⟨0, _⟩ => show win0_8.index t (0 : Fin 2) * 2816 + 1 * j.val = j.val; omega
  | ⟨1, _⟩ => show win0_8.index t (1 : Fin 2) * 1024 + 1 * d.val = d.val; omega

/-- Row `r` of the tile at point `t` among all rows. -/
def tileRow (t : Fin cfg0.N) (r : Fin 1024) : Fin 65536 := ⟨t.val * 1024 + r.val, by have := lt_64 t; have := r.isLt; omega⟩

theorem emb_9 (t : Fin cfg0.N) (r : Fin 1024) (d : Fin 1024) : ((cfg0.win 9).blk t).view.emb (ix2 r d) = ix2 (tileRow t r) d := by
  obtain ⟨e0, e1⟩ := idx_9 t
  funext a; apply Fin.ext
  match a with
  | ⟨0, _⟩ => show win0_9.index t (0 : Fin 2) * 1024 + 1 * r.val = t.val * 1024 + r.val; omega
  | ⟨1, _⟩ => show win0_9.index t (1 : Fin 2) * 1024 + 1 * d.val = d.val; omega

/-- The sequence a point works on. -/
def seqAt (t : Fin cfg0.N) : Fin 32 := ⟨t.val / 2, by have := lt_64 t; omega⟩

theorem holds (t : Fin cfg0.N) :
    Holds (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))
      (iblk m c 0 t) (iblk m c 1 t) (iblk m c 2 t) (iblk m c 3 t) (iblk m c 4 t) (iblk m c 5 t) (iblk m c 6 t) (iblk m c 7 t) (iblk m c 8 t)
      ⟨t.val, lt_64 t⟩ (seqAt t) where
  before h d := by
    have ht := lt_64 t
    change t.val % 2 = 1 at h
    show V m c main_v4 (((cfg0.win 0).blk t).view.emb (ix2 15 d)) = _
    rw [emb_0 t 15 d ⟨t.val * 1024 - 1, by omega⟩ (by show t.val * 1024 - 1 = (t.val * 64 - 1) * 16 + 15; omega), V_x]
    exact x_apply _ _ (seqAt t) 1023 d (by show t.val * 1024 - 1 = 2048 * (t.val / 2) + 1023; omega)
  here r s d h := by
    change s.val = 1024 * (t.val % 2) + r.val at h
    show V m c main_v4 (((cfg0.win 1).blk t).view.emb (ix2 r d)) = _
    rw [emb_1 t r d (tileRow t r) rfl, V_x]
    exact x_apply _ _ (seqAt t) s d (by show t.val * 1024 + r.val = 2048 * (t.val / 2) + s.val; omega)
  after h d := by
    have ht := lt_64 t
    change t.val % 2 = 0 at h
    show V m c main_v4 (((cfg0.win 2).blk t).view.emb (ix2 0 d)) = _
    rw [emb_2 t 0 d ⟨(t.val + 1) * 1024, by omega⟩ (by show (t.val + 1) * 1024 = min ((t.val + 1) * 64) 4095 * 16 + 0; omega), V_x]
    exact x_apply _ _ (seqAt t) 1024 d (by show (t.val + 1) * 1024 = 2048 * (t.val / 2) + 1024; omega)
  modulation k d := by
    show V m c main_v5 (((cfg0.win 3).blk t).view.emb (ix3 0 k d)) = _
    rw [emb_3 t k d (seqAt t) rfl, V_m]
    exact m_apply _ _ _ _
  weight d := by
    show V m c main_v0 (((cfg0.win 4).blk t).view.emb (ix2 0 d)) = _
    rw [emb_4, V_g]
    exact g_apply _ _
  up k n := by
    show V m c main_v1 (((cfg0.win 5).blk t).view.emb (ix2 k n)) = _
    rw [emb_5, V_u]
  taps k n := by
    show V m c main_arg4 (((cfg0.win 6).blk t).view.emb (ix2 k n)) = _
    rw [emb_6, V_main_arg4]
  bias n := by
    show V m c main_v2 (((cfg0.win 7).blk t).view.emb (ix2 0 n)) = _
    rw [emb_7, V_b]
    exact b_apply _ _
  down j d := by
    show V m c main_v3 (((cfg0.win 8).blk t).view.emb (ix2 j d)) = _
    rw [emb_8, V_d]

/-! ## The whole array -/

/-- The reference's function of the kernel's arguments. -/
def G : FVec Ideal S65536x1024 .f32 :=
  Cert.Reference2Ideal.Read.val_main_v61 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

theorem outsAt_apply (t : Fin cfg0.N) (r d : Fin 1024) : outsAt0 m c t (ix2 r d) = G m c (ix2 (tileRow t r) d) := by
  have hr := r.isLt
  unfold outsAt0 G
  rw [out_apply, coord t]
  refine ((holds m c t).block r d ⟨1024 * (t.val % 2) + r.val, by omega⟩ rfl).trans
    (result_apply _ _ _ _ _ _ _ (tileRow t r) d (seqAt t) _ ?_).symm
  show t.val * 1024 + r.val = 2048 * (t.val / 2) + (1024 * (t.val % 2) + r.val)
  omega

theorem flushed_eq (t : Fin cfg0.N) : (dats m 0 c).flushed 9 t = ((cfg0.win 9).blk t).view.read (Elt Ideal) (G m c) := by
  funext j
  show (dats m 0 c).after 9 t j = G m c (((cfg0.win 9).blk t).view.emb j)
  rw [after0_9]
  obtain ⟨r, d, rfl⟩ : ∃ (r d : Fin 1024), j = ix2 r d := ⟨j 0, j 1, eq_ix2 j⟩
  rw [emb_9]
  exact outsAt_apply m c t r d

theorem covered (i : S65536x1024.Idx) :
    ∃ t : Fin cfg0.N, (cfg0.win 9).flush t = true ∧ i ∈ ((cfg0.win 9).blk t).view.set := by
  have h0 : (i 0).val < 65536 := (i 0).isLt
  have hN : grid0.N = 64 := N_0
  refine ⟨⟨(i 0).val / 1024, by show _ < grid0.N; rw [hN]; omega⟩, flush0_9 _, ?_⟩
  have h := ((cfg0.win 9).blk (⟨(i 0).val / 1024, by show _ < grid0.N; rw [hN]; omega⟩ : Fin cfg0.N)).view.emb_mem_set
    (ix2 ⟨(i 0).val % 1024, Nat.mod_lt _ (by decide)⟩ (i 1))
  refine (congrArg (· ∈ _) ((emb_9 _ _ _).trans (funext fun a => Fin.ext ?_))).mp h
  match a with
  | ⟨0, _⟩ => show (i 0).val / 1024 * 1024 + (i 0).val % 1024 = (i 0).val; omega
  | ⟨1, _⟩ => rfl

theorem final : (dats m 0 c).arrAt 9 cfg0.N = G m c :=
  (dats m 0 c).arrAt_eq_of_cover 9 (G m c) (fun t _ => flushed_eq m c t) covered

end Cert.Proof.Ffn
-- ==== Proof.Product.lean ====
module

public import proofs.«01_k».proof.Proof.FfnMath
public import Idealize.ShloMosaic.Lib.Pipeline.Value
public import Idealize.ShloMosaic.Lib.ValueIdx

/-! # A product of two matrices at an entry -/

@[expose] public section

noncomputable section

namespace Cert.Proof.Product

open Idealize.ShloMosaic Idealize.ShloMosaic.TcCoe Idealize.ShloMosaic.ValueIdx
open Cert.Proof.Ffn (word word_zero)

/-- Rows of the left times columns of the right, into zero. -/
theorem product_apply {p n q : ℕ} {φ₁ φ₂ : FTy}
    (D : DotDims ⟨2, ![p, n]⟩ ⟨2, ![n, q]⟩ ⟨2, ![p, q]⟩) (hr : D.contr.rank = 1) (hs : D.contr.size ⟨0, by omega⟩ = n)
    (hl : ∀ j k, (D.lhsIdx j k 0).val = (j 0).val ∧ (D.lhsIdx j k 1).val = (k ⟨0, by omega⟩).val)
    (hR : ∀ j k, (D.rhsIdx j k 0).val = (k ⟨0, by omega⟩).val ∧ (D.rhsIdx j k 1).val = (j 1).val)
    (A : FVec Ideal ⟨2, ![p, n]⟩ φ₁) (B : FVec Ideal ⟨2, ![n, q]⟩ φ₂) (r : Fin p) (d : Fin q) :
    matmul D none A B (constant ⟨2, ![p, q]⟩ .f32 0x00000000#32) (ix2 r d) = ∑ l : Fin n, A (ix2 r l) * B (ix2 l d) := by
  simp only [matmul]
  rw [Ideal.matmul_apply, ← Equiv.sum_comp (contrEquiv1 D n hr hs).symm]
  refine (congr (congrArg _ word_zero) (Finset.sum_congr rfl fun l _ => ?_)).trans (zero_add _)
  have hv := contrEquiv1_symm_val D n hr hs l
  refine congrArg₂ (· * ·) (congrArg A (funext fun x => Fin.ext ?_)) (congrArg B (funext fun x => Fin.ext ?_))
  · match x with
    | ⟨0, _⟩ => exact (hl _ _).1
    | ⟨1, _⟩ => exact (hl _ _).2.trans hv
  · match x with
    | ⟨0, _⟩ => exact (hR _ _).1.trans hv
    | ⟨1, _⟩ => exact (hR _ _).2

end Cert.Proof.Product
-- ==== Proof.MergeRef.lean ====
module

public import proofs.«01_k».proof.Proof.Gen.Reference3Ideal.Read
public import proofs.«01_k».proof.Proof.FfnMath
public import Idealize.ShloMosaic.Lib.KernelVsHost

/-! # The reference of the gated merge at an index -/

@[expose] public section

set_option maxRecDepth 16384

noncomputable section

namespace Cert.Proof.Merge

open Cert.Reference3Ideal Cert.Reference3Ideal.Gen Cert.Reference3Ideal.Read
open Idealize.ShloMosaic Idealize.ShloMosaic.TcCoe Idealize.ShloMosaic.ValueIdx
open Cert.Proof.Ffn (word word_one mcol)

variable (x0 x1 x2 : FVec Ideal S32x2048x512 .f32) (x3 : FVec Ideal S32x2048x3072 .f32) (x4 : FVec Ideal S32x2048x1024 .f32)
  (x5 : FVec Ideal S32x6144 .f32) (x6 x7 x8 : FVec Ideal S512x1024 .f32) (x9 : FVec Ideal S1024x1024 .f32)

/-- The column of the gate where branch `k` has channel `d`. -/
def gcol (k : Fin 3) (d : Fin 1024) : Fin 3072 := ⟨1024 * k.val + d.val, by have := k.isLt; have := d.isLt; omega⟩

/-- A branch's activations projected to channel `d`. -/
def branch (x : FVec Ideal S32x2048x512 .f32) (w : FVec Ideal S512x1024 .f32) (b : Fin 32) (s : Fin 2048) (d : Fin 1024) : EReal :=
  ∑ j : Fin 512, x (ix3 b s j) * w (ix2 j d)

/-- The gated sum of the branches. -/
def merged (b : Fin 32) (s : Fin 2048) (d : Fin 1024) : EReal :=
  Ideal.logistic (x3 (ix3 b s (gcol 0 d))) * branch x0 x6 b s d + Ideal.logistic (x3 (ix3 b s (gcol 1 d))) * branch x1 x7 b s d
    + Ideal.logistic (x3 (ix3 b s (gcol 2 d))) * branch x2 x8 b s d

/-- The stream after the merge. -/
def res (b : Fin 32) (s : Fin 2048) (d : Fin 1024) : EReal :=
  x4 (ix3 b s d) + x5 (ix2 b (mcol 2 d)) * ∑ k : Fin 1024, merged x0 x1 x2 x3 x6 x7 x8 b s k * x9 (ix2 k d)

theorem v6_apply (b : Fin 32) (s : Fin 2048) (d : Fin 1024) : val_main_v6 (F := Ideal) x0 x6 (ix3 b s d) = branch x0 x6 b s d := by
  rw [val_main_v6_apply]
  refine Finset.sum_congr rfl fun j _ => congrArg₂ (· * ·) (congrArg x0 ?_) (congrArg x6 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem v7_apply (b : Fin 32) (s : Fin 2048) (d : Fin 1024) : val_main_v7 (F := Ideal) x1 x7 (ix3 b s d) = branch x1 x7 b s d := by
  rw [val_main_v7_apply]
  refine Finset.sum_congr rfl fun j _ => congrArg₂ (· * ·) (congrArg x1 ?_) (congrArg x7 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem v8_apply (b : Fin 32) (s : Fin 2048) (d : Fin 1024) : val_main_v8 (F := Ideal) x2 x8 (ix3 b s d) = branch x2 x8 b s d := by
  rw [val_main_v8_apply]
  refine Finset.sum_congr rfl fun j _ => congrArg₂ (· * ·) (congrArg x2 ?_) (congrArg x8 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem v14_apply (i : S32x2048x3072.Idx) : val_main_v14 (F := Ideal) x3 i = Ideal.logistic (x3 i) := by
  rw [val_main_v14_apply, val_main_v13_apply, val_main_cst_0_apply, val_main_v12_apply, val_main_v11_apply, val_main_cst_apply,
    val_main_v10_apply, val_main_v9_apply]
  show Ideal.div (word 0x3F800000#32) (word 0x3F800000#32 + Ideal.exp (-_)) = _
  rw [word_one]
  rfl

theorem v22_apply (b : Fin 32) (s : Fin 2048) (d : Fin 1024) :
    val_main_v22 (F := Ideal) x0 x1 x2 x3 x6 x7 x8 (ix3 b s d) = merged x0 x1 x2 x3 x6 x7 x8 b s d := by
  rw [val_main_v22_apply, val_main_v20_apply, val_main_v18_apply, val_main_v19_apply, val_main_v21_apply, val_main_v15_apply,
    val_main_v16_apply, val_main_v17_apply, v14_apply, v14_apply, v14_apply, v6_apply, v7_apply, v8_apply]
  show Ideal.logistic (x3 _) * _ + Ideal.logistic (x3 _) * _ + Ideal.logistic (x3 _) * _ = _
  unfold merged
  refine congrArg₂ (· + ·) (congrArg₂ (· + ·) (congrArg (Ideal.logistic · * _) (congrArg x3 ?_))
    (congrArg (Ideal.logistic · * _) (congrArg x3 ?_))) (congrArg (Ideal.logistic · * _) (congrArg x3 ?_))
  · exact funext fun a => Fin.ext (by match a with | ⟨0, _⟩ => rfl | ⟨1, _⟩ => rfl | ⟨2, _⟩ => exact (Nat.zero_add _).symm)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The reference's result at token `n = 2048 b + s`. -/
theorem result_apply (n : Fin 65536) (d : Fin 1024) (b : Fin 32) (s : Fin 2048) (hn : n.val = 2048 * b.val + s.val) :
    val_main_v28 (F := Ideal) x0 x1 x2 x3 x4 x5 x6 x7 x8 x9 (ix2 n d) = res x0 x1 x2 x3 x4 x5 x6 x7 x8 x9 b s d := by
  have hb := b.isLt
  have hs := s.isLt
  have hd := d.isLt
  have ei : idx_main_v28 (ix2 n d) = ix3 b s d := funext fun a => Fin.ext (by
    match a with
    | ⟨0, _⟩ => show (n.val * 1024 + d.val) / 2097152 = b.val; omega
    | ⟨1, _⟩ => show (n.val * 1024 + d.val) / 1024 % 2048 = s.val; omega
    | ⟨2, _⟩ => show (n.val * 1024 + d.val) % 1024 = d.val; omega)
  rw [val_main_v28_apply, ei, val_main_v27_apply, val_main_v26_apply, val_main_v25_apply, val_main_v23_apply,
    val_main_v2_apply, val_main_v24_apply]
  show x4 _ + x5 _ * _ = _
  unfold res
  refine congrArg (_ + ·) (congrArg₂ (· * ·) (congrArg x5 ?_) (Finset.sum_congr rfl fun j _ => congrArg₂ (· * ·)
    (Eq.trans (congrArg (val_main_v22 (F := Ideal) x0 x1 x2 x3 x6 x7 x8) ?_) (v22_apply x0 x1 x2 x3 x6 x7 x8 b s j)) (congrArg x9 ?_)))
  · exact funext fun a => Fin.ext (by match a with | ⟨0, _⟩ => rfl | ⟨1, _⟩ => rfl)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

end Cert.Proof.Merge
-- ==== Proof.MergeBlock.lean ====
module

public import proofs.«01_k».proof.Proof.Gen.Kernel3Ideal.Frame
public import proofs.«01_k».proof.Proof.Product
public import proofs.«01_k».proof.Proof.MergeRef
public import Idealize.ShloMosaic.Lib.Pipeline.ValueKit.Tiles

/-! # What a tile of the merge leaves -/

@[expose] public section

set_option maxRecDepth 16384

noncomputable section

namespace Cert.Proof.Merge

open Cert.Kernel3Ideal Cert.Kernel3Ideal.Gen
open Idealize.ShloMosaic Idealize.ShloMosaic.TcCoe Idealize.ShloMosaic.ValueIdx
open Cert.Proof.Product

variable (x0 : Vec Ideal S4x512x128 .bf16) (x1 x2 : Vec Ideal S512x512 .bf16) (x3 : Vec Ideal S512x3072 .bf16)
  (x4 : Vec Ideal S512x1024 .f32) (x5 : Vec Ideal S1x6x1024 .f32) (x6 x7 x8 : Vec Ideal S512x1024 .bf16)
  (x9 : Vec Ideal S1024x1024 .bf16)

/-- A row's attention output: column `j` lies in pair `j / 128`. -/
def paired (r : Fin 512) (j : Fin 512) : EReal :=
  x0 (ix3 (⟨j.val / 128, by have := j.isLt; omega⟩ : Fin 4) r (⟨j.val % 128, Nat.mod_lt _ (by decide)⟩ : Fin 128))

/-- The gated sum of a row's branches. -/
def cell (r : Fin 512) (k : Fin 1024) : EReal :=
  Ideal.logistic (x3 (ix2 r (gcol 0 k))) * (∑ j : Fin 512, paired x0 r j * x6 (ix2 j k))
    + Ideal.logistic (x3 (ix2 r (gcol 1 k))) * (∑ j : Fin 512, x1 (ix2 r j) * x7 (ix2 j k))
    + Ideal.logistic (x3 (ix2 r (gcol 2 k))) * (∑ j : Fin 512, x2 (ix2 r j) * x8 (ix2 j k))

theorem gate_apply (r : Fin 512) (n : Fin 3072) : k0_pay2 x3 (ix2 r n) = Ideal.logistic (x3 (ix2 r n)) := by
  have h : (shapeCast S512x3072 x3 shapeCasts_S512x3072_S512x3072 : FVec Ideal S512x3072 .bf16) = x3 := shapeCast_self _ _
  unfold k0_pay2
  rw [h]
  rfl

theorem pair_apply (p : ℕ) (i : ∀ a, (![p, 0, 0] : Fin 3 → ℕ) a + S1x512x128.size a ≤ S4x512x128.size a) (hp : p < 4) (r : Fin 512) (l : Fin 128) :
    (shapeCast S512x128 (View.ld (Val := Elt Ideal) (e' := .bf16) x0 (Rect.unit (s := S4x512x128) ![p, 0, 0] S1x512x128.size i) : Vec Ideal S1x512x128 .bf16)
      shapeCasts_S1x512x128_S512x128 : FVec Ideal S512x128 .bf16) (ix2 r l) = x0 (ix3 (⟨p, hp⟩ : Fin 4) r l) := by
  refine (shapeCast_apply _ _ _ (ix3 0 r l) (by
    rw [Shape.rowMajor_val_three, Shape.rowMajor_val_two]; show (0 * 512 + r.val) * 128 + l.val = r.val * 128 + l.val; omega)).trans ?_
  exact View.ld_unit_apply_of _ _ _ _ _ _ fun a => by
    match a with
    | ⟨0, _⟩ => exact (Nat.add_zero _).symm
    | ⟨1, _⟩ => exact (Nat.zero_add _).symm
    | ⟨2, _⟩ => exact (Nat.zero_add _).symm

/-- The pairs side by side are the row's attention output. -/
theorem pairs_apply (a b c d : FVec Ideal S512x128 .bf16) (r j : Fin 512)
    (ha : ∀ l, a (ix2 r l) = x0 (ix3 0 r l)) (hb : ∀ l, b (ix2 r l) = x0 (ix3 1 r l))
    (hc : ∀ l, c (ix2 r l) = x0 (ix3 2 r l)) (hd : ∀ l, d (ix2 r l) = x0 (ix3 3 r l)) :
    concatenate S512x512 1 [⟨S512x128, a⟩, ⟨S512x128, b⟩, ⟨S512x128, c⟩, ⟨S512x128, d⟩]
      concatenates_S512x128_S512x128_S512x128_S512x128_S512x512_d1 (ix2 r j) = paired x0 r j := by
  have hj := j.isLt
  have hm : j.val % 128 < 128 := Nat.mod_lt _ (by decide)
  have hx : ∀ p : Fin 4, p.val = j.val / 128 → x0 (ix3 p r ⟨j.val % 128, hm⟩) = paired x0 r j := fun p h => by
    unfold paired; exact congrArg (fun q : Fin 4 => x0 (ix3 q r ⟨j.val % 128, hm⟩)) (Fin.ext h)
  have hq : j.val / 128 = 0 ∨ j.val / 128 = 1 ∨ j.val / 128 = 2 ∨ j.val / 128 = 3 := by omega
  rcases hq with h | h | h | h
  · refine (concatenate_apply_piece (t := S512x512) 1 _ _ (ix2 r j) 0 (by show 0 < 4; decide) S512x128 _ rfl rfl 0 rfl (ix2 r ⟨j.val % 128, hm⟩) (fun x hx => ?_) ?_).trans ((ha _).trans (hx 0 h.symm))
    · match x with
      | ⟨0, _⟩ => rfl
      | ⟨1, _⟩ => exact absurd rfl hx
    · show 0 + j.val % 128 = j.val; omega
  · refine (concatenate_apply_piece (t := S512x512) 1 _ _ (ix2 r j) 1 (by show 1 < 4; decide) S512x128 _ rfl rfl 128 rfl (ix2 r ⟨j.val % 128, hm⟩) (fun x hx => ?_) ?_).trans ((hb _).trans (hx 1 h.symm))
    · match x with
      | ⟨0, _⟩ => rfl
      | ⟨1, _⟩ => exact absurd rfl hx
    · show 128 + j.val % 128 = j.val; omega
  · refine (concatenate_apply_piece (t := S512x512) 1 _ _ (ix2 r j) 2 (by show 2 < 4; decide) S512x128 _ rfl rfl 256 rfl (ix2 r ⟨j.val % 128, hm⟩) (fun x hx => ?_) ?_).trans ((hc _).trans (hx 2 h.symm))
    · match x with
      | ⟨0, _⟩ => rfl
      | ⟨1, _⟩ => exact absurd rfl hx
    · show 256 + j.val % 128 = j.val; omega
  · refine (concatenate_apply_piece (t := S512x512) 1 _ _ (ix2 r j) 3 (by show 3 < 4; decide) S512x128 _ rfl rfl 384 rfl (ix2 r ⟨j.val % 128, hm⟩) (fun x hx => ?_) ?_).trans ((hd _).trans (hx 3 h.symm))
    · match x with
      | ⟨0, _⟩ => rfl
      | ⟨1, _⟩ => exact absurd rfl hx
    · show 384 + j.val % 128 = j.val; omega

theorem into (A : FVec Ideal S512x512 .bf16) (B : FVec Ideal S512x1024 .bf16) (r : Fin 512) (k : Fin 1024) :
    matmul dot_S512x512_S512x1024_S512x1024_1_0_0_1_n_n none A B (constant S512x1024 .f32 0x00000000#32) (ix2 r k)
      = ∑ j : Fin 512, A (ix2 r j) * B (ix2 j k) :=
  product_apply _ rfl rfl (fun _ _ => ⟨rfl, rfl⟩) (fun _ _ => ⟨rfl, rfl⟩) A B r k

theorem pay4_apply (r : Fin 512) (k : Fin 1024) : k0_pay4 x3 (ix2 r k) = Ideal.logistic (x3 (ix2 r (gcol 2 k))) := by
  unfold k0_pay4
  exact (extractStridedSlice_apply _ _ _ _ (ix2 r (gcol 2 k)) fun x => by
    match x with
    | ⟨0, _⟩ => exact (Nat.zero_add _).symm
    | ⟨1, _⟩ => rfl).trans (gate_apply x3 r _)

theorem pay5_apply (r : Fin 512) (k : Fin 1024) : k0_pay5 x2 x8 (ix2 r k) = ∑ j : Fin 512, x2 (ix2 r j) * x8 (ix2 j k) := by
  have h1 : (shapeCast S512x512 x2 shapeCasts_S512x512_S512x512 : FVec Ideal S512x512 .bf16) = x2 := shapeCast_self _ _
  have h2 : (shapeCast S512x1024 x8 shapeCasts_S512x1024_S512x1024 : FVec Ideal S512x1024 .bf16) = x8 := shapeCast_self _ _
  unfold k0_pay5
  rw [h1, h2]
  exact into _ _ r k

theorem pay3_apply (r : Fin 512) (k : Fin 1024) :
    k0_pay3 x3 (View.ld x0 r0_1) (View.ld x0 r0_2) (View.ld x0 r0_3) (View.ld x0 r0_4) x6 x1 x7 (ix2 r k)
      = Ideal.logistic (x3 (ix2 r (gcol 0 k))) * (∑ j : Fin 512, paired x0 r j * x6 (ix2 j k))
        + Ideal.logistic (x3 (ix2 r (gcol 1 k))) * (∑ j : Fin 512, x1 (ix2 r j) * x7 (ix2 j k)) := by
  have h1 : (shapeCast S512x512 x1 shapeCasts_S512x512_S512x512 : FVec Ideal S512x512 .bf16) = x1 := shapeCast_self _ _
  have h2 : (shapeCast S512x1024 x6 shapeCasts_S512x1024_S512x1024 : FVec Ideal S512x1024 .bf16) = x6 := shapeCast_self _ _
  have h3 : (shapeCast S512x1024 x7 shapeCasts_S512x1024_S512x1024 : FVec Ideal S512x1024 .bf16) = x7 := shapeCast_self _ _
  unfold k0_pay3
  rw [h1, h2, h3, addf_apply, mulf_apply, mulf_apply, into, into]
  refine congrArg₂ (· + ·) (congrArg₂ (· * ·) ?_ (Finset.sum_congr rfl fun j _ => congrArg (· * _) ?_)) (congrArg (· * _) ?_)
  · exact (extractStridedSlice_apply _ _ _ _ (ix2 r (gcol 0 k)) fun x => by
      match x with
      | ⟨0, _⟩ => exact (Nat.zero_add _).symm
      | ⟨1, _⟩ => rfl).trans (gate_apply x3 r _)
  · exact pairs_apply x0 _ _ _ _ r j (pair_apply x0 0 _ (by decide) r) (pair_apply x0 1 _ (by decide) r)
      (pair_apply x0 2 _ (by decide) r) (pair_apply x0 3 _ (by decide) r)
  · exact (extractStridedSlice_apply _ _ _ _ (ix2 r (gcol 1 k)) fun x => by
      match x with
      | ⟨0, _⟩ => exact (Nat.zero_add _).symm
      | ⟨1, _⟩ => rfl).trans (gate_apply x3 r _)

theorem pay1_apply (a b y : FVec Ideal S512x1024 .f32) (g : Vec Ideal S1x1x1024 .f32) (r : Fin 512) (d : Fin 1024) :
    k0_pay1 a b y x9 x4 g (ix2 r d)
      = x4 (ix2 r d) + g (ix3 0 0 d) * ∑ k : Fin 1024, (a (ix2 r k) + b (ix2 r k) * y (ix2 r k)) * x9 (ix2 k d) := by
  have h1 : (shapeCast S1024x1024 x9 shapeCasts_S1024x1024_S1024x1024 : FVec Ideal S1024x1024 .bf16) = x9 := shapeCast_self _ _
  have h2 : (shapeCast S512x1024 x4 shapeCasts_S512x1024_S512x1024 : FVec Ideal S512x1024 .f32) = x4 := shapeCast_self _ _
  unfold k0_pay1
  rw [h1, h2, addf_apply, mulf_apply]
  refine congrArg (_ + ·) (congrArg₂ (· * ·) ?_ ?_)
  · refine (broadcastTo_apply _ broadcasts_S1x1024_S512x1024 (ix2 r d) (ix2 0 d) fun x => by match x with | ⟨0, _⟩ => rfl | ⟨1, _⟩ => rfl).trans ?_
    exact shapeCast_apply _ _ _ _ (by
      rw [Shape.rowMajor_val_three, Shape.rowMajor_val_two]; show (0 * 1 + 0) * 1024 + d.val = 0 * 1024 + d.val; omega)
  · exact product_apply _ rfl rfl (fun _ _ => ⟨rfl, rfl⟩) (fun _ _ => ⟨rfl, rfl⟩) _ _ r d

/-- The block a tile leaves, at row `r` and channel `d`. -/
theorem out_apply (r : Fin 512) (d : Fin 1024) :
    out0_10 x0 x1 x2 x3 x4 x5 x6 x7 x8 x9 (ix2 r d)
      = x4 (ix2 r d) + x5 (ix3 0 2 d) * ∑ k : Fin 1024, cell x0 x1 x2 x3 x6 x7 x8 r k * x9 (ix2 k d) := by
  have z1 : View.ld x1 r0_6 = x1 := View.ld_unit_lit _ _ fun a => by match a with | ⟨0, _⟩ => rfl | ⟨1, _⟩ => rfl
  have z2 : View.ld x2 r0_6 = x2 := View.ld_unit_lit _ _ fun a => by match a with | ⟨0, _⟩ => rfl | ⟨1, _⟩ => rfl
  have z3 : View.ld x3 r0_0 = x3 := View.ld_unit_lit _ _ fun a => by match a with | ⟨0, _⟩ => rfl | ⟨1, _⟩ => rfl
  have z4 : View.ld x4 r0_5 = x4 := View.ld_unit_lit _ _ fun a => by match a with | ⟨0, _⟩ => rfl | ⟨1, _⟩ => rfl
  have z6 : View.ld x6 r0_5 = x6 := View.ld_unit_lit _ _ fun a => by match a with | ⟨0, _⟩ => rfl | ⟨1, _⟩ => rfl
  have z7 : View.ld x7 r0_5 = x7 := View.ld_unit_lit _ _ fun a => by match a with | ⟨0, _⟩ => rfl | ⟨1, _⟩ => rfl
  have z8 : View.ld x8 r0_5 = x8 := View.ld_unit_lit _ _ fun a => by match a with | ⟨0, _⟩ => rfl | ⟨1, _⟩ => rfl
  have z9 : View.ld x9 r0_7 = x9 := View.ld_unit_lit _ _ fun a => by match a with | ⟨0, _⟩ => rfl | ⟨1, _⟩ => rfl
  unfold out0_10
  rw [z1, z2, z3, z4, z6, z7, z8, z9]
  refine (congrFun (View.canon_cons_unit_lit inb_S512x1024_S512x1024_0_0 _ [] fun a => by
    match a with | ⟨0, _⟩ => rfl | ⟨1, _⟩ => rfl) (ix2 r d)).trans ?_
  rw [pay1_apply]
  refine congrArg (_ + ·) (congrArg₂ (· * ·) ?_ (Finset.sum_congr rfl fun k _ => congrArg (· * _) ?_))
  · exact View.ld_unit_apply_of _ _ _ _ _ _ fun a => by match a with | ⟨0, _⟩ => rfl | ⟨1, _⟩ => rfl | ⟨2, _⟩ => exact (Nat.zero_add _).symm
  · rw [pay3_apply, pay4_apply, pay5_apply]
    rfl

end Cert.Proof.Merge
-- ==== Proof.MergeValue.lean ====
module

public import proofs.«01_k».proof.Proof.MergeBlock
public import proofs.«01_k».proof.Proof.Gen.Kernel3Ideal.Value

/-! # The merge's result

The host's preparation, the blocks in their arrays, and the whole array the kernel leaves. -/

@[expose] public section

set_option maxRecDepth 16384

noncomputable section

namespace Cert.Proof.Merge

open Cert.Kernel3Ideal Cert.Kernel3Ideal.Gen
open Idealize.ShloMosaic Idealize.ShloMosaic.TcCoe Idealize.ShloMosaic.ValueIdx
open Idealize.SL.Sem
open Cert.Proof.Ffn (mcol)

/-! ## A tile's block is the merge's result -/

section Tile

variable (O C S : FVec Ideal S32x2048x512 .f32) (Gt : FVec Ideal S32x2048x3072 .f32) (X : FVec Ideal S32x2048x1024 .f32)
  (M : FVec Ideal S32x6144 .f32) (Wa Wc Ws : FVec Ideal S512x1024 .f32) (Wo : FVec Ideal S1024x1024 .f32)
  (x0 : Vec Ideal S4x512x128 .bf16) (x1 x2 : Vec Ideal S512x512 .bf16) (x3 : Vec Ideal S512x3072 .bf16)
  (x4 : Vec Ideal S512x1024 .f32) (x5 : Vec Ideal S1x6x1024 .f32) (x6 x7 x8 : Vec Ideal S512x1024 .bf16)
  (x9 : Vec Ideal S1024x1024 .bf16)

/-- A point's blocks hold the tokens from `s₀` on of sequence `b`, and the weights. -/
structure Holds (b : Fin 32) (s₀ : ℕ) : Prop where
  attn : ∀ (r : Fin 512) (s : Fin 2048) (p : Fin 4) (l : Fin 128) (j : Fin 512), s.val = s₀ + r.val → j.val = 128 * p.val + l.val →
    x0 (ix3 p r l) = O (ix3 b s j)
  conv : ∀ (r : Fin 512) (s : Fin 2048) j, s.val = s₀ + r.val → x1 (ix2 r j) = C (ix3 b s j)
  spatial : ∀ (r : Fin 512) (s : Fin 2048) j, s.val = s₀ + r.val → x2 (ix2 r j) = S (ix3 b s j)
  gates : ∀ (r : Fin 512) (s : Fin 2048) n, s.val = s₀ + r.val → x3 (ix2 r n) = Gt (ix3 b s n)
  stream : ∀ (r : Fin 512) (s : Fin 2048) d, s.val = s₀ + r.val → x4 (ix2 r d) = X (ix3 b s d)
  modulation : ∀ (k : Fin 6) d, x5 (ix3 0 k d) = M (ix2 b (mcol k d))
  attnOut : ∀ j d, x6 (ix2 j d) = Wa (ix2 j d)
  convOut : ∀ j d, x7 (ix2 j d) = Wc (ix2 j d)
  spatialOut : ∀ j d, x8 (ix2 j d) = Ws (ix2 j d)
  out : ∀ j d, x9 (ix2 j d) = Wo (ix2 j d)

variable {O C S Gt X M Wa Wc Ws Wo x0 x1 x2 x3 x4 x5 x6 x7 x8 x9}

theorem Holds.block {b : Fin 32} {s₀ : ℕ} (h : Holds O C S Gt X M Wa Wc Ws Wo x0 x1 x2 x3 x4 x5 x6 x7 x8 x9 b s₀)
    (r : Fin 512) (d : Fin 1024) (s : Fin 2048) (hs : s.val = s₀ + r.val) :
    x4 (ix2 r d) + x5 (ix3 0 2 d) * (∑ k : Fin 1024, cell x0 x1 x2 x3 x6 x7 x8 r k * x9 (ix2 k d))
      = res O C S Gt X M Wa Wc Ws Wo b s d := by
  have hp : ∀ j : Fin 512, paired x0 r j = O (ix3 b s j) := fun j => by
    have := j.isLt
    exact h.attn r s _ _ j hs (by show j.val = 128 * (j.val / 128) + j.val % 128; omega)
  unfold res
  rw [h.stream r s d hs, h.modulation]
  refine congrArg (_ + ·) (congrArg (_ * ·) (Finset.sum_congr rfl fun k _ => ?_))
  rw [h.out]
  refine congrArg (· * _) ?_
  unfold cell merged branch
  rw [h.gates r s _ hs, h.gates r s _ hs, h.gates r s _ hs]
  simp only [hp, h.conv r s _ hs, h.spatial r s _ hs, h.attnOut, h.convOut, h.spatialOut]

end Tile

variable (m : (ℓ : Loc nD τ sig) → Buf (Elt Ideal) ℓ) (ρ : Dev nD → PrngReg) (c : Dev nD)

/-! ## The host's preparation -/
theorem V_wa : V m c main_v0 = m ((c : Thread nD τ).loc main_arg6) := by
  dsimp only [V, hostOps0]; after_results
  rfl
theorem V_wc : V m c main_v1 = m ((c : Thread nD τ).loc main_arg7) := by
  dsimp only [V, hostOps0]; after_results
  rfl
theorem V_ws : V m c main_v2 = m ((c : Thread nD τ).loc main_arg8) := by
  dsimp only [V, hostOps0]; after_results
  rfl
theorem V_wo : V m c main_v3 = m ((c : Thread nD τ).loc main_arg9) := by
  dsimp only [V, hostOps0]; after_results
  rfl
theorem V_o : V m c main_v6 = transpose S4x65536x128 [1, 0, 2] (shapeCast S65536x4x128 (m ((c : Thread nD τ).loc main_arg0)) shapeCasts_S32x2048x512_S65536x4x128) transposes_S65536x4x128_S4x65536x128_1_0_2 := by
  dsimp only [V, hostOps0]; after_results
  rfl
theorem V_c : V m c main_v8 = shapeCast S65536x512 (m ((c : Thread nD τ).loc main_arg1)) shapeCasts_S32x2048x512_S65536x512 := by
  dsimp only [V, hostOps0]; after_results
  rfl
theorem V_s : V m c main_v10 = shapeCast S65536x512 (m ((c : Thread nD τ).loc main_arg2)) shapeCasts_S32x2048x512_S65536x512 := by
  dsimp only [V, hostOps0]; after_results
  rfl
theorem V_g : V m c main_v12 = shapeCast S65536x3072 (m ((c : Thread nD τ).loc main_arg3)) shapeCasts_S32x2048x3072_S65536x3072 := by
  dsimp only [V, hostOps0]; after_results
  rfl
theorem V_x : V m c main_v13 = shapeCast S65536x1024 (m ((c : Thread nD τ).loc main_arg4)) shapeCasts_S32x2048x1024_S65536x1024 := by
  dsimp only [V, hostOps0]; after_results
  rfl
theorem V_m : V m c main_v14 = shapeCast S32x6x1024 (m ((c : Thread nD τ).loc main_arg5)) shapeCasts_S32x6144_S32x6x1024 := by
  dsimp only [V, hostOps0]; after_results
  rfl

theorem o_apply (v : FVec Ideal S32x2048x512 .f32) (p : Fin 4) (n : Fin 65536) (l : Fin 128) (b : Fin 32) (s : Fin 2048) (j : Fin 512)
    (h : n.val = 2048 * b.val + s.val) (hj : j.val = 128 * p.val + l.val) :
    (transpose S4x65536x128 [1, 0, 2] (shapeCast S65536x4x128 v shapeCasts_S32x2048x512_S65536x4x128) transposes_S65536x4x128_S4x65536x128_1_0_2) (ix3 p n l) = v (ix3 b s j) := by
  refine (transpose_apply _ _ _ _ (ix3 n p l) fun x => by match x with | ⟨0, _⟩ => rfl | ⟨1, _⟩ => rfl | ⟨2, _⟩ => rfl).trans ?_
  exact shapeCast_apply _ _ _ _ (by
    rw [Shape.rowMajor_val_three, Shape.rowMajor_val_three]
    show (b.val * 2048 + s.val) * 512 + j.val = (n.val * 4 + p.val) * 128 + l.val; omega)
theorem y_apply (v : FVec Ideal S32x2048x512 .f32) (n : Fin 65536) (b : Fin 32) (s : Fin 2048) (d : Fin 512) (h : n.val = 2048 * b.val + s.val) :
    shapeCast S65536x512 v shapeCasts_S32x2048x512_S65536x512 (ix2 n d) = v (ix3 b s d) :=
  shapeCast_apply _ _ _ _ (by
    rw [Shape.rowMajor_val_three, Shape.rowMajor_val_two]; show (b.val * 2048 + s.val) * 512 + d.val = n.val * 512 + d.val; omega)
theorem g_apply (v : FVec Ideal S32x2048x3072 .f32) (n : Fin 65536) (b : Fin 32) (s : Fin 2048) (d : Fin 3072) (h : n.val = 2048 * b.val + s.val) :
    shapeCast S65536x3072 v shapeCasts_S32x2048x3072_S65536x3072 (ix2 n d) = v (ix3 b s d) :=
  shapeCast_apply _ _ _ _ (by
    rw [Shape.rowMajor_val_three, Shape.rowMajor_val_two]; show (b.val * 2048 + s.val) * 3072 + d.val = n.val * 3072 + d.val; omega)
theorem x_apply (v : FVec Ideal S32x2048x1024 .f32) (n : Fin 65536) (b : Fin 32) (s : Fin 2048) (d : Fin 1024) (h : n.val = 2048 * b.val + s.val) :
    shapeCast S65536x1024 v shapeCasts_S32x2048x1024_S65536x1024 (ix2 n d) = v (ix3 b s d) :=
  shapeCast_apply _ _ _ _ (by
    rw [Shape.rowMajor_val_three, Shape.rowMajor_val_two]; show (b.val * 2048 + s.val) * 1024 + d.val = n.val * 1024 + d.val; omega)
theorem m_apply (v : FVec Ideal S32x6144 .f32) (b : Fin 32) (k : Fin 6) (d : Fin 1024) :
    shapeCast S32x6x1024 v shapeCasts_S32x6144_S32x6x1024 (ix3 b k d) = v (ix2 b (mcol k d)) :=
  shapeCast_apply _ _ _ _ (by
    rw [Shape.rowMajor_val_three, Shape.rowMajor_val_two]
    show b.val * 6144 + (1024 * k.val + d.val) = (b.val * 6 + k.val) * 1024 + d.val; omega)

/-! ## The blocks in their arrays -/

theorem idx_0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 3) = t.val / 4 ∧ win0_5.index t (1 : Fin 3) = 0 ∧ win0_5.index t (2 : Fin 3) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = t.val ∧ win0_10.index t (1 : Fin 2) = 0 :=
  (by decide +kernel : ∀ t : Fin grid0.N, _)
theorem lt_128 (t : Fin cfg0.N) : t.val < 128 := t.isLt.trans_eq N_0

/-- Row `r` of the tile at point `t` among all rows. -/
def tileRow (t : Fin cfg0.N) (r : Fin 512) : Fin 65536 := ⟨t.val * 512 + r.val, by have := lt_128 t; have := r.isLt; omega⟩

/-- The sequence a point works on. -/
def seqAt (t : Fin cfg0.N) : Fin 32 := ⟨t.val / 4, by have := lt_128 t; omega⟩

theorem tile_seq (t : Fin cfg0.N) (r : Fin 512) (s : Fin 2048) (h : s.val = 512 * (t.val % 4) + r.val) :
    (tileRow t r).val = 2048 * (seqAt t).val + s.val := by
  show t.val * 512 + r.val = 2048 * (t.val / 4) + s.val
  omega

theorem emb_0 (t : Fin cfg0.N) (p : Fin 4) (r : Fin 512) (l : Fin 128) :
    ((cfg0.win 0).blk t).view.emb (ix3 p r l) = ix3 p (tileRow t r) l := by
  obtain ⟨e0, e1, e2⟩ := idx_0 t
  funext a; apply Fin.ext
  match a with
  | ⟨0, _⟩ => show win0_0.index t (0 : Fin 3) * 4 + 1 * p.val = p.val; omega
  | ⟨1, _⟩ => show win0_0.index t (1 : Fin 3) * 512 + 1 * r.val = t.val * 512 + r.val; omega
  | ⟨2, _⟩ => show win0_0.index t (2 : Fin 3) * 128 + 1 * l.val = l.val; omega
theorem emb_5 (t : Fin cfg0.N) (k : Fin 6) (d : Fin 1024) : ((cfg0.win 5).blk t).view.emb (ix3 0 k d) = ix3 (seqAt t) k d := by
  obtain ⟨e0, e1, e2⟩ := idx_5 t
  funext a; apply Fin.ext
  match a with
  | ⟨0, _⟩ => show win0_5.index t (0 : Fin 3) * 1 + 1 * 0 = t.val / 4; omega
  | ⟨1, _⟩ => show win0_5.index t (1 : Fin 3) * 6 + 1 * k.val = k.val; omega
  | ⟨2, _⟩ => show win0_5.index t (2 : Fin 3) * 1024 + 1 * d.val = d.val; omega
theorem emb_1 (t : Fin cfg0.N) (r : Fin 512) (d : Fin 512) : ((cfg0.win 1).blk t).view.emb (ix2 r d) = ix2 (tileRow t r) d := by
  obtain ⟨e0, e1⟩ := idx_1 t
  funext a; apply Fin.ext
  match a with
  | ⟨0, _⟩ => show win0_1.index t (0 : Fin 2) * 512 + 1 * r.val = t.val * 512 + r.val; omega
  | ⟨1, _⟩ => show win0_1.index t (1 : Fin 2) * 512 + 1 * d.val = d.val; omega
theorem emb_2 (t : Fin cfg0.N) (r : Fin 512) (d : Fin 512) : ((cfg0.win 2).blk t).view.emb (ix2 r d) = ix2 (tileRow t r) d := by
  obtain ⟨e0, e1⟩ := idx_2 t
  funext a; apply Fin.ext
  match a with
  | ⟨0, _⟩ => show win0_2.index t (0 : Fin 2) * 512 + 1 * r.val = t.val * 512 + r.val; omega
  | ⟨1, _⟩ => show win0_2.index t (1 : Fin 2) * 512 + 1 * d.val = d.val; omega
theorem emb_3 (t : Fin cfg0.N) (r : Fin 512) (d : Fin 3072) : ((cfg0.win 3).blk t).view.emb (ix2 r d) = ix2 (tileRow t r) d := by
  obtain ⟨e0, e1⟩ := idx_3 t
  funext a; apply Fin.ext
  match a with
  | ⟨0, _⟩ => show win0_3.index t (0 : Fin 2) * 512 + 1 * r.val = t.val * 512 + r.val; omega
  | ⟨1, _⟩ => show win0_3.index t (1 : Fin 2) * 3072 + 1 * d.val = d.val; omega
theorem emb_4 (t : Fin cfg0.N) (r : Fin 512) (d : Fin 1024) : ((cfg0.win 4).blk t).view.emb (ix2 r d) = ix2 (tileRow t r) d := by
  obtain ⟨e0, e1⟩ := idx_4 t
  funext a; apply Fin.ext
  match a with
  | ⟨0, _⟩ => show win0_4.index t (0 : Fin 2) * 512 + 1 * r.val = t.val * 512 + r.val; omega
  | ⟨1, _⟩ => show win0_4.index t (1 : Fin 2) * 1024 + 1 * d.val = d.val; omega
theorem emb_10 (t : Fin cfg0.N) (r : Fin 512) (d : Fin 1024) : ((cfg0.win 10).blk t).view.emb (ix2 r d) = ix2 (tileRow t r) d := by
  obtain ⟨e0, e1⟩ := idx_10 t
  funext a; apply Fin.ext
  match a with
  | ⟨0, _⟩ => show win0_10.index t (0 : Fin 2) * 512 + 1 * r.val = t.val * 512 + r.val; omega
  | ⟨1, _⟩ => show win0_10.index t (1 : Fin 2) * 1024 + 1 * d.val = d.val; omega
theorem emb_6 (t : Fin cfg0.N) (j : Fin 512) (d : Fin 1024) : ((cfg0.win 6).blk t).view.emb (ix2 j d) = ix2 j d := by
  obtain ⟨e0, e1⟩ := idx_6 t
  funext a; apply Fin.ext
  match a with
  | ⟨0, _⟩ => show win0_6.index t (0 : Fin 2) * 512 + 1 * j.val = j.val; omega
  | ⟨1, _⟩ => show win0_6.index t (1 : Fin 2) * 1024 + 1 * d.val = d.val; omega
theorem emb_7 (t : Fin cfg0.N) (j : Fin 512) (d : Fin 1024) : ((cfg0.win 7).blk t).view.emb (ix2 j d) = ix2 j d := by
  obtain ⟨e0, e1⟩ := idx_7 t
  funext a; apply Fin.ext
  match a with
  | ⟨0, _⟩ => show win0_7.index t (0 : Fin 2) * 512 + 1 * j.val = j.val; omega
  | ⟨1, _⟩ => show win0_7.index t (1 : Fin 2) * 1024 + 1 * d.val = d.val; omega
theorem emb_8 (t : Fin cfg0.N) (j : Fin 512) (d : Fin 1024) : ((cfg0.win 8).blk t).view.emb (ix2 j d) = ix2 j d := by
  obtain ⟨e0, e1⟩ := idx_8 t
  funext a; apply Fin.ext
  match a with
  | ⟨0, _⟩ => show win0_8.index t (0 : Fin 2) * 512 + 1 * j.val = j.val; omega
  | ⟨1, _⟩ => show win0_8.index t (1 : Fin 2) * 1024 + 1 * d.val = d.val; omega
theorem emb_9 (t : Fin cfg0.N) (j : Fin 1024) (d : Fin 1024) : ((cfg0.win 9).blk t).view.emb (ix2 j d) = ix2 j d := by
  obtain ⟨e0, e1⟩ := idx_9 t
  funext a; apply Fin.ext
  match a with
  | ⟨0, _⟩ => show win0_9.index t (0 : Fin 2) * 1024 + 1 * j.val = j.val; omega
  | ⟨1, _⟩ => show win0_9.index t (1 : Fin 2) * 1024 + 1 * d.val = d.val; omega

theorem holds (t : Fin cfg0.N) :
    Holds (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9))
      (iblk m c 0 t) (iblk m c 1 t) (iblk m c 2 t) (iblk m c 3 t) (iblk m c 4 t) (iblk m c 5 t) (iblk m c 6 t) (iblk m c 7 t)
      (iblk m c 8 t) (iblk m c 9 t) (seqAt t) (512 * (t.val % 4)) where
  attn r s p l j h hj := by
    show V m c main_v6 (((cfg0.win 0).blk t).view.emb (ix3 p r l)) = _
    rw [emb_0, V_o]
    exact o_apply _ _ _ _ (seqAt t) s j (tile_seq t r s h) hj
  conv r s j h := by
    show V m c main_v8 (((cfg0.win 1).blk t).view.emb (ix2 r j)) = _
    rw [emb_1, V_c]
    exact y_apply _ _ (seqAt t) s j (tile_seq t r s h)
  spatial r s j h := by
    show V m c main_v10 (((cfg0.win 2).blk t).view.emb (ix2 r j)) = _
    rw [emb_2, V_s]
    exact y_apply _ _ (seqAt t) s j (tile_seq t r s h)
  gates r s n h := by
    show V m c main_v12 (((cfg0.win 3).blk t).view.emb (ix2 r n)) = _
    rw [emb_3, V_g]
    exact g_apply _ _ (seqAt t) s n (tile_seq t r s h)
  stream r s d h := by
    show V m c main_v13 (((cfg0.win 4).blk t).view.emb (ix2 r d)) = _
    rw [emb_4, V_x]
    exact x_apply _ _ (seqAt t) s d (tile_seq t r s h)
  modulation k d := by
    show V m c main_v14 (((cfg0.win 5).blk t).view.emb (ix3 0 k d)) = _
    rw [emb_5, V_m]
    exact m_apply _ _ _ _
  attnOut j d := by
    show V m c main_v0 (((cfg0.win 6).blk t).view.emb (ix2 j d)) = _
    rw [emb_6, V_wa]
  convOut j d := by
    show V m c main_v1 (((cfg0.win 7).blk t).view.emb (ix2 j d)) = _
    rw [emb_7, V_wc]
  spatialOut j d := by
    show V m c main_v2 (((cfg0.win 8).blk t).view.emb (ix2 j d)) = _
    rw [emb_8, V_ws]
  out j d := by
    show V m c main_v3 (((cfg0.win 9).blk t).view.emb (ix2 j d)) = _
    rw [emb_9, V_wo]

/-! ## The whole array -/

/-- The reference's function of the kernel's arguments. -/
def G : FVec Ideal S65536x1024 .f32 :=
  Cert.Reference3Ideal.Read.val_main_v28 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9))

theorem tile_apply (t : Fin cfg0.N) (r : Fin 512) (d : Fin 1024) :
    out0_10 (iblk m c 0 t) (iblk m c 1 t) (iblk m c 2 t) (iblk m c 3 t) (iblk m c 4 t) (iblk m c 5 t) (iblk m c 6 t)
      (iblk m c 7 t) (iblk m c 8 t) (iblk m c 9 t) (ix2 r d) = G m c (ix2 (tileRow t r) d) := by
  have hr := r.isLt
  rw [out_apply]
  unfold G
  exact ((holds m c t).block r d ⟨512 * (t.val % 4) + r.val, by omega⟩ rfl).trans
    (result_apply _ _ _ _ _ _ _ _ _ _ (tileRow t r) d (seqAt t) _ (tile_seq t r _ rfl)).symm

theorem flushed_eq (t : Fin cfg0.N) : (dats m 0 c).flushed 10 t = ((cfg0.win 10).blk t).view.read (Elt Ideal) (G m c) := by
  funext j
  show (dats m 0 c).after 10 t j = G m c (((cfg0.win 10).blk t).view.emb j)
  rw [after0_10]
  obtain ⟨r, d, rfl⟩ : ∃ (r : Fin 512) (d : Fin 1024), j = ix2 r d := ⟨j 0, j 1, eq_ix2 j⟩
  rw [emb_10]
  exact tile_apply m c t r d

theorem covered (i : S65536x1024.Idx) :
    ∃ t : Fin cfg0.N, (cfg0.win 10).flush t = true ∧ i ∈ ((cfg0.win 10).blk t).view.set := by
  have h0 : (i 0).val < 65536 := (i 0).isLt
  have hN : grid0.N = 128 := N_0
  refine ⟨⟨(i 0).val / 512, by show _ < grid0.N; rw [hN]; omega⟩, flush0_10 _, ?_⟩
  have h := ((cfg0.win 10).blk (⟨(i 0).val / 512, by show _ < grid0.N; rw [hN]; omega⟩ : Fin cfg0.N)).view.emb_mem_set
    (ix2 ⟨(i 0).val % 512, Nat.mod_lt _ (by decide)⟩ (i 1))
  refine (congrArg (· ∈ _) ((emb_10 _ _ _).trans (funext fun a => Fin.ext ?_))).mp h
  match a with
  | ⟨0, _⟩ => show (i 0).val / 512 * 512 + (i 0).val % 512 = (i 0).val; omega
  | ⟨1, _⟩ => rfl

theorem final : (dats m 0 c).arrAt 10 cfg0.N = G m c :=
  (dats m 0 c).arrAt_eq_of_cover 10 (G m c) (fun t _ => flushed_eq m c t) covered

end Cert.Proof.Merge
-- ==== Proof.PreMath.lean ====
module

public import proofs.«01_k».proof.Proof.FfnMath

/-! # The branches' inputs on numbers

The norms, the activations and a chain of additions. -/

@[expose] public section

set_option maxRecDepth 16384

noncomputable section

namespace Cert.Proof.Pre

open Idealize.ShloMosaic
open Cert.Proof.Ffn (word word_zero)

/-- The mean of a row of 512. -/
def mean (u : Fin 512 → EReal) : EReal := Ideal.div (∑ k, u k) (word 0x44000000#32)

/-- A row of 512, centred, divided by its deviation, weighted and shifted. -/
def lnorm (u g b : Fin 512 → EReal) (d : Fin 512) : EReal :=
  (u d - mean u) * Ideal.rsqrt (mean (fun k => (u k - mean u) * (u k - mean u)) + word 0x358637BD#32) * g d + b d

/-- A row of 128, divided by its root mean square and weighted. -/
def rms (u g : Fin 128 → EReal) (d : Fin 128) : EReal :=
  u d * Ideal.rsqrt (Ideal.div (∑ k, u k * u k) (word 0x43000000#32) + word 0x358637BD#32) * g d

/-- The smooth gate `z · ½(1 + tanh(…))`. -/
def gelu (z : EReal) : EReal :=
  z * (word 0x3F000000#32 * (word 0x3F800000#32 + Ideal.tanh (word 0x3F4C422A#32 * (z + word 0x3D372713#32 * (z * (z * z))))))

/-- `z · σ(z)`. -/
def silu (z : EReal) : EReal := z * Ideal.logistic z

/-- `b + f 0 + … + f (n - 1)`, added from the left. -/
def chain (b : EReal) (f : ℕ → EReal) : ℕ → EReal
  | 0 => b
  | n + 1 => chain b f n + f n

theorem chain_zero_add (b : EReal) (f : ℕ → EReal) (n : ℕ) : chain 0 f n + b = chain b f n := by
  induction n with
  | zero => exact zero_add b
  | succ n ih =>
    show chain 0 f n + f n + b = chain b f n + f n
    rw [← ih, add_right_comm]

end Cert.Proof.Pre
-- ==== Proof.PreHid.lean ====
module

public import proofs.«01_k».proof.Proof.Gen.Kernel4Ideal.Skeleton
public import proofs.«01_k».proof.Proof.PreMath
public import proofs.«01_k».proof.Proof.Product

/-! # The mixer's hidden rows

A tile of 512 tokens is joined with 16 tokens before it and 16 after it, and the joined rows are normed and modulated. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx
open Cert.Proof.Ffn (word word_zero word_one mcol normed)
open Cert.Proof.Product (product_apply)

variable (x0 : Vec Ideal S16x1024 .f32) (x1 : Vec Ideal S512x1024 .f32) (x2 : Vec Ideal S16x1024 .f32)
  (x4 : Vec Ideal S1x1024 .f32)

/-- The joined rows. -/
def joined : FVec Ideal S544x1024 .f32 :=
  concatenate S544x1024 0 [⟨S16x1024, x0⟩, ⟨S512x1024, x1⟩, ⟨S16x1024, x2⟩] concatenates_S16x1024_S512x1024_S16x1024_S544x1024_d0

/-- Row `e` of the joined rows. -/
def rowOf (e : ℕ) (k : Fin 1024) : EReal :=
  if h : e < 16 then x0 (ix2 ⟨e, h⟩ k) else
    if h : e - 16 < 512 then x1 (ix2 ⟨e - 16, h⟩ k) else if h : e - 528 < 16 then x2 (ix2 ⟨e - 528, h⟩ k) else 0

theorem joined_apply (e : Fin 544) (k : Fin 1024) : joined x0 x1 x2 (ix2 e k) = rowOf x0 x1 x2 e.val k := by
  have he := e.isLt
  unfold rowOf joined
  split
  · refine concatenate_apply_piece (t := S544x1024) 0 _ _ (ix2 e k) 0 (by show 0 < 3; decide) S16x1024 _ rfl rfl 0 rfl _ (fun b hb => ?_) ?_
    · match b with
      | ⟨0, _⟩ => exact absurd rfl hb
      | ⟨1, _⟩ => rfl
    · exact Nat.zero_add _
  split
  · refine concatenate_apply_piece (t := S544x1024) 0 _ _ (ix2 e k) 1 (by show 1 < 3; decide) S512x1024 _ rfl rfl 16 rfl _ (fun b hb => ?_) ?_
    · match b with
      | ⟨0, _⟩ => exact absurd rfl hb
      | ⟨1, _⟩ => rfl
    · show 16 + (e.val - 16) = e.val
      omega
  rw [dif_pos (by omega)]
  refine concatenate_apply_piece (t := S544x1024) 0 _ _ (ix2 e k) 2 (by show 2 < 3; decide) S16x1024 _ rfl rfl 528 rfl _ (fun b hb => ?_) ?_
  · match b with
    | ⟨0, _⟩ => exact absurd rfl hb
    | ⟨1, _⟩ => rfl
  · show 528 + (e.val - 528) = e.val
    omega

/-- The text of the joined rows over their root mean square. -/
def scaled (v18 : FVec Ideal S544x1024 .f32) : FVec Ideal S544x1024 .f32 :=
  mulf v18 (broadcastTo S544x1024 (rsqrt (addf (divf
      (shapeCast S544x1 (multiReduction .add [1] S544 (mulf v18 v18) 0x00000000#32 reduces_S544x1024_S544 (.inl rfl) rfl) shapeCasts_S544_S544x1)
      (broadcast S544x1 (Scalar.ofBits .f32 0x44800000#32 : Ideal .f32))) (broadcast S544x1 (Scalar.ofBits .f32 0x358637BD#32 : Ideal .f32))))
      broadcasts_S544x1_S544x1024)

theorem pay3_eq : k0_pay3 x0 x1 x2 = scaled (joined x0 x1 x2) := by
  have h0 : (shapeCast S16x1024 x0 shapeCasts_S16x1024_S16x1024 : FVec Ideal S16x1024 .f32) = x0 := shapeCast_self _ _
  have h1 : (shapeCast S512x1024 x1 shapeCasts_S512x1024_S512x1024 : FVec Ideal S512x1024 .f32) = x1 := shapeCast_self _ _
  have h2 : (shapeCast S16x1024 x2 shapeCasts_S16x1024_S16x1024 : FVec Ideal S16x1024 .f32) = x2 := shapeCast_self _ _
  unfold k0_pay3
  dsimp only
  rw [h0, h1, h2]
  rfl

theorem scaled_apply (y : FVec Ideal S544x1024 .f32) (e : Fin 544) (d : Fin 1024) (u : Fin 1024 → EReal)
    (hu : ∀ k, y (ix2 e k) = u k) :
    scaled y (ix2 e d) = u d * Ideal.rsqrt (Ideal.div (∑ k, u k * u k) (word 0x44800000#32) + word 0x358637BD#32) := by
  have hi : ∀ (k : Fin 1024) (i : S544x1024.Idx), (i 0).val = e.val → (i 1).val = k.val → mulf y y i = u k * u k := fun k i h0 h1 => by
    have : i = ix2 e k := funext fun a => Fin.ext (by match a with | ⟨0, _⟩ => exact h0 | ⟨1, _⟩ => exact h1)
    rw [this, mulf_apply, hu]
  unfold scaled
  rw [mulf_apply, hu]
  refine congrArg (_ * ·) ?_
  refine (broadcastTo_apply _ broadcasts_S544x1_S544x1024 (ix2 e d) (ix2 e 0) fun x => by match x with | ⟨0, _⟩ => rfl | ⟨1, _⟩ => rfl).trans ?_
  refine congrArg (fun z => Ideal.rsqrt (Ideal.div z (word 0x44800000#32) + word 0x358637BD#32)) ?_
  refine (shapeCast_apply _ _ (ix2 e 0) (ix1 e) (by
    rw [Shape.rowMajor_val_one, Shape.rowMajor_val_two]; show e.val = e.val * 1 + 0; omega)).trans ?_
  refine (Ideal.multiReduction_add_single _ _ _ _ _ _).trans ?_
  refine Finset.sum_congr rfl fun k _ => ?_
  exact hi k _ rfl rfl

/-- A row of the hidden tokens. -/
theorem pay4_apply (sh sc : Vec Ideal S1x1x1024 .f32) (e : Fin 544) (d : Fin 1024) :
    k0_pay4 (k0_pay1 sh) (k0_pay2 sc) (k0_pay3 x0 x1 x2) x4 (ix2 e d)
      = normed (rowOf x0 x1 x2 e.val) (fun k => x4 (ix2 0 k)) (fun k => sh (ix3 0 0 k)) (fun k => sc (ix3 0 0 k)) d := by
  have hc : ∀ z : Vec Ideal S1x1x1024 .f32, (shapeCast S1x1024 z shapeCasts_S1x1x1024_S1x1024 : FVec Ideal S1x1024 .f32) (ix2 0 d) = z (ix3 0 0 d) :=
    fun z => shapeCast_apply _ _ _ _ (by
      rw [Shape.rowMajor_val_three, Shape.rowMajor_val_two]; show (0 * 1 + 0) * 1024 + d.val = 0 * 1024 + d.val; omega)
  have h4 : (shapeCast S1x1024 x4 shapeCasts_S1x1024_S1x1024 : FVec Ideal S1x1024 .f32) = x4 := shapeCast_self _ _
  have hb : ∀ z : FVec Ideal S1x1024 .f32, broadcastTo S544x1024 z broadcasts_S1x1024_S544x1024 (ix2 e d) = z (ix2 0 d) := fun z =>
    broadcastTo_apply z broadcasts_S1x1024_S544x1024 (ix2 e d) (ix2 0 d) fun x => by match x with | ⟨0, _⟩ => rfl | ⟨1, _⟩ => rfl
  rw [pay3_eq]
  unfold k0_pay4 k0_pay1 k0_pay2
  dsimp only
  rw [h4, truncf_apply, addf_apply, mulf_apply, mulf_apply, hb, hb, hb, addf_apply, hc, hc,
    scaled_apply _ e d _ fun k => joined_apply x0 x1 x2 e k]
  rfl

variable (a b : FVec Ideal S1x1024 .f32) (v : FVec Ideal S544x1024 .f32)

/-- The tile's own rows. -/
theorem pay5_apply (r : Fin 512) (d : Fin 1024) (e : Fin 544) (he : e.val = 16 + r.val) :
    k0_pay5 a b v x4 (ix2 r d) = k0_pay4 a b v x4 (ix2 e d) := by
  unfold k0_pay5
  refine extractStridedSlice_apply _ _ _ _ _ fun x => ?_
  match x with
  | ⟨0, _⟩ => exact he
  | ⟨1, _⟩ => exact (Nat.zero_add _).symm

theorem pay7_apply (w : Vec Ideal S1024x512 .bf16) (r : Fin 512) (n : Fin 512) :
    k0_pay7 a b v x4 w (ix2 r n) = ∑ d : Fin 1024, k0_pay5 a b v x4 (ix2 r d) * w (ix2 d n) := by
  have hw : (shapeCast S1024x512 w shapeCasts_S1024x512_S1024x512 : FVec Ideal S1024x512 .bf16) = w := shapeCast_self _ _
  unfold k0_pay7
  rw [hw]
  exact product_apply _ rfl rfl (fun _ _ => ⟨rfl, rfl⟩) (fun _ _ => ⟨rfl, rfl⟩) _ _ r n

theorem pay86_apply (y : FVec Ideal S512x1024 .bf16) (w : Vec Ideal S1024x3072 .bf16) (r : Fin 512) (n : Fin 3072) :
    k0_pay86 y w (ix2 r n) = ∑ d : Fin 1024, y (ix2 r d) * w (ix2 d n) := by
  have hw : (shapeCast S1024x3072 w shapeCasts_S1024x3072_S1024x3072 : FVec Ideal S1024x3072 .bf16) = w := shapeCast_self _ _
  unfold k0_pay86
  rw [hw, truncf_apply]
  exact product_apply _ rfl rfl (fun _ _ => ⟨rfl, rfl⟩) (fun _ _ => ⟨rfl, rfl⟩) _ _ r n

theorem mask_word : ∀ (e : Fin 544) (p q : BitVec 1),
    IntOp.andi (IntOp.ori (IntOp.cmpi .sge (BitVec.ofNat 32 e.val) 16#32) (Scalar.xori p 1#1))
      (IntOp.ori (IntOp.cmpi .slt (BitVec.ofNat 32 e.val) 528#32) (Scalar.xori q 1#1))
    = if (16 ≤ e.val ∨ p ≠ 1#1) ∧ (e.val < 528 ∨ q ≠ 1#1) then 1#1 else 0#1 := by decide +kernel

/-- The gated channels of the joined rows, zero beyond an end of the sequence. -/
theorem pay6_apply (p q : BitVec 1) (w : Vec Ideal S1024x1024 .bf16) (e : Fin 544) (n : Fin 512) :
    k0_pay6 p q a b v x4 w (ix2 e n)
      = if (16 ≤ e.val ∨ p ≠ 1#1) ∧ (e.val < 528 ∨ q ≠ 1#1)
        then (∑ d : Fin 1024, k0_pay4 a b v x4 (ix2 e d) * w (ix2 d (⟨n.val, n.isLt.trans (by decide)⟩ : Fin 1024)))
          * Ideal.logistic (∑ d : Fin 1024, k0_pay4 a b v x4 (ix2 e d) * w (ix2 d (⟨512 + n.val, Nat.add_lt_add_left n.isLt 512⟩ : Fin 1024)))
        else 0 := by
  have hw' : (shapeCast S1024x1024 w shapeCasts_S1024x1024_S1024x1024 : FVec Ideal S1024x1024 .bf16) = w := shapeCast_self _ _
  have hm : ∀ (v : IVec S544x1 1), (broadcastTo S544x512 (shapeCast S544x1 v shapeCasts_S544x1_S544x1) broadcasts_S544x1_S544x512) (ix2 e n) = v (ix2 e 0) :=
    fun v => (broadcastTo_apply _ broadcasts_S544x1_S544x512 (ix2 e n) (ix2 e 0) fun x => by match x with | ⟨0, _⟩ => rfl | ⟨1, _⟩ => rfl).trans
      (congrFun (shapeCast_self _ _) _)
  unfold k0_pay6
  dsimp only
  rw [hw', congrFun (shapeCast_self _ _) _, select_apply, hm]
  have hw : ∀ w : BitVec 1, w = (if (16 ≤ e.val ∨ p ≠ 1#1) ∧ (e.val < 528 ∨ q ≠ 1#1) then 1#1 else 0#1) → ∀ A B : EReal,
      Scalar.select w A B = if (16 ≤ e.val ∨ p ≠ 1#1) ∧ (e.val < 528 ∨ q ≠ 1#1) then A else B := fun w hw A B => by
    subst hw
    split
    · rw [select_one]
    · rw [select_zero]
  refine (hw _ ((?_ : _ = _).trans (mask_word e p q)) _ _).trans ?_
  · have hi := iota_single_apply .tc S544x1 32 0 iota_S544x1_d0_w32 (ix2 e 0)
    show IntOp.andi (IntOp.ori (IntOp.cmpi .sge (iota .tc S544x1 32 [0] iota_S544x1_d0_w32 (ix2 e 0)) 16#32) (Scalar.xori p 1#1))
      (IntOp.ori (IntOp.cmpi .slt (iota .tc S544x1 32 [0] iota_S544x1_d0_w32 (ix2 e 0)) 528#32) (Scalar.xori q 1#1)) = _
    rw [hi]
  refine if_congr Iff.rfl ?_ word_zero
  rw [mulf_apply]
  refine congrArg₂ (· * ·) ?_ (congrArg Ideal.logistic ?_)
  · refine (extractStridedSlice_apply ![0, 0] _ _ (ix2 e n) (ix2 e (⟨n.val, n.isLt.trans (by decide)⟩ : Fin 1024)) fun x => ?_).trans ?_
    · match x with
      | ⟨0, _⟩ => exact (Nat.zero_add _).symm
      | ⟨1, _⟩ => exact (Nat.zero_add _).symm
    · exact product_apply _ rfl rfl (fun _ _ => ⟨rfl, rfl⟩) (fun _ _ => ⟨rfl, rfl⟩) _ _ e _
  · refine (extractStridedSlice_apply ![0, 512] _ _ (ix2 e n) (ix2 e (⟨512 + n.val, Nat.add_lt_add_left n.isLt 512⟩ : Fin 1024)) fun x => ?_).trans ?_
    · match x with
      | ⟨0, _⟩ => exact (Nat.zero_add _).symm
      | ⟨1, _⟩ => rfl
    · exact product_apply _ rfl rfl (fun _ _ => ⟨rfl, rfl⟩) (fun _ _ => ⟨rfl, rfl⟩) _ _ e _

end Cert.Proof.Pre
-- ==== Proof.PreTile.lean ====
module

public import proofs.«01_k».proof.Proof.PreHid

/-! # The texts of the branches at an entry

The latent's values, the spatial gate's blocks, and the layer norm of both branches. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx
open Cert.Proof.Ffn (word word_zero word_one mcol normed)
open Cert.Proof.Product (product_apply)

/-- A row laid along the rows of a tile. -/
theorem row512 (z : FVec Ideal S1x512 .f32) (r d : Fin 512) : broadcastTo S512x512 z broadcasts_S1x512_S512x512 (ix2 r d) = z (ix2 0 d) :=
  broadcastTo_apply z broadcasts_S1x512_S512x512 (ix2 r d) (ix2 0 d) fun x => by match x with | ⟨0, _⟩ => rfl | ⟨1, _⟩ => rfl

theorem col512 (z : FVec Ideal S512x1 .f32) (r d : Fin 512) : broadcastTo S512x512 z broadcasts_S512x1_S512x512 (ix2 r d) = z (ix2 r 0) :=
  broadcastTo_apply z broadcasts_S512x1_S512x512 (ix2 r d) (ix2 r 0) fun x => by match x with | ⟨0, _⟩ => rfl | ⟨1, _⟩ => rfl

/-- The text of a row's mean. -/
def meanT (v : FVec Ideal S512x512 .f32) : FVec Ideal S512x1 .f32 :=
  divf (shapeCast S512x1 (multiReduction .add [1] S512 v 0x00000000#32 reduces_S512x512_S512 (.inl rfl) rfl) shapeCasts_S512_S512x1)
    (broadcast S512x1 (Scalar.ofBits .f32 0x44000000#32 : Ideal .f32))

theorem meanT_apply (v : FVec Ideal S512x512 .f32) (r : Fin 512) (u : Fin 512 → EReal) (hu : ∀ k, v (ix2 r k) = u k) :
    meanT v (ix2 r 0) = mean u := by
  have hi : ∀ (k : Fin 512) (i : S512x512.Idx), (i 0).val = r.val → (i 1).val = k.val → v i = u k := fun k i h0 h1 => by
    have : i = ix2 r k := funext fun a => Fin.ext (by match a with | ⟨0, _⟩ => exact h0 | ⟨1, _⟩ => exact h1)
    rw [this, hu]
  unfold meanT mean
  refine congrArg (fun z => Ideal.div z (word 0x44000000#32)) ?_
  refine (shapeCast_apply _ _ (ix2 r 0) (ix1 r) (by
    rw [Shape.rowMajor_val_one, Shape.rowMajor_val_two]; show r.val = r.val * 1 + 0; omega)).trans ?_
  refine (Ideal.multiReduction_add_single _ _ _ _ _ _).trans ?_
  exact Finset.sum_congr rfl fun k _ => hi k _ rfl rfl

/-- The text of a centred row. -/
def centred (v : FVec Ideal S512x512 .f32) : FVec Ideal S512x512 .f32 := subf v (broadcastTo S512x512 (meanT v) broadcasts_S512x1_S512x512)

/-- The text of the layer norm. -/
def lnT (v : FVec Ideal S512x512 .f32) (g b : FVec Ideal S1x512 .f32) : FVec Ideal S512x512 .f32 :=
  addf (mulf (mulf (centred v) (broadcastTo S512x512 (rsqrt (addf (meanT (mulf (centred v) (centred v)))
      (broadcast S512x1 (Scalar.ofBits .f32 0x358637BD#32 : Ideal .f32)))) broadcasts_S512x1_S512x512))
    (broadcastTo S512x512 g broadcasts_S1x512_S512x512)) (broadcastTo S512x512 b broadcasts_S1x512_S512x512)

theorem lnT_apply (v : FVec Ideal S512x512 .f32) (g b : FVec Ideal S1x512 .f32) (r d : Fin 512) (u : Fin 512 → EReal)
    (hu : ∀ k, v (ix2 r k) = u k) :
    lnT v g b (ix2 r d) = lnorm u (fun k => g (ix2 0 k)) (fun k => b (ix2 0 k)) d := by
  have hc : ∀ k, centred v (ix2 r k) = u k - mean u := fun k => by
    unfold centred
    rw [subf_apply, hu, col512, meanT_apply v r u hu]
  unfold lnT
  rw [addf_apply, mulf_apply, mulf_apply, hc, row512, row512, col512]
  unfold lnorm
  refine congrArg (fun z => (u d - mean u) * Ideal.rsqrt (z + word 0x358637BD#32) * g (ix2 0 d) + b (ix2 0 d)) ?_
  exact meanT_apply _ r (fun k => (u k - mean u) * (u k - mean u)) fun k => by rw [mulf_apply, hc]

theorem pay64_apply (v : FVec Ideal S512x512 .f32) (g b : Vec Ideal S1x512 .f32) (r d : Fin 512) (u : Fin 512 → EReal)
    (hu : ∀ k, v (ix2 r k) = u k) :
    k0_pay64 v g b (ix2 r d) = lnorm u (fun k => g (ix2 0 k)) (fun k => b (ix2 0 k)) d := by
  have hg : ∀ z : Vec Ideal S1x512 .f32, (shapeCast S1x512 z shapeCasts_S1x512_S1x512 : FVec Ideal S1x512 .f32) = z := fun z => shapeCast_self _ _
  unfold k0_pay64
  dsimp only
  rw [hg, hg, truncf_apply]
  exact lnT_apply v g b r d u hu

theorem pay106_apply (v : FVec Ideal S512x512 .f32) (g b : Vec Ideal S1x512 .f32) (r d : Fin 512) (u : Fin 512 → EReal)
    (hu : ∀ k, v (ix2 r k) = u k) :
    k0_pay106 v (k0_pay105 g) b (ix2 r d) = silu (lnorm u (fun k => g (ix2 0 k)) (fun k => b (ix2 0 k)) d) := by
  have hg : ∀ z : Vec Ideal S1x512 .f32, (shapeCast S1x512 z shapeCasts_S1x512_S1x512 : FVec Ideal S1x512 .f32) = z := fun z => shapeCast_self _ _
  unfold k0_pay106 k0_pay105
  dsimp only
  rw [hg, hg, truncf_apply, mulf_apply]
  exact congrArg silu (lnT_apply v g b r d u hu)

/-! ## The values -/

theorem pay10_apply (v : FVec Ideal S512x512 .f32) (g : Vec Ideal S1x128 .f32) (r : Fin 512) (k : Fin 128) (u : Fin 128 → EReal)
    (hu : ∀ k : Fin 128, v (ix2 r (⟨256 + k.val, by have := k.isLt; omega⟩ : Fin 512)) = u k) :
    k0_pay10 v g (ix2 r k) = rms u (fun k => g (ix2 0 k)) k := by
  have hg : (shapeCast S1x128 g shapeCasts_S1x128_S1x128 : FVec Ideal S1x128 .f32) = g := shapeCast_self _ _
  have hs : ∀ k : Fin 128, extractStridedSlice S512x128 ![0, 256] v slices_S512x512_o0_256_S512x128 (ix2 r k) = u k := fun k =>
    (extractStridedSlice_apply ![0, 256] _ _ (ix2 r k) (ix2 r (⟨256 + k.val, by have := k.isLt; omega⟩ : Fin 512)) fun x => by
      match x with
      | ⟨0, _⟩ => exact (Nat.zero_add _).symm
      | ⟨1, _⟩ => rfl).trans (hu k)
  unfold k0_pay10
  dsimp only
  rw [hg]
  generalize extractStridedSlice S512x128 ![0, 256] v slices_S512x512_o0_256_S512x128 = y at hs
  have hi : ∀ (k : Fin 128) (i : S512x128.Idx), (i 0).val = r.val → (i 1).val = k.val → mulf y y i = u k * u k := fun k i h0 h1 => by
    have : i = ix2 r k := funext fun a => Fin.ext (by match a with | ⟨0, _⟩ => exact h0 | ⟨1, _⟩ => exact h1)
    rw [this, mulf_apply, hs]
  rw [truncf_apply, mulf_apply, mulf_apply, hs]
  unfold rms
  refine congrArg₂ (· * ·) (congrArg (_ * ·) ?_) ?_
  · refine (broadcastTo_apply _ broadcasts_S512x1_S512x128 (ix2 r k) (ix2 r 0) fun x => by match x with | ⟨0, _⟩ => rfl | ⟨1, _⟩ => rfl).trans ?_
    refine congrArg (fun z => Ideal.rsqrt (Ideal.div z (word 0x43000000#32) + word 0x358637BD#32)) ?_
    refine (shapeCast_apply _ _ (ix2 r 0) (ix1 r) (by
      rw [Shape.rowMajor_val_one, Shape.rowMajor_val_two]; show r.val = r.val * 1 + 0; omega)).trans ?_
    refine (Ideal.multiReduction_add_single _ _ _ _ _ _).trans ?_
    exact Finset.sum_congr rfl fun k _ => hi k _ rfl rfl
  · exact broadcastTo_apply g broadcasts_S1x128_S512x128 (ix2 r k) (ix2 0 k) fun x => by match x with | ⟨0, _⟩ => rfl | ⟨1, _⟩ => rfl

/-- The text of a pair of heads' values. -/
def valT (o : ℕ) (A : FVec Ideal S512x128 .bf16) (w : FVec Ideal S128x512 .bf16) (h : Shape.Slices S512x512 ![0, o] S512x128) : FVec Ideal S1x1x128x512 .bf16 :=
  shapeCast S1x1x128x512 (truncf .bf16 (transpose S128x512 [1, 0] (extractStridedSlice S512x128 ![0, o]
    (matmul dot_S512x128_S128x512_S512x512_1_0_0_1_n_n none A w (constant S512x512 .f32 0x00000000#32)) h) transposes_S512x128_p1_0_S128x512) bitsLt_bf16_f32)
    shapeCasts_S128x512_S1x1x128x512

theorem valT_apply (o : ℕ) (ho : o + 128 ≤ 512) (A : FVec Ideal S512x128 .bf16) (w : FVec Ideal S128x512 .bf16) (h) (l : Fin 128) (r : Fin 512) :
    valT o A w h (ix4 0 0 l r) = ∑ k : Fin 128, A (ix2 r k) * w (ix2 k (⟨o + l.val, by have := l.isLt; omega⟩ : Fin 512)) := by
  unfold valT
  refine (shapeCast_apply _ _ (ix4 0 0 l r) (ix2 l r) (by
    rw [Shape.rowMajor_val_two, Shape.rowMajor_val_four]
    show l.val * 512 + r.val = ((0 * 1 + 0) * 128 + l.val) * 512 + r.val; omega)).trans ?_
  rw [truncf_apply]
  refine (transpose_apply _ _ _ (ix2 l r) (ix2 r l) fun x => by match x with | ⟨0, _⟩ => rfl | ⟨1, _⟩ => rfl).trans ?_
  refine (extractStridedSlice_apply ![0, o] _ _ (ix2 r l) (ix2 r (⟨o + l.val, by have := l.isLt; omega⟩ : Fin 512)) fun x => by
    match x with
    | ⟨0, _⟩ => exact (Nat.zero_add _).symm
    | ⟨1, _⟩ => rfl).trans ?_
  exact product_apply _ rfl rfl (fun _ _ => ⟨rfl, rfl⟩) (fun _ _ => ⟨rfl, rfl⟩) _ _ r _

theorem castW (w : Vec Ideal S128x512 .bf16) : (shapeCast S128x512 w shapeCasts_S128x512_S128x512 : FVec Ideal S128x512 .bf16) = w := shapeCast_self _ _

theorem pay56_eq (A : FVec Ideal S512x128 .bf16) (w : Vec Ideal S128x512 .bf16) : k0_pay56 A w = valT 0 A w (by decide) := by
  unfold k0_pay56 k0_pay55; dsimp only; rw [castW]; rfl
theorem pay58_eq (A : FVec Ideal S512x128 .bf16) (w : Vec Ideal S128x512 .bf16) : k0_pay58 (k0_pay57 A w) = valT 128 A w (by decide) := by
  unfold k0_pay58 k0_pay57 k0_pay55; dsimp only; rw [castW]; rfl
theorem pay59_eq (A : FVec Ideal S512x128 .bf16) (w : Vec Ideal S128x512 .bf16) : k0_pay59 (k0_pay55 A w) = valT 256 A w (by decide) := by
  unfold k0_pay59 k0_pay55; dsimp only; rw [castW]; rfl
theorem pay60_eq (A : FVec Ideal S512x128 .bf16) (w : Vec Ideal S128x512 .bf16) : k0_pay60 (k0_pay55 A w) = valT 384 A w (by decide) := by
  unfold k0_pay60 k0_pay55; dsimp only; rw [castW]; rfl

/-! ## The spatial gate -/

theorem pay61_apply (y : FVec Ideal S512x1024 .bf16) (w : Vec Ideal S1024x1024 .bf16) (r : Fin 512) (n : Fin 1024) :
    k0_pay61 y w (ix2 r n) = gelu (∑ d : Fin 1024, y (ix2 r d) * w (ix2 d n)) := by
  have hw : (shapeCast S1024x1024 w shapeCasts_S1024x1024_S1024x1024 : FVec Ideal S1024x1024 .bf16) = w := shapeCast_self _ _
  unfold k0_pay61
  rw [hw]
  have h : matmul (φ₁ := .bf16) (φ₂ := .bf16) dot_S512x1024_S1024x1024_S512x1024_1_0_0_1_n_n none y w (constant S512x1024 .f32 0x00000000#32) (ix2 r n)
      = ∑ d : Fin 1024, y (ix2 r d) * w (ix2 d n) := product_apply _ rfl rfl (fun _ _ => ⟨rfl, rfl⟩) (fun _ _ => ⟨rfl, rfl⟩) _ _ r n
  generalize matmul (φ₁ := .bf16) (φ₂ := .bf16) dot_S512x1024_S1024x1024_S512x1024_1_0_0_1_n_n none y w (constant S512x1024 .f32 0x00000000#32) = M at h ⊢
  rw [← h]
  rfl

theorem pay62_apply (y : FVec Ideal S512x1024 .bf16) (w : Vec Ideal S1024x1024 .bf16) (r n : Fin 512) :
    k0_pay62 y w (ix2 r n) = gelu (∑ d : Fin 1024, y (ix2 r d) * w (ix2 d (⟨n.val, n.isLt.trans (by decide)⟩ : Fin 1024))) := by
  unfold k0_pay62
  refine Eq.trans (extractStridedSlice_apply (s := S512x1024) (t := S512x512) ![0, 0] (k0_pay61 y w) _ (ix2 r n) (ix2 r (⟨n.val, n.isLt.trans (by decide)⟩ : Fin 1024)) fun x => by
    match x with
    | ⟨0, _⟩ => exact (Nat.zero_add _).symm
    | ⟨1, _⟩ => exact (Nat.zero_add _).symm) (pay61_apply y w r _)

theorem pay63_apply (y : FVec Ideal S512x1024 .bf16) (w : Vec Ideal S1024x1024 .bf16) (r n : Fin 512) :
    k0_pay63 y w (ix2 r n) = gelu (∑ d : Fin 1024, y (ix2 r d) * w (ix2 d (⟨512 + n.val, Nat.add_lt_add_left n.isLt 512⟩ : Fin 1024))) := by
  unfold k0_pay63
  refine Eq.trans (extractStridedSlice_apply (s := S512x1024) (t := S512x512) ![0, 512] (k0_pay61 y w) _ (ix2 r n) (ix2 r (⟨512 + n.val, Nat.add_lt_add_left n.isLt 512⟩ : Fin 1024)) fun x => by
    match x with
    | ⟨0, _⟩ => exact (Nat.zero_add _).symm
    | ⟨1, _⟩ => rfl) (pay61_apply y w r _)

/-- The text of one block of 128 tokens and 128 channels. -/
def mixT (o o' : ℕ) (u : FVec Ideal S512x512 .f32) (v : FVec Ideal S512x512 .bf16) (w : Vec Ideal S1x128x128 .bf16) (b : Vec Ideal S128x128 .f32)
    (h : Shape.Slices S512x512 ![o, o'] S128x128) : FVec Ideal S128x128 .bf16 :=
  truncf .bf16 (mulf (extractStridedSlice S128x128 ![o, o'] u h) (addf
    (matmul dot_S128x128_S128x128_S128x128_1_0_0_1_n_n none (shapeCast S128x128 w shapeCasts_S1x128x128_S128x128 : FVec Ideal S128x128 .bf16)
      (extractStridedSlice S128x128 ![o, o'] v h) (constant S128x128 .f32 0x00000000#32))
    (shapeCast S128x128 b shapeCasts_S128x128_S128x128))) bitsLt_bf16_f32

theorem mixT_apply (o o' : ℕ) (ho : o + 128 ≤ 512) (ho' : o' + 128 ≤ 512) (u : FVec Ideal S512x512 .f32) (v : FVec Ideal S512x512 .bf16)
    (w : Vec Ideal S1x128x128 .bf16) (b : Vec Ideal S128x128 .f32) (h) (p l : Fin 128) :
    mixT o o' u v w b h (ix2 p l)
      = u (ix2 (⟨o + p.val, by have := p.isLt; omega⟩ : Fin 512) (⟨o' + l.val, by have := l.isLt; omega⟩ : Fin 512))
        * (∑ q : Fin 128, v (ix2 (⟨o + q.val, by have := q.isLt; omega⟩ : Fin 512) (⟨o' + l.val, by have := l.isLt; omega⟩ : Fin 512)) * w (ix3 0 p q)
          + b (ix2 p l)) := by
  have hb : (shapeCast S128x128 b shapeCasts_S128x128_S128x128 : FVec Ideal S128x128 .f32) = b := shapeCast_self _ _
  unfold mixT
  rw [hb, truncf_apply, mulf_apply, addf_apply]
  refine congrArg₂ (· * ·) ?_ (congrArg (· + _) ?_)
  · exact extractStridedSlice_apply (s := S512x512) (t := S128x128) ![o, o'] u h (ix2 p l) _ fun x => by match x with | ⟨0, _⟩ => rfl | ⟨1, _⟩ => rfl
  · refine (product_apply _ rfl rfl (fun _ _ => ⟨rfl, rfl⟩) (fun _ _ => ⟨rfl, rfl⟩) _ _ p l).trans ?_
    refine Finset.sum_congr rfl fun q _ => (congrArg₂ (· * ·) ?_ ?_).trans (mul_comm _ _)
    · exact shapeCast_apply _ _ (ix2 p q) (ix3 0 p q) (by
        rw [Shape.rowMajor_val_three, Shape.rowMajor_val_two]; show (0 * 128 + p.val) * 128 + q.val = p.val * 128 + q.val; omega)
    · exact extractStridedSlice_apply (s := S512x512) (t := S128x128) ![o, o'] v h (ix2 q l) _ fun x => by match x with | ⟨0, _⟩ => rfl | ⟨1, _⟩ => rfl

variable (u v : FVec Ideal S512x512 .f32) (y : FVec Ideal S512x512 .bf16) (g b : Vec Ideal S1x512 .f32)
  (w : Vec Ideal S1x128x128 .bf16) (c : Vec Ideal S128x128 .f32)

theorem mix_0_0 : k0_pay65 u v g b w c = mixT 0 0 u (k0_pay64 v g b) w c (by decide) := by unfold k0_pay65 mixT; rfl
theorem mix_0_1 : k0_pay67 u (k0_pay66 v g b w) c = mixT 0 128 u (k0_pay64 v g b) w c (by decide) := by unfold k0_pay67 k0_pay66 mixT; rfl
theorem mix_0_2 : k0_pay68 u y w c = mixT 0 256 u y w c (by decide) := by unfold k0_pay68 mixT; rfl
theorem mix_0_3 : k0_pay69 u y w c = mixT 0 384 u y w c (by decide) := by unfold k0_pay69 mixT; rfl
theorem mix_1_0 : k0_pay71 u (k0_pay70 y w) c = mixT 128 0 u y w c (by decide) := by unfold k0_pay71 k0_pay70 mixT; rfl
theorem mix_1_1 : k0_pay72 u y w c = mixT 128 128 u y w c (by decide) := by unfold k0_pay72 mixT; rfl
theorem mix_1_2 : k0_pay73 u y w c = mixT 128 256 u y w c (by decide) := by unfold k0_pay73 mixT; rfl
theorem mix_1_3 : k0_pay75 u (k0_pay74 y w) c = mixT 128 384 u y w c (by decide) := by unfold k0_pay75 k0_pay74 mixT; rfl
theorem mix_2_0 : k0_pay76 u y w c = mixT 256 0 u y w c (by decide) := by unfold k0_pay76 mixT; rfl
theorem mix_2_1 : k0_pay77 u y w c = mixT 256 128 u y w c (by decide) := by unfold k0_pay77 mixT; rfl
theorem mix_2_2 : k0_pay79 u (k0_pay78 y w) c = mixT 256 256 u y w c (by decide) := by unfold k0_pay79 k0_pay78 mixT; rfl
theorem mix_2_3 : k0_pay80 u y w c = mixT 256 384 u y w c (by decide) := by unfold k0_pay80 mixT; rfl
theorem mix_3_0 : k0_pay81 u y w c = mixT 384 0 u y w c (by decide) := by unfold k0_pay81 mixT; rfl
theorem mix_3_1 : k0_pay83 u (k0_pay82 y w) c = mixT 384 128 u y w c (by decide) := by unfold k0_pay83 k0_pay82 mixT; rfl
theorem mix_3_2 : k0_pay84 u y w c = mixT 384 256 u y w c (by decide) := by unfold k0_pay84 mixT; rfl
theorem mix_3_3 : k0_pay85 u y w c = mixT 384 384 u y w c (by decide) := by unfold k0_pay85 mixT; rfl

end Cert.Proof.Pre
-- ==== Proof.PreCells.lean ====
module

public import proofs.«01_k».proof.Proof.PreTile
public import Idealize.ShloMosaic.Lib.Pipeline.ValueKit.Tiles

/-! # The mixer's blocks

What each store of a point writes, in terms of the point's blocks. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx Idealize.SL.Sem Idealize.ShloMosaic.Tactic
open Cert.Proof.Ffn (word word_zero word_one mcol normed)

variable (x0 : Vec Ideal S16x1024 .f32) (x1 : Vec Ideal S512x1024 .f32) (x2 : Vec Ideal S16x1024 .f32) (x3 : Vec Ideal S1x6x1024 .f32) (x4 : Vec Ideal S1x1024 .f32)
  (x5 : Vec Ideal S1024x512 .bf16) (x6 : Vec Ideal S1024x1024 .bf16) (x7 : Vec Ideal S1024x1024 .bf16)
  (x11 : Vec Ideal S1x128 .f32) (x13 : Vec Ideal S128x512 .bf16) (x22 x23 : Vec Ideal S1x512 .f32) (x24 : Vec Ideal S4x128x128 .bf16) (x25 : Vec Ideal S128x512 .f32)

/-- Row `e` of the point's hidden rows. -/
def hidK (e : ℕ) (d : Fin 1024) : EReal :=
  normed (rowOf x0 x1 x2 e) (fun k => x4 (ix2 0 k)) (fun k => x3 (ix3 0 0 k)) (fun k => x3 (ix3 0 1 k)) d

theorem mod_ld (k : Fin 6) (i) (d : Fin 1024) :
    View.ld (Val := Elt Ideal) (e' := .f32) x3 (Rect.unit (s := S1x6x1024) ![0, k.val, 0] ![1, 1, 1024] i) (ix3 0 0 d) = x3 (ix3 0 k d) :=
  View.ld_unit_apply_of _ _ _ _ _ _ fun a => by
    match a with
    | ⟨0, _⟩ => rfl
    | ⟨1, _⟩ => rfl
    | ⟨2, _⟩ => exact (Nat.zero_add _).symm

theorem all_row (i i') (e : Fin 544) (d : Fin 1024) :
    k0_pay4 (k0_pay1 (View.ld (Val := Elt Ideal) (e' := .f32) x3 (Rect.unit (s := S1x6x1024) ![0, 0, 0] ![1, 1, 1024] i)))
      (k0_pay2 (View.ld (Val := Elt Ideal) (e' := .f32) x3 (Rect.unit (s := S1x6x1024) ![0, 1, 0] ![1, 1, 1024] i'))) (k0_pay3 x0 x1 x2) x4 (ix2 e d)
      = hidK x0 x1 x2 x3 x4 e.val d := by
  rw [pay4_apply]
  unfold hidK
  have h0 := funext fun k => mod_ld x3 0 i k
  have h1 := funext fun k => mod_ld x3 1 i' k
  exact congrArg₂ (fun a b => normed (rowOf x0 x1 x2 e.val) (fun k => x4 (ix2 0 k)) a b d) h0 h1

theorem own_row (i i') (r : Fin 512) (d : Fin 1024) :
    k0_pay5 (k0_pay1 (View.ld (Val := Elt Ideal) (e' := .f32) x3 (Rect.unit (s := S1x6x1024) ![0, 0, 0] ![1, 1, 1024] i)))
      (k0_pay2 (View.ld (Val := Elt Ideal) (e' := .f32) x3 (Rect.unit (s := S1x6x1024) ![0, 1, 0] ![1, 1, 1024] i'))) (k0_pay3 x0 x1 x2) x4 (ix2 r d)
      = hidK x0 x1 x2 x3 x4 (16 + r.val) d := by
  have hr := r.isLt
  rw [pay5_apply x4 _ _ _ r d ⟨16 + r.val, by omega⟩ rfl]
  exact all_row x0 x1 x2 x3 x4 i i' _ d

/-! ## The values -/

/-- The normed latent of the point's row `r`. -/
def latK (r : ℕ) (k : Fin 128) : EReal :=
  rms (fun k : Fin 128 => ∑ d : Fin 1024, hidK x0 x1 x2 x3 x4 (16 + r) d * x5 (ix2 d (⟨256 + k.val, by have := k.isLt; omega⟩ : Fin 512))) (fun k => x11 (ix2 0 k)) k

/-- Channel `l` of a pair `p` of heads at the point's row `r`. -/
def valK (p : Fin 4) (l : Fin 128) (r : ℕ) : EReal :=
  ∑ k : Fin 128, latK x0 x1 x2 x3 x4 x5 x11 r k * x13 (ix2 k (⟨128 * p.val + l.val, by have := p.isLt; have := l.isLt; omega⟩ : Fin 512))

/-- The point's block of values. -/
def valsK (y : S4x1x128x512.Idx) : EReal := valK x0 x1 x2 x3 x4 x5 x11 x13 (y 0) (y 2) (y 3).val

theorem val_piece (n o : ℕ) (hn : n < 4) (ho : o = 128 * n) (A : FVec Ideal S512x128 .bf16) (h)
    (hA : ∀ r k, A (ix2 r k) = latK x0 x1 x2 x3 x4 x5 x11 r.val k) (i0)
    (x : (Rect.unit (s := S4x1x128x512) ![n, 0, 0, 0] ![1, 1, 128, 512] i0).shape.Idx) :
    valT o A x13 h x = valsK x0 x1 x2 x3 x4 x5 x11 x13 ((Rect.unit (s := S4x1x128x512) ![n, 0, 0, 0] ![1, 1, 128, 512] i0).emb x) := by
  subst ho
  obtain ⟨l, r, rfl⟩ : ∃ (l : Fin 128) (r : Fin 512), x = ix4 0 0 l r := ⟨x 2, x 3, by
    refine (eq_ix4 x).trans ?_
    have h0 : x 0 = (0 : Fin 1) := Fin.ext (Nat.lt_one_iff.1 (x 0).isLt)
    have h1 : x 1 = (0 : Fin 1) := Fin.ext (Nat.lt_one_iff.1 (x 1).isLt)
    rw [h0, h1]
    rfl⟩
  have e0 := Rect.idx_unit_val (s := S4x1x128x512) ![n, 0, 0, 0] ![1, 1, 128, 512] i0 (ix4 0 0 l r) 0
  have e2 := Rect.idx_unit_val (s := S4x1x128x512) ![n, 0, 0, 0] ![1, 1, 128, 512] i0 (ix4 0 0 l r) 2
  have e3 := Rect.idx_unit_val (s := S4x1x128x512) ![n, 0, 0, 0] ![1, 1, 128, 512] i0 (ix4 0 0 l r) 3
  rw [valT_apply _ (by omega)]
  have f0 : (Rect.unit (s := S4x1x128x512) ![n, 0, 0, 0] ![1, 1, 128, 512] i0).emb (ix4 0 0 l r) 0 = (⟨n, hn⟩ : Fin 4) := Fin.ext e0
  have f2 : (Rect.unit (s := S4x1x128x512) ![n, 0, 0, 0] ![1, 1, 128, 512] i0).emb (ix4 0 0 l r) 2 = l := Fin.ext (e2.trans (Nat.zero_add _))
  have f3 : (Rect.unit (s := S4x1x128x512) ![n, 0, 0, 0] ![1, 1, 128, 512] i0).emb (ix4 0 0 l r) 3 = r := Fin.ext (e3.trans (Nat.zero_add _))
  unfold valsK
  rw [f0, f2, f3]
  unfold valK
  exact Finset.sum_congr rfl fun k _ => congrArg (· * _) (hA r k)

theorem val_cover (y : S4x1x128x512.Idx) (o : ℕ) (h : (y 0).val < o + 1) (i0)
    (w : (Rect.unit (s := S4x1x128x512) ![o, 0, 0, 0] ![1, 1, 128, 512] i0).shape.Idx → Elt Ideal .bf16) (L : List (View.Piece (Elt Ideal) S4x1x128x512 .bf16))
    (hL : (y 0).val < o → ∃ p ∈ L, y ∈ p.1.set) :
    ∃ p ∈ (⟨Rect.unit (s := S4x1x128x512) ![o, 0, 0, 0] ![1, 1, 128, 512] i0, w⟩ : View.Piece (Elt Ideal) S4x1x128x512 .bf16) :: L, y ∈ p.1.set := by
  by_cases ho : (y 0).val < o
  · obtain ⟨p, hp, hy⟩ := hL ho
    exact ⟨p, List.mem_cons_of_mem _ hp, hy⟩
  · refine ⟨_, List.mem_cons_self, (Rect.mem_set_unit (inb := i0)).2 fun a => ?_⟩
    match a with
    | ⟨0, _⟩ => exact ⟨Nat.le_of_not_lt ho, h⟩
    | ⟨1, _⟩ => exact ⟨Nat.zero_le _, (y 1).isLt.trans_eq (Nat.zero_add 1).symm⟩
    | ⟨2, _⟩ => exact ⟨Nat.zero_le _, (y 2).isLt.trans_eq (Nat.zero_add 128).symm⟩
    | ⟨3, _⟩ => exact ⟨Nat.zero_le _, (y 3).isLt.trans_eq (Nat.zero_add 512).symm⟩

/-! ## The spatial gate -/

/-- The first half's channel `l` of the point's row `r`. -/
def suK (r : ℕ) (l : Fin 512) : EReal :=
  gelu (∑ d : Fin 1024, hidK x0 x1 x2 x3 x4 (16 + r) d * x7 (ix2 d (⟨l.val, l.isLt.trans (by decide)⟩ : Fin 1024)))

/-- The second half's normed channel `l` of the point's row `r`. -/
def svK (r : ℕ) (l : Fin 512) : EReal :=
  lnorm (fun l : Fin 512 => gelu (∑ d : Fin 1024, hidK x0 x1 x2 x3 x4 (16 + r) d * x7 (ix2 d (⟨512 + l.val, Nat.add_lt_add_left l.isLt 512⟩ : Fin 1024))))
    (fun k => x22 (ix2 0 k)) (fun k => x23 (ix2 0 k)) l

/-- The gated channel `l` of the point's row `r`. -/
def sguK (r : ℕ) (l : Fin 512) : EReal :=
  suK x0 x1 x2 x3 x4 x7 r l * (∑ q : Fin 128, svK x0 x1 x2 x3 x4 x7 x22 x23 (128 * (r / 128) + q.val) l
      * x24 (ix3 (⟨l.val / 128, by have := l.isLt; omega⟩ : Fin 4) (⟨r % 128, Nat.mod_lt _ (by decide)⟩ : Fin 128) q)
    + x25 (ix2 (⟨r % 128, Nat.mod_lt _ (by decide)⟩ : Fin 128) l))

/-- The point's block of the gated branch. -/
def sgusK (y : S512x512.Idx) : EReal := sguK x0 x1 x2 x3 x4 x7 x22 x23 x24 x25 (y 0).val (y 1)

theorem sgu_piece (n g o o' : ℕ) (hn : n < 4) (hg : g < 4) (ho : o = 128 * n) (ho' : o' = 128 * g)
    (U : FVec Ideal S512x512 .f32) (W : FVec Ideal S512x512 .bf16) (h)
    (hU : ∀ r l, U (ix2 r l) = suK x0 x1 x2 x3 x4 x7 r.val l) (hW : ∀ r l, W (ix2 r l) = svK x0 x1 x2 x3 x4 x7 x22 x23 r.val l) (iw ib i0)
    (x : (Rect.unit (s := S512x512) ![o, o'] ![128, 128] i0).shape.Idx) :
    mixT o o' U W (View.ld (Val := Elt Ideal) (e' := .bf16) x24 (Rect.unit (s := S4x128x128) ![g, 0, 0] ![1, 128, 128] iw))
      (View.ld (Val := Elt Ideal) (e' := .f32) x25 (Rect.unit (s := S128x512) ![0, o'] ![128, 128] ib)) h x
      = sgusK x0 x1 x2 x3 x4 x7 x22 x23 x24 x25 ((Rect.unit (s := S512x512) ![o, o'] ![128, 128] i0).emb x) := by
  subst ho ho'
  obtain ⟨p, l, rfl⟩ : ∃ (p l : Fin 128), x = ix2 p l := ⟨x 0, x 1, eq_ix2 x⟩
  have hp := p.isLt
  have hl := l.isLt
  have e0 := Rect.idx_unit_val (s := S512x512) ![128 * n, 128 * g] ![128, 128] i0 (ix2 p l) 0
  have e1 := Rect.idx_unit_val (s := S512x512) ![128 * n, 128 * g] ![128, 128] i0 (ix2 p l) 1
  have f0 : ((Rect.unit (s := S512x512) ![128 * n, 128 * g] ![128, 128] i0).emb (ix2 p l) 0).val = 128 * n + p.val := e0
  have f1 : (Rect.unit (s := S512x512) ![128 * n, 128 * g] ![128, 128] i0).emb (ix2 p l) 1 = (⟨128 * g + l.val, by omega⟩ : Fin 512) := Fin.ext e1
  rw [mixT_apply _ _ (by omega) (by omega)]
  unfold sgusK
  rw [f0, f1]
  unfold sguK
  refine congrArg₂ (· * ·) (hU _ _) (congrArg₂ (· + ·) (Finset.sum_congr rfl fun q _ => congrArg₂ (· * ·) ?_ ?_) ?_)
  · refine (hW _ _).trans (congrArg (fun z => svK x0 x1 x2 x3 x4 x7 x22 x23 z _) ?_)
    show 128 * n + q.val = 128 * ((128 * n + p.val) / 128) + q.val
    omega
  · refine View.ld_unit_apply_of _ _ _ _ _ _ fun a => ?_
    match a with
    | ⟨0, _⟩ => show (128 * g + l.val) / 128 = g + 0; omega
    | ⟨1, _⟩ => show (128 * n + p.val) % 128 = 0 + p.val; omega
    | ⟨2, _⟩ => exact (Nat.zero_add _).symm
  · refine View.ld_unit_apply_of _ _ _ _ _ _ fun a => ?_
    match a with
    | ⟨0, _⟩ => show (128 * n + p.val) % 128 = 0 + p.val; omega
    | ⟨1, _⟩ => rfl

theorem sgu_cover (y : S512x512.Idx) (k n g o o' : ℕ) (hk : k = 4 * n + g) (hg : g < 4) (ho : o = 128 * n) (ho' : o' = 128 * g)
    (h : 4 * ((y 0).val / 128) + (y 1).val / 128 < k + 1) (i0)
    (w : (Rect.unit (s := S512x512) ![o, o'] ![128, 128] i0).shape.Idx → Elt Ideal .bf16) (L : List (View.Piece (Elt Ideal) S512x512 .bf16))
    (hL : 4 * ((y 0).val / 128) + (y 1).val / 128 < k → ∃ p ∈ L, y ∈ p.1.set) :
    ∃ p ∈ (⟨Rect.unit (s := S512x512) ![o, o'] ![128, 128] i0, w⟩ : View.Piece (Elt Ideal) S512x512 .bf16) :: L, y ∈ p.1.set := by
  have h1 : (y 1).val < 512 := (y 1).isLt
  by_cases hh : 4 * ((y 0).val / 128) + (y 1).val / 128 < k
  · obtain ⟨p, hp, hy⟩ := hL hh
    exact ⟨p, List.mem_cons_of_mem _ hp, hy⟩
  · refine ⟨_, List.mem_cons_self, (Rect.mem_set_unit (inb := i0)).2 fun a => ?_⟩
    match a with
    | ⟨0, _⟩ => show o ≤ (y 0).val ∧ (y 0).val < o + 128; omega
    | ⟨1, _⟩ => show o' ≤ (y 1).val ∧ (y 1).val < o' + 128; omega

end Cert.Proof.Pre
-- ==== Proof.PreRunIdeal.lean ====
/- One grid point of `Kernel4Ideal`: the body runs on whole staging buffers and leaves the pieces named here in each
   output.  The text of the run is the printed one, with a budget large enough for its 28 parts. -/
module

public import proofs.«01_k».proof.Proof.Gen.Kernel4Ideal.Frame.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body's stores leave in each output's staging buffer, as pieces, the last first, with the proof that the
    body runs: from whole buffers, the inputs' at their contents and the others at anything, it returns the inputs' as
    they were and the others with their pieces written. -/
noncomputable def kernelRun0_A (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x3072 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1x128 .f32) (harg12 : arg12.IsWhole) (arg13 : Memref sig .tc .vmem S128x1024 .bf16) (harg13 : arg13.IsWhole) (arg14 : Memref sig .tc .vmem S128x512 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S31x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S4x128x128 .bf16) (harg25 : arg25.IsWhole) (arg26 : Memref sig .tc .vmem S128x512 .f32) (harg26 : arg26.IsWhole) (arg27 : Memref sig .tc .vmem S8x512x128 .bf16) (harg27 : arg27.IsWhole) (arg28 : Memref sig .tc .vmem S8x512x128 .bf16) (harg28 : arg28.IsWhole) (arg29 : Memref sig .tc .vmem S4x1x128x512 .bf16) (harg29 : arg29.IsWhole) (arg30 : Memref sig .tc .vmem S512x512 .bf16) (harg30 : arg30.IsWhole) (arg31 : Memref sig .tc .vmem S512x512 .bf16) (harg31 : arg31.IsWhole) (arg32 : Memref sig .tc .vmem S512x3072 .bf16) (harg32 : arg32.IsWhole) (arg33 : Memref sig .tc .vmem S544x512 .f32) (harg33 : arg33.IsWhole) (arg34 : Memref sig .tc .vmem S7x536x512 .f32) (harg34 : arg34.IsWhole)
    (x0 : Vec F S16x1024 .f32) (x1 : Vec F S512x1024 .f32) (x2 : Vec F S16x1024 .f32) (x3 : Vec F S1x6x1024 .f32) (x4 : Vec F S1x1024 .f32) (x5 : Vec F S1024x512 .bf16) (x6 : Vec F S1024x1024 .bf16) (x7 : Vec F S1024x1024 .bf16) (x8 : Vec F S1024x3072 .bf16) (x9 : Vec F S1x256 .f32) (x10 : Vec F S256x1024 .bf16) (x11 : Vec F S1x128 .f32) (x12 : Vec F S128x1024 .bf16) (x13 : Vec F S128x512 .bf16) (x14 : Vec F S1x128 .f32) (x15 : Vec F S1x128 .f32) (x16 : Vec F S512x128 .f32) (x17 : Vec F S512x128 .f32) (x18 : Vec F S31x512 .f32) (x19 : Vec F S1x512 .f32) (x20 : Vec F S1x512 .f32) (x21 : Vec F S1x512 .f32) (x22 : Vec F S1x512 .f32) (x23 : Vec F S1x512 .f32) (x24 : Vec F S4x128x128 .bf16) (x25 : Vec F S128x512 .f32) :
    Σ' (L26 : List (View.Piece (Elt F) S8x512x128 .bf16)), Σ' (L27 : List (View.Piece (Elt F) S8x512x128 .bf16)), Σ' (L28 : List (View.Piece (Elt F) S4x1x128x512 .bf16)), Σ' (L29 : List (View.Piece (Elt F) S512x512 .bf16)), Σ' (L30 : List (View.Piece (Elt F) S512x512 .bf16)), Σ' (L31 : List (View.Piece (Elt F) S512x3072 .bf16)), Σ' (LT0 : List (View.Piece (Elt F) S544x512 .f32)), { LT1 : List (View.Piece (Elt F) S7x536x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f LT0) ∗ (∃ f, arg34.view.loc (c : Thread nD τ) ↦[arg34.view.set]{fullShare} arg34.view.writes (Elt F) f LT1)) -∗ K ⟨⟩))
          ⊢ wp frame (wpE (defs₀ (F := F)) Variants.none c none) E (cc0_pre_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, ?_, ?_, ?_, ?_, fun E K => ?run⟩
  case run =>
    simp only [cc0_pre_mix_eq_skeleton]; unfold cc0_pre_mix_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [HS0]; · iexists _; iexact HS0
    iexists _; iexact HS1

end Cert.Kernel4Ideal.Gen

end
-- ==== Proof.PreFrameIdeal.lean ====
/- `Kernel4Ideal` terminates: the pieces of each output cover its block, so the blocks are what the run writes, point
   by point, and the whole launch returns. -/
module

public import proofs.«01_k».proof.Proof.PreRunIdeal
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x3072 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1x128 .f32) (harg12 : arg12.IsWhole) (arg13 : Memref sig .tc .vmem S128x1024 .bf16) (harg13 : arg13.IsWhole) (arg14 : Memref sig .tc .vmem S128x512 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S31x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S4x128x128 .bf16) (harg25 : arg25.IsWhole) (arg26 : Memref sig .tc .vmem S128x512 .f32) (harg26 : arg26.IsWhole) (arg27 : Memref sig .tc .vmem S8x512x128 .bf16) (harg27 : arg27.IsWhole) (arg28 : Memref sig .tc .vmem S8x512x128 .bf16) (harg28 : arg28.IsWhole) (arg29 : Memref sig .tc .vmem S4x1x128x512 .bf16) (harg29 : arg29.IsWhole) (arg30 : Memref sig .tc .vmem S512x512 .bf16) (harg30 : arg30.IsWhole) (arg31 : Memref sig .tc .vmem S512x512 .bf16) (harg31 : arg31.IsWhole) (arg32 : Memref sig .tc .vmem S512x3072 .bf16) (harg32 : arg32.IsWhole) (arg33 : Memref sig .tc .vmem S544x512 .f32) (harg33 : arg33.IsWhole) (arg34 : Memref sig .tc .vmem S7x536x512 .f32) (harg34 : arg34.IsWhole)
    (x0 : Vec F S16x1024 .f32) (x1 : Vec F S512x1024 .f32) (x2 : Vec F S16x1024 .f32) (x3 : Vec F S1x6x1024 .f32) (x4 : Vec F S1x1024 .f32) (x5 : Vec F S1024x512 .bf16) (x6 : Vec F S1024x1024 .bf16) (x7 : Vec F S1024x1024 .bf16) (x8 : Vec F S1024x3072 .bf16) (x9 : Vec F S1x256 .f32) (x10 : Vec F S256x1024 .bf16) (x11 : Vec F S1x128 .f32) (x12 : Vec F S128x1024 .bf16) (x13 : Vec F S128x512 .bf16) (x14 : Vec F S1x128 .f32) (x15 : Vec F S1x128 .f32) (x16 : Vec F S512x128 .f32) (x17 : Vec F S512x128 .f32) (x18 : Vec F S31x512 .f32) (x19 : Vec F S1x512 .f32) (x20 : Vec F S1x512 .f32) (x21 : Vec F S1x512 .f32) (x22 : Vec F S1x512 .f32) (x23 : Vec F S1x512 .f32) (x24 : Vec F S4x128x128 .bf16) (x25 : Vec F S128x512 .f32)

/-- The run's pieces for output 26 tile its block (8 stores of `S1x512x128`, by `Piece.tiledL`), so they cover it. -/
theorem cover0_A_26 (y : S8x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).1 S1x512x128.size (by sl_kernel_rfl) y

/-- What the run leaves in output 26's staging buffer: its pieces read back over junk. -/
def out0_A_26 : Vec F S8x512x128 .bf16 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).1)

/-- The run's pieces for output 27 tile its block (8 stores of `S1x512x128`, by `Piece.tiledL`), so they cover it. -/
theorem cover0_A_27 (y : S8x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.1 S1x512x128.size (by sl_kernel_rfl) y

/-- What the run leaves in output 27's staging buffer: its pieces read back over junk. -/
def out0_A_27 : Vec F S8x512x128 .bf16 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.1)

/-- The run's pieces for output 28 tile its block (4 stores of `S1x1x128x512`, by `Piece.tiledL`), so they cover it. -/
theorem cover0_A_28 (y : S4x1x128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.1 S1x1x128x512.size (by sl_kernel_rfl) y

/-- What the run leaves in output 28's staging buffer: its pieces read back over junk. -/
def out0_A_28 : Vec F S4x1x128x512 .bf16 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.1)

/-- The run's pieces for output 29 tile its block (1 store of `S512x512`, by `Piece.tiledL`), so they cover it. -/
theorem cover0_A_29 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.2.1 S512x512.size (by sl_kernel_rfl) y

/-- What the run leaves in output 29's staging buffer: its pieces read back over junk. -/
def out0_A_29 : Vec F S512x512 .bf16 :=
  VO0_29.read (Elt F) (VO0_29.writes (Elt F) VO0_29.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.2.1)

/-- The run's pieces for output 30 tile its block (16 stores of `S128x128`, by `Piece.tiledL`), so they cover it. -/
theorem cover0_A_30 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.2.2.1 S128x128.size (by sl_kernel_rfl) y

/-- What the run leaves in output 30's staging buffer: its pieces read back over junk. -/
def out0_A_30 : Vec F S512x512 .bf16 :=
  VO0_30.read (Elt F) (VO0_30.writes (Elt F) VO0_30.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.2.2.1)

/-- The run's pieces for output 31 tile its block (1 store of `S512x3072`, by `Piece.tiledL`), so they cover it. -/
theorem cover0_A_31 (y : S512x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.2.2.2.1 S512x3072.size (by sl_kernel_rfl) y

/-- What the run leaves in output 31's staging buffer: its pieces read back over junk. -/
def out0_A_31 : Vec F S512x3072 .bf16 :=
  VO0_31.read (Elt F) (VO0_31.writes (Elt F) VO0_31.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25).2.2.2.2.2.1)

end

/-! ## What the outputs hold after each point -/

/-- What the outputs' staging buffers hold after the body at point `t` (as a tuple, in window order): the run's contents at
    the point's memrefs and input blocks. -/
def outsAt0 (c : Dev nD) (t : Fin cfg0.N) : Vec F S8x512x128 .bf16 × Vec F S8x512x128 .bf16 × Vec F S4x1x128x512 .bf16 × Vec F S512x512 .bf16 × Vec F S512x512 .bf16 × Vec F S512x3072 .bf16 :=
  (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_30 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t))

/-! ## The pipeline's proof data -/

/-- The proof data of the one pipeline on core `c`: the arrays as the region finds them (`V`); after the body at
    point `t` each input's buffer at its block and the outputs' at `outsAt0`; the invariant the class's
    (`ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outsAt0 m c t).1
    | ⟨27, _⟩ => (outsAt0 m c t).2.1
    | ⟨28, _⟩ => (outsAt0 m c t).2.2.1
    | ⟨29, _⟩ => (outsAt0 m c t).2.2.2.1
    | ⟨30, _⟩ => (outsAt0 m c t).2.2.2.2.1
    | ⟨31, _⟩ => (outsAt0 m c t).2.2.2.2.2
    | ⟨_ + 32, h⟩ => absurd h (Nat.not_lt.2 (Nat.le_add_left _ _))
  Φ _ := Pipeline.ΦA spec0 c
  q w := Pipeline.shareOf spec0 w
  owed _ := 0

/-- The proof data's arrays are the contents that the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (outsAt0 m c t).1 := by dsimp only [dats]
theorem after0_27 (c : Dev nD) (t : Fin cfg0.N) : (dats m 0 c).after 27 t = (outsAt0 m c t).2.1 := by dsimp only [dats]
theorem after0_28 (c : Dev nD) (t : Fin cfg0.N) : (dats m 0 c).after 28 t = (outsAt0 m c t).2.2.1 := by dsimp only [dats]
theorem after0_29 (c : Dev nD) (t : Fin cfg0.N) : (dats m 0 c).after 29 t = (outsAt0 m c t).2.2.2.1 := by dsimp only [dats]
theorem after0_30 (c : Dev nD) (t : Fin cfg0.N) : (dats m 0 c).after 30 t = (outsAt0 m c t).2.2.2.2.1 := by dsimp only [dats]
theorem after0_31 (c : Dev nD) (t : Fin cfg0.N) : (dats m 0 c).after 31 t = (outsAt0 m c t).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t))

set_option maxHeartbeats 3200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  rw [show (dats m 0 c).Φ t.castSucc = Pipeline.ΦA spec0 c from rfl, PhiA0_eq]
  unfold outsAt0
  unfold out0_A_26 out0_A_27 out0_A_28 out0_A_29 out0_A_30 out0_A_31; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, ⟨%e26, H26⟩, ⟨%e27, H27⟩, ⟨%e28, H28⟩, ⟨%e29, H29⟩, ⟨%e30, H30⟩, ⟨%e31, H31⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H30]
  · unfold owns; iexists _; isplitr
    swap; · iexact H30
    ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H31
  ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body obligation at every point: the body's triple, restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The frame: the run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Kernel4Ideal.Gen

end
-- ==== Proof.PreHost.lean ====
module

public import proofs.«01_k».proof.Proof.PreCells
public import proofs.«01_k».proof.Proof.PreFrameIdeal

/-! # The mixer's host preparation

The arrays that the call finds, as texts of the arguments and at an entry. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx Idealize.SL.Sem Idealize.ShloMosaic.Tactic
open Cert.Proof.Ffn (word word_zero word_one mcol normed)

variable (m : (ℓ : Loc nD τ sig) → Buf (Elt Ideal) ℓ) (ρ : Dev nD → PrngReg) (c : Dev nD)

theorem V_v46 : V m c main_v46
    = shapeCast S65536x1024 (m ((c : Thread nD τ).loc main_arg0)) shapeCasts_S32x2048x1024_S65536x1024 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v47 : V m c main_v47
    = shapeCast S32x6x1024 (m ((c : Thread nD τ).loc main_arg1)) shapeCasts_S32x6144_S32x6x1024 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v5 : V m c main_v5
    = shapeCast S1x1024 (m ((c : Thread nD τ).loc main_arg2)) shapeCasts_S1024_S1x1024 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v10 : V m c main_v10
    = extractStridedSlice S1024x1024 ![0, 416] (m ((c : Thread nD τ).loc main_arg3)) slices_S1024x5536_S1024x1024_0_416 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v12 : V m c main_v12
    = extractStridedSlice S1024x1024 ![0, 1440] (m ((c : Thread nD τ).loc main_arg3)) slices_S1024x5536_S1024x1024_0_1440 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v14 : V m c main_v14
    = extractStridedSlice S1024x3072 ![0, 2464] (m ((c : Thread nD τ).loc main_arg3)) slices_S1024x5536_S1024x3072_0_2464 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v16 : V m c main_v16
    = shapeCast S1x128 (m ((c : Thread nD τ).loc main_arg6)) shapeCasts_S128_S1x128 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v30 : V m c main_v30
    = shapeCast S128x512 (extractStridedSlice S128x8x64 ![0, 0, 64] (shapeCast S128x8x128 (m ((c : Thread nD τ).loc main_arg7)) shapeCasts_S128x1024_S128x8x128) slices_S128x8x128_S128x8x64_0_0_64) shapeCasts_S128x8x64_S128x512 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v37 : V m c main_v37
    = shapeCast S1x512 (m ((c : Thread nD τ).loc main_arg11)) shapeCasts_S512_S1x512 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v38 : V m c main_v38
    = shapeCast S1x512 (m ((c : Thread nD τ).loc main_arg12)) shapeCasts_S512_S1x512 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v39 : V m c main_v39
    = shapeCast S1x512 (m ((c : Thread nD τ).loc main_arg13)) shapeCasts_S512_S1x512 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v40 : V m c main_v40
    = shapeCast S1x512 (m ((c : Thread nD τ).loc main_arg14)) shapeCasts_S512_S1x512 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v41 : V m c main_v41
    = shapeCast S1x512 (m ((c : Thread nD τ).loc main_arg15)) shapeCasts_S512_S1x512 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v42 : V m c main_v42
    = (m ((c : Thread nD τ).loc main_arg16)) := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v45 : V m c main_v45
    = shapeCast S128x512 (broadcastInDim S128x4x128 ![0, 1] bcast_S128x4_S128x4x128_0_1 (transpose S128x4 [1, 0] (m ((c : Thread nD τ).loc main_arg17)) transposes_S4x128_S128x4_1_0)) shapeCasts_S128x4x128_S128x512 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  rfl
theorem V_v8 : ∃ B : FVec Ideal S1024x128 .f32, V m c main_v8
    = concatenate S1024x512 1 [⟨S1024x384, (extractStridedSlice S1024x384 ![0, 0] (m ((c : Thread nD τ).loc main_arg3)) slices_S1024x5536_S1024x384_0_0 : FVec Ideal S1024x384 .f32)⟩, ⟨S1024x128, B⟩]
      concatenates_S1024x384_S1024x128_S1024x512_d1 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append]; after_results
  exact ⟨_, rfl⟩

end Cert.Proof.Pre
-- ==== Proof.PreTaps.lean ====
module

public import proofs.«01_k».proof.Proof.PreCells

/-! # The convolution's taps

The gated channels of the joined rows are kept with seven shifted copies; tap `j` of row `r` is their row `r + 1 + j`. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx Idealize.SL.Sem Idealize.ShloMosaic.Tactic
open Cert.Proof.Ffn (word word_zero word_one mcol normed)

/-- A word's remainder by four. -/
abbrev quarter (w : BitVec 32) : BitVec 32 :=
  Scalar.select (Scalar.andi (Scalar.xori (Scalar.cmpi .slt (Scalar.remsi w 4#32) 0#32) 0#1) (Scalar.cmpi .ne (Scalar.remsi w 4#32) 0#32))
    (Scalar.addi (Scalar.remsi w 4#32) 4#32) (Scalar.remsi w 4#32)

theorem quarter_zero : ∀ t : Fin 128, Scalar.cmpi .eq (quarter (BitVec.ofNat 32 t.val)) 0#32 ≠ 1#1 ↔ t.val % 4 ≠ 0 := by decide +kernel
theorem quarter_three : ∀ t : Fin 128, Scalar.cmpi .eq (quarter (BitVec.ofNat 32 t.val)) 3#32 ≠ 1#1 ↔ t.val % 4 ≠ 3 := by decide +kernel

variable (x0 : Vec Ideal S16x1024 .f32) (x1 : Vec Ideal S512x1024 .f32) (x2 : Vec Ideal S16x1024 .f32) (x3 : Vec Ideal S1x6x1024 .f32) (x4 : Vec Ideal S1x1024 .f32) (x6 : Vec Ideal S1024x1024 .bf16)

/-- The gated channel `n` of joined row `e` at point `t`. -/
def gluK (t e : ℕ) (n : Fin 512) : EReal :=
  if (16 ≤ e ∨ t % 4 ≠ 0) ∧ (e < 528 ∨ t % 4 ≠ 3)
  then (∑ d : Fin 1024, hidK x0 x1 x2 x3 x4 e d * x6 (ix2 d (⟨n.val, n.isLt.trans (by decide)⟩ : Fin 1024)))
    * Ideal.logistic (∑ d : Fin 1024, hidK x0 x1 x2 x3 x4 e d * x6 (ix2 d (⟨512 + n.val, Nat.add_lt_add_left n.isLt 512⟩ : Fin 1024)))
  else 0

theorem glu_block (t : Fin 128) (i i') (e : Fin 544) (n : Fin 512) :
    k0_pay6 (Scalar.cmpi .eq (quarter (BitVec.ofNat 32 t.val)) 0#32) (Scalar.cmpi .eq (quarter (BitVec.ofNat 32 t.val)) 3#32)
      (k0_pay1 (View.ld (Val := Elt Ideal) (e' := .f32) x3 (Rect.unit (s := S1x6x1024) ![0, 0, 0] ![1, 1, 1024] i)))
      (k0_pay2 (View.ld (Val := Elt Ideal) (e' := .f32) x3 (Rect.unit (s := S1x6x1024) ![0, 1, 0] ![1, 1, 1024] i'))) (k0_pay3 x0 x1 x2) x4 x6 (ix2 e n)
      = gluK x0 x1 x2 x3 x4 x6 t.val e.val n := by
  have h := fun d => all_row x0 x1 x2 x3 x4 i i' e d
  rw [pay6_apply]
  unfold gluK
  refine if_congr (and_congr (or_congr Iff.rfl (quarter_zero t)) (or_congr Iff.rfl (quarter_three t))) ?_ rfl
  exact congrArg₂ (· * ·) (Finset.sum_congr rfl fun d _ => congrArg (· * _) (h d)) (congrArg Ideal.logistic (Finset.sum_congr rfl fun d _ => congrArg (· * _) (h d)))

/-! ## The reads -/

variable (Z : FVec Ideal S544x512 .f32)

/-- The stored channels, by the row's number. -/
def rowZ (e : ℕ) (c : Fin 512) : EReal := if h : e < 544 then Z (ix2 ⟨e, h⟩ c) else 0

theorem read_kept {κ : Kind} {sp : Space} (v : View sig κ sp S544x512 .f32) (o n : ℕ) (i0 i) (r : Fin n) (c : Fin 512) (h : o + r.val < 544) :
    v.readCov (Val := Elt Ideal) [⟨Rect.unit (s := S544x512) ![0, 0] ![544, 512] i0, Z⟩] (Rect.unit (s := S544x512) ![o, 0] ![n, 512] i).toLoadRect (ix2 r c)
      = rowZ Z (o + r.val) c := by
  rw [View.readCov_eq_canon']
  have hy : (Rect.unit (s := S544x512) ![o, 0] ![n, 512] i).toLoadRect.idx (ix2 r c) = ix2 (⟨o + r.val, h⟩ : Fin 544) c :=
    funext fun a => Fin.ext ((Rect.idx_unit_val (s := S544x512) ![o, 0] ![n, 512] i (ix2 r c) a).trans (by
      match a with
      | ⟨0, _⟩ => rfl
      | ⟨1, _⟩ => exact Nat.zero_add _))
  refine (congrArg (View.canon _) hy).trans ?_
  refine (congrFun (View.canon_cons_unit_lit i0 _ [] fun a => by match a with | ⟨0, _⟩ => rfl | ⟨1, _⟩ => rfl) _).trans ?_
  unfold rowZ
  rw [dif_pos h]

/-- The shifted copies. -/
def copies (y : S7x536x512.Idx) : EReal := rowZ Z ((y 0).val + 1 + (y 1).val) (y 2)

theorem copy_piece {κ : Kind} {sp : Space} (v : View sig κ sp S544x512 .f32) (k o : ℕ) (ho : o = k + 1) (hk : k < 7) (i0 i i7)
    (x : (Rect.unit (s := S7x536x512) ![k, 0, 0] ![1, 536, 512] i7).shape.Idx) :
    (shapeCast S1x536x512 (v.readCov (Val := Elt Ideal) [⟨Rect.unit (s := S544x512) ![0, 0] ![544, 512] i0, Z⟩]
      (Rect.unit (s := S544x512) ![o, 0] ![536, 512] i).toLoadRect : FVec Ideal S536x512 .f32) shapeCasts_S536x512_S1x536x512 : FVec Ideal S1x536x512 .f32) x
      = copies Z ((Rect.unit (s := S7x536x512) ![k, 0, 0] ![1, 536, 512] i7).emb x) := by
  subst ho
  obtain ⟨r, c, rfl⟩ : ∃ (r : Fin 536) (c : Fin 512), x = ix3 0 r c := ⟨x 1, x 2, by
    refine (eq_ix3 x).trans ?_
    have h0 : x 0 = (0 : Fin 1) := Fin.ext (Nat.lt_one_iff.1 (x 0).isLt)
    rw [h0]
    rfl⟩
  have hr := r.isLt
  have e0 := Rect.idx_unit_val (s := S7x536x512) ![k, 0, 0] ![1, 536, 512] i7 (ix3 0 r c) 0
  have e1 := Rect.idx_unit_val (s := S7x536x512) ![k, 0, 0] ![1, 536, 512] i7 (ix3 0 r c) 1
  have e2 := Rect.idx_unit_val (s := S7x536x512) ![k, 0, 0] ![1, 536, 512] i7 (ix3 0 r c) 2
  have f0 : ((Rect.unit (s := S7x536x512) ![k, 0, 0] ![1, 536, 512] i7).emb (ix3 0 r c) 0).val = k := e0
  have f1 : ((Rect.unit (s := S7x536x512) ![k, 0, 0] ![1, 536, 512] i7).emb (ix3 0 r c) 1).val = r.val := e1.trans (Nat.zero_add _)
  have f2 : (Rect.unit (s := S7x536x512) ![k, 0, 0] ![1, 536, 512] i7).emb (ix3 0 r c) 2 = c := Fin.ext (e2.trans (Nat.zero_add _))
  unfold copies
  rw [f0, f1, f2]
  refine (shapeCast_apply _ _ (ix3 0 r c) (ix2 r c) (by
    rw [Shape.rowMajor_val_three, Shape.rowMajor_val_two]; show r.val * 512 + c.val = (0 * 536 + r.val) * 512 + c.val; omega)).trans ?_
  exact read_kept Z v (k + 1) 536 i0 i r c (by omega)

theorem copy_cover (y : S7x536x512.Idx) (o : ℕ) (h : (y 0).val < o + 1) (i0)
    (w : (Rect.unit (s := S7x536x512) ![o, 0, 0] ![1, 536, 512] i0).shape.Idx → Elt Ideal .f32) (L : List (View.Piece (Elt Ideal) S7x536x512 .f32))
    (hL : (y 0).val < o → ∃ p ∈ L, y ∈ p.1.set) :
    ∃ p ∈ (⟨Rect.unit (s := S7x536x512) ![o, 0, 0] ![1, 536, 512] i0, w⟩ : View.Piece (Elt Ideal) S7x536x512 .f32) :: L, y ∈ p.1.set := by
  by_cases ho : (y 0).val < o
  · obtain ⟨p, hp, hy⟩ := hL ho
    exact ⟨p, List.mem_cons_of_mem _ hp, hy⟩
  · refine ⟨_, List.mem_cons_self, (Rect.mem_set_unit (inb := i0)).2 fun a => ?_⟩
    match a with
    | ⟨0, _⟩ => exact ⟨Nat.le_of_not_lt ho, h⟩
    | ⟨1, _⟩ => exact ⟨Nat.zero_le _, (y 1).isLt.trans_eq (Nat.zero_add 536).symm⟩
    | ⟨2, _⟩ => exact ⟨Nat.zero_le _, (y 2).isLt.trans_eq (Nat.zero_add 512).symm⟩

/-- One shifted copy, as it is stored. -/
abbrev copyOf {κ : Kind} {sp : Space} (v : View sig κ sp S544x512 .f32) (k o : ℕ) (i0 : ∀ a : Fin S544x512.rank, ![0, 0] a + ![544, 512] a ≤ S544x512.size a)
    (i : ∀ a : Fin S544x512.rank, ![o, 0] a + ![536, 512] a ≤ S544x512.size a) (i7 : ∀ a : Fin S7x536x512.rank, ![k, 0, 0] a + ![1, 536, 512] a ≤ S7x536x512.size a) : View.Piece (Elt Ideal) S7x536x512 .f32 :=
  ⟨Rect.unit (s := S7x536x512) ![k, 0, 0] ![1, 536, 512] i7, (shapeCast S1x536x512 (v.readCov (Val := Elt Ideal)
    [⟨Rect.unit (s := S544x512) ![0, 0] ![544, 512] i0, Z⟩] (Rect.unit (s := S544x512) ![o, 0] ![536, 512] i).toLoadRect : FVec Ideal S536x512 .f32)
    shapeCasts_S536x512_S1x536x512 : FVec Ideal S1x536x512 .f32)⟩

theorem read_copy {κ κ' : Kind} {sp sp' : Space} (v : View sig κ sp S544x512 .f32) (v' : View sig κ' sp' S7x536x512 .f32) (i0)
    (j0 j1 j2 j3 j4 j5 j6 k0 k1 k2 k3 k4 k5 k6) (k o : ℕ) (hk : k < 7) (ho : o ≤ 24) (i) (r c : Fin 512) :
    v'.readCov (Val := Elt Ideal) [copyOf Z v 6 7 i0 j6 k6, copyOf Z v 5 6 i0 j5 k5, copyOf Z v 4 5 i0 j4 k4, copyOf Z v 3 4 i0 j3 k3,
        copyOf Z v 2 3 i0 j2 k2, copyOf Z v 1 2 i0 j1 k1, copyOf Z v 0 1 i0 j0 k0]
      (Rect.unit (s := S7x536x512) ![k, o, 0] ![1, 512, 512] i).toLoadRect (ix3 0 r c) = rowZ Z (k + 1 + (o + r.val)) c := by
  have hr := r.isLt
  rw [View.readCov_eq_canon']
  have hy : (Rect.unit (s := S7x536x512) ![k, o, 0] ![1, 512, 512] i).toLoadRect.idx (ix3 0 r c) = ix3 (⟨k, hk⟩ : Fin 7) (⟨o + r.val, by omega⟩ : Fin 536) c :=
    funext fun a => Fin.ext ((Rect.idx_unit_val (s := S7x536x512) ![k, o, 0] ![1, 512, 512] i (ix3 0 r c) a).trans (by
      match a with
      | ⟨0, _⟩ => rfl
      | ⟨1, _⟩ => rfl
      | ⟨2, _⟩ => exact Nat.zero_add _))
  refine (congrArg (View.canon _) hy).trans ?_
  refine (View.canon_apply_of_pieces (Val := Elt Ideal) (e := .f32) (copies Z) _ ?_ _ ?_).trans rfl
  · refine List.forall_mem_cons.2 ⟨fun x => copy_piece Z v 6 7 rfl (by decide) i0 j6 k6 x, ?_⟩
    refine List.forall_mem_cons.2 ⟨fun x => copy_piece Z v 5 6 rfl (by decide) i0 j5 k5 x, ?_⟩
    refine List.forall_mem_cons.2 ⟨fun x => copy_piece Z v 4 5 rfl (by decide) i0 j4 k4 x, ?_⟩
    refine List.forall_mem_cons.2 ⟨fun x => copy_piece Z v 3 4 rfl (by decide) i0 j3 k3 x, ?_⟩
    refine List.forall_mem_cons.2 ⟨fun x => copy_piece Z v 2 3 rfl (by decide) i0 j2 k2 x, ?_⟩
    refine List.forall_mem_cons.2 ⟨fun x => copy_piece Z v 1 2 rfl (by decide) i0 j1 k1 x, ?_⟩
    refine List.forall_mem_cons.2 ⟨fun x => copy_piece Z v 0 1 rfl (by decide) i0 j0 k0 x, ?_⟩
    exact fun p hp => absurd hp List.not_mem_nil
  · have h : k < 6 + 1 := hk
    refine copy_cover _ 6 h _ _ _ fun h => ?_
    iterate 6 refine copy_cover _ _ h _ _ _ fun h => ?_
    exact absurd h (Nat.not_lt_zero _)

theorem tap_ld (x18 : Vec Ideal S31x512 .f32) (j : ℕ) (hj : j < 31) (i) (c : Fin 512) :
    View.ld (Val := Elt Ideal) (e' := .f32) x18 (Rect.unit (s := S31x512) ![j, 0] ![1, 512] i) (ix2 0 c) = x18 (ix2 (⟨j % 31, Nat.mod_lt _ (by decide)⟩ : Fin 31) c) :=
  View.ld_unit_apply_of _ _ _ _ _ _ fun a => by
    match a with
    | ⟨0, _⟩ => exact Nat.mod_eq_of_lt hj
    | ⟨1, _⟩ => exact (Nat.zero_add _).symm

/-! ## The sum -/

variable (r c : Fin 512)

theorem stepA (A : FVec Ideal S512x512 .f32) (w : FVec Ideal S1x512 .f32) (t : FVec Ideal S1x512x512 .f32) (x f : EReal) (hA : A (ix2 r c) = x)
    (h : w (ix2 0 c) * t (ix3 0 r c) = f) :
    addf A (mulf (broadcastTo S512x512 w broadcasts_S1x512_S512x512) (shapeCast S512x512 t shapeCasts_S1x512x512_S512x512)) (ix2 r c) = x + f := by
  have ht : (shapeCast S512x512 t shapeCasts_S1x512x512_S512x512 : FVec Ideal S512x512 .f32) (ix2 r c) = t (ix3 0 r c) :=
    shapeCast_apply _ _ (ix2 r c) (ix3 0 r c) (by
      rw [Shape.rowMajor_val_three, Shape.rowMajor_val_two]; show (0 * 512 + r.val) * 512 + c.val = r.val * 512 + c.val; omega)
  rw [addf_apply, mulf_apply, row512, ht, hA, h]

theorem stepB (A : FVec Ideal S512x512 .f32) (w : FVec Ideal S1x512 .f32) (t : FVec Ideal S512x512 .f32) (x f : EReal) (hA : A (ix2 r c) = x)
    (h : w (ix2 0 c) * t (ix2 r c) = f) :
    addf A (mulf (broadcastTo S512x512 w broadcasts_S1x512_S512x512) t) (ix2 r c) = x + f := by
  rw [addf_apply, mulf_apply, row512, hA, h]

theorem conv_chain (b : Vec Ideal S1x512 .f32) (t0 : Vec Ideal S1x512x512 .f32) (t1 : Vec Ideal S1x512x512 .f32) (t2 : Vec Ideal S1x512x512 .f32) (t3 : Vec Ideal S1x512x512 .f32) (t4 : Vec Ideal S1x512x512 .f32) (t5 : Vec Ideal S1x512x512 .f32) (t6 : Vec Ideal S1x512x512 .f32) (t7 : Vec Ideal S512x512 .f32) (t8 : Vec Ideal S1x512x512 .f32) (t9 : Vec Ideal S1x512x512 .f32) (t10 : Vec Ideal S1x512x512 .f32) (t11 : Vec Ideal S1x512x512 .f32) (t12 : Vec Ideal S1x512x512 .f32) (t13 : Vec Ideal S1x512x512 .f32) (t14 : Vec Ideal S1x512x512 .f32) (t15 : Vec Ideal S512x512 .f32) (t16 : Vec Ideal S1x512x512 .f32) (t17 : Vec Ideal S1x512x512 .f32) (t18 : Vec Ideal S1x512x512 .f32) (t19 : Vec Ideal S1x512x512 .f32) (t20 : Vec Ideal S1x512x512 .f32) (t21 : Vec Ideal S1x512x512 .f32) (t22 : Vec Ideal S1x512x512 .f32) (t23 : Vec Ideal S512x512 .f32) (t24 : Vec Ideal S1x512x512 .f32) (t25 : Vec Ideal S1x512x512 .f32) (t26 : Vec Ideal S1x512x512 .f32) (t27 : Vec Ideal S1x512x512 .f32) (t28 : Vec Ideal S1x512x512 .f32) (t29 : Vec Ideal S1x512x512 .f32) (t30 : Vec Ideal S1x512x512 .f32)
    (w0 w1 w2 w3 w4 w5 w6 w7 w8 w9 w10 w11 w12 w13 w14 w15 w16 w17 w18 w19 w20 w21 w22 w23 w24 w25 w26 w27 w28 w29 w30 : Vec Ideal S1x512 .f32) (f : ℕ → EReal)
    (h0 : w0 (ix2 0 c) * t0 (ix3 0 r c) = f 0)
    (h1 : w1 (ix2 0 c) * t1 (ix3 0 r c) = f 1)
    (h2 : w2 (ix2 0 c) * t2 (ix3 0 r c) = f 2)
    (h3 : w3 (ix2 0 c) * t3 (ix3 0 r c) = f 3)
    (h4 : w4 (ix2 0 c) * t4 (ix3 0 r c) = f 4)
    (h5 : w5 (ix2 0 c) * t5 (ix3 0 r c) = f 5)
    (h6 : w6 (ix2 0 c) * t6 (ix3 0 r c) = f 6)
    (h7 : w7 (ix2 0 c) * t7 (ix2 r c) = f 7)
    (h8 : w8 (ix2 0 c) * t8 (ix3 0 r c) = f 8)
    (h9 : w9 (ix2 0 c) * t9 (ix3 0 r c) = f 9)
    (h10 : w10 (ix2 0 c) * t10 (ix3 0 r c) = f 10)
    (h11 : w11 (ix2 0 c) * t11 (ix3 0 r c) = f 11)
    (h12 : w12 (ix2 0 c) * t12 (ix3 0 r c) = f 12)
    (h13 : w13 (ix2 0 c) * t13 (ix3 0 r c) = f 13)
    (h14 : w14 (ix2 0 c) * t14 (ix3 0 r c) = f 14)
    (h15 : w15 (ix2 0 c) * t15 (ix2 r c) = f 15)
    (h16 : w16 (ix2 0 c) * t16 (ix3 0 r c) = f 16)
    (h17 : w17 (ix2 0 c) * t17 (ix3 0 r c) = f 17)
    (h18 : w18 (ix2 0 c) * t18 (ix3 0 r c) = f 18)
    (h19 : w19 (ix2 0 c) * t19 (ix3 0 r c) = f 19)
    (h20 : w20 (ix2 0 c) * t20 (ix3 0 r c) = f 20)
    (h21 : w21 (ix2 0 c) * t21 (ix3 0 r c) = f 21)
    (h22 : w22 (ix2 0 c) * t22 (ix3 0 r c) = f 22)
    (h23 : w23 (ix2 0 c) * t23 (ix2 r c) = f 23)
    (h24 : w24 (ix2 0 c) * t24 (ix3 0 r c) = f 24)
    (h25 : w25 (ix2 0 c) * t25 (ix3 0 r c) = f 25)
    (h26 : w26 (ix2 0 c) * t26 (ix3 0 r c) = f 26)
    (h27 : w27 (ix2 0 c) * t27 (ix3 0 r c) = f 27)
    (h28 : w28 (ix2 0 c) * t28 (ix3 0 r c) = f 28)
    (h29 : w29 (ix2 0 c) * t29 (ix3 0 r c) = f 29)
    (h30 : w30 (ix2 0 c) * t30 (ix3 0 r c) = f 30) :
    k0_pay104 (k0_pay103 (k0_pay101 (k0_pay99 (k0_pay97 (k0_pay94 b t0 w0 t1 w1 t2 w2) (k0_pay95 t3) (k0_pay96 w3) t4 w4 t5 w5 t6 w6 t7 w7 t8 w8) (k0_pay98 t9) w9 t10 w10 t11 w11 t12 w12 t13 w13) (k0_pay100 t14 w14) t15 w15 t16 w16 t17 w17 t18 w18 t19 w19) (k0_pay102 t20) w20 t21 w21 t22 w22 t23 w23 t24 w24 t25 w25) t26 w26 t27 w27 t28 w28 t29 w29 t30 w30 (ix2 r c)
      = chain (b (ix2 0 c)) f 31 := by
  have hb : (shapeCast S1x512 b shapeCasts_S1x512_S1x512 : FVec Ideal S1x512 .f32) = b := shapeCast_self _ _
  have hb0 : broadcastTo S512x512 (shapeCast S1x512 (shapeCast S1x512 b shapeCasts_S1x512_S1x512 : FVec Ideal S1x512 .f32) shapeCasts_S1x512_S1x512 : FVec Ideal S1x512 .f32)
      broadcasts_S1x512_S512x512 (ix2 r c) = b (ix2 0 c) := by rw [hb, hb, row512]
  have a94 : (k0_pay94 b t0 w0 t1 w1 t2 w2) (ix2 r c) = chain (b (ix2 0 c)) f 3 := stepA r c _ w2 t2 _ _ (stepA r c _ w1 t1 _ _ (stepA r c _ w0 t0 _ _ hb0 h0) h1) h2
  have a97 : (k0_pay97 (k0_pay94 b t0 w0 t1 w1 t2 w2) (k0_pay95 t3) (k0_pay96 w3) t4 w4 t5 w5 t6 w6 t7 w7 t8 w8) (ix2 r c) = chain (b (ix2 0 c)) f 9 := stepA r c _ w8 t8 _ _ (stepB r c _ w7 t7 _ _ (stepA r c _ w6 t6 _ _ (stepA r c _ w5 t5 _ _ (stepA r c _ w4 t4 _ _ (stepA r c _ w3 t3 _ _ a94 h3) h4) h5) h6) h7) h8
  have a99 : (k0_pay99 (k0_pay97 (k0_pay94 b t0 w0 t1 w1 t2 w2) (k0_pay95 t3) (k0_pay96 w3) t4 w4 t5 w5 t6 w6 t7 w7 t8 w8) (k0_pay98 t9) w9 t10 w10 t11 w11 t12 w12 t13 w13) (ix2 r c) = chain (b (ix2 0 c)) f 14 := stepA r c _ w13 t13 _ _ (stepA r c _ w12 t12 _ _ (stepA r c _ w11 t11 _ _ (stepA r c _ w10 t10 _ _ (stepA r c _ w9 t9 _ _ a97 h9) h10) h11) h12) h13
  have a101 : (k0_pay101 (k0_pay99 (k0_pay97 (k0_pay94 b t0 w0 t1 w1 t2 w2) (k0_pay95 t3) (k0_pay96 w3) t4 w4 t5 w5 t6 w6 t7 w7 t8 w8) (k0_pay98 t9) w9 t10 w10 t11 w11 t12 w12 t13 w13) (k0_pay100 t14 w14) t15 w15 t16 w16 t17 w17 t18 w18 t19 w19) (ix2 r c) = chain (b (ix2 0 c)) f 20 := stepA r c _ w19 t19 _ _ (stepA r c _ w18 t18 _ _ (stepA r c _ w17 t17 _ _ (stepA r c _ w16 t16 _ _ (stepB r c _ w15 t15 _ _ (stepA r c _ w14 t14 _ _ a99 h14) h15) h16) h17) h18) h19
  have a103 : (k0_pay103 (k0_pay101 (k0_pay99 (k0_pay97 (k0_pay94 b t0 w0 t1 w1 t2 w2) (k0_pay95 t3) (k0_pay96 w3) t4 w4 t5 w5 t6 w6 t7 w7 t8 w8) (k0_pay98 t9) w9 t10 w10 t11 w11 t12 w12 t13 w13) (k0_pay100 t14 w14) t15 w15 t16 w16 t17 w17 t18 w18 t19 w19) (k0_pay102 t20) w20 t21 w21 t22 w22 t23 w23 t24 w24 t25 w25) (ix2 r c) = chain (b (ix2 0 c)) f 26 := stepA r c _ w25 t25 _ _ (stepA r c _ w24 t24 _ _ (stepB r c _ w23 t23 _ _ (stepA r c _ w22 t22 _ _ (stepA r c _ w21 t21 _ _ (stepA r c _ w20 t20 _ _ a101 h20) h21) h22) h23) h24) h25
  exact stepA r c _ w30 t30 _ _ (stepA r c _ w29 t29 _ _ (stepA r c _ w28 t28 _ _ (stepA r c _ w27 t27 _ _ (stepA r c _ w26 t26 _ _ a103 h26) h27) h28) h29) h30

end Cert.Proof.Pre
-- ==== Proof.PreConv.lean ====
module

public import proofs.«01_k».proof.Proof.PreTaps
public import proofs.«01_k».proof.Proof.PreFrameIdeal

/-! # A point's block of the convolution branch

The 31 taps are read from the kept rows and their shifted copies, added up, normed, and passed through the sigmoid unit. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx Idealize.SL.Sem Idealize.ShloMosaic.Tactic
open Cert.Proof.Ffn (word word_zero word_one mcol normed)

variable (x0 : Vec Ideal S16x1024 .f32) (x1 : Vec Ideal S512x1024 .f32) (x2 : Vec Ideal S16x1024 .f32) (x3 : Vec Ideal S1x6x1024 .f32) (x4 : Vec Ideal S1x1024 .f32) (x5 : Vec Ideal S1024x512 .bf16) (x6 : Vec Ideal S1024x1024 .bf16) (x7 : Vec Ideal S1024x1024 .bf16) (x8 : Vec Ideal S1024x3072 .bf16) (x9 : Vec Ideal S1x256 .f32) (x10 : Vec Ideal S256x1024 .bf16) (x11 : Vec Ideal S1x128 .f32) (x12 : Vec Ideal S128x1024 .bf16) (x13 : Vec Ideal S128x512 .bf16) (x14 : Vec Ideal S1x128 .f32) (x15 : Vec Ideal S1x128 .f32) (x16 : Vec Ideal S512x128 .f32) (x17 : Vec Ideal S512x128 .f32) (x18 : Vec Ideal S31x512 .f32) (x19 : Vec Ideal S1x512 .f32) (x20 : Vec Ideal S1x512 .f32) (x21 : Vec Ideal S1x512 .f32) (x22 : Vec Ideal S1x512 .f32) (x23 : Vec Ideal S1x512 .f32) (x24 : Vec Ideal S4x128x128 .bf16) (x25 : Vec Ideal S128x512 .f32)

/-- The convolution of the point's row `r` at channel `k`. -/
def convK (t r : ℕ) (k : Fin 512) : EReal :=
  chain (x19 (ix2 0 k)) (fun j => x18 (ix2 (⟨j % 31, Nat.mod_lt _ (by decide)⟩ : Fin 31) k) * gluK x0 x1 x2 x3 x4 x6 t (r + 1 + j) k) 31

theorem out_29 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x3072 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1x128 .f32) (harg12 : arg12.IsWhole) (arg13 : Memref sig .tc .vmem S128x1024 .bf16) (harg13 : arg13.IsWhole) (arg14 : Memref sig .tc .vmem S128x512 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S31x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S4x128x128 .bf16) (harg25 : arg25.IsWhole) (arg26 : Memref sig .tc .vmem S128x512 .f32) (harg26 : arg26.IsWhole) (arg27 : Memref sig .tc .vmem S8x512x128 .bf16) (harg27 : arg27.IsWhole) (arg28 : Memref sig .tc .vmem S8x512x128 .bf16) (harg28 : arg28.IsWhole) (arg29 : Memref sig .tc .vmem S4x1x128x512 .bf16) (harg29 : arg29.IsWhole) (arg30 : Memref sig .tc .vmem S512x512 .bf16) (harg30 : arg30.IsWhole) (arg31 : Memref sig .tc .vmem S512x512 .bf16) (harg31 : arg31.IsWhole) (arg32 : Memref sig .tc .vmem S512x3072 .bf16) (harg32 : arg32.IsWhole) (arg33 : Memref sig .tc .vmem S544x512 .f32) (harg33 : arg33.IsWhole) (arg34 : Memref sig .tc .vmem S7x536x512 .f32) (harg34 : arg34.IsWhole)
    (t : Fin 128) (ht : (i 0).val = t.val) (r d : Fin 512) :
    out0_A_29 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 (ix2 r d)
      = silu (lnorm (convK x0 x1 x2 x3 x4 x6 x18 x19 t.val r.val) (fun k => x20 (ix2 0 k)) (fun k => x21 (ix2 0 k)) d) := by
  unfold out0_A_29
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  have z0 : (View.ld x0 (Rect.unit ![0, 0] ![16, 1024] inb_S16x1024_S16x1024_0_0)) = x0 := View.ld_unit_lit _ _ fun a => by match a with | ⟨0, _⟩ => rfl | ⟨1, _⟩ => rfl
  have z1 : (View.ld x1 (Rect.unit ![0, 0] ![512, 1024] inb_S512x1024_S512x1024_0_0)) = x1 := View.ld_unit_lit _ _ fun a => by match a with | ⟨0, _⟩ => rfl | ⟨1, _⟩ => rfl
  have z2 : (View.ld x2 (Rect.unit ![0, 0] ![16, 1024] inb_S16x1024_S16x1024_0_0)) = x2 := View.ld_unit_lit _ _ fun a => by match a with | ⟨0, _⟩ => rfl | ⟨1, _⟩ => rfl
  have z4 : (View.ld x4 (Rect.unit ![0, 0] ![1, 1024] inb_S1x1024_S1x1024_0_0)) = x4 := View.ld_unit_lit _ _ fun a => by match a with | ⟨0, _⟩ => rfl | ⟨1, _⟩ => rfl
  have z6 : (View.ld x6 (Rect.unit ![0, 0] ![1024, 1024] inb_S1024x1024_S1024x1024_0_0)) = x6 := View.ld_unit_lit _ _ fun a => by match a with | ⟨0, _⟩ => rfl | ⟨1, _⟩ => rfl
  have z19 : (View.ld x19 (Rect.unit ![0, 0] ![1, 512] inb_S1x512_S1x512_0_0)) = x19 := View.ld_unit_lit _ _ fun a => by match a with | ⟨0, _⟩ => rfl | ⟨1, _⟩ => rfl
  have z20 : (View.ld x20 (Rect.unit ![0, 0] ![1, 512] inb_S1x512_S1x512_0_0)) = x20 := View.ld_unit_lit _ _ fun a => by match a with | ⟨0, _⟩ => rfl | ⟨1, _⟩ => rfl
  have z21 : (View.ld x21 (Rect.unit ![0, 0] ![1, 512] inb_S1x512_S1x512_0_0)) = x21 := View.ld_unit_lit _ _ fun a => by match a with | ⟨0, _⟩ => rfl | ⟨1, _⟩ => rfl
  rw [z0, z1, z2, z4, z6, z19, z20, z21]
  rw [ht]
  generalize hZ : k0_pay6 (F := Ideal) _ _ _ _ _ _ _ = Z
  have hZ' : ∀ e k, rowZ Z e k = if e < 544 then gluK x0 x1 x2 x3 x4 x6 t.val e k else 0 := fun e k => by
    unfold rowZ
    split
    · rw [← hZ]; exact glu_block x0 x1 x2 x3 x4 x6 t _ _ _ k
    · rfl
  clear hZ
  have hr := r.isLt
  have row : ∀ (j e : ℕ) (k : Fin 512), e = r.val + 1 + j → j < 31 → rowZ Z e k = gluK x0 x1 x2 x3 x4 x6 t.val (r.val + 1 + j) k := fun j e k he hj => by
    rw [hZ', if_pos (by omega), he]
  refine (congrFun (View.canon_cons_unit_lit inb_S512x512_S512x512_0_0 _ [] fun a => by match a with | ⟨0, _⟩ => rfl | ⟨1, _⟩ => rfl) (ix2 r d)).trans ?_
  refine pay106_apply _ x20 x21 r d _ fun k => ?_
  unfold convK
  refine conv_chain r k x19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact congrArg₂ (· * ·) (tap_ld x18 0 (by decide) _ k) ((read_copy Z _ _ _ _ _ _ _ _ _ _ _ _ _ _ _ _ _ 0 0 (by decide) (by decide) _ r k).trans (row 0 _ k (by omega) (by decide)))
  · exact congrArg₂ (· * ·) (tap_ld x18 1 (by decide) _ k) ((read_copy Z _ _ _ _ _ _ _ _ _ _ _ _ _ _ _ _ _ 1 0 (by decide) (by decide) _ r k).trans (row 1 _ k (by omega) (by decide)))
  · exact congrArg₂ (· * ·) (tap_ld x18 2 (by decide) _ k) ((read_copy Z _ _ _ _ _ _ _ _ _ _ _ _ _ _ _ _ _ 2 0 (by decide) (by decide) _ r k).trans (row 2 _ k (by omega) (by decide)))
  · exact congrArg₂ (· * ·) (tap_ld x18 3 (by decide) _ k) ((read_copy Z _ _ _ _ _ _ _ _ _ _ _ _ _ _ _ _ _ 3 0 (by decide) (by decide) _ r k).trans (row 3 _ k (by omega) (by decide)))
  · exact congrArg₂ (· * ·) (tap_ld x18 4 (by decide) _ k) ((read_copy Z _ _ _ _ _ _ _ _ _ _ _ _ _ _ _ _ _ 4 0 (by decide) (by decide) _ r k).trans (row 4 _ k (by omega) (by decide)))
  · exact congrArg₂ (· * ·) (tap_ld x18 5 (by decide) _ k) ((read_copy Z _ _ _ _ _ _ _ _ _ _ _ _ _ _ _ _ _ 5 0 (by decide) (by decide) _ r k).trans (row 5 _ k (by omega) (by decide)))
  · exact congrArg₂ (· * ·) (tap_ld x18 6 (by decide) _ k) ((read_copy Z _ _ _ _ _ _ _ _ _ _ _ _ _ _ _ _ _ 6 0 (by decide) (by decide) _ r k).trans (row 6 _ k (by omega) (by decide)))
  · exact congrArg₂ (· * ·) (tap_ld x18 7 (by decide) _ k) ((read_kept Z _ 8 512 _ _ r k (by omega)).trans (row 7 _ k (by omega) (by decide)))
  · exact congrArg₂ (· * ·) (tap_ld x18 8 (by decide) _ k) ((read_copy Z _ _ _ _ _ _ _ _ _ _ _ _ _ _ _ _ _ 0 8 (by decide) (by decide) _ r k).trans (row 8 _ k (by omega) (by decide)))
  · exact congrArg₂ (· * ·) (tap_ld x18 9 (by decide) _ k) ((read_copy Z _ _ _ _ _ _ _ _ _ _ _ _ _ _ _ _ _ 1 8 (by decide) (by decide) _ r k).trans (row 9 _ k (by omega) (by decide)))
  · exact congrArg₂ (· * ·) (tap_ld x18 10 (by decide) _ k) ((read_copy Z _ _ _ _ _ _ _ _ _ _ _ _ _ _ _ _ _ 2 8 (by decide) (by decide) _ r k).trans (row 10 _ k (by omega) (by decide)))
  · exact congrArg₂ (· * ·) (tap_ld x18 11 (by decide) _ k) ((read_copy Z _ _ _ _ _ _ _ _ _ _ _ _ _ _ _ _ _ 3 8 (by decide) (by decide) _ r k).trans (row 11 _ k (by omega) (by decide)))
  · exact congrArg₂ (· * ·) (tap_ld x18 12 (by decide) _ k) ((read_copy Z _ _ _ _ _ _ _ _ _ _ _ _ _ _ _ _ _ 4 8 (by decide) (by decide) _ r k).trans (row 12 _ k (by omega) (by decide)))
  · exact congrArg₂ (· * ·) (tap_ld x18 13 (by decide) _ k) ((read_copy Z _ _ _ _ _ _ _ _ _ _ _ _ _ _ _ _ _ 5 8 (by decide) (by decide) _ r k).trans (row 13 _ k (by omega) (by decide)))
  · exact congrArg₂ (· * ·) (tap_ld x18 14 (by decide) _ k) ((read_copy Z _ _ _ _ _ _ _ _ _ _ _ _ _ _ _ _ _ 6 8 (by decide) (by decide) _ r k).trans (row 14 _ k (by omega) (by decide)))
  · exact congrArg₂ (· * ·) (tap_ld x18 15 (by decide) _ k) ((read_kept Z _ 16 512 _ _ r k (by omega)).trans (row 15 _ k (by omega) (by decide)))
  · exact congrArg₂ (· * ·) (tap_ld x18 16 (by decide) _ k) ((read_copy Z _ _ _ _ _ _ _ _ _ _ _ _ _ _ _ _ _ 0 16 (by decide) (by decide) _ r k).trans (row 16 _ k (by omega) (by decide)))
  · exact congrArg₂ (· * ·) (tap_ld x18 17 (by decide) _ k) ((read_copy Z _ _ _ _ _ _ _ _ _ _ _ _ _ _ _ _ _ 1 16 (by decide) (by decide) _ r k).trans (row 17 _ k (by omega) (by decide)))
  · exact congrArg₂ (· * ·) (tap_ld x18 18 (by decide) _ k) ((read_copy Z _ _ _ _ _ _ _ _ _ _ _ _ _ _ _ _ _ 2 16 (by decide) (by decide) _ r k).trans (row 18 _ k (by omega) (by decide)))
  · exact congrArg₂ (· * ·) (tap_ld x18 19 (by decide) _ k) ((read_copy Z _ _ _ _ _ _ _ _ _ _ _ _ _ _ _ _ _ 3 16 (by decide) (by decide) _ r k).trans (row 19 _ k (by omega) (by decide)))
  · exact congrArg₂ (· * ·) (tap_ld x18 20 (by decide) _ k) ((read_copy Z _ _ _ _ _ _ _ _ _ _ _ _ _ _ _ _ _ 4 16 (by decide) (by decide) _ r k).trans (row 20 _ k (by omega) (by decide)))
  · exact congrArg₂ (· * ·) (tap_ld x18 21 (by decide) _ k) ((read_copy Z _ _ _ _ _ _ _ _ _ _ _ _ _ _ _ _ _ 5 16 (by decide) (by decide) _ r k).trans (row 21 _ k (by omega) (by decide)))
  · exact congrArg₂ (· * ·) (tap_ld x18 22 (by decide) _ k) ((read_copy Z _ _ _ _ _ _ _ _ _ _ _ _ _ _ _ _ _ 6 16 (by decide) (by decide) _ r k).trans (row 22 _ k (by omega) (by decide)))
  · exact congrArg₂ (· * ·) (tap_ld x18 23 (by decide) _ k) ((read_kept Z _ 24 512 _ _ r k (by omega)).trans (row 23 _ k (by omega) (by decide)))
  · exact congrArg₂ (· * ·) (tap_ld x18 24 (by decide) _ k) ((read_copy Z _ _ _ _ _ _ _ _ _ _ _ _ _ _ _ _ _ 0 24 (by decide) (by decide) _ r k).trans (row 24 _ k (by omega) (by decide)))
  · exact congrArg₂ (· * ·) (tap_ld x18 25 (by decide) _ k) ((read_copy Z _ _ _ _ _ _ _ _ _ _ _ _ _ _ _ _ _ 1 24 (by decide) (by decide) _ r k).trans (row 25 _ k (by omega) (by decide)))
  · exact congrArg₂ (· * ·) (tap_ld x18 26 (by decide) _ k) ((read_copy Z _ _ _ _ _ _ _ _ _ _ _ _ _ _ _ _ _ 2 24 (by decide) (by decide) _ r k).trans (row 26 _ k (by omega) (by decide)))
  · exact congrArg₂ (· * ·) (tap_ld x18 27 (by decide) _ k) ((read_copy Z _ _ _ _ _ _ _ _ _ _ _ _ _ _ _ _ _ 3 24 (by decide) (by decide) _ r k).trans (row 27 _ k (by omega) (by decide)))
  · exact congrArg₂ (· * ·) (tap_ld x18 28 (by decide) _ k) ((read_copy Z _ _ _ _ _ _ _ _ _ _ _ _ _ _ _ _ _ 4 24 (by decide) (by decide) _ r k).trans (row 28 _ k (by omega) (by decide)))
  · exact congrArg₂ (· * ·) (tap_ld x18 29 (by decide) _ k) ((read_copy Z _ _ _ _ _ _ _ _ _ _ _ _ _ _ _ _ _ 5 24 (by decide) (by decide) _ r k).trans (row 29 _ k (by omega) (by decide)))
  · exact congrArg₂ (· * ·) (tap_ld x18 30 (by decide) _ k) ((read_copy Z _ _ _ _ _ _ _ _ _ _ _ _ _ _ _ _ _ 6 24 (by decide) (by decide) _ r k).trans (row 30 _ k (by omega) (by decide)))

end Cert.Proof.Pre
-- ==== Proof.PreRef.lean ====
module

public import proofs.«01_k».proof.Proof.Gen.Reference4Ideal.Read
public import proofs.«01_k».proof.Proof.PreMath
public import Idealize.ShloMosaic.Lib.KernelVsHost

/-! # The reference of the mixer's inputs at an index

The modulated norm, its projection, and the third part of the projection, which gates the merge. -/

@[expose] public section

set_option maxRecDepth 16384

noncomputable section

namespace Cert.Proof.Pre

open Cert.Reference4Ideal Cert.Reference4Ideal.Gen Cert.Reference4Ideal.Read
open Idealize.ShloMosaic Idealize.ShloMosaic.TcCoe Idealize.ShloMosaic.ValueIdx
open Cert.Proof.Ffn (word word_zero word_one mcol normed)

variable (x0 : FVec Ideal S32x2048x1024 .f32) (x1 : FVec Ideal S32x6144 .f32) (x2 : FVec Ideal S1024 .f32)
  (x3 : FVec Ideal S1024x5536 .f32)

/-- The modulated norm of a token. -/
def hid (b : Fin 32) (s : Fin 2048) (d : Fin 1024) : EReal :=
  normed (fun k => x0 (ix3 b s k)) (fun k => x2 (ix1 k)) (fun k => x1 (ix2 b (mcol 0 k))) (fun k => x1 (ix2 b (mcol 1 k))) d

/-- Its projection on column `n` of the joint input weight. -/
def proj (b : Fin 32) (s : Fin 2048) (n : Fin 5536) : EReal := ∑ d : Fin 1024, hid x0 x1 x2 b s d * x3 (ix2 d n)

theorem v10_apply (b : Fin 32) (s : Fin 2048) (i : S32x2048x1.Idx) (h0 : (i 0).val = b.val) (h1 : (i 1).val = s.val) :
    val_main_v10 (F := Ideal) x0 i = Ideal.div (∑ k : Fin 1024, x0 (ix3 b s k) * x0 (ix3 b s k)) (word 0x44800000#32) := by
  rw [val_main_v10_apply, val_main_v8_apply, val_main_v7_apply, val_main_v9_apply, val_main_cst_0_apply, val_main_cst_apply]
  show Ideal.div (word 0x00000000#32 + _) _ = _
  rw [word_zero, zero_add]
  refine congrArg (Ideal.div · _) (Finset.sum_congr rfl fun k _ => ?_)
  have e : idx_main_v7 (idx_main_v8 i) k = ix3 b s k := funext fun a => Fin.ext (by
    match a with
    | ⟨0, _⟩ => exact h0
    | ⟨1, _⟩ => exact h1
    | ⟨2, _⟩ => rfl)
  rw [val_main_v6_apply, e]
  rfl

theorem v26_apply (b : Fin 32) (s : Fin 2048) (d : Fin 1024) :
    val_main_v26 (F := Ideal) x0 x1 x2 (ix3 b s d) = hid x0 x1 x2 b s d := by
  rw [val_main_v26_apply, val_main_v23_apply, val_main_v18_apply, val_main_v15_apply, val_main_v14_apply,
    val_main_v13_apply, val_main_v12_apply, v10_apply x0 b s _ rfl rfl, val_main_v11_apply, val_main_cst_1_apply,
    val_main_v17_apply, val_main_v16_apply, val_main_v22_apply, val_main_v21_apply, val_main_v20_apply,
    val_main_cst_2_apply, val_main_v19_apply, val_main_v1_apply, val_main_v25_apply, val_main_v24_apply, val_main_v0_apply]
  show x0 (ix3 b s d) * Ideal.rsqrt (_ + word 0x358637BD#32) * x2 _ * (word 0x3F800000#32 + x1 _) + x1 _ = _
  unfold hid normed
  refine congrArg₂ (· + ·) (congrArg₂ (· * ·) (congrArg (_ * ·) (congrArg x2 ?_)) (congrArg (_ + ·) (congrArg x1 ?_)))
    (congrArg x1 ?_)
  · exact funext fun a => Fin.ext (by match a with | ⟨0, _⟩ => rfl)
  · exact funext fun a => Fin.ext (by match a with | ⟨0, _⟩ => rfl | ⟨1, _⟩ => rfl)
  · refine funext fun a => Fin.ext ?_
    match a with
    | ⟨0, _⟩ => rfl
    | ⟨1, _⟩ => show d.val = 1024 * 0 + d.val; omega

theorem v27_apply (b : Fin 32) (s : Fin 2048) (n : Fin 5536) (i : S32x2048x5536.Idx) (h0 : (i 0).val = b.val)
    (h1 : (i 1).val = s.val) (h2 : (i 2).val = n.val) : val_main_v27 (F := Ideal) x0 x1 x2 x3 i = proj x0 x1 x2 x3 b s n := by
  rw [val_main_v27_apply]
  refine Finset.sum_congr rfl fun k _ => congrArg₂ (· * ·)
    (Eq.trans (congrArg (val_main_v26 (F := Ideal) x0 x1 x2) ?_) (v26_apply x0 x1 x2 b s k)) (congrArg x3 ?_)
  · exact funext fun a => Fin.ext (by match a with | ⟨0, _⟩ => exact h0 | ⟨1, _⟩ => exact h1 | ⟨2, _⟩ => rfl)
  · exact funext fun a => Fin.ext (by match a with | ⟨0, _⟩ => rfl | ⟨1, _⟩ => exact h2)

/-- Column `o + k` of the joint weight. -/
abbrev col {n : ℕ} (o : ℕ) (h : o + n ≤ 5536) (k : Fin n) : Fin 5536 := ⟨o + k.val, by have := k.isLt; omega⟩

/-- The gate's result at row `n = 2048 b + s`. -/
theorem gate_apply (n : Fin 65536) (d : Fin 3072) (b : Fin 32) (s : Fin 2048) (hn : n.val = 2048 * b.val + s.val) :
    val_main_v361 (F := Ideal) x0 x1 x2 x3 (ix2 n d) = proj x0 x1 x2 x3 b s (col 2464 (by decide) d) := by
  have hb := b.isLt
  have hs := s.isLt
  have hd := d.isLt
  rw [val_main_v361_apply, val_main_v360_apply, val_main_v33_apply]
  refine v27_apply x0 x1 x2 x3 b s _ _ ?_ ?_ ?_
  · show (n.val * 3072 + d.val) / 6291456 = b.val; omega
  · show (n.val * 3072 + d.val) / 3072 % 2048 = s.val; omega
  · show 2464 + (n.val * 3072 + d.val) % 3072 = 2464 + d.val; omega

end Cert.Proof.Pre
-- ==== Proof.PreRefConv.lean ====
module

public import proofs.«01_k».proof.Proof.PreRef

/-! # The reference of the convolution at an index

A gated half of the projection, convolved along the sequence with 31 taps, normed over the channels and activated. -/

@[expose] public section

set_option maxRecDepth 16384

noncomputable section

namespace Cert.Proof.Pre

open Cert.Reference4Ideal Cert.Reference4Ideal.Gen Cert.Reference4Ideal.Read
open Idealize.ShloMosaic Idealize.ShloMosaic.TcCoe Idealize.ShloMosaic.ValueIdx
open Cert.Proof.Ffn (word word_zero word_one mcol normed)

variable (x0 : FVec Ideal S32x2048x1024 .f32) (x1 : FVec Ideal S32x6144 .f32) (x2 : FVec Ideal S1024 .f32)
  (x3 : FVec Ideal S1024x5536 .f32) (x10 : FVec Ideal S31x512 .f32) (x11 x12 x13 : FVec Ideal S512 .f32)

/-- The gated channel. -/
def glu (b : Fin 32) (s : Fin 2048) (k : Fin 512) : EReal :=
  proj x0 x1 x2 x3 b s (col 416 (by decide) k) * Ideal.logistic (proj x0 x1 x2 x3 b s (col 928 (by decide) k))

/-- The gated channel of a sequence with 15 zeros before and after. -/
def gluAt (b : Fin 32) (p : ℕ) (k : Fin 512) : EReal :=
  if h : 15 ≤ p ∧ p < 2063 then glu x0 x1 x2 x3 b ⟨p - 15, by omega⟩ k else 0

/-- Tap `j` at a token. -/
def tap (b : Fin 32) (s : ℕ) (k : Fin 512) (j : ℕ) : EReal :=
  x10 (ix2 (⟨j % 31, Nat.mod_lt _ (by decide)⟩ : Fin 31) k) * gluAt x0 x1 x2 x3 b (s + j) k

/-- The convolution. -/
def conv (b : Fin 32) (s : ℕ) (k : Fin 512) : EReal := chain (x11 (ix1 k)) (tap x0 x1 x2 x3 x10 b s k) 31

theorem v58_apply (b : Fin 32) (s : Fin 2048) (k : Fin 512) :
    val_main_v58 (F := Ideal) x0 x1 x2 x3 (ix3 b s k) = glu x0 x1 x2 x3 b s k := by
  rw [val_main_v58_apply, val_main_v57_apply, val_main_v56_apply, val_main_cst_7_apply, val_main_v55_apply, val_main_v54_apply,
    val_main_cst_6_apply, val_main_v53_apply, val_main_v52_apply, val_main_v51_apply, val_main_v50_apply, val_main_v31_apply,
    val_main_v31_apply, v27_apply x0 x1 x2 x3 b s (col 416 (by decide) k) _ rfl rfl rfl,
    v27_apply x0 x1 x2 x3 b s (col 928 (by decide) k) _ rfl rfl (by show 416 + (512 + k.val) = 928 + k.val; omega)]
  show _ * Ideal.div (word 0x3F800000#32) (word 0x3F800000#32 + Ideal.exp (-_)) = _
  rw [word_one]
  rfl

theorem v59_apply (b : Fin 32) (p : Fin 2078) (k : Fin 512) :
    val_main_v59 (F := Ideal) x0 x1 x2 x3 (ix3 b p k) = gluAt x0 x1 x2 x3 b p.val k := by
  have hp := p.isLt
  unfold val_main_v59 gluAt
  have hv : ∀ s, val_main_v58 (F := Ideal) x0 x1 x2 x3 (ix3 b s k) = glu x0 x1 x2 x3 b s k := fun s => v58_apply x0 x1 x2 x3 b s k
  generalize val_main_v58 (F := Ideal) x0 x1 x2 x3 = y at hv
  by_cases h : 15 ≤ p.val ∧ p.val < 2063
  · rw [dif_pos h]
    refine (pad_apply_of_inside _ _ _ y _ _ _ (ix3 b p k) (ix3 b (⟨p.val - 15, by omega⟩ : Fin 2048) k) fun a => ?_).trans (hv _)
    match a with
    | ⟨0, _⟩ => show b.val = 0 + b.val * 1; omega
    | ⟨1, _⟩ => show p.val = 15 + (p.val - 15) * 1; omega
    | ⟨2, _⟩ => show k.val = 0 + k.val * 1; omega
  · rw [dif_neg h]
    refine (pad_apply_of_not_inside _ _ _ y _ _ _ (ix3 b p k) 1 fun hin => h ?_).trans ?_
    · have h1 : 15 ≤ p.val := hin.1
      have h2 : (p.val - 15) / 1 < 2048 := hin.2.2
      omega
    · rw [val_main_call0_v0_apply, val_main_c_apply]
      show (((0#32 : BitVec 32).toInt : ℝ) : EReal) = 0
      simp

/-- A row of the taps, laid along a sequence, times the sequence at an offset. -/
theorem tap_eq (j : ℕ) (hj : j < 31) (i1 : Shape.Slices S31x512 ![j, 0] S1x512) (i2 : Shape.Slices S32x2078x512 ![0, j, 0] S32x2048x512)
    (b : Fin 32) (s : Fin 2048) (k : Fin 512) :
    mulf (broadcastInDim S32x2048x512 ![0, 1, 2] bcast_S1x1x512_S32x2048x512_0_1_2 (broadcastInDim S1x1x512 ![2] bcast_S512_S1x1x512_2
      (shapeCast S512 (extractStridedSlice S1x512 ![j, 0] x10 i1) shapeCasts_S1x512_S512)))
      (extractStridedSlice S32x2048x512 ![0, j, 0] (val_main_v59 (F := Ideal) x0 x1 x2 x3) i2) (ix3 b s k)
      = tap x0 x1 x2 x3 x10 b s.val k j := by
  have hs := s.isLt
  rw [mulf_apply]
  unfold tap
  refine congrArg₂ (· * ·) ?_ ?_
  · refine (broadcastInDim_apply _ bcast_S1x1x512_S32x2048x512_0_1_2 _ (ix3 b s k) (ix3 0 0 k) fun a => ?_).trans ?_
    · match a with | ⟨0, _⟩ => rfl | ⟨1, _⟩ => rfl | ⟨2, _⟩ => rfl
    refine (broadcastInDim_apply _ bcast_S512_S1x1x512_2 _ (ix3 0 0 k) (ix1 k) fun a => ?_).trans ?_
    · match a with | ⟨0, _⟩ => rfl
    refine (shapeCast_apply _ _ (ix1 k) (ix2 0 k) (by
      rw [Shape.rowMajor_val_one, Shape.rowMajor_val_two]; show 0 * 512 + k.val = k.val; omega)).trans ?_
    refine extractStridedSlice_apply _ _ _ _ _ fun a => ?_
    match a with
    | ⟨0, _⟩ => show j % 31 = j + 0; omega
    | ⟨1, _⟩ => show k.val = 0 + k.val; omega
  · refine (extractStridedSlice_apply ![0, j, 0] _ i2 (ix3 b s k) (ix3 b (⟨s.val + j, by omega⟩ : Fin 2078) k) fun a => ?_).trans
      (v59_apply x0 x1 x2 x3 b _ k)
    match a with
    | ⟨0, _⟩ => show b.val = 0 + b.val; omega
    | ⟨1, _⟩ => show s.val + j = j + s.val; omega
    | ⟨2, _⟩ => show k.val = 0 + k.val; omega

theorem v278_apply (b : Fin 32) (s : Fin 2048) (k : Fin 512) :
    val_main_v278 (F := Ideal) x0 x1 x2 x3 x10 x11 (ix3 b s k) = conv x0 x1 x2 x3 x10 x11 b s.val k := by
  have h0 : val_main_v65 (F := Ideal) x0 x1 x2 x3 x10 (ix3 b s k) = tap x0 x1 x2 x3 x10 b s.val k 0 := tap_eq x0 x1 x2 x3 x10 0 (by decide) _ _ b s k
  have h1 : val_main_v71 (F := Ideal) x0 x1 x2 x3 x10 (ix3 b s k) = tap x0 x1 x2 x3 x10 b s.val k 1 := tap_eq x0 x1 x2 x3 x10 1 (by decide) _ _ b s k
  have h2 : val_main_v78 (F := Ideal) x0 x1 x2 x3 x10 (ix3 b s k) = tap x0 x1 x2 x3 x10 b s.val k 2 := tap_eq x0 x1 x2 x3 x10 2 (by decide) _ _ b s k
  have h3 : val_main_v85 (F := Ideal) x0 x1 x2 x3 x10 (ix3 b s k) = tap x0 x1 x2 x3 x10 b s.val k 3 := tap_eq x0 x1 x2 x3 x10 3 (by decide) _ _ b s k
  have h4 : val_main_v92 (F := Ideal) x0 x1 x2 x3 x10 (ix3 b s k) = tap x0 x1 x2 x3 x10 b s.val k 4 := tap_eq x0 x1 x2 x3 x10 4 (by decide) _ _ b s k
  have h5 : val_main_v99 (F := Ideal) x0 x1 x2 x3 x10 (ix3 b s k) = tap x0 x1 x2 x3 x10 b s.val k 5 := tap_eq x0 x1 x2 x3 x10 5 (by decide) _ _ b s k
  have h6 : val_main_v106 (F := Ideal) x0 x1 x2 x3 x10 (ix3 b s k) = tap x0 x1 x2 x3 x10 b s.val k 6 := tap_eq x0 x1 x2 x3 x10 6 (by decide) _ _ b s k
  have h7 : val_main_v113 (F := Ideal) x0 x1 x2 x3 x10 (ix3 b s k) = tap x0 x1 x2 x3 x10 b s.val k 7 := tap_eq x0 x1 x2 x3 x10 7 (by decide) _ _ b s k
  have h8 : val_main_v120 (F := Ideal) x0 x1 x2 x3 x10 (ix3 b s k) = tap x0 x1 x2 x3 x10 b s.val k 8 := tap_eq x0 x1 x2 x3 x10 8 (by decide) _ _ b s k
  have h9 : val_main_v127 (F := Ideal) x0 x1 x2 x3 x10 (ix3 b s k) = tap x0 x1 x2 x3 x10 b s.val k 9 := tap_eq x0 x1 x2 x3 x10 9 (by decide) _ _ b s k
  have h10 : val_main_v134 (F := Ideal) x0 x1 x2 x3 x10 (ix3 b s k) = tap x0 x1 x2 x3 x10 b s.val k 10 := tap_eq x0 x1 x2 x3 x10 10 (by decide) _ _ b s k
  have h11 : val_main_v141 (F := Ideal) x0 x1 x2 x3 x10 (ix3 b s k) = tap x0 x1 x2 x3 x10 b s.val k 11 := tap_eq x0 x1 x2 x3 x10 11 (by decide) _ _ b s k
  have h12 : val_main_v148 (F := Ideal) x0 x1 x2 x3 x10 (ix3 b s k) = tap x0 x1 x2 x3 x10 b s.val k 12 := tap_eq x0 x1 x2 x3 x10 12 (by decide) _ _ b s k
  have h13 : val_main_v155 (F := Ideal) x0 x1 x2 x3 x10 (ix3 b s k) = tap x0 x1 x2 x3 x10 b s.val k 13 := tap_eq x0 x1 x2 x3 x10 13 (by decide) _ _ b s k
  have h14 : val_main_v162 (F := Ideal) x0 x1 x2 x3 x10 (ix3 b s k) = tap x0 x1 x2 x3 x10 b s.val k 14 := tap_eq x0 x1 x2 x3 x10 14 (by decide) _ _ b s k
  have h15 : val_main_v169 (F := Ideal) x0 x1 x2 x3 x10 (ix3 b s k) = tap x0 x1 x2 x3 x10 b s.val k 15 := tap_eq x0 x1 x2 x3 x10 15 (by decide) _ _ b s k
  have h16 : val_main_v176 (F := Ideal) x0 x1 x2 x3 x10 (ix3 b s k) = tap x0 x1 x2 x3 x10 b s.val k 16 := tap_eq x0 x1 x2 x3 x10 16 (by decide) _ _ b s k
  have h17 : val_main_v183 (F := Ideal) x0 x1 x2 x3 x10 (ix3 b s k) = tap x0 x1 x2 x3 x10 b s.val k 17 := tap_eq x0 x1 x2 x3 x10 17 (by decide) _ _ b s k
  have h18 : val_main_v190 (F := Ideal) x0 x1 x2 x3 x10 (ix3 b s k) = tap x0 x1 x2 x3 x10 b s.val k 18 := tap_eq x0 x1 x2 x3 x10 18 (by decide) _ _ b s k
  have h19 : val_main_v197 (F := Ideal) x0 x1 x2 x3 x10 (ix3 b s k) = tap x0 x1 x2 x3 x10 b s.val k 19 := tap_eq x0 x1 x2 x3 x10 19 (by decide) _ _ b s k
  have h20 : val_main_v204 (F := Ideal) x0 x1 x2 x3 x10 (ix3 b s k) = tap x0 x1 x2 x3 x10 b s.val k 20 := tap_eq x0 x1 x2 x3 x10 20 (by decide) _ _ b s k
  have h21 : val_main_v211 (F := Ideal) x0 x1 x2 x3 x10 (ix3 b s k) = tap x0 x1 x2 x3 x10 b s.val k 21 := tap_eq x0 x1 x2 x3 x10 21 (by decide) _ _ b s k
  have h22 : val_main_v218 (F := Ideal) x0 x1 x2 x3 x10 (ix3 b s k) = tap x0 x1 x2 x3 x10 b s.val k 22 := tap_eq x0 x1 x2 x3 x10 22 (by decide) _ _ b s k
  have h23 : val_main_v225 (F := Ideal) x0 x1 x2 x3 x10 (ix3 b s k) = tap x0 x1 x2 x3 x10 b s.val k 23 := tap_eq x0 x1 x2 x3 x10 23 (by decide) _ _ b s k
  have h24 : val_main_v232 (F := Ideal) x0 x1 x2 x3 x10 (ix3 b s k) = tap x0 x1 x2 x3 x10 b s.val k 24 := tap_eq x0 x1 x2 x3 x10 24 (by decide) _ _ b s k
  have h25 : val_main_v239 (F := Ideal) x0 x1 x2 x3 x10 (ix3 b s k) = tap x0 x1 x2 x3 x10 b s.val k 25 := tap_eq x0 x1 x2 x3 x10 25 (by decide) _ _ b s k
  have h26 : val_main_v246 (F := Ideal) x0 x1 x2 x3 x10 (ix3 b s k) = tap x0 x1 x2 x3 x10 b s.val k 26 := tap_eq x0 x1 x2 x3 x10 26 (by decide) _ _ b s k
  have h27 : val_main_v253 (F := Ideal) x0 x1 x2 x3 x10 (ix3 b s k) = tap x0 x1 x2 x3 x10 b s.val k 27 := tap_eq x0 x1 x2 x3 x10 27 (by decide) _ _ b s k
  have h28 : val_main_v260 (F := Ideal) x0 x1 x2 x3 x10 (ix3 b s k) = tap x0 x1 x2 x3 x10 b s.val k 28 := tap_eq x0 x1 x2 x3 x10 28 (by decide) _ _ b s k
  have h29 : val_main_v267 (F := Ideal) x0 x1 x2 x3 x10 (ix3 b s k) = tap x0 x1 x2 x3 x10 b s.val k 29 := tap_eq x0 x1 x2 x3 x10 29 (by decide) _ _ b s k
  have h30 : val_main_v274 (F := Ideal) x0 x1 x2 x3 x10 (ix3 b s k) = tap x0 x1 x2 x3 x10 b s.val k 30 := tap_eq x0 x1 x2 x3 x10 30 (by decide) _ _ b s k
  rw [val_main_v278_apply, val_main_v275_apply, val_main_v268_apply, val_main_v261_apply, val_main_v254_apply, val_main_v247_apply, val_main_v240_apply, val_main_v233_apply, val_main_v226_apply, val_main_v219_apply, val_main_v212_apply, val_main_v205_apply, val_main_v198_apply, val_main_v191_apply, val_main_v184_apply, val_main_v177_apply, val_main_v170_apply, val_main_v163_apply, val_main_v156_apply, val_main_v149_apply, val_main_v142_apply, val_main_v135_apply, val_main_v128_apply, val_main_v121_apply, val_main_v114_apply, val_main_v107_apply, val_main_v100_apply, val_main_v93_apply, val_main_v86_apply, val_main_v79_apply, val_main_v72_apply,
    h0, h1, h2, h3, h4, h5, h6, h7, h8, h9, h10, h11, h12, h13, h14, h15, h16, h17, h18, h19, h20, h21, h22, h23, h24, h25, h26, h27, h28, h29, h30, val_main_v277_apply, val_main_v276_apply]
  unfold conv
  rw [← chain_zero_add]
  generalize tap x0 x1 x2 x3 x10 b s.val k = f
  have hc : chain 0 f 31 = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
    simp only [chain, zero_add]
  rw [hc]
  refine congrArg₂ (· + ·) rfl (congrArg x11 ?_)
  exact funext fun a => Fin.ext (by match a with | ⟨0, _⟩ => rfl)

/-- The layer norm of the convolution. -/
def convn (b : Fin 32) (s : Fin 2048) (k : Fin 512) : EReal :=
  lnorm (fun k => conv x0 x1 x2 x3 x10 x11 b s.val k) (fun k => x12 (ix1 k)) (fun k => x13 (ix1 k)) k

theorem v282_apply (b : Fin 32) (s : Fin 2048) (i : S32x2048x1.Idx) (h0 : (i 0).val = b.val) (h1 : (i 1).val = s.val) :
    val_main_v282 (F := Ideal) x0 x1 x2 x3 x10 x11 i = mean fun k => conv x0 x1 x2 x3 x10 x11 b s.val k := by
  rw [val_main_v282_apply, val_main_v280_apply, val_main_v279_apply, val_main_v281_apply, val_main_cst_9_apply, val_main_cst_8_apply]
  show Ideal.div (word 0x00000000#32 + _) _ = _
  rw [word_zero, zero_add]
  refine congrArg (Ideal.div · _) (Finset.sum_congr rfl fun k _ => ?_)
  have e : idx_main_v279 (idx_main_v280 i) k = ix3 b s k := funext fun a => Fin.ext (by
    match a with
    | ⟨0, _⟩ => exact h0
    | ⟨1, _⟩ => exact h1
    | ⟨2, _⟩ => rfl)
  rw [e]
  exact v278_apply x0 x1 x2 x3 x10 x11 b s k

theorem v289_apply (b : Fin 32) (s : Fin 2048) (i : S32x2048x1.Idx) (h0 : (i 0).val = b.val) (h1 : (i 1).val = s.val) :
    val_main_v289 (F := Ideal) x0 x1 x2 x3 x10 x11 i
      = mean fun k => (conv x0 x1 x2 x3 x10 x11 b s.val k - mean fun k => conv x0 x1 x2 x3 x10 x11 b s.val k) * (conv x0 x1 x2 x3 x10 x11 b s.val k - mean fun k => conv x0 x1 x2 x3 x10 x11 b s.val k) := by
  rw [val_main_v289_apply, val_main_v287_apply, val_main_v286_apply, val_main_v288_apply, val_main_cst_11_apply, val_main_cst_10_apply]
  show Ideal.div (word 0x00000000#32 + _) _ = _
  rw [word_zero, zero_add]
  refine congrArg (Ideal.div · _) (Finset.sum_congr rfl fun k _ => ?_)
  have e : idx_main_v286 (idx_main_v287 i) k = ix3 b s k := funext fun a => Fin.ext (by
    match a with
    | ⟨0, _⟩ => exact h0
    | ⟨1, _⟩ => exact h1
    | ⟨2, _⟩ => rfl)
  rw [e, val_main_v285_apply, val_main_v284_apply, v278_apply, val_main_v283_apply, v282_apply x0 x1 x2 x3 x10 x11 b s _ rfl rfl]
  rfl

theorem v302_apply (b : Fin 32) (s : Fin 2048) (k : Fin 512) :
    val_main_v302 (F := Ideal) x0 x1 x2 x3 x10 x11 x12 x13 (ix3 b s k) = lnorm (fun k => conv x0 x1 x2 x3 x10 x11 b s.val k) (fun k => x12 (ix1 k)) (fun k => x13 (ix1 k)) k := by
  rw [val_main_v302_apply, val_main_v299_apply, val_main_v296_apply, val_main_v291_apply, v278_apply, val_main_v290_apply,
    v282_apply x0 x1 x2 x3 x10 x11 b s _ rfl rfl, val_main_v295_apply, val_main_v294_apply, val_main_v293_apply,
    v289_apply x0 x1 x2 x3 x10 x11 b s _ rfl rfl, val_main_v292_apply, val_main_cst_12_apply, val_main_v298_apply, val_main_v297_apply,
    val_main_v301_apply, val_main_v300_apply]
  unfold lnorm
  refine congrArg₂ (· + ·) (congrArg (_ * ·) (congrArg x12 ?_)) (congrArg x13 ?_)
  · exact funext fun a => Fin.ext (by match a with | ⟨0, _⟩ => rfl)
  · exact funext fun a => Fin.ext (by match a with | ⟨0, _⟩ => rfl)

/-- The branch's result at row `n = 2048 b + s`. -/
theorem conv_apply (n : Fin 65536) (d : Fin 512) (b : Fin 32) (s : Fin 2048) (hn : n.val = 2048 * b.val + s.val) :
    val_main_v357 (F := Ideal) x0 x1 x2 x3 x10 x11 x12 x13 (ix2 n d) = silu (convn x0 x1 x2 x3 x10 x11 x12 x13 b s d) := by
  have hb := b.isLt
  have hs := s.isLt
  have hd := d.isLt
  have ei : idx_main_v356 (ix2 n d) = ix3 b s d := funext fun a => Fin.ext (by
    match a with
    | ⟨0, _⟩ => show (n.val * 512 + d.val) / 1048576 = b.val; omega
    | ⟨1, _⟩ => show (n.val * 512 + d.val) / 512 % 2048 = s.val; omega
    | ⟨2, _⟩ => show (n.val * 512 + d.val) % 512 = d.val; omega)
  rw [val_main_v357_apply, val_main_v356_apply, ei, val_main_v303_apply, val_main_call1_v5_apply, val_main_call1_v4_apply,
    val_main_call1_cst_0_apply, val_main_call1_v3_apply, val_main_call1_v2_apply, val_main_call1_cst_apply, val_main_call1_v1_apply,
    val_main_call1_v0_apply, v302_apply]
  show _ * Ideal.div (word 0x3F800000#32) (word 0x3F800000#32 + Ideal.exp (-_)) = _
  rw [word_one]
  rfl

end Cert.Proof.Pre
-- ==== Proof.PreRefSgu.lean ====
module

public import proofs.«01_k».proof.Proof.PreRef

/-! # The reference of the spatial gate at an index

Half of the activated projection is normed over the channels and mixed over the tokens of a chunk, group by group; the other half
multiplies it. -/

@[expose] public section

set_option maxRecDepth 16384

noncomputable section

namespace Cert.Proof.Pre

open Cert.Reference4Ideal Cert.Reference4Ideal.Gen Cert.Reference4Ideal.Read
open Idealize.ShloMosaic Idealize.ShloMosaic.TcCoe Idealize.ShloMosaic.ValueIdx
open Cert.Proof.Ffn (word word_zero word_one mcol normed)

variable (x0 : FVec Ideal S32x2048x1024 .f32) (x1 : FVec Ideal S32x6144 .f32) (x2 : FVec Ideal S1024 .f32)
  (x3 : FVec Ideal S1024x5536 .f32) (x14 x15 : FVec Ideal S512 .f32) (x16 : FVec Ideal S4x128x128 .f32) (x17 : FVec Ideal S4x128 .f32)

/-- The activated projection's first half, -/
def su (b : Fin 32) (s : Fin 2048) (k : Fin 512) : EReal := gelu (proj x0 x1 x2 x3 b s (col 1440 (by decide) k))

/-- and its second half, -/
def sv (b : Fin 32) (s : Fin 2048) (k : Fin 512) : EReal := gelu (proj x0 x1 x2 x3 b s (col 1952 (by decide) k))

/-- which is normed, -/
def svn (b : Fin 32) (s : Fin 2048) (k : Fin 512) : EReal :=
  lnorm (fun k => sv x0 x1 x2 x3 b s k) (fun k => x14 (ix1 k)) (fun k => x15 (ix1 k)) k

/-- mixed over the 128 tokens of the chunk by the group's weights, and multiplied. -/
def sgu (b : Fin 32) (s : Fin 2048) (k : Fin 512) : EReal :=
  su x0 x1 x2 x3 b s k
    * (∑ q : Fin 128, svn x0 x1 x2 x3 x14 x15 b ⟨128 * (s.val / 128) + q.val, by have := s.isLt; have := q.isLt; omega⟩ k
          * x16 (ix3 (⟨k.val / 128, by have := k.isLt; omega⟩ : Fin 4) (⟨s.val % 128, Nat.mod_lt _ (by decide)⟩ : Fin 128) q)
        + x17 (ix2 (⟨k.val / 128, by have := k.isLt; omega⟩ : Fin 4) (⟨s.val % 128, Nat.mod_lt _ (by decide)⟩ : Fin 128)))

theorem v316_apply (i : S32x2048x1024.Idx) : val_main_v316 (F := Ideal) x0 x1 x2 x3 i = gelu (val_main_v32 (F := Ideal) x0 x1 x2 x3 i) := by
  rw [val_main_v316_apply, val_main_v315_apply, val_main_v314_apply, val_main_cst_16_apply, val_main_v313_apply, val_main_v312_apply,
    val_main_cst_15_apply, val_main_v311_apply, val_main_v310_apply, val_main_v309_apply, val_main_cst_14_apply, val_main_v308_apply,
    val_main_v307_apply, val_main_v306_apply, val_main_cst_13_apply, val_main_v305_apply, val_main_v304_apply]
  unfold gelu
  generalize val_main_v32 (F := Ideal) x0 x1 x2 x3 i = z
  rw [mul_comm z (z * z)]
  rfl

theorem v317_apply (b : Fin 32) (s : Fin 2048) (k : Fin 512) :
    val_main_v317 (F := Ideal) x0 x1 x2 x3 (ix3 b s k) = su x0 x1 x2 x3 b s k := by
  rw [val_main_v317_apply, v316_apply, val_main_v32_apply, v27_apply x0 x1 x2 x3 b s (col 1440 (by decide) k) _ rfl rfl rfl]
  rfl

theorem v318_apply (b : Fin 32) (s : Fin 2048) (k : Fin 512) :
    val_main_v318 (F := Ideal) x0 x1 x2 x3 (ix3 b s k) = sv x0 x1 x2 x3 b s k := by
  rw [val_main_v318_apply, v316_apply, val_main_v32_apply,
    v27_apply x0 x1 x2 x3 b s (col 1952 (by decide) k) _ rfl rfl (by show 1440 + (512 + k.val) = 1952 + k.val; omega)]
  rfl

theorem v322_apply (b : Fin 32) (s : Fin 2048) (i : S32x2048x1.Idx) (h0 : (i 0).val = b.val) (h1 : (i 1).val = s.val) :
    val_main_v322 (F := Ideal) x0 x1 x2 x3 i = mean fun k => sv x0 x1 x2 x3 b s k := by
  rw [val_main_v322_apply, val_main_v320_apply, val_main_v319_apply, val_main_v321_apply, val_main_cst_18_apply, val_main_cst_17_apply]
  show Ideal.div (word 0x00000000#32 + _) _ = _
  rw [word_zero, zero_add]
  refine congrArg (Ideal.div · _) (Finset.sum_congr rfl fun k _ => ?_)
  have e : idx_main_v319 (idx_main_v320 i) k = ix3 b s k := funext fun a => Fin.ext (by
    match a with
    | ⟨0, _⟩ => exact h0
    | ⟨1, _⟩ => exact h1
    | ⟨2, _⟩ => rfl)
  rw [e]
  exact v318_apply x0 x1 x2 x3 b s k

theorem v329_apply (b : Fin 32) (s : Fin 2048) (i : S32x2048x1.Idx) (h0 : (i 0).val = b.val) (h1 : (i 1).val = s.val) :
    val_main_v329 (F := Ideal) x0 x1 x2 x3 i
      = mean fun k => (sv x0 x1 x2 x3 b s k - mean fun k => sv x0 x1 x2 x3 b s k) * (sv x0 x1 x2 x3 b s k - mean fun k => sv x0 x1 x2 x3 b s k) := by
  rw [val_main_v329_apply, val_main_v327_apply, val_main_v326_apply, val_main_v328_apply, val_main_cst_20_apply, val_main_cst_19_apply]
  show Ideal.div (word 0x00000000#32 + _) _ = _
  rw [word_zero, zero_add]
  refine congrArg (Ideal.div · _) (Finset.sum_congr rfl fun k _ => ?_)
  have e : idx_main_v326 (idx_main_v327 i) k = ix3 b s k := funext fun a => Fin.ext (by
    match a with
    | ⟨0, _⟩ => exact h0
    | ⟨1, _⟩ => exact h1
    | ⟨2, _⟩ => rfl)
  rw [e, val_main_v325_apply, val_main_v324_apply, v318_apply, val_main_v323_apply, v322_apply x0 x1 x2 x3 b s _ rfl rfl]
  rfl

theorem v342_apply (b : Fin 32) (s : Fin 2048) (k : Fin 512) :
    val_main_v342 (F := Ideal) x0 x1 x2 x3 x14 x15 (ix3 b s k) = lnorm (fun k => sv x0 x1 x2 x3 b s k) (fun k => x14 (ix1 k)) (fun k => x15 (ix1 k)) k := by
  rw [val_main_v342_apply, val_main_v339_apply, val_main_v336_apply, val_main_v331_apply, v318_apply, val_main_v330_apply,
    v322_apply x0 x1 x2 x3 b s _ rfl rfl, val_main_v335_apply, val_main_v334_apply, val_main_v333_apply,
    v329_apply x0 x1 x2 x3 b s _ rfl rfl, val_main_v332_apply, val_main_cst_21_apply, val_main_v338_apply, val_main_v337_apply,
    val_main_v341_apply, val_main_v340_apply]
  unfold lnorm
  refine congrArg₂ (· + ·) (congrArg (_ * ·) (congrArg x14 ?_)) (congrArg x15 ?_)
  · exact funext fun a => Fin.ext (by match a with | ⟨0, _⟩ => rfl)
  · exact funext fun a => Fin.ext (by match a with | ⟨0, _⟩ => rfl)

/-- The branch's result at row `n = 2048 b + s`. -/
theorem sgu_apply (n : Fin 65536) (d : Fin 512) (b : Fin 32) (s : Fin 2048) (hn : n.val = 2048 * b.val + s.val) :
    val_main_v359 (F := Ideal) x0 x1 x2 x3 x14 x15 x16 x17 (ix2 n d) = sgu x0 x1 x2 x3 x14 x15 x16 x17 b s d := by
  have hb := b.isLt
  have hs := s.isLt
  have hd := d.isLt
  have ei : idx_main_v358 (ix2 n d) = ix3 b s d := funext fun a => Fin.ext (by
    match a with
    | ⟨0, _⟩ => show (n.val * 512 + d.val) / 1048576 = b.val; omega
    | ⟨1, _⟩ => show (n.val * 512 + d.val) / 512 % 2048 = s.val; omega
    | ⟨2, _⟩ => show (n.val * 512 + d.val) % 512 = d.val; omega)
  rw [val_main_v359_apply, val_main_v358_apply, ei, val_main_v352_apply, v317_apply, val_main_v351_apply, val_main_v350_apply,
    val_main_v345_apply, val_main_v344_apply, val_main_v349_apply, val_main_v348_apply, val_main_v347_apply, val_main_v346_apply]
  unfold sgu
  refine congrArg (_ * ·) (congrArg₂ (· + ·) (Finset.sum_congr rfl fun q _ => congrArg₂ (· * ·) ?_ (congrArg x16 ?_)) (congrArg x17 ?_))
  · have hq := q.isLt
    rw [val_main_v343_apply]
    refine Eq.trans (congrArg (val_main_v342 (F := Ideal) x0 x1 x2 x3 x14 x15) ?_) (v342_apply x0 x1 x2 x3 x14 x15 b _ d)
    have a0 : ((b.val * 2048 + s.val) * 512 + d.val) / 1048576 = b.val := by omega
    have a1 : ((b.val * 2048 + s.val) * 512 + d.val) / 65536 % 16 = s.val / 128 := by omega
    have a3 : ((b.val * 2048 + s.val) * 512 + d.val) / 128 % 4 = d.val / 128 := by omega
    have a4 : ((b.val * 2048 + s.val) * 512 + d.val) % 128 = d.val % 128 := by omega
    refine funext fun a => Fin.ext ?_
    match a with
    | ⟨0, _⟩ =>
      show (((((((b.val * 2048 + s.val) * 512 + d.val) / 1048576) * 16 + ((b.val * 2048 + s.val) * 512 + d.val) / 65536 % 16) * 128 + q.val) * 4
        + ((b.val * 2048 + s.val) * 512 + d.val) / 128 % 4) * 128 + ((b.val * 2048 + s.val) * 512 + d.val) % 128) / 1048576 = b.val
      rw [a0, a1, a3, a4]; omega
    | ⟨1, _⟩ =>
      show (((((((b.val * 2048 + s.val) * 512 + d.val) / 1048576) * 16 + ((b.val * 2048 + s.val) * 512 + d.val) / 65536 % 16) * 128 + q.val) * 4
        + ((b.val * 2048 + s.val) * 512 + d.val) / 128 % 4) * 128 + ((b.val * 2048 + s.val) * 512 + d.val) % 128) / 512 % 2048
        = 128 * (s.val / 128) + q.val
      rw [a0, a1, a3, a4]; omega
    | ⟨2, _⟩ =>
      show (((((((b.val * 2048 + s.val) * 512 + d.val) / 1048576) * 16 + ((b.val * 2048 + s.val) * 512 + d.val) / 65536 % 16) * 128 + q.val) * 4
        + ((b.val * 2048 + s.val) * 512 + d.val) / 128 % 4) * 128 + ((b.val * 2048 + s.val) * 512 + d.val) % 128) % 512 = d.val
      rw [a0, a1, a3, a4]; omega
  · refine funext fun a => Fin.ext ?_
    match a with
    | ⟨0, _⟩ => show ((b.val * 2048 + s.val) * 512 + d.val) / 128 % 4 = d.val / 128; omega
    | ⟨1, _⟩ => show ((b.val * 2048 + s.val) * 512 + d.val) / 512 % 128 = s.val % 128; omega
    | ⟨2, _⟩ => rfl
  · refine funext fun a => Fin.ext ?_
    match a with
    | ⟨0, _⟩ => show ((b.val * 2048 + s.val) * 512 + d.val) / 128 % 4 = d.val / 128; omega
    | ⟨1, _⟩ => show ((b.val * 2048 + s.val) * 512 + d.val) / 512 % 128 = s.val % 128; omega

end Cert.Proof.Pre
-- ==== Proof.PreRefVal.lean ====
module

public import proofs.«01_k».proof.Proof.PreRef

/-! # The reference of the values at an index

The latent of keys and values is normed and projected up; each head keeps the second half of its 128 columns. -/

@[expose] public section

set_option maxRecDepth 16384

noncomputable section

namespace Cert.Proof.Pre

open Cert.Reference4Ideal Cert.Reference4Ideal.Gen Cert.Reference4Ideal.Read
open Idealize.ShloMosaic Idealize.ShloMosaic.TcCoe Idealize.ShloMosaic.ValueIdx
open Cert.Proof.Ffn (word word_zero word_one mcol normed)

variable (x0 : FVec Ideal S32x2048x1024 .f32) (x1 : FVec Ideal S32x6144 .f32) (x2 : FVec Ideal S1024 .f32)
  (x3 : FVec Ideal S1024x5536 .f32) (x6 : FVec Ideal S128 .f32) (x7 : FVec Ideal S128x1024 .f32)

/-- The normed latent. -/
def lat (b : Fin 32) (s : Fin 2048) (k : Fin 128) : EReal :=
  rms (fun k => proj x0 x1 x2 x3 b s (col 256 (by decide) k)) (fun k => x6 (ix1 k)) k

/-- Entry `l` of the 128 that heads `2 p` and `2 p + 1` have together, as a column of the weight. -/
def vcol (p : Fin 4) (l : Fin 128) : Fin 1024 :=
  ⟨256 * p.val + 128 * (l.val / 64) + 64 + l.val % 64, by have := p.isLt; have := l.isLt; omega⟩

/-- A pair of heads' values at a token. -/
def vals (p : Fin 4) (b : Fin 32) (l : Fin 128) (s : Fin 2048) : EReal :=
  ∑ k : Fin 128, lat x0 x1 x2 x3 x6 b s k * x7 (ix2 k (vcol p l))

theorem v29_apply (b : Fin 32) (s : Fin 2048) (k : Fin 128) :
    val_main_v29 (F := Ideal) x0 x1 x2 x3 (ix3 b s k) = proj x0 x1 x2 x3 b s (col 256 (by decide) k) := by
  rw [val_main_v29_apply, v27_apply x0 x1 x2 x3 b s (col 256 (by decide) k) _ rfl rfl rfl]

theorem v38_apply (b : Fin 32) (s : Fin 2048) (i : S32x2048x1.Idx) (h0 : (i 0).val = b.val) (h1 : (i 1).val = s.val) :
    val_main_v38 (F := Ideal) x0 x1 x2 x3 i
      = Ideal.div (∑ k : Fin 128, proj x0 x1 x2 x3 b s (col 256 (by decide) k) * proj x0 x1 x2 x3 b s (col 256 (by decide) k)) (word 0x43000000#32) := by
  rw [val_main_v38_apply, val_main_v36_apply, val_main_v35_apply, val_main_v37_apply, val_main_cst_4_apply, val_main_cst_3_apply]
  show Ideal.div (word 0x00000000#32 + _) _ = _
  rw [word_zero, zero_add]
  refine congrArg (Ideal.div · _) (Finset.sum_congr rfl fun k _ => ?_)
  have e : idx_main_v35 (idx_main_v36 i) k = ix3 b s k := funext fun a => Fin.ext (by
    match a with
    | ⟨0, _⟩ => exact h0
    | ⟨1, _⟩ => exact h1
    | ⟨2, _⟩ => rfl)
  rw [val_main_v34_apply, e, v29_apply]
  rfl

theorem v46_apply (b : Fin 32) (s : Fin 2048) (k : Fin 128) :
    val_main_v46 (F := Ideal) x0 x1 x2 x3 x6 (ix3 b s k) = lat x0 x1 x2 x3 x6 b s k := by
  rw [val_main_v46_apply, val_main_v43_apply, v29_apply, val_main_v42_apply, val_main_v41_apply, val_main_v40_apply,
    v38_apply x0 x1 x2 x3 b s _ rfl rfl, val_main_v39_apply, val_main_cst_5_apply, val_main_v45_apply, val_main_v44_apply]
  unfold lat rms
  refine congrArg (_ * ·) (congrArg x6 ?_)
  exact funext fun a => Fin.ext (by match a with | ⟨0, _⟩ => rfl)

theorem vals_apply (p : Fin 4) (b : Fin 32) (l : Fin 128) (s : Fin 2048) :
    val_main_v355 (F := Ideal) x0 x1 x2 x3 x6 x7 (ix4 p b l s) = vals x0 x1 x2 x3 x6 x7 p b l s := by
  have hp := p.isLt
  have hb := b.isLt
  have hl := l.isLt
  have hs := s.isLt
  rw [val_main_v355_apply, val_main_v354_apply, val_main_v353_apply, val_main_v49_apply, val_main_v48_apply, val_main_v47_apply]
  have a0 : (((b.val * 2048 + s.val) * 4 + p.val) * 128 + l.val) / 1048576 = b.val := by omega
  have a1 : (((b.val * 2048 + s.val) * 4 + p.val) * 128 + l.val) / 512 % 2048 = s.val := by omega
  have a2 : (((b.val * 2048 + s.val) * 4 + p.val) * 128 + l.val) / 64 % 8 = 2 * p.val + l.val / 64 := by omega
  have a3 : (((b.val * 2048 + s.val) * 4 + p.val) * 128 + l.val) % 64 = l.val % 64 := by omega
  unfold vals
  refine Finset.sum_congr rfl fun k _ => congrArg₂ (· * ·)
    (Eq.trans (congrArg (val_main_v46 (F := Ideal) x0 x1 x2 x3 x6) ?_) (v46_apply x0 x1 x2 x3 x6 b s k)) (congrArg x7 ?_)
  · refine funext fun a => Fin.ext ?_
    match a with
    | ⟨0, _⟩ =>
      show (((((((b.val * 2048 + s.val) * 4 + p.val) * 128 + l.val) / 1048576) * 2048 + (((b.val * 2048 + s.val) * 4 + p.val) * 128 + l.val) / 512 % 2048) * 8
        + (((b.val * 2048 + s.val) * 4 + p.val) * 128 + l.val) / 64 % 8) * 128 + (64 + (((b.val * 2048 + s.val) * 4 + p.val) * 128 + l.val) % 64)) / 2097152 = b.val
      rw [a0, a1, a2, a3]; omega
    | ⟨1, _⟩ =>
      show (((((((b.val * 2048 + s.val) * 4 + p.val) * 128 + l.val) / 1048576) * 2048 + (((b.val * 2048 + s.val) * 4 + p.val) * 128 + l.val) / 512 % 2048) * 8
        + (((b.val * 2048 + s.val) * 4 + p.val) * 128 + l.val) / 64 % 8) * 128 + (64 + (((b.val * 2048 + s.val) * 4 + p.val) * 128 + l.val) % 64)) / 1024 % 2048 = s.val
      rw [a0, a1, a2, a3]; omega
    | ⟨2, _⟩ => rfl
  · refine funext fun a => Fin.ext ?_
    match a with
    | ⟨0, _⟩ => rfl
    | ⟨1, _⟩ =>
      show (((((((b.val * 2048 + s.val) * 4 + p.val) * 128 + l.val) / 1048576) * 2048 + (((b.val * 2048 + s.val) * 4 + p.val) * 128 + l.val) / 512 % 2048) * 8
        + (((b.val * 2048 + s.val) * 4 + p.val) * 128 + l.val) / 64 % 8) * 128 + (64 + (((b.val * 2048 + s.val) * 4 + p.val) * 128 + l.val) % 64)) % 1024
        = 256 * p.val + 128 * (l.val / 64) + 64 + l.val % 64
      rw [a0, a1, a2, a3]; omega

end Cert.Proof.Pre
-- ==== Proof.PreMatch.lean ====
module

public import proofs.«01_k».proof.Proof.PreTaps
public import proofs.«01_k».proof.Proof.PreConv
public import proofs.«01_k».proof.Proof.PreRefConv
public import proofs.«01_k».proof.Proof.PreRefSgu
public import proofs.«01_k».proof.Proof.PreRefVal

/-! # A tile's rows are the sequence's

A point works on a quarter of a sequence. Its joined rows are tokens of the sequence, so what it computes of them is the
reference's. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx Idealize.SL.Sem Idealize.ShloMosaic.Tactic
open Cert.Proof.Ffn (word word_zero word_one mcol normed)

variable (X : FVec Ideal S32x2048x1024 .f32) (M : FVec Ideal S32x6144 .f32) (g : FVec Ideal S1024 .f32) (W : FVec Ideal S1024x5536 .f32)
  (Q : FVec Ideal S128 .f32) (U : FVec Ideal S128x1024 .f32) (C : FVec Ideal S31x512 .f32) (β a₁ b₁ a₂ b₂ : FVec Ideal S512 .f32)
  (S : FVec Ideal S4x128x128 .f32) (T : FVec Ideal S4x128 .f32)
  (x0 : Vec Ideal S16x1024 .f32) (x1 : Vec Ideal S512x1024 .f32) (x2 : Vec Ideal S16x1024 .f32) (x3 : Vec Ideal S1x6x1024 .f32) (x4 : Vec Ideal S1x1024 .f32)
  (x5 : Vec Ideal S1024x512 .bf16) (x6 x7 : Vec Ideal S1024x1024 .bf16) (x8 : Vec Ideal S1024x3072 .bf16) (x11 : Vec Ideal S1x128 .f32)
  (x13 : Vec Ideal S128x512 .bf16) (x18 : Vec Ideal S31x512 .f32) (x19 x20 x21 x22 x23 : Vec Ideal S1x512 .f32)
  (x24 : Vec Ideal S4x128x128 .bf16) (x25 : Vec Ideal S128x512 .f32)

/-- The blocks of point `t` hold the tokens of its quarter of sequence `b`, 16 tokens on each side of it, and the weights. -/
structure Holds (t : Fin 128) (b : Fin 32) : Prop where
  before : t.val % 4 ≠ 0 → ∀ (r : Fin 16) (s : Fin 2048) d, s.val + 16 = 512 * (t.val % 4) + r.val → x0 (ix2 r d) = X (ix3 b s d)
  here : ∀ (r : Fin 512) (s : Fin 2048) d, s.val = 512 * (t.val % 4) + r.val → x1 (ix2 r d) = X (ix3 b s d)
  after : t.val % 4 ≠ 3 → ∀ (r : Fin 16) (s : Fin 2048) d, s.val = 512 * (t.val % 4) + 512 + r.val → x2 (ix2 r d) = X (ix3 b s d)
  modulation : ∀ (k : Fin 6) d, x3 (ix3 0 k d) = M (ix2 b (mcol k d))
  weight : ∀ d, x4 (ix2 0 d) = g (ix1 d)
  latent : ∀ d (k : Fin 128), x5 (ix2 d (⟨256 + k.val, by have := k.isLt; omega⟩ : Fin 512)) = W (ix2 d (col 256 (by decide) k))
  convW : ∀ d (n : Fin 1024), x6 (ix2 d n) = W (ix2 d (col 416 (by decide) n))
  gateW : ∀ d (n : Fin 1024), x7 (ix2 d n) = W (ix2 d (col 1440 (by decide) n))
  outW : ∀ d (n : Fin 3072), x8 (ix2 d n) = W (ix2 d (col 2464 (by decide) n))
  latentNorm : ∀ k, x11 (ix2 0 k) = Q (ix1 k)
  values : ∀ k (p : Fin 4) (l : Fin 128), x13 (ix2 k (⟨128 * p.val + l.val, by have := p.isLt; have := l.isLt; omega⟩ : Fin 512)) = U (ix2 k (vcol p l))
  taps : ∀ j k, x18 (ix2 j k) = C (ix2 j k)
  bias : ∀ k, x19 (ix2 0 k) = β (ix1 k)
  convG : ∀ k, x20 (ix2 0 k) = a₁ (ix1 k)
  convB : ∀ k, x21 (ix2 0 k) = b₁ (ix1 k)
  gateG : ∀ k, x22 (ix2 0 k) = a₂ (ix1 k)
  gateB : ∀ k, x23 (ix2 0 k) = b₂ (ix1 k)
  mixW : ∀ i p q, x24 (ix3 i p q) = S (ix3 i p q)
  mixB : ∀ p (l : Fin 512), x25 (ix2 p l) = T (ix2 (⟨l.val / 128, by have := l.isLt; omega⟩ : Fin 4) p)

variable {X M g W Q U C β a₁ b₁ a₂ b₂ S T x0 x1 x2 x3 x4 x5 x6 x7 x8 x11 x13 x18 x19 x20 x21 x22 x23 x24 x25} {t : Fin 128} {b : Fin 32}

namespace Holds

/-- A joined row inside the sequence is its token. -/
theorem row (H : Holds X M g W Q U C β a₁ b₁ a₂ b₂ S T x0 x1 x2 x3 x4 x5 x6 x7 x8 x11 x13 x18 x19 x20 x21 x22 x23 x24 x25 t b) (e : ℕ) (s : Fin 2048) (he : e < 544) (hs : s.val + 16 = 512 * (t.val % 4) + e) (d : Fin 1024) :
    rowOf x0 x1 x2 e d = X (ix3 b s d) := by
  have ht : t.val % 4 < 4 := Nat.mod_lt _ (by decide)
  have h2 := s.isLt
  unfold rowOf
  split
  · exact H.before (by omega) _ s d hs
  split
  · exact H.here _ s d (by show s.val = _ + (e - 16); omega)
  · rw [dif_pos (by omega)]
    exact H.after (by omega) _ s d (by show s.val = _ + 512 + (e - 528); omega)

theorem hid (H : Holds X M g W Q U C β a₁ b₁ a₂ b₂ S T x0 x1 x2 x3 x4 x5 x6 x7 x8 x11 x13 x18 x19 x20 x21 x22 x23 x24 x25 t b) (e : ℕ) (s : Fin 2048) (he : e < 544) (hs : s.val + 16 = 512 * (t.val % 4) + e) (d : Fin 1024) :
    hidK x0 x1 x2 x3 x4 e d = Pre.hid X M g b s d := by
  unfold hidK Pre.hid
  have h1 : rowOf x0 x1 x2 e = fun k => X (ix3 b s k) := funext fun k => H.row e s he hs k
  have h2 : (fun k => x4 (ix2 0 k)) = fun k => g (ix1 k) := funext H.weight
  have h3 : (fun k => x3 (ix3 0 0 k)) = fun k => M (ix2 b (mcol 0 k)) := funext fun k => H.modulation 0 k
  have h4 : (fun k => x3 (ix3 0 1 k)) = fun k => M (ix2 b (mcol 1 k)) := funext fun k => H.modulation 1 k
  rw [h1, h2, h3, h4]

/-- A product of a joined row with columns of the joint weight. -/
theorem proj (H : Holds X M g W Q U C β a₁ b₁ a₂ b₂ S T x0 x1 x2 x3 x4 x5 x6 x7 x8 x11 x13 x18 x19 x20 x21 x22 x23 x24 x25 t b) (e : ℕ) (s : Fin 2048) (he : e < 544) (hs : s.val + 16 = 512 * (t.val % 4) + e) (n : Fin 5536) (w : Fin 1024 → EReal)
    (hw : ∀ d, w d = W (ix2 d n)) : ∑ d : Fin 1024, hidK x0 x1 x2 x3 x4 e d * w d = Pre.proj X M g W b s n :=
  Finset.sum_congr rfl fun d _ => congrArg₂ (· * ·) (H.hid e s he hs d) (hw d)

/-- The gate's projection. -/
theorem out (H : Holds X M g W Q U C β a₁ b₁ a₂ b₂ S T x0 x1 x2 x3 x4 x5 x6 x7 x8 x11 x13 x18 x19 x20 x21 x22 x23 x24 x25 t b) (r : Fin 512) (s : Fin 2048) (hs : s.val = 512 * (t.val % 4) + r.val) (n : Fin 3072) :
    ∑ d : Fin 1024, hidK x0 x1 x2 x3 x4 (16 + r.val) d * x8 (ix2 d n) = Pre.proj X M g W b s (col 2464 (by decide) n) :=
  H.proj _ s (by have := r.isLt; omega) (by omega) _ _ fun d => H.outW d n

/-- The values. -/
theorem val (H : Holds X M g W Q U C β a₁ b₁ a₂ b₂ S T x0 x1 x2 x3 x4 x5 x6 x7 x8 x11 x13 x18 x19 x20 x21 x22 x23 x24 x25 t b) (p : Fin 4) (l : Fin 128) (r : Fin 512) (s : Fin 2048) (hs : s.val = 512 * (t.val % 4) + r.val) :
    valK x0 x1 x2 x3 x4 x5 x11 x13 p l r.val = vals X M g W Q U p b l s := by
  unfold valK vals
  refine Finset.sum_congr rfl fun k _ => congrArg₂ (· * ·) ?_ (H.values k p l)
  unfold latK lat
  have h1 : (fun k : Fin 128 => ∑ d : Fin 1024, hidK x0 x1 x2 x3 x4 (16 + r.val) d * x5 (ix2 d (⟨256 + k.val, by have := k.isLt; omega⟩ : Fin 512)))
      = fun k => Pre.proj X M g W b s (col 256 (by decide) k) :=
    funext fun k => H.proj _ s (by have := r.isLt; omega) (by omega) _ _ fun d => H.latent d k
  have h2 : (fun k => x11 (ix2 0 k)) = fun k => Q (ix1 k) := funext H.latentNorm
  rw [h1, h2]

/-- The gated channel of a joined row. -/
theorem glu (H : Holds X M g W Q U C β a₁ b₁ a₂ b₂ S T x0 x1 x2 x3 x4 x5 x6 x7 x8 x11 x13 x18 x19 x20 x21 x22 x23 x24 x25 t b) (e p : ℕ) (he : e < 544) (hp : p + 1 = 512 * (t.val % 4) + e) (n : Fin 512) :
    gluK x0 x1 x2 x3 x4 x6 t.val e n = gluAt X M g W b p n := by
  have ht : t.val % 4 < 4 := Nat.mod_lt _ (by decide)
  unfold gluK gluAt
  split
  · rename_i h
    rw [dif_pos (by omega)]
    unfold Pre.glu
    refine congrArg₂ (· * ·) ?_ (congrArg Ideal.logistic ?_)
    · exact H.proj e _ he (by show p - 15 + 16 = _; omega) _ _ fun d => H.convW d ⟨n.val, n.isLt.trans (by decide)⟩
    · refine H.proj e _ he (by show p - 15 + 16 = _; omega) _ _ fun d => ?_
      refine (H.convW d ⟨512 + n.val, Nat.add_lt_add_left n.isLt 512⟩).trans (congrArg (fun z => W (ix2 d z)) (Fin.ext ?_))
      show 416 + (512 + n.val) = 928 + n.val
      omega
  · rename_i h
    rw [dif_neg (by omega)]

theorem chain_congr (b b' : EReal) (f f' : ℕ → EReal) (hb : b = b') (n : ℕ) (h : ∀ j, j < n → f j = f' j) : chain b f n = chain b' f' n := by
  induction n with
  | zero => exact hb
  | succ n ih => exact congrArg₂ (· + ·) (ih fun j hj => h j (Nat.lt_succ_of_lt hj)) (h n (Nat.lt_succ_self n))

/-- The convolution. -/
theorem conv (H : Holds X M g W Q U C β a₁ b₁ a₂ b₂ S T x0 x1 x2 x3 x4 x5 x6 x7 x8 x11 x13 x18 x19 x20 x21 x22 x23 x24 x25 t b) (r : Fin 512) (s : Fin 2048) (hs : s.val = 512 * (t.val % 4) + r.val) (k : Fin 512) :
    convK x0 x1 x2 x3 x4 x6 x18 x19 t.val r.val k = Pre.conv X M g W C β b s.val k := by
  have hr := r.isLt
  unfold convK Pre.conv
  refine chain_congr _ _ _ _ (H.bias k) 31 fun j hj => ?_
  unfold tap
  exact congrArg₂ (· * ·) (H.taps _ k) (H.glu _ _ (by omega) (by omega) k)

theorem convn (H : Holds X M g W Q U C β a₁ b₁ a₂ b₂ S T x0 x1 x2 x3 x4 x5 x6 x7 x8 x11 x13 x18 x19 x20 x21 x22 x23 x24 x25 t b) (r : Fin 512) (s : Fin 2048) (hs : s.val = 512 * (t.val % 4) + r.val) (d : Fin 512) :
    silu (lnorm (convK x0 x1 x2 x3 x4 x6 x18 x19 t.val r.val) (fun k => x20 (ix2 0 k)) (fun k => x21 (ix2 0 k)) d)
      = silu (Pre.convn X M g W C β a₁ b₁ b s d) := by
  unfold Pre.convn
  have h1 : convK x0 x1 x2 x3 x4 x6 x18 x19 t.val r.val = fun k => Pre.conv X M g W C β b s.val k := funext fun k => H.conv r s hs k
  have h2 : (fun k => x20 (ix2 0 k)) = fun k => a₁ (ix1 k) := funext H.convG
  have h3 : (fun k => x21 (ix2 0 k)) = fun k => b₁ (ix1 k) := funext H.convB
  rw [h1, h2, h3]

theorem svn (H : Holds X M g W Q U C β a₁ b₁ a₂ b₂ S T x0 x1 x2 x3 x4 x5 x6 x7 x8 x11 x13 x18 x19 x20 x21 x22 x23 x24 x25 t b) (r : ℕ) (hr : r < 512) (s : Fin 2048) (hs : s.val = 512 * (t.val % 4) + r) (d : Fin 512) :
    svK x0 x1 x2 x3 x4 x7 x22 x23 r d = Pre.svn X M g W a₂ b₂ b s d := by
  unfold svK Pre.svn
  have h1 : (fun l : Fin 512 => gelu (∑ d : Fin 1024, hidK x0 x1 x2 x3 x4 (16 + r) d * x7 (ix2 d (⟨512 + l.val, Nat.add_lt_add_left l.isLt 512⟩ : Fin 1024))))
      = fun k => sv X M g W b s k := funext fun k => congrArg gelu (H.proj _ s (by omega) (by omega) _ _ fun d =>
        (H.gateW d ⟨512 + k.val, Nat.add_lt_add_left k.isLt 512⟩).trans (congrArg (fun z => W (ix2 d z)) (Fin.ext (by
          show 1440 + (512 + k.val) = 1952 + k.val
          omega))))
  have h2 : (fun k => x22 (ix2 0 k)) = fun k => a₂ (ix1 k) := funext H.gateG
  have h3 : (fun k => x23 (ix2 0 k)) = fun k => b₂ (ix1 k) := funext H.gateB
  rw [h1, h2, h3]

/-- The spatial gate. -/
theorem sgu (H : Holds X M g W Q U C β a₁ b₁ a₂ b₂ S T x0 x1 x2 x3 x4 x5 x6 x7 x8 x11 x13 x18 x19 x20 x21 x22 x23 x24 x25 t b) (r : Fin 512) (s : Fin 2048) (hs : s.val = 512 * (t.val % 4) + r.val) (d : Fin 512) :
    sguK x0 x1 x2 x3 x4 x7 x22 x23 x24 x25 r.val d = Pre.sgu X M g W a₂ b₂ S T b s d := by
  have hr := r.isLt
  have hm : (⟨r.val % 128, Nat.mod_lt _ (by decide)⟩ : Fin 128) = ⟨s.val % 128, Nat.mod_lt _ (by decide)⟩ := Fin.ext (by
    show r.val % 128 = s.val % 128
    omega)
  unfold sguK Pre.sgu
  refine congrArg₂ (· * ·) ?_ (congrArg₂ (· + ·) (Finset.sum_congr rfl fun q _ => congrArg₂ (· * ·) ?_ ?_) ?_)
  · exact congrArg gelu (H.proj _ s (by omega) (by omega) _ _ fun d' => H.gateW d' ⟨d.val, d.isLt.trans (by decide)⟩)
  · have hq := q.isLt
    exact H.svn _ (by omega) _ (by show 128 * (s.val / 128) + q.val = _; omega) d
  · rw [hm]
    exact H.mixW _ _ q
  · rw [hm]
    exact H.mixB _ d

end Holds

end Cert.Proof.Pre
-- ==== Proof.PreEntry.lean ====
module

public import proofs.«01_k».proof.Proof.PreHost
public import proofs.«01_k».proof.Proof.PreMatch

/-! # The mixer's blocks in their arrays

Where a point's blocks lie, and that they hold the tokens and the weights that the point is meant to find. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx Idealize.SL.Sem Idealize.ShloMosaic.Tactic
open Cert.Proof.Ffn (word word_zero word_one mcol normed)

variable (m : (ℓ : Loc nD τ sig) → Buf (Elt Ideal) ℓ) (c : Dev nD)

/-! ## The prepared arrays at an entry -/

theorem tokens_apply (v : FVec Ideal S32x2048x1024 .f32) (n : Fin 65536) (b : Fin 32) (s : Fin 2048) (d : Fin 1024) (h : n.val = 2048 * b.val + s.val) :
    shapeCast S65536x1024 v shapeCasts_S32x2048x1024_S65536x1024 (ix2 n d) = v (ix3 b s d) :=
  shapeCast_apply _ _ _ _ (by
    rw [Shape.rowMajor_val_three, Shape.rowMajor_val_two]; show (b.val * 2048 + s.val) * 1024 + d.val = n.val * 1024 + d.val; omega)

theorem mods_apply (v : FVec Ideal S32x6144 .f32) (b : Fin 32) (k : Fin 6) (d : Fin 1024) :
    shapeCast S32x6x1024 v shapeCasts_S32x6144_S32x6x1024 (ix3 b k d) = v (ix2 b (mcol k d)) :=
  shapeCast_apply _ _ _ _ (by
    rw [Shape.rowMajor_val_three, Shape.rowMajor_val_two]
    show b.val * 6144 + (1024 * k.val + d.val) = (b.val * 6 + k.val) * 1024 + d.val; omega)

theorem norm_apply (v : FVec Ideal S1024 .f32) (d : Fin 1024) : shapeCast S1x1024 v shapeCasts_S1024_S1x1024 (ix2 0 d) = v (ix1 d) :=
  shapeCast_apply _ _ _ _ (by rw [Shape.rowMajor_val_one, Shape.rowMajor_val_two]; show d.val = 0 * 1024 + d.val; omega)
theorem row_apply (v : FVec Ideal S512 .f32) (d : Fin 512) : shapeCast S1x512 v shapeCasts_S512_S1x512 (ix2 0 d) = v (ix1 d) :=
  shapeCast_apply _ _ _ _ (by rw [Shape.rowMajor_val_one, Shape.rowMajor_val_two]; show d.val = 0 * 512 + d.val; omega)
theorem short_apply (v : FVec Ideal S128 .f32) (d : Fin 128) : shapeCast S1x128 v shapeCasts_S128_S1x128 (ix2 0 d) = v (ix1 d) :=
  shapeCast_apply _ _ _ _ (by rw [Shape.rowMajor_val_one, Shape.rowMajor_val_two]; show d.val = 0 * 128 + d.val; omega)

/-- A slice of the joint weight's columns. -/
theorem cols_apply (o w : ℕ) (hw : o + w ≤ 5536) (v : FVec Ideal S1024x5536 .f32) (h : S1024x5536.Slices ![0, o] ⟨2, ![1024, w]⟩) (d : Fin 1024) (n : Fin w) :
    extractStridedSlice (⟨2, ![1024, w]⟩ : Shape) ![0, o] v h (ix2 d n) = v (ix2 d (col o hw n)) :=
  extractStridedSlice_apply _ _ _ _ _ fun a => by
    match a with
    | ⟨0, _⟩ => exact (Nat.zero_add _).symm
    | ⟨1, _⟩ => rfl

/-- The part of the values in the up-projection's weight, the heads side by side. -/
theorem values_apply (v : FVec Ideal S128x1024 .f32) (k : Fin 128) (p : Fin 4) (l : Fin 128) :
    shapeCast S128x512 (extractStridedSlice S128x8x64 ![0, 0, 64] (shapeCast S128x8x128 v shapeCasts_S128x1024_S128x8x128)
      slices_S128x8x128_S128x8x64_0_0_64) shapeCasts_S128x8x64_S128x512
      (ix2 k (⟨128 * p.val + l.val, by have := p.isLt; have := l.isLt; omega⟩ : Fin 512)) = v (ix2 k (vcol p l)) := by
  have hp := p.isLt
  have hl := l.isLt
  refine (shapeCast_apply _ _ _ (ix3 k (⟨2 * p.val + l.val / 64, by omega⟩ : Fin 8) (⟨l.val % 64, by omega⟩ : Fin 64)) (by
    rw [Shape.rowMajor_val_three, Shape.rowMajor_val_two]
    show (k.val * 8 + (2 * p.val + l.val / 64)) * 64 + l.val % 64 = k.val * 512 + (128 * p.val + l.val)
    omega)).trans ?_
  refine (extractStridedSlice_apply _ _ _ _ (ix3 k (⟨2 * p.val + l.val / 64, by omega⟩ : Fin 8) (⟨64 + l.val % 64, by omega⟩ : Fin 128)) fun a => ?_).trans ?_
  · match a with
    | ⟨0, _⟩ => exact (Nat.zero_add _).symm
    | ⟨1, _⟩ => exact (Nat.zero_add _).symm
    | ⟨2, _⟩ => rfl
  · exact shapeCast_apply _ _ _ _ (by
      rw [Shape.rowMajor_val_three, Shape.rowMajor_val_two]
      show k.val * 1024 + (256 * p.val + 128 * (l.val / 64) + 64 + l.val % 64) = (k.val * 8 + (2 * p.val + l.val / 64)) * 128 + (64 + l.val % 64)
      omega)

/-- The mixing bias, spread over a group's channels. -/
theorem mixBias_apply (v : FVec Ideal S4x128 .f32) (p : Fin 128) (l : Fin 512) :
    shapeCast S128x512 (broadcastInDim S128x4x128 ![0, 1] bcast_S128x4_S128x4x128_0_1 (transpose S128x4 [1, 0] v transposes_S4x128_S128x4_1_0))
      shapeCasts_S128x4x128_S128x512 (ix2 p l) = v (ix2 (⟨l.val / 128, by have := l.isLt; omega⟩ : Fin 4) p) := by
  have hl := l.isLt
  refine (shapeCast_apply _ _ _ (ix3 p (⟨l.val / 128, by omega⟩ : Fin 4) (⟨l.val % 128, by omega⟩ : Fin 128)) (by
    rw [Shape.rowMajor_val_three, Shape.rowMajor_val_two]
    show (p.val * 4 + l.val / 128) * 128 + l.val % 128 = p.val * 512 + l.val
    omega)).trans ?_
  refine (broadcastInDim_apply _ _ _ _ (ix2 p (⟨l.val / 128, by omega⟩ : Fin 4)) fun a => ?_).trans ?_
  · match a with
    | ⟨0, _⟩ => rfl
    | ⟨1, _⟩ => rfl
  · refine transpose_apply _ _ _ _ _ fun a => ?_
    match a with
    | ⟨0, _⟩ => rfl
    | ⟨1, _⟩ => rfl

/-! ## Where the blocks lie -/

theorem coord : ∀ t : Fin cfg0.N, (grid0.coords t 0).val = t.val := (by decide +kernel : ∀ t : Fin grid0.N, _)
theorem lt_128 (t : Fin cfg0.N) : t.val < 128 := t.isLt.trans_eq N_0

theorem idx_0 : ∀ t : Fin cfg0.N, win0_0.index t (0 : Fin 2) = t.val * 32 - 1 ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = min ((t.val + 1) * 32) 4095 ∧ win0_2.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 2) = 0 ∧ win0_19.index t (1 : Fin 2) = 0 :=
  (by decide +kernel : ∀ t : Fin grid0.N, _)
theorem idx_20 : ∀ t : Fin cfg0.N, win0_20.index t (0 : Fin 2) = 0 ∧ win0_20.index t (1 : Fin 2) = 0 :=
  (by decide +kernel : ∀ t : Fin grid0.N, _)
theorem idx_21 : ∀ t : Fin cfg0.N, win0_21.index t (0 : Fin 2) = 0 ∧ win0_21.index t (1 : Fin 2) = 0 :=
  (by decide +kernel : ∀ t : Fin grid0.N, _)
theorem idx_22 : ∀ t : Fin cfg0.N, win0_22.index t (0 : Fin 2) = 0 ∧ win0_22.index t (1 : Fin 2) = 0 :=
  (by decide +kernel : ∀ t : Fin grid0.N, _)
theorem idx_23 : ∀ t : Fin cfg0.N, win0_23.index t (0 : Fin 2) = 0 ∧ win0_23.index t (1 : Fin 2) = 0 :=
  (by decide +kernel : ∀ t : Fin grid0.N, _)
theorem idx_25 : ∀ t : Fin cfg0.N, win0_25.index t (0 : Fin 2) = 0 ∧ win0_25.index t (1 : Fin 2) = 0 :=
  (by decide +kernel : ∀ t : Fin grid0.N, _)
theorem idx_29 : ∀ t : Fin cfg0.N, win0_29.index t (0 : Fin 2) = t.val ∧ win0_29.index t (1 : Fin 2) = 0 :=
  (by decide +kernel : ∀ t : Fin grid0.N, _)
theorem idx_30 : ∀ t : Fin cfg0.N, win0_30.index t (0 : Fin 2) = t.val ∧ win0_30.index t (1 : Fin 2) = 0 :=
  (by decide +kernel : ∀ t : Fin grid0.N, _)
theorem idx_31 : ∀ t : Fin cfg0.N, win0_31.index t (0 : Fin 2) = t.val ∧ win0_31.index t (1 : Fin 2) = 0 :=
  (by decide +kernel : ∀ t : Fin grid0.N, _)
theorem idx_3 : ∀ t : Fin cfg0.N, win0_3.index t (0 : Fin 3) = t.val / 4 ∧ win0_3.index t (1 : Fin 3) = 0 ∧ win0_3.index t (2 : Fin 3) = 0 :=
  (by decide +kernel : ∀ t : Fin grid0.N, _)
theorem idx_24 : ∀ t : Fin cfg0.N, win0_24.index t (0 : Fin 3) = 0 ∧ win0_24.index t (1 : Fin 3) = 0 ∧ win0_24.index t (2 : Fin 3) = 0 :=
  (by decide +kernel : ∀ t : Fin grid0.N, _)
theorem idx_28 : ∀ t : Fin cfg0.N, win0_28.index t (0 : Fin 4) = 0 ∧ win0_28.index t (1 : Fin 4) = t.val / 4 ∧ win0_28.index t (2 : Fin 4) = 0
    ∧ win0_28.index t (3 : Fin 4) = t.val % 4 :=
  (by decide +kernel : ∀ t : Fin grid0.N, _)

theorem emb_0 (t : Fin cfg0.N) (r : Fin 16) (d : Fin 1024) (n : Fin 65536) (hn : n.val = (t.val * 32 - 1) * 16 + r.val) :
    ((cfg0.win 0).blk t).view.emb (ix2 r d) = ix2 n d := by
  obtain ⟨e0, e1⟩ := idx_0 t
  funext a; apply Fin.ext
  match a with
  | ⟨0, _⟩ => show win0_0.index t (0 : Fin 2) * 16 + 1 * r.val = n.val; rw [e0]; omega
  | ⟨1, _⟩ => show win0_0.index t (1 : Fin 2) * 1024 + 1 * d.val = d.val; omega
theorem emb_1 (t : Fin cfg0.N) (r : Fin 512) (d : Fin 1024) (n : Fin 65536) (hn : n.val = t.val * 512 + r.val) :
    ((cfg0.win 1).blk t).view.emb (ix2 r d) = ix2 n d := by
  obtain ⟨e0, e1⟩ := idx_1 t
  funext a; apply Fin.ext
  match a with
  | ⟨0, _⟩ => show win0_1.index t (0 : Fin 2) * 512 + 1 * r.val = n.val; rw [e0]; omega
  | ⟨1, _⟩ => show win0_1.index t (1 : Fin 2) * 1024 + 1 * d.val = d.val; omega
theorem emb_2 (t : Fin cfg0.N) (r : Fin 16) (d : Fin 1024) (n : Fin 65536) (hn : n.val = min ((t.val + 1) * 32) 4095 * 16 + r.val) :
    ((cfg0.win 2).blk t).view.emb (ix2 r d) = ix2 n d := by
  obtain ⟨e0, e1⟩ := idx_2 t
  funext a; apply Fin.ext
  match a with
  | ⟨0, _⟩ => show win0_2.index t (0 : Fin 2) * 16 + 1 * r.val = n.val; rw [e0]; omega
  | ⟨1, _⟩ => show win0_2.index t (1 : Fin 2) * 1024 + 1 * d.val = d.val; omega
theorem emb_29 (t : Fin cfg0.N) (r : Fin 512) (d : Fin 512) (n : Fin 65536) (hn : n.val = t.val * 512 + r.val) :
    ((cfg0.win 29).blk t).view.emb (ix2 r d) = ix2 n d := by
  obtain ⟨e0, e1⟩ := idx_29 t
  funext a; apply Fin.ext
  match a with
  | ⟨0, _⟩ => show win0_29.index t (0 : Fin 2) * 512 + 1 * r.val = n.val; rw [e0]; omega
  | ⟨1, _⟩ => show win0_29.index t (1 : Fin 2) * 512 + 1 * d.val = d.val; omega
theorem emb_30 (t : Fin cfg0.N) (r : Fin 512) (d : Fin 512) (n : Fin 65536) (hn : n.val = t.val * 512 + r.val) :
    ((cfg0.win 30).blk t).view.emb (ix2 r d) = ix2 n d := by
  obtain ⟨e0, e1⟩ := idx_30 t
  funext a; apply Fin.ext
  match a with
  | ⟨0, _⟩ => show win0_30.index t (0 : Fin 2) * 512 + 1 * r.val = n.val; rw [e0]; omega
  | ⟨1, _⟩ => show win0_30.index t (1 : Fin 2) * 512 + 1 * d.val = d.val; omega
theorem emb_31 (t : Fin cfg0.N) (r : Fin 512) (d : Fin 3072) (n : Fin 65536) (hn : n.val = t.val * 512 + r.val) :
    ((cfg0.win 31).blk t).view.emb (ix2 r d) = ix2 n d := by
  obtain ⟨e0, e1⟩ := idx_31 t
  funext a; apply Fin.ext
  match a with
  | ⟨0, _⟩ => show win0_31.index t (0 : Fin 2) * 512 + 1 * r.val = n.val; rw [e0]; omega
  | ⟨1, _⟩ => show win0_31.index t (1 : Fin 2) * 3072 + 1 * d.val = d.val; omega
theorem emb_3 (t : Fin cfg0.N) (k : Fin 6) (d : Fin 1024) (b : Fin 32) (hb : b.val = t.val / 4) :
    ((cfg0.win 3).blk t).view.emb (ix3 0 k d) = ix3 b k d := by
  obtain ⟨e0, e1, e2⟩ := idx_3 t
  funext a; apply Fin.ext
  match a with
  | ⟨0, _⟩ => show win0_3.index t (0 : Fin 3) * 1 + 1 * 0 = b.val; omega
  | ⟨1, _⟩ => show win0_3.index t (1 : Fin 3) * 6 + 1 * k.val = k.val; omega
  | ⟨2, _⟩ => show win0_3.index t (2 : Fin 3) * 1024 + 1 * d.val = d.val; omega
theorem emb_24 (t : Fin cfg0.N) (i : Fin 4) (p q : Fin 128) : ((cfg0.win 24).blk t).view.emb (ix3 i p q) = ix3 i p q := by
  obtain ⟨e0, e1, e2⟩ := idx_24 t
  funext a; apply Fin.ext
  match a with
  | ⟨0, _⟩ => show win0_24.index t (0 : Fin 3) * 4 + 1 * i.val = i.val; omega
  | ⟨1, _⟩ => show win0_24.index t (1 : Fin 3) * 128 + 1 * p.val = p.val; omega
  | ⟨2, _⟩ => show win0_24.index t (2 : Fin 3) * 128 + 1 * q.val = q.val; omega
theorem emb_28 (t : Fin cfg0.N) (p : Fin 4) (l : Fin 128) (r : Fin 512) (b : Fin 32) (hb : b.val = t.val / 4) (s : Fin 2048)
    (hs : s.val = 512 * (t.val % 4) + r.val) : ((cfg0.win 28).blk t).view.emb (ix4 p 0 l r) = ix4 p b l s := by
  obtain ⟨e0, e1, e2, e3⟩ := idx_28 t
  funext a; apply Fin.ext
  match a with
  | ⟨0, _⟩ => show win0_28.index t (0 : Fin 4) * 4 + 1 * p.val = p.val; omega
  | ⟨1, _⟩ => show win0_28.index t (1 : Fin 4) * 1 + 1 * 0 = b.val; omega
  | ⟨2, _⟩ => show win0_28.index t (2 : Fin 4) * 128 + 1 * l.val = l.val; omega
  | ⟨3, _⟩ => show win0_28.index t (3 : Fin 4) * 512 + 1 * r.val = s.val; omega
theorem emb_4 (t : Fin cfg0.N) (d : Fin 1024) : ((cfg0.win 4).blk t).view.emb (ix2 0 d) = ix2 0 d := by
  obtain ⟨e0, e1⟩ := idx_4 t
  funext a; apply Fin.ext
  match a with
  | ⟨0, _⟩ => show win0_4.index t (0 : Fin 2) * 1 + 1 * 0 = 0; omega
  | ⟨1, _⟩ => show win0_4.index t (1 : Fin 2) * 1024 + 1 * d.val = d.val; omega
theorem emb_5 (t : Fin cfg0.N) (k : Fin 1024) (d : Fin 512) : ((cfg0.win 5).blk t).view.emb (ix2 k d) = ix2 k d := by
  obtain ⟨e0, e1⟩ := idx_5 t
  funext a; apply Fin.ext
  match a with
  | ⟨0, _⟩ => show win0_5.index t (0 : Fin 2) * 1024 + 1 * k.val = k.val; omega
  | ⟨1, _⟩ => show win0_5.index t (1 : Fin 2) * 512 + 1 * d.val = d.val; omega
theorem emb_6 (t : Fin cfg0.N) (k : Fin 1024) (d : Fin 1024) : ((cfg0.win 6).blk t).view.emb (ix2 k d) = ix2 k d := by
  obtain ⟨e0, e1⟩ := idx_6 t
  funext a; apply Fin.ext
  match a with
  | ⟨0, _⟩ => show win0_6.index t (0 : Fin 2) * 1024 + 1 * k.val = k.val; omega
  | ⟨1, _⟩ => show win0_6.index t (1 : Fin 2) * 1024 + 1 * d.val = d.val; omega
theorem emb_7 (t : Fin cfg0.N) (k : Fin 1024) (d : Fin 1024) : ((cfg0.win 7).blk t).view.emb (ix2 k d) = ix2 k d := by
  obtain ⟨e0, e1⟩ := idx_7 t
  funext a; apply Fin.ext
  match a with
  | ⟨0, _⟩ => show win0_7.index t (0 : Fin 2) * 1024 + 1 * k.val = k.val; omega
  | ⟨1, _⟩ => show win0_7.index t (1 : Fin 2) * 1024 + 1 * d.val = d.val; omega
theorem emb_8 (t : Fin cfg0.N) (k : Fin 1024) (d : Fin 3072) : ((cfg0.win 8).blk t).view.emb (ix2 k d) = ix2 k d := by
  obtain ⟨e0, e1⟩ := idx_8 t
  funext a; apply Fin.ext
  match a with
  | ⟨0, _⟩ => show win0_8.index t (0 : Fin 2) * 1024 + 1 * k.val = k.val; omega
  | ⟨1, _⟩ => show win0_8.index t (1 : Fin 2) * 3072 + 1 * d.val = d.val; omega
theorem emb_11 (t : Fin cfg0.N) (d : Fin 128) : ((cfg0.win 11).blk t).view.emb (ix2 0 d) = ix2 0 d := by
  obtain ⟨e0, e1⟩ := idx_11 t
  funext a; apply Fin.ext
  match a with
  | ⟨0, _⟩ => show win0_11.index t (0 : Fin 2) * 1 + 1 * 0 = 0; omega
  | ⟨1, _⟩ => show win0_11.index t (1 : Fin 2) * 128 + 1 * d.val = d.val; omega
theorem emb_13 (t : Fin cfg0.N) (k : Fin 128) (d : Fin 512) : ((cfg0.win 13).blk t).view.emb (ix2 k d) = ix2 k d := by
  obtain ⟨e0, e1⟩ := idx_13 t
  funext a; apply Fin.ext
  match a with
  | ⟨0, _⟩ => show win0_13.index t (0 : Fin 2) * 128 + 1 * k.val = k.val; omega
  | ⟨1, _⟩ => show win0_13.index t (1 : Fin 2) * 512 + 1 * d.val = d.val; omega
theorem emb_18 (t : Fin cfg0.N) (k : Fin 31) (d : Fin 512) : ((cfg0.win 18).blk t).view.emb (ix2 k d) = ix2 k d := by
  obtain ⟨e0, e1⟩ := idx_18 t
  funext a; apply Fin.ext
  match a with
  | ⟨0, _⟩ => show win0_18.index t (0 : Fin 2) * 31 + 1 * k.val = k.val; omega
  | ⟨1, _⟩ => show win0_18.index t (1 : Fin 2) * 512 + 1 * d.val = d.val; omega
theorem emb_19 (t : Fin cfg0.N) (d : Fin 512) : ((cfg0.win 19).blk t).view.emb (ix2 0 d) = ix2 0 d := by
  obtain ⟨e0, e1⟩ := idx_19 t
  funext a; apply Fin.ext
  match a with
  | ⟨0, _⟩ => show win0_19.index t (0 : Fin 2) * 1 + 1 * 0 = 0; omega
  | ⟨1, _⟩ => show win0_19.index t (1 : Fin 2) * 512 + 1 * d.val = d.val; omega
theorem emb_20 (t : Fin cfg0.N) (d : Fin 512) : ((cfg0.win 20).blk t).view.emb (ix2 0 d) = ix2 0 d := by
  obtain ⟨e0, e1⟩ := idx_20 t
  funext a; apply Fin.ext
  match a with
  | ⟨0, _⟩ => show win0_20.index t (0 : Fin 2) * 1 + 1 * 0 = 0; omega
  | ⟨1, _⟩ => show win0_20.index t (1 : Fin 2) * 512 + 1 * d.val = d.val; omega
theorem emb_21 (t : Fin cfg0.N) (d : Fin 512) : ((cfg0.win 21).blk t).view.emb (ix2 0 d) = ix2 0 d := by
  obtain ⟨e0, e1⟩ := idx_21 t
  funext a; apply Fin.ext
  match a with
  | ⟨0, _⟩ => show win0_21.index t (0 : Fin 2) * 1 + 1 * 0 = 0; omega
  | ⟨1, _⟩ => show win0_21.index t (1 : Fin 2) * 512 + 1 * d.val = d.val; omega
theorem emb_22 (t : Fin cfg0.N) (d : Fin 512) : ((cfg0.win 22).blk t).view.emb (ix2 0 d) = ix2 0 d := by
  obtain ⟨e0, e1⟩ := idx_22 t
  funext a; apply Fin.ext
  match a with
  | ⟨0, _⟩ => show win0_22.index t (0 : Fin 2) * 1 + 1 * 0 = 0; omega
  | ⟨1, _⟩ => show win0_22.index t (1 : Fin 2) * 512 + 1 * d.val = d.val; omega
theorem emb_23 (t : Fin cfg0.N) (d : Fin 512) : ((cfg0.win 23).blk t).view.emb (ix2 0 d) = ix2 0 d := by
  obtain ⟨e0, e1⟩ := idx_23 t
  funext a; apply Fin.ext
  match a with
  | ⟨0, _⟩ => show win0_23.index t (0 : Fin 2) * 1 + 1 * 0 = 0; omega
  | ⟨1, _⟩ => show win0_23.index t (1 : Fin 2) * 512 + 1 * d.val = d.val; omega
theorem emb_25 (t : Fin cfg0.N) (k : Fin 128) (d : Fin 512) : ((cfg0.win 25).blk t).view.emb (ix2 k d) = ix2 k d := by
  obtain ⟨e0, e1⟩ := idx_25 t
  funext a; apply Fin.ext
  match a with
  | ⟨0, _⟩ => show win0_25.index t (0 : Fin 2) * 128 + 1 * k.val = k.val; omega
  | ⟨1, _⟩ => show win0_25.index t (1 : Fin 2) * 512 + 1 * d.val = d.val; omega

/-- The sequence a point works on. -/
def seqAt (t : Fin cfg0.N) : Fin 32 := ⟨t.val / 4, by have := lt_128 t; omega⟩

set_option maxHeartbeats 8000000 in
theorem holds (t : Fin cfg0.N) : Holds (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    (iblk m c 0 t) (iblk m c 1 t) (iblk m c 2 t) (iblk m c 3 t) (iblk m c 4 t) (iblk m c 5 t) (iblk m c 6 t) (iblk m c 7 t) (iblk m c 8 t) (iblk m c 11 t) (iblk m c 13 t) (iblk m c 18 t) (iblk m c 19 t) (iblk m c 20 t) (iblk m c 21 t) (iblk m c 22 t) (iblk m c 23 t) (iblk m c 24 t) (iblk m c 25 t) ⟨t.val, lt_128 t⟩ (seqAt t) where
  before h r s d hs := by
    have ht := lt_128 t
    have hr := r.isLt
    change t.val % 4 ≠ 0 at h
    change s.val + 16 = 512 * (t.val % 4) + r.val at hs
    show V m c main_v46 (((cfg0.win 0).blk t).view.emb (ix2 r d)) = _
    rw [emb_0 t r d ⟨(t.val * 32 - 1) * 16 + r.val, by omega⟩ rfl, V_v46]
    exact tokens_apply _ _ (seqAt t) s d (by show (t.val * 32 - 1) * 16 + r.val = 2048 * (t.val / 4) + s.val; omega)
  here r s d hs := by
    have ht := lt_128 t
    have hr := r.isLt
    change s.val = 512 * (t.val % 4) + r.val at hs
    show V m c main_v46 (((cfg0.win 1).blk t).view.emb (ix2 r d)) = _
    rw [emb_1 t r d ⟨t.val * 512 + r.val, by omega⟩ rfl, V_v46]
    exact tokens_apply _ _ (seqAt t) s d (by show t.val * 512 + r.val = 2048 * (t.val / 4) + s.val; omega)
  after h r s d hs := by
    have ht := lt_128 t
    have hr := r.isLt
    change t.val % 4 ≠ 3 at h
    change s.val = 512 * (t.val % 4) + 512 + r.val at hs
    show V m c main_v46 (((cfg0.win 2).blk t).view.emb (ix2 r d)) = _
    rw [emb_2 t r d ⟨min ((t.val + 1) * 32) 4095 * 16 + r.val, by omega⟩ rfl, V_v46]
    exact tokens_apply _ _ (seqAt t) s d (by show min ((t.val + 1) * 32) 4095 * 16 + r.val = 2048 * (t.val / 4) + s.val; omega)
  modulation k d := by
    show V m c main_v47 (((cfg0.win 3).blk t).view.emb (ix3 0 k d)) = _
    rw [emb_3 t k d (seqAt t) rfl, V_v47]
    exact mods_apply _ _ _ _
  weight d := by
    show V m c main_v5 (((cfg0.win 4).blk t).view.emb (ix2 0 d)) = _
    rw [emb_4, V_v5]
    exact norm_apply _ _
  latent d k := by
    have hk := k.isLt
    obtain ⟨B, hB⟩ := V_v8 m c
    show V m c main_v8 (((cfg0.win 5).blk t).view.emb (ix2 d (⟨256 + k.val, _⟩ : Fin 512))) = _
    rw [emb_5, hB]
    refine (concatenate_apply_piece (t := S1024x512) 1 _ _ _ 0 (by show 0 < 2; decide) S1024x384 _ rfl rfl 0 rfl
      (ix2 d (⟨256 + k.val, by omega⟩ : Fin 384)) (fun x hx => ?_) (Nat.zero_add _)).trans ?_
    · match x with
      | ⟨0, _⟩ => rfl
      | ⟨1, _⟩ => exact absurd rfl hx
    · refine (cols_apply 0 384 (by decide) _ slices_S1024x5536_S1024x384_0_0 _ _).trans (congrArg (fun z => (m ((c : Thread nD τ).loc main_arg3)) (ix2 d z)) (Fin.ext ?_))
      show 0 + (256 + k.val) = 256 + k.val
      omega
  convW d n := by
    show V m c main_v10 (((cfg0.win 6).blk t).view.emb (ix2 d n)) = _
    rw [emb_6, V_v10]
    exact cols_apply 416 1024 (by decide) _ slices_S1024x5536_S1024x1024_0_416 d n
  gateW d n := by
    show V m c main_v12 (((cfg0.win 7).blk t).view.emb (ix2 d n)) = _
    rw [emb_7, V_v12]
    exact cols_apply 1440 1024 (by decide) _ slices_S1024x5536_S1024x1024_0_1440 d n
  outW d n := by
    show V m c main_v14 (((cfg0.win 8).blk t).view.emb (ix2 d n)) = _
    rw [emb_8, V_v14]
    exact cols_apply 2464 3072 (by decide) _ slices_S1024x5536_S1024x3072_0_2464 d n
  latentNorm k := by
    show V m c main_v16 (((cfg0.win 11).blk t).view.emb (ix2 0 k)) = _
    rw [emb_11, V_v16]
    exact short_apply _ _
  values k p l := by
    show V m c main_v30 (((cfg0.win 13).blk t).view.emb (ix2 k (⟨128 * p.val + l.val, _⟩ : Fin 512))) = _
    rw [emb_13, V_v30]
    exact values_apply _ k p l
  taps j k := by
    show V m c main_arg10 (((cfg0.win 18).blk t).view.emb (ix2 j k)) = _
    rw [emb_18, V_main_arg10]
  bias k := by
    show V m c main_v37 (((cfg0.win 19).blk t).view.emb (ix2 0 k)) = _
    rw [emb_19, V_v37]
    exact row_apply _ _
  convG k := by
    show V m c main_v38 (((cfg0.win 20).blk t).view.emb (ix2 0 k)) = _
    rw [emb_20, V_v38]
    exact row_apply _ _
  convB k := by
    show V m c main_v39 (((cfg0.win 21).blk t).view.emb (ix2 0 k)) = _
    rw [emb_21, V_v39]
    exact row_apply _ _
  gateG k := by
    show V m c main_v40 (((cfg0.win 22).blk t).view.emb (ix2 0 k)) = _
    rw [emb_22, V_v40]
    exact row_apply _ _
  gateB k := by
    show V m c main_v41 (((cfg0.win 23).blk t).view.emb (ix2 0 k)) = _
    rw [emb_23, V_v41]
    exact row_apply _ _
  mixW i p q := by
    show V m c main_v42 (((cfg0.win 24).blk t).view.emb (ix3 i p q)) = _
    rw [emb_24, V_v42]
  mixB p l := by
    show V m c main_v45 (((cfg0.win 25).blk t).view.emb (ix2 p l)) = _
    rw [emb_25, V_v45]
    exact mixBias_apply _ p l

end Cert.Proof.Pre
-- ==== Proof.PreVals.lean ====
module

public import proofs.«01_k».proof.Proof.PreCells
public import proofs.«01_k».proof.Proof.PreFrameIdeal

/-! # A point's block of values

The four pairs of heads are stored one by one. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx Idealize.SL.Sem Idealize.ShloMosaic.Tactic
open Cert.Proof.Ffn (word word_zero word_one mcol normed)

variable (x0 : Vec Ideal S16x1024 .f32) (x1 : Vec Ideal S512x1024 .f32) (x2 : Vec Ideal S16x1024 .f32) (x3 : Vec Ideal S1x6x1024 .f32) (x4 : Vec Ideal S1x1024 .f32) (x5 : Vec Ideal S1024x512 .bf16) (x6 : Vec Ideal S1024x1024 .bf16) (x7 : Vec Ideal S1024x1024 .bf16) (x8 : Vec Ideal S1024x3072 .bf16) (x9 : Vec Ideal S1x256 .f32) (x10 : Vec Ideal S256x1024 .bf16) (x11 : Vec Ideal S1x128 .f32) (x12 : Vec Ideal S128x1024 .bf16) (x13 : Vec Ideal S128x512 .bf16) (x14 : Vec Ideal S1x128 .f32) (x15 : Vec Ideal S1x128 .f32) (x16 : Vec Ideal S512x128 .f32) (x17 : Vec Ideal S512x128 .f32) (x18 : Vec Ideal S31x512 .f32) (x19 : Vec Ideal S1x512 .f32) (x20 : Vec Ideal S1x512 .f32) (x21 : Vec Ideal S1x512 .f32) (x22 : Vec Ideal S1x512 .f32) (x23 : Vec Ideal S1x512 .f32) (x24 : Vec Ideal S4x128x128 .bf16) (x25 : Vec Ideal S128x512 .f32)

theorem out_28 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x3072 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1x128 .f32) (harg12 : arg12.IsWhole) (arg13 : Memref sig .tc .vmem S128x1024 .bf16) (harg13 : arg13.IsWhole) (arg14 : Memref sig .tc .vmem S128x512 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S31x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S4x128x128 .bf16) (harg25 : arg25.IsWhole) (arg26 : Memref sig .tc .vmem S128x512 .f32) (harg26 : arg26.IsWhole) (arg27 : Memref sig .tc .vmem S8x512x128 .bf16) (harg27 : arg27.IsWhole) (arg28 : Memref sig .tc .vmem S8x512x128 .bf16) (harg28 : arg28.IsWhole) (arg29 : Memref sig .tc .vmem S4x1x128x512 .bf16) (harg29 : arg29.IsWhole) (arg30 : Memref sig .tc .vmem S512x512 .bf16) (harg30 : arg30.IsWhole) (arg31 : Memref sig .tc .vmem S512x512 .bf16) (harg31 : arg31.IsWhole) (arg32 : Memref sig .tc .vmem S512x3072 .bf16) (harg32 : arg32.IsWhole) (arg33 : Memref sig .tc .vmem S544x512 .f32) (harg33 : arg33.IsWhole) (arg34 : Memref sig .tc .vmem S7x536x512 .f32) (harg34 : arg34.IsWhole)
    (y : S4x1x128x512.Idx) :
    out0_A_28 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 y
      = valsK x0 x1 x2 x3 x4 x5 x11 x13 y := by
  unfold out0_A_28
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  have z0 : (View.ld x0 (Rect.unit ![0, 0] ![16, 1024] inb_S16x1024_S16x1024_0_0)) = x0 := View.ld_unit_lit _ _ fun a => by match a with | ⟨0, _⟩ => rfl | ⟨1, _⟩ => rfl
  have z1 : (View.ld x1 (Rect.unit ![0, 0] ![512, 1024] inb_S512x1024_S512x1024_0_0)) = x1 := View.ld_unit_lit _ _ fun a => by match a with | ⟨0, _⟩ => rfl | ⟨1, _⟩ => rfl
  have z2 : (View.ld x2 (Rect.unit ![0, 0] ![16, 1024] inb_S16x1024_S16x1024_0_0)) = x2 := View.ld_unit_lit _ _ fun a => by match a with | ⟨0, _⟩ => rfl | ⟨1, _⟩ => rfl
  have z4 : (View.ld x4 (Rect.unit ![0, 0] ![1, 1024] inb_S1x1024_S1x1024_0_0)) = x4 := View.ld_unit_lit _ _ fun a => by match a with | ⟨0, _⟩ => rfl | ⟨1, _⟩ => rfl
  have z5 : (View.ld x5 (Rect.unit ![0, 0] ![1024, 512] inb_S1024x512_S1024x512_0_0)) = x5 := View.ld_unit_lit _ _ fun a => by match a with | ⟨0, _⟩ => rfl | ⟨1, _⟩ => rfl
  have z11 : (View.ld x11 (Rect.unit ![0, 0] ![1, 128] inb_S1x128_S1x128_0_0)) = x11 := View.ld_unit_lit _ _ fun a => by match a with | ⟨0, _⟩ => rfl | ⟨1, _⟩ => rfl
  have z13 : (View.ld x13 (Rect.unit ![0, 0] ![128, 512] inb_S128x512_S128x512_0_0)) = x13 := View.ld_unit_lit _ _ fun a => by match a with | ⟨0, _⟩ => rfl | ⟨1, _⟩ => rfl
  rw [z0, z1, z2, z4, z5, z11, z13]
  generalize hA : k0_pay10 (F := Ideal) _ _ = A
  have hA' : ∀ r k, A (ix2 r k) = latK x0 x1 x2 x3 x4 x5 x11 r.val k := fun r k => by
    rw [← hA, pay10_apply _ x11 r k (fun k : Fin 128 => ∑ d : Fin 1024, hidK x0 x1 x2 x3 x4 (16 + r.val) d * x5 (ix2 d (⟨256 + k.val, by have := k.isLt; omega⟩ : Fin 512)))]
    · rfl
    · intro k
      rw [pay7_apply]
      exact Finset.sum_congr rfl fun d _ => congrArg (· * _) (own_row x0 x1 x2 x3 x4 _ _ r d)
  clear hA
  refine (View.canon_apply_of_pieces (Val := Elt Ideal) (e := .bf16) (valsK x0 x1 x2 x3 x4 x5 x11 x13) _ ?_ y ?_)
  · refine List.forall_mem_cons.2 ⟨fun x => (congrFun (pay60_eq A x13) x).trans (val_piece x0 x1 x2 x3 x4 x5 x11 x13 3 384 (by decide) rfl A _ hA' inb_S4x1x128x512_S1x1x128x512_3_0_0_0 x), ?_⟩
    refine List.forall_mem_cons.2 ⟨fun x => (congrFun (pay59_eq A x13) x).trans (val_piece x0 x1 x2 x3 x4 x5 x11 x13 2 256 (by decide) rfl A _ hA' inb_S4x1x128x512_S1x1x128x512_2_0_0_0 x), ?_⟩
    refine List.forall_mem_cons.2 ⟨fun x => (congrFun (pay58_eq A x13) x).trans (val_piece x0 x1 x2 x3 x4 x5 x11 x13 1 128 (by decide) rfl A _ hA' inb_S4x1x128x512_S1x1x128x512_1_0_0_0 x), ?_⟩
    refine List.forall_mem_cons.2 ⟨fun x => (congrFun (pay56_eq A x13) x).trans (val_piece x0 x1 x2 x3 x4 x5 x11 x13 0 0 (by decide) rfl A _ hA' inb_S4x1x128x512_S1x1x128x512_0_0_0_0 x), ?_⟩
    exact fun p hp => absurd hp List.not_mem_nil
  · have h : (y 0).val < 4 := (y 0).isLt
    iterate 4 refine val_cover _ _ h _ _ _ fun h => ?_
    exact absurd h (Nat.not_lt_zero _)

end Cert.Proof.Pre
-- ==== Proof.PreSgu.lean ====
module

public import proofs.«01_k».proof.Proof.PreCells
public import proofs.«01_k».proof.Proof.PreFrameIdeal

/-! # A point's block of the spatial gate

Sixteen blocks of 128 tokens and 128 channels are stored one by one. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx Idealize.SL.Sem Idealize.ShloMosaic.Tactic
open Cert.Proof.Ffn (word word_zero word_one mcol normed)

variable (x0 : Vec Ideal S16x1024 .f32) (x1 : Vec Ideal S512x1024 .f32) (x2 : Vec Ideal S16x1024 .f32) (x3 : Vec Ideal S1x6x1024 .f32) (x4 : Vec Ideal S1x1024 .f32) (x5 : Vec Ideal S1024x512 .bf16) (x6 : Vec Ideal S1024x1024 .bf16) (x7 : Vec Ideal S1024x1024 .bf16) (x8 : Vec Ideal S1024x3072 .bf16) (x9 : Vec Ideal S1x256 .f32) (x10 : Vec Ideal S256x1024 .bf16) (x11 : Vec Ideal S1x128 .f32) (x12 : Vec Ideal S128x1024 .bf16) (x13 : Vec Ideal S128x512 .bf16) (x14 : Vec Ideal S1x128 .f32) (x15 : Vec Ideal S1x128 .f32) (x16 : Vec Ideal S512x128 .f32) (x17 : Vec Ideal S512x128 .f32) (x18 : Vec Ideal S31x512 .f32) (x19 : Vec Ideal S1x512 .f32) (x20 : Vec Ideal S1x512 .f32) (x21 : Vec Ideal S1x512 .f32) (x22 : Vec Ideal S1x512 .f32) (x23 : Vec Ideal S1x512 .f32) (x24 : Vec Ideal S4x128x128 .bf16) (x25 : Vec Ideal S128x512 .f32)

theorem out_30 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x3072 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1x128 .f32) (harg12 : arg12.IsWhole) (arg13 : Memref sig .tc .vmem S128x1024 .bf16) (harg13 : arg13.IsWhole) (arg14 : Memref sig .tc .vmem S128x512 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S31x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S4x128x128 .bf16) (harg25 : arg25.IsWhole) (arg26 : Memref sig .tc .vmem S128x512 .f32) (harg26 : arg26.IsWhole) (arg27 : Memref sig .tc .vmem S8x512x128 .bf16) (harg27 : arg27.IsWhole) (arg28 : Memref sig .tc .vmem S8x512x128 .bf16) (harg28 : arg28.IsWhole) (arg29 : Memref sig .tc .vmem S4x1x128x512 .bf16) (harg29 : arg29.IsWhole) (arg30 : Memref sig .tc .vmem S512x512 .bf16) (harg30 : arg30.IsWhole) (arg31 : Memref sig .tc .vmem S512x512 .bf16) (harg31 : arg31.IsWhole) (arg32 : Memref sig .tc .vmem S512x3072 .bf16) (harg32 : arg32.IsWhole) (arg33 : Memref sig .tc .vmem S544x512 .f32) (harg33 : arg33.IsWhole) (arg34 : Memref sig .tc .vmem S7x536x512 .f32) (harg34 : arg34.IsWhole)
    (y : S512x512.Idx) :
    out0_A_30 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 y
      = sgusK x0 x1 x2 x3 x4 x7 x22 x23 x24 x25 y := by
  unfold out0_A_30
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  have z0 : (View.ld x0 (Rect.unit ![0, 0] ![16, 1024] inb_S16x1024_S16x1024_0_0)) = x0 := View.ld_unit_lit _ _ fun a => by match a with | ⟨0, _⟩ => rfl | ⟨1, _⟩ => rfl
  have z1 : (View.ld x1 (Rect.unit ![0, 0] ![512, 1024] inb_S512x1024_S512x1024_0_0)) = x1 := View.ld_unit_lit _ _ fun a => by match a with | ⟨0, _⟩ => rfl | ⟨1, _⟩ => rfl
  have z2 : (View.ld x2 (Rect.unit ![0, 0] ![16, 1024] inb_S16x1024_S16x1024_0_0)) = x2 := View.ld_unit_lit _ _ fun a => by match a with | ⟨0, _⟩ => rfl | ⟨1, _⟩ => rfl
  have z4 : (View.ld x4 (Rect.unit ![0, 0] ![1, 1024] inb_S1x1024_S1x1024_0_0)) = x4 := View.ld_unit_lit _ _ fun a => by match a with | ⟨0, _⟩ => rfl | ⟨1, _⟩ => rfl
  have z7 : (View.ld x7 (Rect.unit ![0, 0] ![1024, 1024] inb_S1024x1024_S1024x1024_0_0)) = x7 := View.ld_unit_lit _ _ fun a => by match a with | ⟨0, _⟩ => rfl | ⟨1, _⟩ => rfl
  have z22 : (View.ld x22 (Rect.unit ![0, 0] ![1, 512] inb_S1x512_S1x512_0_0)) = x22 := View.ld_unit_lit _ _ fun a => by match a with | ⟨0, _⟩ => rfl | ⟨1, _⟩ => rfl
  have z23 : (View.ld x23 (Rect.unit ![0, 0] ![1, 512] inb_S1x512_S1x512_0_0)) = x23 := View.ld_unit_lit _ _ fun a => by match a with | ⟨0, _⟩ => rfl | ⟨1, _⟩ => rfl
  rw [z0, z1, z2, z4, z7, z22, z23]
  generalize hH : k0_pay5 (F := Ideal) _ _ _ _ = H
  have hH' : ∀ r d, H (ix2 r d) = hidK x0 x1 x2 x3 x4 (16 + r.val) d := fun r d => hH ▸ own_row x0 x1 x2 x3 x4 _ _ r d
  clear hH
  have hU : ∀ r l, k0_pay62 H x7 (ix2 r l) = suK x0 x1 x2 x3 x4 x7 r.val l := fun r l => by
    rw [pay62_apply]
    exact congrArg gelu (Finset.sum_congr rfl fun d _ => congrArg (· * _) (hH' r d))
  have hW : ∀ r l, k0_pay64 (k0_pay63 H x7) x22 x23 (ix2 r l) = svK x0 x1 x2 x3 x4 x7 x22 x23 r.val l := fun r l =>
    pay64_apply _ x22 x23 r l (fun l : Fin 512 => gelu (∑ d : Fin 1024, hidK x0 x1 x2 x3 x4 (16 + r.val) d * x7 (ix2 d (⟨512 + l.val, Nat.add_lt_add_left l.isLt 512⟩ : Fin 1024)))) fun k => by
      rw [pay63_apply]
      exact congrArg gelu (Finset.sum_congr rfl fun d _ => congrArg (· * _) (hH' r d))
  refine (View.canon_apply_of_pieces (Val := Elt Ideal) (e := .bf16) (sgusK x0 x1 x2 x3 x4 x7 x22 x23 x24 x25) _ ?_ y ?_)
  · refine List.forall_mem_cons.2 ⟨fun x => (congrFun (mix_3_3 _ _ _ _) x).trans (sgu_piece x0 x1 x2 x3 x4 x7 x22 x23 x24 x25 3 3 384 384 (by decide) (by decide) rfl rfl _ _ _ hU hW _ _ inb_S512x512_S128x128_384_384 x), ?_⟩
    refine List.forall_mem_cons.2 ⟨fun x => (congrFun (mix_3_2 _ _ _ _) x).trans (sgu_piece x0 x1 x2 x3 x4 x7 x22 x23 x24 x25 3 2 384 256 (by decide) (by decide) rfl rfl _ _ _ hU hW _ _ inb_S512x512_S128x128_384_256 x), ?_⟩
    refine List.forall_mem_cons.2 ⟨fun x => (congrFun (mix_3_1 _ _ _ _) x).trans (sgu_piece x0 x1 x2 x3 x4 x7 x22 x23 x24 x25 3 1 384 128 (by decide) (by decide) rfl rfl _ _ _ hU hW _ _ inb_S512x512_S128x128_384_128 x), ?_⟩
    refine List.forall_mem_cons.2 ⟨fun x => (congrFun (mix_3_0 _ _ _ _) x).trans (sgu_piece x0 x1 x2 x3 x4 x7 x22 x23 x24 x25 3 0 384 0 (by decide) (by decide) rfl rfl _ _ _ hU hW _ _ inb_S512x512_S128x128_384_0 x), ?_⟩
    refine List.forall_mem_cons.2 ⟨fun x => (congrFun (mix_2_3 _ _ _ _) x).trans (sgu_piece x0 x1 x2 x3 x4 x7 x22 x23 x24 x25 2 3 256 384 (by decide) (by decide) rfl rfl _ _ _ hU hW _ _ inb_S512x512_S128x128_256_384 x), ?_⟩
    refine List.forall_mem_cons.2 ⟨fun x => (congrFun (mix_2_2 _ _ _ _) x).trans (sgu_piece x0 x1 x2 x3 x4 x7 x22 x23 x24 x25 2 2 256 256 (by decide) (by decide) rfl rfl _ _ _ hU hW _ _ inb_S512x512_S128x128_256_256 x), ?_⟩
    refine List.forall_mem_cons.2 ⟨fun x => (congrFun (mix_2_1 _ _ _ _) x).trans (sgu_piece x0 x1 x2 x3 x4 x7 x22 x23 x24 x25 2 1 256 128 (by decide) (by decide) rfl rfl _ _ _ hU hW _ _ inb_S512x512_S128x128_256_128 x), ?_⟩
    refine List.forall_mem_cons.2 ⟨fun x => (congrFun (mix_2_0 _ _ _ _) x).trans (sgu_piece x0 x1 x2 x3 x4 x7 x22 x23 x24 x25 2 0 256 0 (by decide) (by decide) rfl rfl _ _ _ hU hW _ _ inb_S512x512_S128x128_256_0 x), ?_⟩
    refine List.forall_mem_cons.2 ⟨fun x => (congrFun (mix_1_3 _ _ _ _) x).trans (sgu_piece x0 x1 x2 x3 x4 x7 x22 x23 x24 x25 1 3 128 384 (by decide) (by decide) rfl rfl _ _ _ hU hW _ _ inb_S512x512_S128x128_128_384 x), ?_⟩
    refine List.forall_mem_cons.2 ⟨fun x => (congrFun (mix_1_2 _ _ _ _) x).trans (sgu_piece x0 x1 x2 x3 x4 x7 x22 x23 x24 x25 1 2 128 256 (by decide) (by decide) rfl rfl _ _ _ hU hW _ _ inb_S512x512_S128x128_128_256 x), ?_⟩
    refine List.forall_mem_cons.2 ⟨fun x => (congrFun (mix_1_1 _ _ _ _) x).trans (sgu_piece x0 x1 x2 x3 x4 x7 x22 x23 x24 x25 1 1 128 128 (by decide) (by decide) rfl rfl _ _ _ hU hW _ _ inb_S512x512_S128x128_128_128 x), ?_⟩
    refine List.forall_mem_cons.2 ⟨fun x => (congrFun (mix_1_0 _ _ _ _) x).trans (sgu_piece x0 x1 x2 x3 x4 x7 x22 x23 x24 x25 1 0 128 0 (by decide) (by decide) rfl rfl _ _ _ hU hW _ _ inb_S512x512_S128x128_128_0 x), ?_⟩
    refine List.forall_mem_cons.2 ⟨fun x => (congrFun (mix_0_3 _ _ _ _) x).trans (sgu_piece x0 x1 x2 x3 x4 x7 x22 x23 x24 x25 0 3 0 384 (by decide) (by decide) rfl rfl _ _ _ hU hW _ _ inb_S512x512_S128x128_0_384 x), ?_⟩
    refine List.forall_mem_cons.2 ⟨fun x => (congrFun (mix_0_2 _ _ _ _) x).trans (sgu_piece x0 x1 x2 x3 x4 x7 x22 x23 x24 x25 0 2 0 256 (by decide) (by decide) rfl rfl _ _ _ hU hW _ _ inb_S512x512_S128x128_0_256 x), ?_⟩
    refine List.forall_mem_cons.2 ⟨fun x => (congrFun (mix_0_1 _ _ _ _ _ _) x).trans (sgu_piece x0 x1 x2 x3 x4 x7 x22 x23 x24 x25 0 1 0 128 (by decide) (by decide) rfl rfl _ _ _ hU hW _ _ inb_S512x512_S128x128_0_128 x), ?_⟩
    refine List.forall_mem_cons.2 ⟨fun x => (congrFun (mix_0_0 _ _ _ _ _ _) x).trans (sgu_piece x0 x1 x2 x3 x4 x7 x22 x23 x24 x25 0 0 0 0 (by decide) (by decide) rfl rfl _ _ _ hU hW _ _ inb_S512x512_S128x128_0_0 x), ?_⟩
    exact fun p hp => absurd hp List.not_mem_nil
  · have h : 4 * ((y 0).val / 128) + (y 1).val / 128 < 15 + 1 := by
      have h0 : (y 0).val < 512 := (y 0).isLt
      have h1 : (y 1).val < 512 := (y 1).isLt
      omega
    refine sgu_cover _ 15 3 3 _ _ rfl (by decide) rfl rfl h _ _ _ fun h => ?_
    refine sgu_cover _ 14 3 2 _ _ rfl (by decide) rfl rfl h _ _ _ fun h => ?_
    refine sgu_cover _ 13 3 1 _ _ rfl (by decide) rfl rfl h _ _ _ fun h => ?_
    refine sgu_cover _ 12 3 0 _ _ rfl (by decide) rfl rfl h _ _ _ fun h => ?_
    refine sgu_cover _ 11 2 3 _ _ rfl (by decide) rfl rfl h _ _ _ fun h => ?_
    refine sgu_cover _ 10 2 2 _ _ rfl (by decide) rfl rfl h _ _ _ fun h => ?_
    refine sgu_cover _ 9 2 1 _ _ rfl (by decide) rfl rfl h _ _ _ fun h => ?_
    refine sgu_cover _ 8 2 0 _ _ rfl (by decide) rfl rfl h _ _ _ fun h => ?_
    refine sgu_cover _ 7 1 3 _ _ rfl (by decide) rfl rfl h _ _ _ fun h => ?_
    refine sgu_cover _ 6 1 2 _ _ rfl (by decide) rfl rfl h _ _ _ fun h => ?_
    refine sgu_cover _ 5 1 1 _ _ rfl (by decide) rfl rfl h _ _ _ fun h => ?_
    refine sgu_cover _ 4 1 0 _ _ rfl (by decide) rfl rfl h _ _ _ fun h => ?_
    refine sgu_cover _ 3 0 3 _ _ rfl (by decide) rfl rfl h _ _ _ fun h => ?_
    refine sgu_cover _ 2 0 2 _ _ rfl (by decide) rfl rfl h _ _ _ fun h => ?_
    refine sgu_cover _ 1 0 1 _ _ rfl (by decide) rfl rfl h _ _ _ fun h => ?_
    refine sgu_cover _ 0 0 0 _ _ rfl (by decide) rfl rfl h _ _ _ fun h => ?_
    exact absurd h (Nat.not_lt_zero _)

end Cert.Proof.Pre
-- ==== Proof.PreGate.lean ====
module

public import proofs.«01_k».proof.Proof.PreCells
public import proofs.«01_k».proof.Proof.PreFrameIdeal

/-! # A point's block of the merge gate

The point's own hidden rows, projected. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx Idealize.SL.Sem Idealize.ShloMosaic.Tactic
open Cert.Proof.Ffn (word word_zero word_one mcol normed)

variable (x0 : Vec Ideal S16x1024 .f32) (x1 : Vec Ideal S512x1024 .f32) (x2 : Vec Ideal S16x1024 .f32) (x3 : Vec Ideal S1x6x1024 .f32) (x4 : Vec Ideal S1x1024 .f32) (x5 : Vec Ideal S1024x512 .bf16) (x6 : Vec Ideal S1024x1024 .bf16) (x7 : Vec Ideal S1024x1024 .bf16) (x8 : Vec Ideal S1024x3072 .bf16) (x9 : Vec Ideal S1x256 .f32) (x10 : Vec Ideal S256x1024 .bf16) (x11 : Vec Ideal S1x128 .f32) (x12 : Vec Ideal S128x1024 .bf16) (x13 : Vec Ideal S128x512 .bf16) (x14 : Vec Ideal S1x128 .f32) (x15 : Vec Ideal S1x128 .f32) (x16 : Vec Ideal S512x128 .f32) (x17 : Vec Ideal S512x128 .f32) (x18 : Vec Ideal S31x512 .f32) (x19 : Vec Ideal S1x512 .f32) (x20 : Vec Ideal S1x512 .f32) (x21 : Vec Ideal S1x512 .f32) (x22 : Vec Ideal S1x512 .f32) (x23 : Vec Ideal S1x512 .f32) (x24 : Vec Ideal S4x128x128 .bf16) (x25 : Vec Ideal S128x512 .f32)

theorem out_31 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x3072 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1x128 .f32) (harg12 : arg12.IsWhole) (arg13 : Memref sig .tc .vmem S128x1024 .bf16) (harg13 : arg13.IsWhole) (arg14 : Memref sig .tc .vmem S128x512 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S31x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S4x128x128 .bf16) (harg25 : arg25.IsWhole) (arg26 : Memref sig .tc .vmem S128x512 .f32) (harg26 : arg26.IsWhole) (arg27 : Memref sig .tc .vmem S8x512x128 .bf16) (harg27 : arg27.IsWhole) (arg28 : Memref sig .tc .vmem S8x512x128 .bf16) (harg28 : arg28.IsWhole) (arg29 : Memref sig .tc .vmem S4x1x128x512 .bf16) (harg29 : arg29.IsWhole) (arg30 : Memref sig .tc .vmem S512x512 .bf16) (harg30 : arg30.IsWhole) (arg31 : Memref sig .tc .vmem S512x512 .bf16) (harg31 : arg31.IsWhole) (arg32 : Memref sig .tc .vmem S512x3072 .bf16) (harg32 : arg32.IsWhole) (arg33 : Memref sig .tc .vmem S544x512 .f32) (harg33 : arg33.IsWhole) (arg34 : Memref sig .tc .vmem S7x536x512 .f32) (harg34 : arg34.IsWhole)
    (r : Fin 512) (n : Fin 3072) :
    out0_A_31 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 (ix2 r n)
      = ∑ d : Fin 1024, hidK x0 x1 x2 x3 x4 (16 + r.val) d * x8 (ix2 d n) := by
  unfold out0_A_31
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  have z0 : (View.ld x0 (Rect.unit ![0, 0] ![16, 1024] inb_S16x1024_S16x1024_0_0)) = x0 := View.ld_unit_lit _ _ fun a => by match a with | ⟨0, _⟩ => rfl | ⟨1, _⟩ => rfl
  have z1 : (View.ld x1 (Rect.unit ![0, 0] ![512, 1024] inb_S512x1024_S512x1024_0_0)) = x1 := View.ld_unit_lit _ _ fun a => by match a with | ⟨0, _⟩ => rfl | ⟨1, _⟩ => rfl
  have z2 : (View.ld x2 (Rect.unit ![0, 0] ![16, 1024] inb_S16x1024_S16x1024_0_0)) = x2 := View.ld_unit_lit _ _ fun a => by match a with | ⟨0, _⟩ => rfl | ⟨1, _⟩ => rfl
  have z4 : (View.ld x4 (Rect.unit ![0, 0] ![1, 1024] inb_S1x1024_S1x1024_0_0)) = x4 := View.ld_unit_lit _ _ fun a => by match a with | ⟨0, _⟩ => rfl | ⟨1, _⟩ => rfl
  have z8 : (View.ld x8 (Rect.unit ![0, 0] ![1024, 3072] inb_S1024x3072_S1024x3072_0_0)) = x8 := View.ld_unit_lit _ _ fun a => by match a with | ⟨0, _⟩ => rfl | ⟨1, _⟩ => rfl
  rw [z0, z1, z2, z4, z8]
  refine (congrFun (View.canon_cons_unit_lit inb_S512x3072_S512x3072_0_0 _ [] fun a => by match a with | ⟨0, _⟩ => rfl | ⟨1, _⟩ => rfl) (ix2 r n)).trans ?_
  rw [pay86_apply]
  exact Finset.sum_congr rfl fun d _ => congrArg (· * _) (own_row x0 x1 x2 x3 x4 _ _ r d)

end Cert.Proof.Pre
-- ==== Proof.PreRunValue.lean ====
/- What `Kernel4Ideal` leaves in its output arrays: each block is what the grid point that owns it writes. -/
module

public import proofs.«01_k».proof.Proof.PreFrameIdeal
public import Idealize.ShloMosaic.Lib.Pipeline.Value

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v75_0) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v75_1) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v75_2) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v75_3) = (dats m 0 c).arrAt 29 cfg0.N :=
  (h c).1 29

/-- After the frame run, output window 30's array is `(dats m 0 c).arrAt 30 N`. -/
theorem post30 (r : PUnit × MemSt nD τ sig (Elt F)) (h : Pipeline.FramePost cfgs (dats m) 0 (V m) r) (c : Dev nD) :
    r.2.mem ((c : Thread nD τ).loc main_v75_4) = (dats m 0 c).arrAt 30 cfg0.N :=
  (h c).1 30

/-- After the frame run, output window 31's array is `(dats m 0 c).arrAt 31 N`. -/
theorem post31 (r : PUnit × MemSt nD τ sig (Elt F)) (h : Pipeline.FramePost cfgs (dats m) 0 (V m) r) (c : Dev nD) :
    r.2.mem ((c : Thread nD τ).loc main_v75_5) = (dats m 0 c).arrAt 31 cfg0.N :=
  (h c).1 31

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 18 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 18).trans (((dats m 0 c).arrAt_in 18 rfl _).trans ((A_eq m c 18).trans (V_main_arg10 m c)))

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

set_option maxHeartbeats 235320 in
/-- The run, with each output array named and the arguments unchanged. -/
theorem run_blocks : θ_run defs (onTc (τ := τ) (main (F := F))) ⟨m, fun _ => 0, ρ⟩ fun r => ∀ c : Dev nD,
      r.2.mem ((c : Thread nD τ).loc main_v75_0) = (dats m 0 c).arrAt 26 cfg0.N
      ∧ r.2.mem ((c : Thread nD τ).loc main_v75_1) = (dats m 0 c).arrAt 27 cfg0.N
      ∧ r.2.mem ((c : Thread nD τ).loc main_v75_2) = (dats m 0 c).arrAt 28 cfg0.N
      ∧ r.2.mem ((c : Thread nD τ).loc main_v75_3) = (dats m 0 c).arrAt 29 cfg0.N
      ∧ r.2.mem ((c : Thread nD τ).loc main_v75_4) = (dats m 0 c).arrAt 30 cfg0.N
      ∧ r.2.mem ((c : Thread nD τ).loc main_v75_5) = (dats m 0 c).arrAt 31 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨post26 m r h c,
      post27 m r h c,
      post28 m r h c,
      post29 m r h c,
      post30 m r h c,
      post31 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c⟩)
    (run_main m ρ)

end Cert.Kernel4Ideal.Value

end
-- ==== Proof.PreValue.lean ====
module

public import proofs.«01_k».proof.Proof.PreEntry
public import proofs.«01_k».proof.Proof.PreVals
public import proofs.«01_k».proof.Proof.PreSgu
public import proofs.«01_k».proof.Proof.PreGate
public import proofs.«01_k».proof.Proof.PreRunValue

/-! # The mixer's results

The four arrays that the kernel leaves for the values, the two branches and the gate. -/

@[expose] public section

set_option maxRecDepth 16384

noncomputable section

namespace Cert.Proof.Pre

open Cert.Kernel4Ideal Cert.Kernel4Ideal.Gen
open Idealize.ShloMosaic Idealize.ShloMosaic.TcCoe Idealize.ShloMosaic.ValueIdx Idealize.SL.Sem Idealize.ShloMosaic.Tactic
open Cert.Proof.Ffn (word word_zero word_one mcol normed)

variable (m : (ℓ : Loc nD τ sig) → Buf (Elt Ideal) ℓ) (ρ : Dev nD → PrngReg) (c : Dev nD)

/-- Row `r` of the tile at point `t` among all rows, -/
def tileRow (t : Fin cfg0.N) (r : Fin 512) : Fin 65536 := ⟨t.val * 512 + r.val, by have := lt_128 t; have := r.isLt; omega⟩

/-- and its token in the sequence. -/
def token (t : Fin cfg0.N) (r : Fin 512) : Fin 2048 := ⟨512 * (t.val % 4) + r.val, by have := r.isLt; omega⟩

theorem tileRow_eq (t : Fin cfg0.N) (r : Fin 512) : (tileRow t r).val = 2048 * (seqAt t).val + (token t r).val := by
  show t.val * 512 + r.val = 2048 * (t.val / 4) + (512 * (t.val % 4) + r.val)
  omega

/-- The reference's function of the kernel's arguments for the values. -/
def G28 : FVec Ideal S4x32x128x2048 .f32 :=
  Cert.Reference4Ideal.Read.val_main_v355 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))

/-- The reference's function of the kernel's arguments for the convolution branch. -/
def G29 : FVec Ideal S65536x512 .f32 :=
  Cert.Reference4Ideal.Read.val_main_v357 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13))

/-- The reference's function of the kernel's arguments for the spatial gate. -/
def G30 : FVec Ideal S65536x512 .f32 :=
  Cert.Reference4Ideal.Read.val_main_v359 (F := Ideal) (m ((c : Thread nD τ).loc main_arg0)) (m ((c : Thread nD τ).loc main_arg1)) (m ((c : Thread nD τ).loc main_arg2)) (m ((c : Thread nD τ).loc main_arg3)) (m ((c : Thread nD τ).loc main_arg14)) (m ((c : Thread nD τ).loc main_arg15)) (m ((c : Thread nD τ).loc main_arg16)) (m ((c : Thread nD τ).loc main_arg17))

/-- The reference's function of the kernel's arguments for the gate of the merge. -/
def G31 : FVec Ideal S65536x3072 .f32 :=
  Cert.Reference4Ideal.Read.val_main_v361 (F := Ideal) (m ((c : Thread nD τ).loc main_arg0)) (m ((c : Thread nD τ).loc main_arg1)) (m ((c : Thread nD τ).loc main_arg2)) (m ((c : Thread nD τ).loc main_arg3))

theorem at_28 (t : Fin cfg0.N) (p : Fin 4) (l : Fin 128) (r : Fin 512) :
    (outsAt0 m c t).2.2.1 (ix4 p 0 l r) = G28 m c (ix4 p (seqAt t) l (token t r)) := by
  unfold outsAt0 G28
  dsimp only
  rw [out_28]
  exact ((holds m c t).val p l r (token t r) rfl).trans (vals_apply _ _ _ _ _ _ p (seqAt t) l (token t r)).symm

theorem at_29 (t : Fin cfg0.N) (r d : Fin 512) : (outsAt0 m c t).2.2.2.1 (ix2 r d) = G29 m c (ix2 (tileRow t r) d) := by
  unfold outsAt0 G29
  dsimp only
  refine (out_29 _ _ _ _ _ _ _ _ _ _ _ _ _ _ _ _ _ _ _ _ _ _ _ _ _ _ c (grid0.coords t) _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ ⟨t.val, lt_128 t⟩ (coord t) r d).trans ?_
  exact ((holds m c t).convn r (token t r) rfl d).trans (conv_apply _ _ _ _ _ _ _ _ (tileRow t r) d (seqAt t) (token t r) (tileRow_eq t r)).symm

theorem at_30 (t : Fin cfg0.N) (r d : Fin 512) : (outsAt0 m c t).2.2.2.2.1 (ix2 r d) = G30 m c (ix2 (tileRow t r) d) := by
  unfold outsAt0 G30
  dsimp only
  rw [out_30]
  exact ((holds m c t).sgu r (token t r) rfl d).trans (sgu_apply _ _ _ _ _ _ _ _ (tileRow t r) d (seqAt t) (token t r) (tileRow_eq t r)).symm

theorem at_31 (t : Fin cfg0.N) (r : Fin 512) (d : Fin 3072) : (outsAt0 m c t).2.2.2.2.2 (ix2 r d) = G31 m c (ix2 (tileRow t r) d) := by
  unfold outsAt0 G31
  dsimp only
  rw [out_31]
  exact ((holds m c t).out r (token t r) rfl d).trans (gate_apply _ _ _ _ (tileRow t r) d (seqAt t) (token t r) (tileRow_eq t r)).symm

theorem flushed_28 (t : Fin cfg0.N) : (dats m 0 c).flushed 28 t = ((cfg0.win 28).blk t).view.read (Elt Ideal) (G28 m c) := by
  funext j
  show (dats m 0 c).after 28 t j = G28 m c (((cfg0.win 28).blk t).view.emb j)
  rw [after0_28]
  obtain ⟨p, l, r, rfl⟩ : ∃ (p : Fin 4) (l : Fin 128) (r : Fin 512), j = ix4 p 0 l r := ⟨j 0, j 2, j 3, (eq_ix4 j).trans (by
    have h1 : j 1 = (0 : Fin 1) := Fin.ext (Nat.lt_one_iff.1 (j 1).isLt)
    rw [h1]
    rfl)⟩
  rw [emb_28 t p l r (seqAt t) rfl (token t r) rfl]
  exact at_28 m c t p l r

theorem covered_28 (i : S4x32x128x2048.Idx) : ∃ t : Fin cfg0.N, (cfg0.win 28).flush t = true ∧ i ∈ ((cfg0.win 28).blk t).view.set := by
  have h1 : (i 1).val < 32 := (i 1).isLt
  have h3 : (i 3).val < 2048 := (i 3).isLt
  have hN : grid0.N = 128 := N_0
  have ht : 4 * (i 1).val + (i 3).val / 512 < grid0.N := by rw [hN]; omega
  refine ⟨⟨4 * (i 1).val + (i 3).val / 512, ht⟩, flush0_28 _, ?_⟩
  have h := ((cfg0.win 28).blk (⟨4 * (i 1).val + (i 3).val / 512, ht⟩ : Fin cfg0.N)).view.emb_mem_set
    (ix4 (i 0) 0 (i 2) ⟨(i 3).val % 512, Nat.mod_lt _ (by decide)⟩)
  refine (congrArg (· ∈ _) ((emb_28 ⟨4 * (i 1).val + (i 3).val / 512, ht⟩ (i 0) (i 2) ⟨(i 3).val % 512, Nat.mod_lt _ (by decide)⟩ (i 1)
    (by show (i 1).val = (4 * (i 1).val + (i 3).val / 512) / 4; omega) (i 3)
    (by show (i 3).val = 512 * ((4 * (i 1).val + (i 3).val / 512) % 4) + (i 3).val % 512; omega)).trans (eq_ix4 i).symm)).mp h

theorem final_28 : (dats m 0 c).arrAt 28 cfg0.N = G28 m c :=
  (dats m 0 c).arrAt_eq_of_cover 28 (G28 m c) (fun t _ => flushed_28 m c t) covered_28

theorem flushed_29 (t : Fin cfg0.N) : (dats m 0 c).flushed 29 t = ((cfg0.win 29).blk t).view.read (Elt Ideal) (G29 m c) := by
  funext j
  show (dats m 0 c).after 29 t j = G29 m c (((cfg0.win 29).blk t).view.emb j)
  rw [after0_29]
  obtain ⟨r, d, rfl⟩ : ∃ (r : Fin 512) (d : Fin 512), j = ix2 r d := ⟨j 0, j 1, eq_ix2 j⟩
  rw [emb_29 t r d (tileRow t r) rfl]
  exact at_29 m c t r d

theorem covered_29 (i : S65536x512.Idx) : ∃ t : Fin cfg0.N, (cfg0.win 29).flush t = true ∧ i ∈ ((cfg0.win 29).blk t).view.set := by
  have h0 : (i 0).val < 65536 := (i 0).isLt
  have hN : grid0.N = 128 := N_0
  have ht : (i 0).val / 512 < grid0.N := by rw [hN]; omega
  refine ⟨⟨(i 0).val / 512, ht⟩, flush0_29 _, ?_⟩
  have h := ((cfg0.win 29).blk (⟨(i 0).val / 512, ht⟩ : Fin cfg0.N)).view.emb_mem_set (ix2 ⟨(i 0).val % 512, Nat.mod_lt _ (by decide)⟩ (i 1))
  refine (congrArg (· ∈ _) ((emb_29 ⟨(i 0).val / 512, ht⟩ ⟨(i 0).val % 512, Nat.mod_lt _ (by decide)⟩ (i 1) (i 0)
    (by show (i 0).val = (i 0).val / 512 * 512 + (i 0).val % 512; omega)).trans (eq_ix2 i).symm)).mp h

theorem final_29 : (dats m 0 c).arrAt 29 cfg0.N = G29 m c :=
  (dats m 0 c).arrAt_eq_of_cover 29 (G29 m c) (fun t _ => flushed_29 m c t) covered_29

theorem flushed_30 (t : Fin cfg0.N) : (dats m 0 c).flushed 30 t = ((cfg0.win 30).blk t).view.read (Elt Ideal) (G30 m c) := by
  funext j
  show (dats m 0 c).after 30 t j = G30 m c (((cfg0.win 30).blk t).view.emb j)
  rw [after0_30]
  obtain ⟨r, d, rfl⟩ : ∃ (r : Fin 512) (d : Fin 512), j = ix2 r d := ⟨j 0, j 1, eq_ix2 j⟩
  rw [emb_30 t r d (tileRow t r) rfl]
  exact at_30 m c t r d

theorem covered_30 (i : S65536x512.Idx) : ∃ t : Fin cfg0.N, (cfg0.win 30).flush t = true ∧ i ∈ ((cfg0.win 30).blk t).view.set := by
  have h0 : (i 0).val < 65536 := (i 0).isLt
  have hN : grid0.N = 128 := N_0
  have ht : (i 0).val / 512 < grid0.N := by rw [hN]; omega
  refine ⟨⟨(i 0).val / 512, ht⟩, flush0_30 _, ?_⟩
  have h := ((cfg0.win 30).blk (⟨(i 0).val / 512, ht⟩ : Fin cfg0.N)).view.emb_mem_set (ix2 ⟨(i 0).val % 512, Nat.mod_lt _ (by decide)⟩ (i 1))
  refine (congrArg (· ∈ _) ((emb_30 ⟨(i 0).val / 512, ht⟩ ⟨(i 0).val % 512, Nat.mod_lt _ (by decide)⟩ (i 1) (i 0)
    (by show (i 0).val = (i 0).val / 512 * 512 + (i 0).val % 512; omega)).trans (eq_ix2 i).symm)).mp h

theorem final_30 : (dats m 0 c).arrAt 30 cfg0.N = G30 m c :=
  (dats m 0 c).arrAt_eq_of_cover 30 (G30 m c) (fun t _ => flushed_30 m c t) covered_30

theorem flushed_31 (t : Fin cfg0.N) : (dats m 0 c).flushed 31 t = ((cfg0.win 31).blk t).view.read (Elt Ideal) (G31 m c) := by
  funext j
  show (dats m 0 c).after 31 t j = G31 m c (((cfg0.win 31).blk t).view.emb j)
  rw [after0_31]
  obtain ⟨r, d, rfl⟩ : ∃ (r : Fin 512) (d : Fin 3072), j = ix2 r d := ⟨j 0, j 1, eq_ix2 j⟩
  rw [emb_31 t r d (tileRow t r) rfl]
  exact at_31 m c t r d

theorem covered_31 (i : S65536x3072.Idx) : ∃ t : Fin cfg0.N, (cfg0.win 31).flush t = true ∧ i ∈ ((cfg0.win 31).blk t).view.set := by
  have h0 : (i 0).val < 65536 := (i 0).isLt
  have hN : grid0.N = 128 := N_0
  have ht : (i 0).val / 512 < grid0.N := by rw [hN]; omega
  refine ⟨⟨(i 0).val / 512, ht⟩, flush0_31 _, ?_⟩
  have h := ((cfg0.win 31).blk (⟨(i 0).val / 512, ht⟩ : Fin cfg0.N)).view.emb_mem_set (ix2 ⟨(i 0).val % 512, Nat.mod_lt _ (by decide)⟩ (i 1))
  refine (congrArg (· ∈ _) ((emb_31 ⟨(i 0).val / 512, ht⟩ ⟨(i 0).val % 512, Nat.mod_lt _ (by decide)⟩ (i 1) (i 0)
    (by show (i 0).val = (i 0).val / 512 * 512 + (i 0).val % 512; omega)).trans (eq_ix2 i).symm)).mp h

theorem final_31 : (dats m 0 c).arrAt 31 cfg0.N = G31 m c :=
  (dats m 0 c).arrAt_eq_of_cover 31 (G31 m c) (fun t _ => flushed_31 m c t) covered_31

end Cert.Proof.Pre
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Frames
public import proofs.«01_k».proof.Proof.Finite
public import proofs.«01_k».proof.Proof.Value
public import proofs.«01_k».proof.Proof.FfnValue
public import proofs.«01_k».proof.Proof.MergeValue
public import proofs.«01_k».proof.Proof.PreFrame
public import proofs.«01_k».proof.Proof.PreValue

@[expose] public section

noncomputable section

namespace Cert.Proof

open Idealize.ShloMosaic Idealize.SL.Sem

/-- The reference's frame: it is host operations only and has no semaphore. -/
theorem frame_reference : Cert.quiescent_ReferenceIdeal := fun m ρ _ =>
  (θ_run _ _ _).mono (fun r h => ⟨fun c => (h c).2, funext fun s => nomatch s⟩)
    (Cert.ReferenceIdeal.Value.run (F := Ideal) m ρ)

attribute [local instance] Finite.facts

/-- The kernel's result is the reference's. -/
theorem algebraic : Cert.algebraic_KernelIdeal_ReferenceIdeal_pre_finite_scores := fun m ρ m' ρ' hpre hag =>
  ⟨fun c => Attn.G m c,
    Attn.run_value m ρ (fun c => (Finite.real_args _ _ _ (hpre c)).1) (fun c => (Finite.real_args _ _ _ (hpre c)).2),
    (θ_run _ _ _).mono (fun r h c => ⟨(h c).1.trans (by
      rw [(hag c).1, (hag c).2.1, (hag c).2.2]
      exact Cert.ReferenceIdeal.Read.val_main_v19_eq _ _ _), (h c).2⟩)
      (Cert.ReferenceIdeal.Value.run (F := Ideal) m' ρ')⟩

/-- The second reference's frame. -/
theorem frame_reference2 : Cert.quiescent_Reference2Ideal := fun m ρ _ =>
  (θ_run _ _ _).mono (fun r h => ⟨fun c => (h c).2, funext fun s => nomatch s⟩)
    (Cert.Reference2Ideal.Value.run (F := Ideal) m ρ)

/-- The convolutional network's result is its reference's. -/
theorem algebraic2 : Cert.algebraic_Kernel2Ideal_Reference2Ideal := fun m ρ m' ρ' _ hag =>
  ⟨fun c => Ffn.G m c,
    (θ_run _ _ _).mono (fun r h c => ⟨(h c).1.trans (Ffn.final m c), (h c).2⟩) (Cert.Kernel2Ideal.Value.run_blocks (F := Ideal) m ρ),
    (θ_run _ _ _).mono (fun r h c => ⟨(h c).1.trans (by
      obtain ⟨e0, e1, e2, e3, e4, e5, e6⟩ := hag c
      rw [Cert.Reference2Ideal.Read.val_main_v61_eq, e0, e1, e2, e3, e4, e5, e6]
      rfl), (h c).2⟩)
      (Cert.Reference2Ideal.Value.run (F := Ideal) m' ρ')⟩

/-- The third reference's frame. -/
theorem frame_reference3 : Cert.quiescent_Reference3Ideal := fun m ρ _ =>
  (θ_run _ _ _).mono (fun r h => ⟨fun c => (h c).2, funext fun s => nomatch s⟩)
    (Cert.Reference3Ideal.Value.run (F := Ideal) m ρ)

/-- The merge's result is its reference's. -/
theorem algebraic3 : Cert.algebraic_Kernel3Ideal_Reference3Ideal := fun m ρ m' ρ' _ hag =>
  ⟨fun c => Merge.G m c,
    (θ_run _ _ _).mono (fun r h c => ⟨(h c).1.trans (Merge.final m c), (h c).2⟩) (Cert.Kernel3Ideal.Value.run_blocks (F := Ideal) m ρ),
    (θ_run _ _ _).mono (fun r h c => ⟨(h c).1.trans (by
      obtain ⟨e0, e1, e2, e3, e4, e5, e6, e7, e8, e9⟩ := hag c
      rw [Cert.Reference3Ideal.Read.val_main_v28_eq, e0, e1, e2, e3, e4, e5, e6, e7, e8, e9]
      rfl), (h c).2⟩)
      (Cert.Reference3Ideal.Value.run (F := Ideal) m' ρ')⟩

/-- The fourth reference's frame. -/
theorem frame_reference4 : Cert.quiescent_Reference4Ideal := fun m ρ _ =>
  (θ_run _ _ _).mono (fun r h => ⟨fun c => (h c).2.2.2.2, funext fun s => nomatch s⟩)
    (Cert.Reference4Ideal.Value.run (F := Ideal) m ρ)

/-- The mixer's four results are its reference's. -/
theorem algebraic4 : Cert.algebraic_Kernel4Ideal_Reference4Ideal := fun m ρ m' ρ' _ hag =>
  ⟨fun c => Pre.G28 m c, fun c => Pre.G29 m c, fun c => Pre.G30 m c, fun c => Pre.G31 m c,
    (θ_run _ _ _).mono (fun r h c => by
      obtain ⟨_, _, h28, h29, h30, h31, ha⟩ := h c
      exact ⟨h28.trans (Pre.final_28 m c), h29.trans (Pre.final_29 m c), h30.trans (Pre.final_30 m c), h31.trans (Pre.final_31 m c), ha⟩)
      (Cert.Kernel4Ideal.Value.run_blocks (F := Ideal) m ρ),
    (θ_run _ _ _).mono (fun r h c => by
      obtain ⟨h0, h1, h2, h3, ha⟩ := h c
      obtain ⟨e0, e1, e2, e3, e4, e5, e6, e7, e8, e9, e10, e11, e12, e13, e14, e15, e16, e17⟩ := hag c
      have a (i) : StableHlo.launchContents m' c (Proc.tc.devRef i) = m' (c.tc.loc i) := rfl
      refine ⟨h0.trans ?_, h1.trans ?_, h2.trans ?_, h3.trans ?_, ha⟩
      · rw [Cert.Reference4Ideal.Read.val_main_v355_eq]; simp only [a]; rw [e0, e1, e2, e3, e6, e7]; rfl
      · rw [Cert.Reference4Ideal.Read.val_main_v357_eq]; simp only [a]; rw [e0, e1, e2, e3, e10, e11, e12, e13]; rfl
      · rw [Cert.Reference4Ideal.Read.val_main_v359_eq]; simp only [a]; rw [e0, e1, e2, e3, e14, e15, e16, e17]; rfl
      · rw [Cert.Reference4Ideal.Read.val_main_v361_eq]; simp only [a]; rw [e0, e1, e2, e3]; rfl)
      (Cert.Reference4Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Finite.facts,
  Attn.frame_kernel, Attn.frame_kernelIdeal, fun m ρ _ => Attn.frame_kernelIdeal m ρ trivial,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  trivial, algebraic, trivial, algebraic2, trivial, algebraic3,
  trivial, algebraic4⟩

end Cert.Proof

end
